-- ==== Defs.lean ====
def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_NormTop (m : (ℓ : Loc Cert.NormTop.nD Cert.NormTop.τ Cert.NormTop.sig) → Buf (Elt Bits) ℓ) : Prop :=
  True

def Pre_NormTopIdeal (m : (ℓ : Loc Cert.NormTopIdeal.nD Cert.NormTopIdeal.τ Cert.NormTopIdeal.sig) → Buf (Elt Ideal) ℓ) : Prop :=
  True

def Pre_NormTopRefIdeal (m : (ℓ : Loc Cert.NormTopRefIdeal.nD Cert.NormTopRefIdeal.τ Cert.NormTopRefIdeal.sig) → Buf (Elt Ideal) ℓ) : Prop :=
  True

def Pre_NormLast (m : (ℓ : Loc Cert.NormLast.nD Cert.NormLast.τ Cert.NormLast.sig) → Buf (Elt Bits) ℓ) : Prop :=
  True

def Pre_NormLastIdeal (m : (ℓ : Loc Cert.NormLastIdeal.nD Cert.NormLastIdeal.τ Cert.NormLastIdeal.sig) → Buf (Elt Ideal) ℓ) : Prop :=
  True

def Pre_NormLastRefIdeal (m : (ℓ : Loc Cert.NormLastRefIdeal.nD Cert.NormLastRefIdeal.τ Cert.NormLastRefIdeal.sig) → Buf (Elt Ideal) ℓ) : Prop :=
  True

def Pre_NormMid (m : (ℓ : Loc Cert.NormMid.nD Cert.NormMid.τ Cert.NormMid.sig) → Buf (Elt Bits) ℓ) : Prop :=
  True

def Pre_NormMidIdeal (m : (ℓ : Loc Cert.NormMidIdeal.nD Cert.NormMidIdeal.τ Cert.NormMidIdeal.sig) → Buf (Elt Ideal) ℓ) : Prop :=
  True

def Pre_NormMidRefIdeal (m : (ℓ : Loc Cert.NormMidRefIdeal.nD Cert.NormMidRefIdeal.τ Cert.NormMidRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_scores [hPre_finite_scores : Cert.Pre_finite_scores.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_scores.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite_scores.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_scores [hPre_finite_scores : Cert.Pre_finite_scores.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_scores.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_finite_scores.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MlpDx (m : (ℓ : Loc Cert.MlpDx.nD Cert.MlpDx.τ Cert.MlpDx.sig) → Buf (Elt Bits) ℓ) : Prop :=
  True

def Pre_MlpDxIdeal (m : (ℓ : Loc Cert.MlpDxIdeal.nD Cert.MlpDxIdeal.τ Cert.MlpDxIdeal.sig) → Buf (Elt Ideal) ℓ) : Prop :=
  True

def Pre_MlpDxRefIdeal (m : (ℓ : Loc Cert.MlpDxRefIdeal.nD Cert.MlpDxRefIdeal.τ Cert.MlpDxRefIdeal.sig) → Buf (Elt Ideal) ℓ) : Prop :=
  True

def Pre_MlpDw (m : (ℓ : Loc Cert.MlpDw.nD Cert.MlpDw.τ Cert.MlpDw.sig) → Buf (Elt Bits) ℓ) : Prop :=
  True

def Pre_MlpDwIdeal (m : (ℓ : Loc Cert.MlpDwIdeal.nD Cert.MlpDwIdeal.τ Cert.MlpDwIdeal.sig) → Buf (Elt Ideal) ℓ) : Prop :=
  True

def Pre_MlpDwRefIdeal (m : (ℓ : Loc Cert.MlpDwRefIdeal.nD Cert.MlpDwRefIdeal.τ Cert.MlpDwRefIdeal.sig) → Buf (Elt Ideal) ℓ) : Prop :=
  True

def Pre_NormLoss (m : (ℓ : Loc Cert.NormLoss.nD Cert.NormLoss.τ Cert.NormLoss.sig) → Buf (Elt Bits) ℓ) : Prop :=
  True

def Pre_NormLossIdeal (m : (ℓ : Loc Cert.NormLossIdeal.nD Cert.NormLossIdeal.τ Cert.NormLossIdeal.sig) → Buf (Elt Ideal) ℓ) : Prop :=
  True

def Pre_NormLossRefIdeal (m : (ℓ : Loc Cert.NormLossRefIdeal.nD Cert.NormLossRefIdeal.τ Cert.NormLossRefIdeal.sig) → Buf (Elt Ideal) ℓ) : Prop :=
  True

def Pre_BranchB (m : (ℓ : Loc Cert.BranchB.nD Cert.BranchB.τ Cert.BranchB.sig) → Buf (Elt Bits) ℓ) : Prop :=
  True

def Pre_BranchBIdeal (m : (ℓ : Loc Cert.BranchBIdeal.nD Cert.BranchBIdeal.τ Cert.BranchBIdeal.sig) → Buf (Elt Ideal) ℓ) : Prop :=
  True

def Pre_BranchBRefIdeal (m : (ℓ : Loc Cert.BranchBRefIdeal.nD Cert.BranchBRefIdeal.τ Cert.BranchBRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def Pre_NormMemFwd (m : (ℓ : Loc Cert.NormMemFwd.nD Cert.NormMemFwd.τ Cert.NormMemFwd.sig) → Buf (Elt Bits) ℓ) : Prop :=
  True

def Pre_NormMemFwdIdeal (m : (ℓ : Loc Cert.NormMemFwdIdeal.nD Cert.NormMemFwdIdeal.τ Cert.NormMemFwdIdeal.sig) → Buf (Elt Ideal) ℓ) : Prop :=
  True

def Pre_NormMemFwdRefIdeal (m : (ℓ : Loc Cert.NormMemFwdRefIdeal.nD Cert.NormMemFwdRefIdeal.τ Cert.NormMemFwdRefIdeal.sig) → Buf (Elt Ideal) ℓ) : Prop :=
  True

def Pre_NormMidFwd (m : (ℓ : Loc Cert.NormMidFwd.nD Cert.NormMidFwd.τ Cert.NormMidFwd.sig) → Buf (Elt Bits) ℓ) : Prop :=
  True

def Pre_NormMidFwdIdeal (m : (ℓ : Loc Cert.NormMidFwdIdeal.nD Cert.NormMidFwdIdeal.τ Cert.NormMidFwdIdeal.sig) → Buf (Elt Ideal) ℓ) : Prop :=
  True

def Pre_NormMidFwdRefIdeal (m : (ℓ : Loc Cert.NormMidFwdRefIdeal.nD Cert.NormMidFwdRefIdeal.τ Cert.NormMidFwdRefIdeal.sig) → Buf (Elt Ideal) ℓ) : Prop :=
  True

def Pre_BranchBFwd (m : (ℓ : Loc Cert.BranchBFwd.nD Cert.BranchBFwd.τ Cert.BranchBFwd.sig) → Buf (Elt Bits) ℓ) : Prop :=
  True

def Pre_BranchBFwdIdeal (m : (ℓ : Loc Cert.BranchBFwdIdeal.nD Cert.BranchBFwdIdeal.τ Cert.BranchBFwdIdeal.sig) → Buf (Elt Ideal) ℓ) : Prop :=
  True

def Pre_BranchBFwdRefIdeal (m : (ℓ : Loc Cert.BranchBFwdRefIdeal.nD Cert.BranchBFwdRefIdeal.τ Cert.BranchBFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_BranchAFwd (m : (ℓ : Loc Cert.BranchAFwd.nD Cert.BranchAFwd.τ Cert.BranchAFwd.sig) → Buf (Elt Bits) ℓ) : Prop :=
  True

def Pre_BranchAFwdIdeal (m : (ℓ : Loc Cert.BranchAFwdIdeal.nD Cert.BranchAFwdIdeal.τ Cert.BranchAFwdIdeal.sig) → Buf (Elt Ideal) ℓ) : Prop :=
  True

def Pre_BranchAFwdRefIdeal (m : (ℓ : Loc Cert.BranchAFwdRefIdeal.nD Cert.BranchAFwdRefIdeal.τ Cert.BranchAFwdRefIdeal.sig) → Buf (Elt Ideal) ℓ) : Prop :=
  True

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_BranchARefIdeal (m : (ℓ : Loc Cert.BranchARefIdeal.nD Cert.BranchARefIdeal.τ Cert.BranchARefIdeal.sig) → Buf (Elt Ideal) ℓ) : Prop :=
  True

def Pre_ProductIn (m : (ℓ : Loc Cert.ProductIn.nD Cert.ProductIn.τ Cert.ProductIn.sig) → Buf (Elt Bits) ℓ) : Prop :=
  True

def Pre_ProductInIdeal (m : (ℓ : Loc Cert.ProductInIdeal.nD Cert.ProductInIdeal.τ Cert.ProductInIdeal.sig) → Buf (Elt Ideal) ℓ) : Prop :=
  True

def Pre_ProductInRefIdeal (m : (ℓ : Loc Cert.ProductInRefIdeal.nD Cert.ProductInRefIdeal.τ Cert.ProductInRefIdeal.sig) → Buf (Elt Ideal) ℓ) : Prop :=
  True

def Pre_ProductInDx (m : (ℓ : Loc Cert.ProductInDx.nD Cert.ProductInDx.τ Cert.ProductInDx.sig) → Buf (Elt Bits) ℓ) : Prop :=
  True

def Pre_ProductInDxIdeal (m : (ℓ : Loc Cert.ProductInDxIdeal.nD Cert.ProductInDxIdeal.τ Cert.ProductInDxIdeal.sig) → Buf (Elt Ideal) ℓ) : Prop :=
  True

def Pre_ProductInDxRefIdeal (m : (ℓ : Loc Cert.ProductInDxRefIdeal.nD Cert.ProductInDxRefIdeal.τ Cert.ProductInDxRefIdeal.sig) → Buf (Elt Ideal) ℓ) : Prop :=
  True

def Pre_ProductInDw (m : (ℓ : Loc Cert.ProductInDw.nD Cert.ProductInDw.τ Cert.ProductInDw.sig) → Buf (Elt Bits) ℓ) : Prop :=
  True

def Pre_ProductInDwIdeal (m : (ℓ : Loc Cert.ProductInDwIdeal.nD Cert.ProductInDwIdeal.τ Cert.ProductInDwIdeal.sig) → Buf (Elt Ideal) ℓ) : Prop :=
  True

def Pre_ProductInDwRefIdeal (m : (ℓ : Loc Cert.ProductInDwRefIdeal.nD Cert.ProductInDwRefIdeal.τ Cert.ProductInDwRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1)
      ∧ r.2.mem ((c.tc : Thread Cert.NormMem.nD Cert.NormMem.τ).loc Cert.NormMem.main_arg2) = m ((c.tc : Thread Cert.NormMem.nD Cert.NormMem.τ).loc Cert.NormMem.main_arg2))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_NormTop [hNormTop : Cert.NormTop.Facts] : Prop :=
  ∀ (m : (ℓ : Loc Cert.NormTop.nD Cert.NormTop.τ Cert.NormTop.sig) → Buf (Elt Bits) ℓ) (g : Dev Cert.NormTop.nD → PrngReg), Pre_NormTop m →
    θ_run (Cert.NormTop.defs (F := Bits)) (onTc (τ := Cert.NormTop.τ) (Cert.NormTop.main (F := Bits))) ⟨m, fun _ => 0, g⟩ (fun r => (∀ c : Dev Cert.NormTop.nD,
      r.2.mem ((c.tc : Thread Cert.NormTop.nD Cert.NormTop.τ).loc Cert.NormTop.main_arg0) = m ((c.tc : Thread Cert.NormTop.nD Cert.NormTop.τ).loc Cert.NormTop.main_arg0)
      ∧ r.2.mem ((c.tc : Thread Cert.NormTop.nD Cert.NormTop.τ).loc Cert.NormTop.main_arg1) = m ((c.tc : Thread Cert.NormTop.nD Cert.NormTop.τ).loc Cert.NormTop.main_arg1)
      ∧ r.2.mem ((c.tc : Thread Cert.NormTop.nD Cert.NormTop.τ).loc Cert.NormTop.main_arg2) = m ((c.tc : Thread Cert.NormTop.nD Cert.NormTop.τ).loc Cert.NormTop.main_arg2))
      ∧ r.2.sem = fun _ => 0)

def quiescent_NormTopIdeal [hNormTopIdeal : Cert.NormTopIdeal.Facts] : Prop :=
  ∀ (m : (ℓ : Loc Cert.NormTopIdeal.nD Cert.NormTopIdeal.τ Cert.NormTopIdeal.sig) → Buf (Elt Ideal) ℓ) (g : Dev Cert.NormTopIdeal.nD → PrngReg), Pre_NormTopIdeal m →
    θ_run (Cert.NormTopIdeal.defs (F := Ideal)) (onTc (τ := Cert.NormTopIdeal.τ) (Cert.NormTopIdeal.main (F := Ideal))) ⟨m, fun _ => 0, g⟩ (fun r => (∀ c : Dev Cert.NormTopIdeal.nD,
      r.2.mem ((c.tc : Thread Cert.NormTopIdeal.nD Cert.NormTopIdeal.τ).loc Cert.NormTopIdeal.main_arg0) = m ((c.tc : Thread Cert.NormTopIdeal.nD Cert.NormTopIdeal.τ).loc Cert.NormTopIdeal.main_arg0)
      ∧ r.2.mem ((c.tc : Thread Cert.NormTopIdeal.nD Cert.NormTopIdeal.τ).loc Cert.NormTopIdeal.main_arg1) = m ((c.tc : Thread Cert.NormTopIdeal.nD Cert.NormTopIdeal.τ).loc Cert.NormTopIdeal.main_arg1)
      ∧ r.2.mem ((c.tc : Thread Cert.NormTopIdeal.nD Cert.NormTopIdeal.τ).loc Cert.NormTopIdeal.main_arg2) = m ((c.tc : Thread Cert.NormTopIdeal.nD Cert.NormTopIdeal.τ).loc Cert.NormTopIdeal.main_arg2))
      ∧ r.2.sem = fun _ => 0)

def quiescent_NormTopRefIdeal [hNormTopRefIdeal : Cert.NormTopRefIdeal.Facts] : Prop :=
  ∀ (m : (ℓ : Loc Cert.NormTopRefIdeal.nD Cert.NormTopRefIdeal.τ Cert.NormTopRefIdeal.sig) → Buf (Elt Ideal) ℓ) (g : Dev Cert.NormTopRefIdeal.nD → PrngReg), Pre_NormTopRefIdeal m →
    θ_run (Cert.NormTopRefIdeal.defs (F := Ideal)) (onTc (τ := Cert.NormTopRefIdeal.τ) (Cert.NormTopRefIdeal.main (F := Ideal))) ⟨m, fun _ => 0, g⟩ (fun r => (∀ c : Dev Cert.NormTopRefIdeal.nD,
      r.2.mem ((c.tc : Thread Cert.NormTopRefIdeal.nD Cert.NormTopRefIdeal.τ).loc Cert.NormTopRefIdeal.main_arg0) = m ((c.tc : Thread Cert.NormTopRefIdeal.nD Cert.NormTopRefIdeal.τ).loc Cert.NormTopRefIdeal.main_arg0)
      ∧ r.2.mem ((c.tc : Thread Cert.NormTopRefIdeal.nD Cert.NormTopRefIdeal.τ).loc Cert.NormTopRefIdeal.main_arg1) = m ((c.tc : Thread Cert.NormTopRefIdeal.nD Cert.NormTopRefIdeal.τ).loc Cert.NormTopRefIdeal.main_arg1)
      ∧ r.2.mem ((c.tc : Thread Cert.NormTopRefIdeal.nD Cert.NormTopRefIdeal.τ).loc Cert.NormTopRefIdeal.main_arg2) = m ((c.tc : Thread Cert.NormTopRefIdeal.nD Cert.NormTopRefIdeal.τ).loc Cert.NormTopRefIdeal.main_arg2))
      ∧ r.2.sem = fun _ => 0)

def quiescent_NormLast [hNormLast : Cert.NormLast.Facts] : Prop :=
  ∀ (m : (ℓ : Loc Cert.NormLast.nD Cert.NormLast.τ Cert.NormLast.sig) → Buf (Elt Bits) ℓ) (g : Dev Cert.NormLast.nD → PrngReg), Pre_NormLast m →
    θ_run (Cert.NormLast.defs (F := Bits)) (onTc (τ := Cert.NormLast.τ) (Cert.NormLast.main (F := Bits))) ⟨m, fun _ => 0, g⟩ (fun r => (∀ c : Dev Cert.NormLast.nD,
      r.2.mem ((c.tc : Thread Cert.NormLast.nD Cert.NormLast.τ).loc Cert.NormLast.main_arg0) = m ((c.tc : Thread Cert.NormLast.nD Cert.NormLast.τ).loc Cert.NormLast.main_arg0)
      ∧ r.2.mem ((c.tc : Thread Cert.NormLast.nD Cert.NormLast.τ).loc Cert.NormLast.main_arg1) = m ((c.tc : Thread Cert.NormLast.nD Cert.NormLast.τ).loc Cert.NormLast.main_arg1)
      ∧ r.2.mem ((c.tc : Thread Cert.NormLast.nD Cert.NormLast.τ).loc Cert.NormLast.main_arg2) = m ((c.tc : Thread Cert.NormLast.nD Cert.NormLast.τ).loc Cert.NormLast.main_arg2)
      ∧ r.2.mem ((c.tc : Thread Cert.NormLast.nD Cert.NormLast.τ).loc Cert.NormLast.main_arg3) = m ((c.tc : Thread Cert.NormLast.nD Cert.NormLast.τ).loc Cert.NormLast.main_arg3))
      ∧ r.2.sem = fun _ => 0)

def quiescent_NormLastIdeal [hNormLastIdeal : Cert.NormLastIdeal.Facts] : Prop :=
  ∀ (m : (ℓ : Loc Cert.NormLastIdeal.nD Cert.NormLastIdeal.τ Cert.NormLastIdeal.sig) → Buf (Elt Ideal) ℓ) (g : Dev Cert.NormLastIdeal.nD → PrngReg), Pre_NormLastIdeal m →
    θ_run (Cert.NormLastIdeal.defs (F := Ideal)) (onTc (τ := Cert.NormLastIdeal.τ) (Cert.NormLastIdeal.main (F := Ideal))) ⟨m, fun _ => 0, g⟩ (fun r => (∀ c : Dev Cert.NormLastIdeal.nD,
      r.2.mem ((c.tc : Thread Cert.NormLastIdeal.nD Cert.NormLastIdeal.τ).loc Cert.NormLastIdeal.main_arg0) = m ((c.tc : Thread Cert.NormLastIdeal.nD Cert.NormLastIdeal.τ).loc Cert.NormLastIdeal.main_arg0)
      ∧ r.2.mem ((c.tc : Thread Cert.NormLastIdeal.nD Cert.NormLastIdeal.τ).loc Cert.NormLastIdeal.main_arg1) = m ((c.tc : Thread Cert.NormLastIdeal.nD Cert.NormLastIdeal.τ).loc Cert.NormLastIdeal.main_arg1)
      ∧ r.2.mem ((c.tc : Thread Cert.NormLastIdeal.nD Cert.NormLastIdeal.τ).loc Cert.NormLastIdeal.main_arg2) = m ((c.tc : Thread Cert.NormLastIdeal.nD Cert.NormLastIdeal.τ).loc Cert.NormLastIdeal.main_arg2)
      ∧ r.2.mem ((c.tc : Thread Cert.NormLastIdeal.nD Cert.NormLastIdeal.τ).loc Cert.NormLastIdeal.main_arg3) = m ((c.tc : Thread Cert.NormLastIdeal.nD Cert.NormLastIdeal.τ).loc Cert.NormLastIdeal.main_arg3))
      ∧ r.2.sem = fun _ => 0)

def quiescent_NormLastRefIdeal [hNormLastRefIdeal : Cert.NormLastRefIdeal.Facts] : Prop :=
  ∀ (m : (ℓ : Loc Cert.NormLastRefIdeal.nD Cert.NormLastRefIdeal.τ Cert.NormLastRefIdeal.sig) → Buf (Elt Ideal) ℓ) (g : Dev Cert.NormLastRefIdeal.nD → PrngReg), Pre_NormLastRefIdeal m →
    θ_run (Cert.NormLastRefIdeal.defs (F := Ideal)) (onTc (τ := Cert.NormLastRefIdeal.τ) (Cert.NormLastRefIdeal.main (F := Ideal))) ⟨m, fun _ => 0, g⟩ (fun r => (∀ c : Dev Cert.NormLastRefIdeal.nD,
      r.2.mem ((c.tc : Thread Cert.NormLastRefIdeal.nD Cert.NormLastRefIdeal.τ).loc Cert.NormLastRefIdeal.main_arg0) = m ((c.tc : Thread Cert.NormLastRefIdeal.nD Cert.NormLastRefIdeal.τ).loc Cert.NormLastRefIdeal.main_arg0)
      ∧ r.2.mem ((c.tc : Thread Cert.NormLastRefIdeal.nD Cert.NormLastRefIdeal.τ).loc Cert.NormLastRefIdeal.main_arg1) = m ((c.tc : Thread Cert.NormLastRefIdeal.nD Cert.NormLastRefIdeal.τ).loc Cert.NormLastRefIdeal.main_arg1)
      ∧ r.2.mem ((c.tc : Thread Cert.NormLastRefIdeal.nD Cert.NormLastRefIdeal.τ).loc Cert.NormLastRefIdeal.main_arg2) = m ((c.tc : Thread Cert.NormLastRefIdeal.nD Cert.NormLastRefIdeal.τ).loc Cert.NormLastRefIdeal.main_arg2)
      ∧ r.2.mem ((c.tc : Thread Cert.NormLastRefIdeal.nD Cert.NormLastRefIdeal.τ).loc Cert.NormLastRefIdeal.main_arg3) = m ((c.tc : Thread Cert.NormLastRefIdeal.nD Cert.NormLastRefIdeal.τ).loc Cert.NormLastRefIdeal.main_arg3))
      ∧ r.2.sem = fun _ => 0)

def quiescent_NormMid [hNormMid : Cert.NormMid.Facts] : Prop :=
  ∀ (m : (ℓ : Loc Cert.NormMid.nD Cert.NormMid.τ Cert.NormMid.sig) → Buf (Elt Bits) ℓ) (g : Dev Cert.NormMid.nD → PrngReg), Pre_NormMid m →
    θ_run (Cert.NormMid.defs (F := Bits)) (onTc (τ := Cert.NormMid.τ) (Cert.NormMid.main (F := Bits))) ⟨m, fun _ => 0, g⟩ (fun r => (∀ c : Dev Cert.NormMid.nD,
      r.2.mem ((c.tc : Thread Cert.NormMid.nD Cert.NormMid.τ).loc Cert.NormMid.main_arg0) = m ((c.tc : Thread Cert.NormMid.nD Cert.NormMid.τ).loc Cert.NormMid.main_arg0)
      ∧ r.2.mem ((c.tc : Thread Cert.NormMid.nD Cert.NormMid.τ).loc Cert.NormMid.main_arg1) = m ((c.tc : Thread Cert.NormMid.nD Cert.NormMid.τ).loc Cert.NormMid.main_arg1)
      ∧ r.2.mem ((c.tc : Thread Cert.NormMid.nD Cert.NormMid.τ).loc Cert.NormMid.main_arg2) = m ((c.tc : Thread Cert.NormMid.nD Cert.NormMid.τ).loc Cert.NormMid.main_arg2)
      ∧ r.2.mem ((c.tc : Thread Cert.NormMid.nD Cert.NormMid.τ).loc Cert.NormMid.main_arg3) = m ((c.tc : Thread Cert.NormMid.nD Cert.NormMid.τ).loc Cert.NormMid.main_arg3)
      ∧ r.2.mem ((c.tc : Thread Cert.NormMid.nD Cert.NormMid.τ).loc Cert.NormMid.main_arg4) = m ((c.tc : Thread Cert.NormMid.nD Cert.NormMid.τ).loc Cert.NormMid.main_arg4)
      ∧ r.2.mem ((c.tc : Thread Cert.NormMid.nD Cert.NormMid.τ).loc Cert.NormMid.main_arg5) = m ((c.tc : Thread Cert.NormMid.nD Cert.NormMid.τ).loc Cert.NormMid.main_arg5))
      ∧ r.2.sem = fun _ => 0)

def quiescent_NormMidIdeal [hNormMidIdeal : Cert.NormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg), Pre_NormMidIdeal m →
    θ_run (Cert.NormMidIdeal.defs (F := Ideal)) (onTc (τ := Cert.NormMidIdeal.τ) (Cert.NormMidIdeal.main (F := Ideal))) ⟨m, fun _ => 0, g⟩ (fun r => (∀ c : Dev Cert.NormMidIdeal.nD,
      r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
      ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
      ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
      ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
      ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
      ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5))
      ∧ r.2.sem = fun _ => 0)

def quiescent_NormMidRefIdeal [hNormMidRefIdeal : Cert.NormMidRefIdeal.Facts] : Prop :=
  ∀ (m : (ℓ : Loc Cert.NormMidRefIdeal.nD Cert.NormMidRefIdeal.τ Cert.NormMidRefIdeal.sig) → Buf (Elt Ideal) ℓ) (g : Dev Cert.NormMidRefIdeal.nD → PrngReg), Pre_NormMidRefIdeal m →
    θ_run (Cert.NormMidRefIdeal.defs (F := Ideal)) (onTc (τ := Cert.NormMidRefIdeal.τ) (Cert.NormMidRefIdeal.main (F := Ideal))) ⟨m, fun _ => 0, g⟩ (fun r => (∀ c : Dev Cert.NormMidRefIdeal.nD,
      r.2.mem ((c.tc : Thread Cert.NormMidRefIdeal.nD Cert.NormMidRefIdeal.τ).loc Cert.NormMidRefIdeal.main_arg0) = m ((c.tc : Thread Cert.NormMidRefIdeal.nD Cert.NormMidRefIdeal.τ).loc Cert.NormMidRefIdeal.main_arg0)
      ∧ r.2.mem ((c.tc : Thread Cert.NormMidRefIdeal.nD Cert.NormMidRefIdeal.τ).loc Cert.NormMidRefIdeal.main_arg1) = m ((c.tc : Thread Cert.NormMidRefIdeal.nD Cert.NormMidRefIdeal.τ).loc Cert.NormMidRefIdeal.main_arg1)
      ∧ r.2.mem ((c.tc : Thread Cert.NormMidRefIdeal.nD Cert.NormMidRefIdeal.τ).loc Cert.NormMidRefIdeal.main_arg2) = m ((c.tc : Thread Cert.NormMidRefIdeal.nD Cert.NormMidRefIdeal.τ).loc Cert.NormMidRefIdeal.main_arg2)
      ∧ r.2.mem ((c.tc : Thread Cert.NormMidRefIdeal.nD Cert.NormMidRefIdeal.τ).loc Cert.NormMidRefIdeal.main_arg3) = m ((c.tc : Thread Cert.NormMidRefIdeal.nD Cert.NormMidRefIdeal.τ).loc Cert.NormMidRefIdeal.main_arg3)
      ∧ r.2.mem ((c.tc : Thread Cert.NormMidRefIdeal.nD Cert.NormMidRefIdeal.τ).loc Cert.NormMidRefIdeal.main_arg4) = m ((c.tc : Thread Cert.NormMidRefIdeal.nD Cert.NormMidRefIdeal.τ).loc Cert.NormMidRefIdeal.main_arg4)
      ∧ r.2.mem ((c.tc : Thread Cert.NormMidRefIdeal.nD Cert.NormMidRefIdeal.τ).loc Cert.NormMidRefIdeal.main_arg5) = m ((c.tc : Thread Cert.NormMidRefIdeal.nD Cert.NormMidRefIdeal.τ).loc Cert.NormMidRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_scores [hAttnBwdIdeal : Cert.AttnBwdIdeal.Facts] [hPre_finite_scores : Cert.Pre_finite_scores.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_scores m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_scores [hAttnBwdRefIdeal : Cert.AttnBwdRefIdeal.Facts] [hPre_finite_scores : Cert.Pre_finite_scores.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_scores m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_MlpDx [hMlpDx : Cert.MlpDx.Facts] : Prop :=
  ∀ (m : (ℓ : Loc Cert.MlpDx.nD Cert.MlpDx.τ Cert.MlpDx.sig) → Buf (Elt Bits) ℓ) (g : Dev Cert.MlpDx.nD → PrngReg), Pre_MlpDx m →
    θ_run (Cert.MlpDx.defs (F := Bits)) (onTc (τ := Cert.MlpDx.τ) (Cert.MlpDx.main (F := Bits))) ⟨m, fun _ => 0, g⟩ (fun r => (∀ c : Dev Cert.MlpDx.nD,
      r.2.mem ((c.tc : Thread Cert.MlpDx.nD Cert.MlpDx.τ).loc Cert.MlpDx.main_arg0) = m ((c.tc : Thread Cert.MlpDx.nD Cert.MlpDx.τ).loc Cert.MlpDx.main_arg0)
      ∧ r.2.mem ((c.tc : Thread Cert.MlpDx.nD Cert.MlpDx.τ).loc Cert.MlpDx.main_arg1) = m ((c.tc : Thread Cert.MlpDx.nD Cert.MlpDx.τ).loc Cert.MlpDx.main_arg1)
      ∧ r.2.mem ((c.tc : Thread Cert.MlpDx.nD Cert.MlpDx.τ).loc Cert.MlpDx.main_arg2) = m ((c.tc : Thread Cert.MlpDx.nD Cert.MlpDx.τ).loc Cert.MlpDx.main_arg2))
      ∧ r.2.sem = fun _ => 0)

def quiescent_MlpDxIdeal [hMlpDxIdeal : Cert.MlpDxIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2))
      ∧ r.2.sem = fun _ => 0)

def quiescent_MlpDxRefIdeal [hMlpDxRefIdeal : Cert.MlpDxRefIdeal.Facts] : Prop :=
  ∀ (m : (ℓ : Loc Cert.MlpDxRefIdeal.nD Cert.MlpDxRefIdeal.τ Cert.MlpDxRefIdeal.sig) → Buf (Elt Ideal) ℓ) (g : Dev Cert.MlpDxRefIdeal.nD → PrngReg), Pre_MlpDxRefIdeal m →
    θ_run (Cert.MlpDxRefIdeal.defs (F := Ideal)) (onTc (τ := Cert.MlpDxRefIdeal.τ) (Cert.MlpDxRefIdeal.main (F := Ideal))) ⟨m, fun _ => 0, g⟩ (fun r => (∀ c : Dev Cert.MlpDxRefIdeal.nD,
      r.2.mem ((c.tc : Thread Cert.MlpDxRefIdeal.nD Cert.MlpDxRefIdeal.τ).loc Cert.MlpDxRefIdeal.main_arg0) = m ((c.tc : Thread Cert.MlpDxRefIdeal.nD Cert.MlpDxRefIdeal.τ).loc Cert.MlpDxRefIdeal.main_arg0)
      ∧ r.2.mem ((c.tc : Thread Cert.MlpDxRefIdeal.nD Cert.MlpDxRefIdeal.τ).loc Cert.MlpDxRefIdeal.main_arg1) = m ((c.tc : Thread Cert.MlpDxRefIdeal.nD Cert.MlpDxRefIdeal.τ).loc Cert.MlpDxRefIdeal.main_arg1)
      ∧ r.2.mem ((c.tc : Thread Cert.MlpDxRefIdeal.nD Cert.MlpDxRefIdeal.τ).loc Cert.MlpDxRefIdeal.main_arg2) = m ((c.tc : Thread Cert.MlpDxRefIdeal.nD Cert.MlpDxRefIdeal.τ).loc Cert.MlpDxRefIdeal.main_arg2))
      ∧ r.2.sem = fun _ => 0)

def quiescent_MlpDw [hMlpDw : Cert.MlpDw.Facts] : Prop :=
  ∀ (m : (ℓ : Loc Cert.MlpDw.nD Cert.MlpDw.τ Cert.MlpDw.sig) → Buf (Elt Bits) ℓ) (g : Dev Cert.MlpDw.nD → PrngReg), Pre_MlpDw m →
    θ_run (Cert.MlpDw.defs (F := Bits)) (onTc (τ := Cert.MlpDw.τ) (Cert.MlpDw.main (F := Bits))) ⟨m, fun _ => 0, g⟩ (fun r => (∀ c : Dev Cert.MlpDw.nD,
      r.2.mem ((c.tc : Thread Cert.MlpDw.nD Cert.MlpDw.τ).loc Cert.MlpDw.main_arg0) = m ((c.tc : Thread Cert.MlpDw.nD Cert.MlpDw.τ).loc Cert.MlpDw.main_arg0)
      ∧ r.2.mem ((c.tc : Thread Cert.MlpDw.nD Cert.MlpDw.τ).loc Cert.MlpDw.main_arg1) = m ((c.tc : Thread Cert.MlpDw.nD Cert.MlpDw.τ).loc Cert.MlpDw.main_arg1)
      ∧ r.2.mem ((c.tc : Thread Cert.MlpDw.nD Cert.MlpDw.τ).loc Cert.MlpDw.main_arg2) = m ((c.tc : Thread Cert.MlpDw.nD Cert.MlpDw.τ).loc Cert.MlpDw.main_arg2))
      ∧ r.2.sem = fun _ => 0)

def quiescent_MlpDwIdeal [hMlpDwIdeal : Cert.MlpDwIdeal.Facts] : Prop :=
  ∀ (m : (ℓ : Loc Cert.MlpDwIdeal.nD Cert.MlpDwIdeal.τ Cert.MlpDwIdeal.sig) → Buf (Elt Ideal) ℓ) (g : Dev Cert.MlpDwIdeal.nD → PrngReg), Pre_MlpDwIdeal m →
    θ_run (Cert.MlpDwIdeal.defs (F := Ideal)) (onTc (τ := Cert.MlpDwIdeal.τ) (Cert.MlpDwIdeal.main (F := Ideal))) ⟨m, fun _ => 0, g⟩ (fun r => (∀ c : Dev Cert.MlpDwIdeal.nD,
      r.2.mem ((c.tc : Thread Cert.MlpDwIdeal.nD Cert.MlpDwIdeal.τ).loc Cert.MlpDwIdeal.main_arg0) = m ((c.tc : Thread Cert.MlpDwIdeal.nD Cert.MlpDwIdeal.τ).loc Cert.MlpDwIdeal.main_arg0)
      ∧ r.2.mem ((c.tc : Thread Cert.MlpDwIdeal.nD Cert.MlpDwIdeal.τ).loc Cert.MlpDwIdeal.main_arg1) = m ((c.tc : Thread Cert.MlpDwIdeal.nD Cert.MlpDwIdeal.τ).loc Cert.MlpDwIdeal.main_arg1)
      ∧ r.2.mem ((c.tc : Thread Cert.MlpDwIdeal.nD Cert.MlpDwIdeal.τ).loc Cert.MlpDwIdeal.main_arg2) = m ((c.tc : Thread Cert.MlpDwIdeal.nD Cert.MlpDwIdeal.τ).loc Cert.MlpDwIdeal.main_arg2))
      ∧ r.2.sem = fun _ => 0)

def quiescent_MlpDwRefIdeal [hMlpDwRefIdeal : Cert.MlpDwRefIdeal.Facts] : Prop :=
  ∀ (m : (ℓ : Loc Cert.MlpDwRefIdeal.nD Cert.MlpDwRefIdeal.τ Cert.MlpDwRefIdeal.sig) → Buf (Elt Ideal) ℓ) (g : Dev Cert.MlpDwRefIdeal.nD → PrngReg), Pre_MlpDwRefIdeal m →
    θ_run (Cert.MlpDwRefIdeal.defs (F := Ideal)) (onTc (τ := Cert.MlpDwRefIdeal.τ) (Cert.MlpDwRefIdeal.main (F := Ideal))) ⟨m, fun _ => 0, g⟩ (fun r => (∀ c : Dev Cert.MlpDwRefIdeal.nD,
      r.2.mem ((c.tc : Thread Cert.MlpDwRefIdeal.nD Cert.MlpDwRefIdeal.τ).loc Cert.MlpDwRefIdeal.main_arg0) = m ((c.tc : Thread Cert.MlpDwRefIdeal.nD Cert.MlpDwRefIdeal.τ).loc Cert.MlpDwRefIdeal.main_arg0)
      ∧ r.2.mem ((c.tc : Thread Cert.MlpDwRefIdeal.nD Cert.MlpDwRefIdeal.τ).loc Cert.MlpDwRefIdeal.main_arg1) = m ((c.tc : Thread Cert.MlpDwRefIdeal.nD Cert.MlpDwRefIdeal.τ).loc Cert.MlpDwRefIdeal.main_arg1)
      ∧ r.2.mem ((c.tc : Thread Cert.MlpDwRefIdeal.nD Cert.MlpDwRefIdeal.τ).loc Cert.MlpDwRefIdeal.main_arg2) = m ((c.tc : Thread Cert.MlpDwRefIdeal.nD Cert.MlpDwRefIdeal.τ).loc Cert.MlpDwRefIdeal.main_arg2))
      ∧ r.2.sem = fun _ => 0)

def quiescent_NormLoss [hNormLoss : Cert.NormLoss.Facts] : Prop :=
  ∀ (m : (ℓ : Loc Cert.NormLoss.nD Cert.NormLoss.τ Cert.NormLoss.sig) → Buf (Elt Bits) ℓ) (g : Dev Cert.NormLoss.nD → PrngReg), Pre_NormLoss m →
    θ_run (Cert.NormLoss.defs (F := Bits)) (onTc (τ := Cert.NormLoss.τ) (Cert.NormLoss.main (F := Bits))) ⟨m, fun _ => 0, g⟩ (fun r => (∀ c : Dev Cert.NormLoss.nD,
      r.2.mem ((c.tc : Thread Cert.NormLoss.nD Cert.NormLoss.τ).loc Cert.NormLoss.main_arg0) = m ((c.tc : Thread Cert.NormLoss.nD Cert.NormLoss.τ).loc Cert.NormLoss.main_arg0)
      ∧ r.2.mem ((c.tc : Thread Cert.NormLoss.nD Cert.NormLoss.τ).loc Cert.NormLoss.main_arg1) = m ((c.tc : Thread Cert.NormLoss.nD Cert.NormLoss.τ).loc Cert.NormLoss.main_arg1)
      ∧ r.2.mem ((c.tc : Thread Cert.NormLoss.nD Cert.NormLoss.τ).loc Cert.NormLoss.main_arg2) = m ((c.tc : Thread Cert.NormLoss.nD Cert.NormLoss.τ).loc Cert.NormLoss.main_arg2)
      ∧ r.2.mem ((c.tc : Thread Cert.NormLoss.nD Cert.NormLoss.τ).loc Cert.NormLoss.main_arg3) = m ((c.tc : Thread Cert.NormLoss.nD Cert.NormLoss.τ).loc Cert.NormLoss.main_arg3))
      ∧ r.2.sem = fun _ => 0)

def quiescent_NormLossIdeal [hNormLossIdeal : Cert.NormLossIdeal.Facts] : Prop :=
  ∀ (m : (ℓ : Loc Cert.NormLossIdeal.nD Cert.NormLossIdeal.τ Cert.NormLossIdeal.sig) → Buf (Elt Ideal) ℓ) (g : Dev Cert.NormLossIdeal.nD → PrngReg), Pre_NormLossIdeal m →
    θ_run (Cert.NormLossIdeal.defs (F := Ideal)) (onTc (τ := Cert.NormLossIdeal.τ) (Cert.NormLossIdeal.main (F := Ideal))) ⟨m, fun _ => 0, g⟩ (fun r => (∀ c : Dev Cert.NormLossIdeal.nD,
      r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
      ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
      ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2)
      ∧ r.2.mem ((c.tc : Thread Cert.NormLossIdeal.nD Cert.NormLossIdeal.τ).loc Cert.NormLossIdeal.main_arg3) = m ((c.tc : Thread Cert.NormLossIdeal.nD Cert.NormLossIdeal.τ).loc Cert.NormLossIdeal.main_arg3))
      ∧ r.2.sem = fun _ => 0)

def quiescent_NormLossRefIdeal [hNormLossRefIdeal : Cert.NormLossRefIdeal.Facts] : Prop :=
  ∀ (m : (ℓ : Loc Cert.NormLossRefIdeal.nD Cert.NormLossRefIdeal.τ Cert.NormLossRefIdeal.sig) → Buf (Elt Ideal) ℓ) (g : Dev Cert.NormLossRefIdeal.nD → PrngReg), Pre_NormLossRefIdeal m →
    θ_run (Cert.NormLossRefIdeal.defs (F := Ideal)) (onTc (τ := Cert.NormLossRefIdeal.τ) (Cert.NormLossRefIdeal.main (F := Ideal))) ⟨m, fun _ => 0, g⟩ (fun r => (∀ c : Dev Cert.NormLossRefIdeal.nD,
      r.2.mem ((c.tc : Thread Cert.NormLossRefIdeal.nD Cert.NormLossRefIdeal.τ).loc Cert.NormLossRefIdeal.main_arg0) = m ((c.tc : Thread Cert.NormLossRefIdeal.nD Cert.NormLossRefIdeal.τ).loc Cert.NormLossRefIdeal.main_arg0)
      ∧ r.2.mem ((c.tc : Thread Cert.NormLossRefIdeal.nD Cert.NormLossRefIdeal.τ).loc Cert.NormLossRefIdeal.main_arg1) = m ((c.tc : Thread Cert.NormLossRefIdeal.nD Cert.NormLossRefIdeal.τ).loc Cert.NormLossRefIdeal.main_arg1)
      ∧ r.2.mem ((c.tc : Thread Cert.NormLossRefIdeal.nD Cert.NormLossRefIdeal.τ).loc Cert.NormLossRefIdeal.main_arg2) = m ((c.tc : Thread Cert.NormLossRefIdeal.nD Cert.NormLossRefIdeal.τ).loc Cert.NormLossRefIdeal.main_arg2)
      ∧ r.2.mem ((c.tc : Thread Cert.NormLossRefIdeal.nD Cert.NormLossRefIdeal.τ).loc Cert.NormLossRefIdeal.main_arg3) = m ((c.tc : Thread Cert.NormLossRefIdeal.nD Cert.NormLossRefIdeal.τ).loc Cert.NormLossRefIdeal.main_arg3))
      ∧ r.2.sem = fun _ => 0)

def quiescent_BranchB [hBranchB : Cert.BranchB.Facts] : Prop :=
  ∀ (m : (ℓ : Loc Cert.BranchB.nD Cert.BranchB.τ Cert.BranchB.sig) → Buf (Elt Bits) ℓ) (g : Dev Cert.BranchB.nD → PrngReg), Pre_BranchB m →
    θ_run (Cert.BranchB.defs (F := Bits)) (onTc (τ := Cert.BranchB.τ) (Cert.BranchB.main (F := Bits))) ⟨m, fun _ => 0, g⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1)
      ∧ r.2.mem ((c.tc : Thread Cert.BranchB.nD Cert.BranchB.τ).loc Cert.BranchB.main_arg2) = m ((c.tc : Thread Cert.BranchB.nD Cert.BranchB.τ).loc Cert.BranchB.main_arg2)
      ∧ r.2.mem ((c.tc : Thread Cert.BranchB.nD Cert.BranchB.τ).loc Cert.BranchB.main_arg3) = m ((c.tc : Thread Cert.BranchB.nD Cert.BranchB.τ).loc Cert.BranchB.main_arg3))
      ∧ r.2.sem = fun _ => 0)

def quiescent_BranchBIdeal [hBranchBIdeal : Cert.BranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg), Pre_BranchBIdeal m →
    θ_run (Cert.BranchBIdeal.defs (F := Ideal)) (onTc (τ := Cert.BranchBIdeal.τ) (Cert.BranchBIdeal.main (F := Ideal))) ⟨m, fun _ => 0, g⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1)
      ∧ r.2.mem ((c.tc : Thread Cert.BranchBIdeal.nD Cert.BranchBIdeal.τ).loc Cert.BranchBIdeal.main_arg2) = m ((c.tc : Thread Cert.BranchBIdeal.nD Cert.BranchBIdeal.τ).loc Cert.BranchBIdeal.main_arg2)
      ∧ r.2.mem ((c.tc : Thread Cert.BranchBIdeal.nD Cert.BranchBIdeal.τ).loc Cert.BranchBIdeal.main_arg3) = m ((c.tc : Thread Cert.BranchBIdeal.nD Cert.BranchBIdeal.τ).loc Cert.BranchBIdeal.main_arg3))
      ∧ r.2.sem = fun _ => 0)

def quiescent_BranchBRefIdeal [hBranchBRefIdeal : Cert.BranchBRefIdeal.Facts] : Prop :=
  ∀ (m : (ℓ : Loc Cert.BranchBRefIdeal.nD Cert.BranchBRefIdeal.τ Cert.BranchBRefIdeal.sig) → Buf (Elt Ideal) ℓ) (g : Dev Cert.BranchBRefIdeal.nD → PrngReg), Pre_BranchBRefIdeal m →
    θ_run (Cert.BranchBRefIdeal.defs (F := Ideal)) (onTc (τ := Cert.BranchBRefIdeal.τ) (Cert.BranchBRefIdeal.main (F := Ideal))) ⟨m, fun _ => 0, g⟩ (fun r => (∀ c : Dev Cert.BranchBRefIdeal.nD,
      r.2.mem ((c.tc : Thread Cert.BranchBRefIdeal.nD Cert.BranchBRefIdeal.τ).loc Cert.BranchBRefIdeal.main_arg0) = m ((c.tc : Thread Cert.BranchBRefIdeal.nD Cert.BranchBRefIdeal.τ).loc Cert.BranchBRefIdeal.main_arg0)
      ∧ r.2.mem ((c.tc : Thread Cert.BranchBRefIdeal.nD Cert.BranchBRefIdeal.τ).loc Cert.BranchBRefIdeal.main_arg1) = m ((c.tc : Thread Cert.BranchBRefIdeal.nD Cert.BranchBRefIdeal.τ).loc Cert.BranchBRefIdeal.main_arg1)
      ∧ r.2.mem ((c.tc : Thread Cert.BranchBRefIdeal.nD Cert.BranchBRefIdeal.τ).loc Cert.BranchBRefIdeal.main_arg2) = m ((c.tc : Thread Cert.BranchBRefIdeal.nD Cert.BranchBRefIdeal.τ).loc Cert.BranchBRefIdeal.main_arg2)
      ∧ r.2.mem ((c.tc : Thread Cert.BranchBRefIdeal.nD Cert.BranchBRefIdeal.τ).loc Cert.BranchBRefIdeal.main_arg3) = m ((c.tc : Thread Cert.BranchBRefIdeal.nD Cert.BranchBRefIdeal.τ).loc Cert.BranchBRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1))
      ∧ r.2.sem = fun _ => 0)

def quiescent_NormMemFwd [hNormMemFwd : Cert.NormMemFwd.Facts] : Prop :=
  ∀ (m : (ℓ : Loc Cert.NormMemFwd.nD Cert.NormMemFwd.τ Cert.NormMemFwd.sig) → Buf (Elt Bits) ℓ) (g : Dev Cert.NormMemFwd.nD → PrngReg), Pre_NormMemFwd m →
    θ_run (Cert.NormMemFwd.defs (F := Bits)) (onTc (τ := Cert.NormMemFwd.τ) (Cert.NormMemFwd.main (F := Bits))) ⟨m, fun _ => 0, g⟩ (fun r => (∀ c : Dev Cert.NormMemFwd.nD,
      r.2.mem ((c.tc : Thread Cert.NormMemFwd.nD Cert.NormMemFwd.τ).loc Cert.NormMemFwd.main_arg0) = m ((c.tc : Thread Cert.NormMemFwd.nD Cert.NormMemFwd.τ).loc Cert.NormMemFwd.main_arg0)
      ∧ r.2.mem ((c.tc : Thread Cert.NormMemFwd.nD Cert.NormMemFwd.τ).loc Cert.NormMemFwd.main_arg1) = m ((c.tc : Thread Cert.NormMemFwd.nD Cert.NormMemFwd.τ).loc Cert.NormMemFwd.main_arg1))
      ∧ r.2.sem = fun _ => 0)

def quiescent_NormMemFwdIdeal [hNormMemFwdIdeal : Cert.NormMemFwdIdeal.Facts] : Prop :=
  ∀ (m : (ℓ : Loc Cert.NormMemFwdIdeal.nD Cert.NormMemFwdIdeal.τ Cert.NormMemFwdIdeal.sig) → Buf (Elt Ideal) ℓ) (g : Dev Cert.NormMemFwdIdeal.nD → PrngReg), Pre_NormMemFwdIdeal m →
    θ_run (Cert.NormMemFwdIdeal.defs (F := Ideal)) (onTc (τ := Cert.NormMemFwdIdeal.τ) (Cert.NormMemFwdIdeal.main (F := Ideal))) ⟨m, fun _ => 0, g⟩ (fun r => (∀ c : Dev Cert.NormMemFwdIdeal.nD,
      r.2.mem ((c.tc : Thread Cert.NormMemFwdIdeal.nD Cert.NormMemFwdIdeal.τ).loc Cert.NormMemFwdIdeal.main_arg0) = m ((c.tc : Thread Cert.NormMemFwdIdeal.nD Cert.NormMemFwdIdeal.τ).loc Cert.NormMemFwdIdeal.main_arg0)
      ∧ r.2.mem ((c.tc : Thread Cert.NormMemFwdIdeal.nD Cert.NormMemFwdIdeal.τ).loc Cert.NormMemFwdIdeal.main_arg1) = m ((c.tc : Thread Cert.NormMemFwdIdeal.nD Cert.NormMemFwdIdeal.τ).loc Cert.NormMemFwdIdeal.main_arg1))
      ∧ r.2.sem = fun _ => 0)

def quiescent_NormMemFwdRefIdeal [hNormMemFwdRefIdeal : Cert.NormMemFwdRefIdeal.Facts] : Prop :=
  ∀ (m : (ℓ : Loc Cert.NormMemFwdRefIdeal.nD Cert.NormMemFwdRefIdeal.τ Cert.NormMemFwdRefIdeal.sig) → Buf (Elt Ideal) ℓ) (g : Dev Cert.NormMemFwdRefIdeal.nD → PrngReg), Pre_NormMemFwdRefIdeal m →
    θ_run (Cert.NormMemFwdRefIdeal.defs (F := Ideal)) (onTc (τ := Cert.NormMemFwdRefIdeal.τ) (Cert.NormMemFwdRefIdeal.main (F := Ideal))) ⟨m, fun _ => 0, g⟩ (fun r => (∀ c : Dev Cert.NormMemFwdRefIdeal.nD,
      r.2.mem ((c.tc : Thread Cert.NormMemFwdRefIdeal.nD Cert.NormMemFwdRefIdeal.τ).loc Cert.NormMemFwdRefIdeal.main_arg0) = m ((c.tc : Thread Cert.NormMemFwdRefIdeal.nD Cert.NormMemFwdRefIdeal.τ).loc Cert.NormMemFwdRefIdeal.main_arg0)
      ∧ r.2.mem ((c.tc : Thread Cert.NormMemFwdRefIdeal.nD Cert.NormMemFwdRefIdeal.τ).loc Cert.NormMemFwdRefIdeal.main_arg1) = m ((c.tc : Thread Cert.NormMemFwdRefIdeal.nD Cert.NormMemFwdRefIdeal.τ).loc Cert.NormMemFwdRefIdeal.main_arg1))
      ∧ r.2.sem = fun _ => 0)

def quiescent_NormMidFwd [hNormMidFwd : Cert.NormMidFwd.Facts] : Prop :=
  ∀ (m : (ℓ : Loc Cert.NormMidFwd.nD Cert.NormMidFwd.τ Cert.NormMidFwd.sig) → Buf (Elt Bits) ℓ) (g : Dev Cert.NormMidFwd.nD → PrngReg), Pre_NormMidFwd m →
    θ_run (Cert.NormMidFwd.defs (F := Bits)) (onTc (τ := Cert.NormMidFwd.τ) (Cert.NormMidFwd.main (F := Bits))) ⟨m, fun _ => 0, g⟩ (fun r => (∀ c : Dev Cert.NormMidFwd.nD,
      r.2.mem ((c.tc : Thread Cert.NormMidFwd.nD Cert.NormMidFwd.τ).loc Cert.NormMidFwd.main_arg0) = m ((c.tc : Thread Cert.NormMidFwd.nD Cert.NormMidFwd.τ).loc Cert.NormMidFwd.main_arg0)
      ∧ r.2.mem ((c.tc : Thread Cert.NormMidFwd.nD Cert.NormMidFwd.τ).loc Cert.NormMidFwd.main_arg1) = m ((c.tc : Thread Cert.NormMidFwd.nD Cert.NormMidFwd.τ).loc Cert.NormMidFwd.main_arg1)
      ∧ r.2.mem ((c.tc : Thread Cert.NormMidFwd.nD Cert.NormMidFwd.τ).loc Cert.NormMidFwd.main_arg2) = m ((c.tc : Thread Cert.NormMidFwd.nD Cert.NormMidFwd.τ).loc Cert.NormMidFwd.main_arg2)
      ∧ r.2.mem ((c.tc : Thread Cert.NormMidFwd.nD Cert.NormMidFwd.τ).loc Cert.NormMidFwd.main_arg3) = m ((c.tc : Thread Cert.NormMidFwd.nD Cert.NormMidFwd.τ).loc Cert.NormMidFwd.main_arg3))
      ∧ r.2.sem = fun _ => 0)

def quiescent_NormMidFwdIdeal [hNormMidFwdIdeal : Cert.NormMidFwdIdeal.Facts] : Prop :=
  ∀ (m : (ℓ : Loc Cert.NormMidFwdIdeal.nD Cert.NormMidFwdIdeal.τ Cert.NormMidFwdIdeal.sig) → Buf (Elt Ideal) ℓ) (g : Dev Cert.NormMidFwdIdeal.nD → PrngReg), Pre_NormMidFwdIdeal m →
    θ_run (Cert.NormMidFwdIdeal.defs (F := Ideal)) (onTc (τ := Cert.NormMidFwdIdeal.τ) (Cert.NormMidFwdIdeal.main (F := Ideal))) ⟨m, fun _ => 0, g⟩ (fun r => (∀ c : Dev Cert.NormMidFwdIdeal.nD,
      r.2.mem ((c.tc : Thread Cert.NormMidFwdIdeal.nD Cert.NormMidFwdIdeal.τ).loc Cert.NormMidFwdIdeal.main_arg0) = m ((c.tc : Thread Cert.NormMidFwdIdeal.nD Cert.NormMidFwdIdeal.τ).loc Cert.NormMidFwdIdeal.main_arg0)
      ∧ r.2.mem ((c.tc : Thread Cert.NormMidFwdIdeal.nD Cert.NormMidFwdIdeal.τ).loc Cert.NormMidFwdIdeal.main_arg1) = m ((c.tc : Thread Cert.NormMidFwdIdeal.nD Cert.NormMidFwdIdeal.τ).loc Cert.NormMidFwdIdeal.main_arg1)
      ∧ r.2.mem ((c.tc : Thread Cert.NormMidFwdIdeal.nD Cert.NormMidFwdIdeal.τ).loc Cert.NormMidFwdIdeal.main_arg2) = m ((c.tc : Thread Cert.NormMidFwdIdeal.nD Cert.NormMidFwdIdeal.τ).loc Cert.NormMidFwdIdeal.main_arg2)
      ∧ r.2.mem ((c.tc : Thread Cert.NormMidFwdIdeal.nD Cert.NormMidFwdIdeal.τ).loc Cert.NormMidFwdIdeal.main_arg3) = m ((c.tc : Thread Cert.NormMidFwdIdeal.nD Cert.NormMidFwdIdeal.τ).loc Cert.NormMidFwdIdeal.main_arg3))
      ∧ r.2.sem = fun _ => 0)

def quiescent_NormMidFwdRefIdeal [hNormMidFwdRefIdeal : Cert.NormMidFwdRefIdeal.Facts] : Prop :=
  ∀ (m : (ℓ : Loc Cert.NormMidFwdRefIdeal.nD Cert.NormMidFwdRefIdeal.τ Cert.NormMidFwdRefIdeal.sig) → Buf (Elt Ideal) ℓ) (g : Dev Cert.NormMidFwdRefIdeal.nD → PrngReg), Pre_NormMidFwdRefIdeal m →
    θ_run (Cert.NormMidFwdRefIdeal.defs (F := Ideal)) (onTc (τ := Cert.NormMidFwdRefIdeal.τ) (Cert.NormMidFwdRefIdeal.main (F := Ideal))) ⟨m, fun _ => 0, g⟩ (fun r => (∀ c : Dev Cert.NormMidFwdRefIdeal.nD,
      r.2.mem ((c.tc : Thread Cert.NormMidFwdRefIdeal.nD Cert.NormMidFwdRefIdeal.τ).loc Cert.NormMidFwdRefIdeal.main_arg0) = m ((c.tc : Thread Cert.NormMidFwdRefIdeal.nD Cert.NormMidFwdRefIdeal.τ).loc Cert.NormMidFwdRefIdeal.main_arg0)
      ∧ r.2.mem ((c.tc : Thread Cert.NormMidFwdRefIdeal.nD Cert.NormMidFwdRefIdeal.τ).loc Cert.NormMidFwdRefIdeal.main_arg1) = m ((c.tc : Thread Cert.NormMidFwdRefIdeal.nD Cert.NormMidFwdRefIdeal.τ).loc Cert.NormMidFwdRefIdeal.main_arg1)
      ∧ r.2.mem ((c.tc : Thread Cert.NormMidFwdRefIdeal.nD Cert.NormMidFwdRefIdeal.τ).loc Cert.NormMidFwdRefIdeal.main_arg2) = m ((c.tc : Thread Cert.NormMidFwdRefIdeal.nD Cert.NormMidFwdRefIdeal.τ).loc Cert.NormMidFwdRefIdeal.main_arg2)
      ∧ r.2.mem ((c.tc : Thread Cert.NormMidFwdRefIdeal.nD Cert.NormMidFwdRefIdeal.τ).loc Cert.NormMidFwdRefIdeal.main_arg3) = m ((c.tc : Thread Cert.NormMidFwdRefIdeal.nD Cert.NormMidFwdRefIdeal.τ).loc Cert.NormMidFwdRefIdeal.main_arg3))
      ∧ r.2.sem = fun _ => 0)

def quiescent_BranchBFwd [hBranchBFwd : Cert.BranchBFwd.Facts] : Prop :=
  ∀ (m : (ℓ : Loc Cert.BranchBFwd.nD Cert.BranchBFwd.τ Cert.BranchBFwd.sig) → Buf (Elt Bits) ℓ) (g : Dev Cert.BranchBFwd.nD → PrngReg), Pre_BranchBFwd m →
    θ_run (Cert.BranchBFwd.defs (F := Bits)) (onTc (τ := Cert.BranchBFwd.τ) (Cert.BranchBFwd.main (F := Bits))) ⟨m, fun _ => 0, g⟩ (fun r => (∀ c : Dev Cert.BranchBFwd.nD,
      r.2.mem ((c.tc : Thread Cert.BranchBFwd.nD Cert.BranchBFwd.τ).loc Cert.BranchBFwd.main_arg0) = m ((c.tc : Thread Cert.BranchBFwd.nD Cert.BranchBFwd.τ).loc Cert.BranchBFwd.main_arg0)
      ∧ r.2.mem ((c.tc : Thread Cert.BranchBFwd.nD Cert.BranchBFwd.τ).loc Cert.BranchBFwd.main_arg1) = m ((c.tc : Thread Cert.BranchBFwd.nD Cert.BranchBFwd.τ).loc Cert.BranchBFwd.main_arg1))
      ∧ r.2.sem = fun _ => 0)

def quiescent_BranchBFwdIdeal [hBranchBFwdIdeal : Cert.BranchBFwdIdeal.Facts] : Prop :=
  ∀ (m : (ℓ : Loc Cert.BranchBFwdIdeal.nD Cert.BranchBFwdIdeal.τ Cert.BranchBFwdIdeal.sig) → Buf (Elt Ideal) ℓ) (g : Dev Cert.BranchBFwdIdeal.nD → PrngReg), Pre_BranchBFwdIdeal m →
    θ_run (Cert.BranchBFwdIdeal.defs (F := Ideal)) (onTc (τ := Cert.BranchBFwdIdeal.τ) (Cert.BranchBFwdIdeal.main (F := Ideal))) ⟨m, fun _ => 0, g⟩ (fun r => (∀ c : Dev Cert.BranchBFwdIdeal.nD,
      r.2.mem ((c.tc : Thread Cert.BranchBFwdIdeal.nD Cert.BranchBFwdIdeal.τ).loc Cert.BranchBFwdIdeal.main_arg0) = m ((c.tc : Thread Cert.BranchBFwdIdeal.nD Cert.BranchBFwdIdeal.τ).loc Cert.BranchBFwdIdeal.main_arg0)
      ∧ r.2.mem ((c.tc : Thread Cert.BranchBFwdIdeal.nD Cert.BranchBFwdIdeal.τ).loc Cert.BranchBFwdIdeal.main_arg1) = m ((c.tc : Thread Cert.BranchBFwdIdeal.nD Cert.BranchBFwdIdeal.τ).loc Cert.BranchBFwdIdeal.main_arg1))
      ∧ r.2.sem = fun _ => 0)

def quiescent_BranchBFwdRefIdeal [hBranchBFwdRefIdeal : Cert.BranchBFwdRefIdeal.Facts] : Prop :=
  ∀ (m : (ℓ : Loc Cert.BranchBFwdRefIdeal.nD Cert.BranchBFwdRefIdeal.τ Cert.BranchBFwdRefIdeal.sig) → Buf (Elt Ideal) ℓ) (g : Dev Cert.BranchBFwdRefIdeal.nD → PrngReg), Pre_BranchBFwdRefIdeal m →
    θ_run (Cert.BranchBFwdRefIdeal.defs (F := Ideal)) (onTc (τ := Cert.BranchBFwdRefIdeal.τ) (Cert.BranchBFwdRefIdeal.main (F := Ideal))) ⟨m, fun _ => 0, g⟩ (fun r => (∀ c : Dev Cert.BranchBFwdRefIdeal.nD,
      r.2.mem ((c.tc : Thread Cert.BranchBFwdRefIdeal.nD Cert.BranchBFwdRefIdeal.τ).loc Cert.BranchBFwdRefIdeal.main_arg0) = m ((c.tc : Thread Cert.BranchBFwdRefIdeal.nD Cert.BranchBFwdRefIdeal.τ).loc Cert.BranchBFwdRefIdeal.main_arg0)
      ∧ r.2.mem ((c.tc : Thread Cert.BranchBFwdRefIdeal.nD Cert.BranchBFwdRefIdeal.τ).loc Cert.BranchBFwdRefIdeal.main_arg1) = m ((c.tc : Thread Cert.BranchBFwdRefIdeal.nD Cert.BranchBFwdRefIdeal.τ).loc Cert.BranchBFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1))
      ∧ r.2.sem = fun _ => 0)

def quiescent_BranchAFwd [hBranchAFwd : Cert.BranchAFwd.Facts] : Prop :=
  ∀ (m : (ℓ : Loc Cert.BranchAFwd.nD Cert.BranchAFwd.τ Cert.BranchAFwd.sig) → Buf (Elt Bits) ℓ) (g : Dev Cert.BranchAFwd.nD → PrngReg), Pre_BranchAFwd m →
    θ_run (Cert.BranchAFwd.defs (F := Bits)) (onTc (τ := Cert.BranchAFwd.τ) (Cert.BranchAFwd.main (F := Bits))) ⟨m, fun _ => 0, g⟩ (fun r => (∀ c : Dev Cert.BranchAFwd.nD,
      r.2.mem ((c.tc : Thread Cert.BranchAFwd.nD Cert.BranchAFwd.τ).loc Cert.BranchAFwd.main_arg0) = m ((c.tc : Thread Cert.BranchAFwd.nD Cert.BranchAFwd.τ).loc Cert.BranchAFwd.main_arg0)
      ∧ r.2.mem ((c.tc : Thread Cert.BranchAFwd.nD Cert.BranchAFwd.τ).loc Cert.BranchAFwd.main_arg1) = m ((c.tc : Thread Cert.BranchAFwd.nD Cert.BranchAFwd.τ).loc Cert.BranchAFwd.main_arg1)
      ∧ r.2.mem ((c.tc : Thread Cert.BranchAFwd.nD Cert.BranchAFwd.τ).loc Cert.BranchAFwd.main_arg2) = m ((c.tc : Thread Cert.BranchAFwd.nD Cert.BranchAFwd.τ).loc Cert.BranchAFwd.main_arg2)
      ∧ r.2.mem ((c.tc : Thread Cert.BranchAFwd.nD Cert.BranchAFwd.τ).loc Cert.BranchAFwd.main_arg3) = m ((c.tc : Thread Cert.BranchAFwd.nD Cert.BranchAFwd.τ).loc Cert.BranchAFwd.main_arg3)
      ∧ r.2.mem ((c.tc : Thread Cert.BranchAFwd.nD Cert.BranchAFwd.τ).loc Cert.BranchAFwd.main_arg4) = m ((c.tc : Thread Cert.BranchAFwd.nD Cert.BranchAFwd.τ).loc Cert.BranchAFwd.main_arg4))
      ∧ r.2.sem = fun _ => 0)

def quiescent_BranchAFwdIdeal [hBranchAFwdIdeal : Cert.BranchAFwdIdeal.Facts] : Prop :=
  ∀ (m : (ℓ : Loc Cert.BranchAFwdIdeal.nD Cert.BranchAFwdIdeal.τ Cert.BranchAFwdIdeal.sig) → Buf (Elt Ideal) ℓ) (g : Dev Cert.BranchAFwdIdeal.nD → PrngReg), Pre_BranchAFwdIdeal m →
    θ_run (Cert.BranchAFwdIdeal.defs (F := Ideal)) (onTc (τ := Cert.BranchAFwdIdeal.τ) (Cert.BranchAFwdIdeal.main (F := Ideal))) ⟨m, fun _ => 0, g⟩ (fun r => (∀ c : Dev Cert.BranchAFwdIdeal.nD,
      r.2.mem ((c.tc : Thread Cert.BranchAFwdIdeal.nD Cert.BranchAFwdIdeal.τ).loc Cert.BranchAFwdIdeal.main_arg0) = m ((c.tc : Thread Cert.BranchAFwdIdeal.nD Cert.BranchAFwdIdeal.τ).loc Cert.BranchAFwdIdeal.main_arg0)
      ∧ r.2.mem ((c.tc : Thread Cert.BranchAFwdIdeal.nD Cert.BranchAFwdIdeal.τ).loc Cert.BranchAFwdIdeal.main_arg1) = m ((c.tc : Thread Cert.BranchAFwdIdeal.nD Cert.BranchAFwdIdeal.τ).loc Cert.BranchAFwdIdeal.main_arg1)
      ∧ r.2.mem ((c.tc : Thread Cert.BranchAFwdIdeal.nD Cert.BranchAFwdIdeal.τ).loc Cert.BranchAFwdIdeal.main_arg2) = m ((c.tc : Thread Cert.BranchAFwdIdeal.nD Cert.BranchAFwdIdeal.τ).loc Cert.BranchAFwdIdeal.main_arg2)
      ∧ r.2.mem ((c.tc : Thread Cert.BranchAFwdIdeal.nD Cert.BranchAFwdIdeal.τ).loc Cert.BranchAFwdIdeal.main_arg3) = m ((c.tc : Thread Cert.BranchAFwdIdeal.nD Cert.BranchAFwdIdeal.τ).loc Cert.BranchAFwdIdeal.main_arg3)
      ∧ r.2.mem ((c.tc : Thread Cert.BranchAFwdIdeal.nD Cert.BranchAFwdIdeal.τ).loc Cert.BranchAFwdIdeal.main_arg4) = m ((c.tc : Thread Cert.BranchAFwdIdeal.nD Cert.BranchAFwdIdeal.τ).loc Cert.BranchAFwdIdeal.main_arg4))
      ∧ r.2.sem = fun _ => 0)

def quiescent_BranchAFwdRefIdeal [hBranchAFwdRefIdeal : Cert.BranchAFwdRefIdeal.Facts] : Prop :=
  ∀ (m : (ℓ : Loc Cert.BranchAFwdRefIdeal.nD Cert.BranchAFwdRefIdeal.τ Cert.BranchAFwdRefIdeal.sig) → Buf (Elt Ideal) ℓ) (g : Dev Cert.BranchAFwdRefIdeal.nD → PrngReg), Pre_BranchAFwdRefIdeal m →
    θ_run (Cert.BranchAFwdRefIdeal.defs (F := Ideal)) (onTc (τ := Cert.BranchAFwdRefIdeal.τ) (Cert.BranchAFwdRefIdeal.main (F := Ideal))) ⟨m, fun _ => 0, g⟩ (fun r => (∀ c : Dev Cert.BranchAFwdRefIdeal.nD,
      r.2.mem ((c.tc : Thread Cert.BranchAFwdRefIdeal.nD Cert.BranchAFwdRefIdeal.τ).loc Cert.BranchAFwdRefIdeal.main_arg0) = m ((c.tc : Thread Cert.BranchAFwdRefIdeal.nD Cert.BranchAFwdRefIdeal.τ).loc Cert.BranchAFwdRefIdeal.main_arg0)
      ∧ r.2.mem ((c.tc : Thread Cert.BranchAFwdRefIdeal.nD Cert.BranchAFwdRefIdeal.τ).loc Cert.BranchAFwdRefIdeal.main_arg1) = m ((c.tc : Thread Cert.BranchAFwdRefIdeal.nD Cert.BranchAFwdRefIdeal.τ).loc Cert.BranchAFwdRefIdeal.main_arg1)
      ∧ r.2.mem ((c.tc : Thread Cert.BranchAFwdRefIdeal.nD Cert.BranchAFwdRefIdeal.τ).loc Cert.BranchAFwdRefIdeal.main_arg2) = m ((c.tc : Thread Cert.BranchAFwdRefIdeal.nD Cert.BranchAFwdRefIdeal.τ).loc Cert.BranchAFwdRefIdeal.main_arg2)
      ∧ r.2.mem ((c.tc : Thread Cert.BranchAFwdRefIdeal.nD Cert.BranchAFwdRefIdeal.τ).loc Cert.BranchAFwdRefIdeal.main_arg3) = m ((c.tc : Thread Cert.BranchAFwdRefIdeal.nD Cert.BranchAFwdRefIdeal.τ).loc Cert.BranchAFwdRefIdeal.main_arg3)
      ∧ r.2.mem ((c.tc : Thread Cert.BranchAFwdRefIdeal.nD Cert.BranchAFwdRefIdeal.τ).loc Cert.BranchAFwdRefIdeal.main_arg4) = m ((c.tc : Thread Cert.BranchAFwdRefIdeal.nD Cert.BranchAFwdRefIdeal.τ).loc Cert.BranchAFwdRefIdeal.main_arg4))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1)
      ∧ r.2.mem ((c.tc : Thread Cert.BranchA.nD Cert.BranchA.τ).loc Cert.BranchA.main_arg2) = m ((c.tc : Thread Cert.BranchA.nD Cert.BranchA.τ).loc Cert.BranchA.main_arg2)
      ∧ r.2.mem ((c.tc : Thread Cert.BranchA.nD Cert.BranchA.τ).loc Cert.BranchA.main_arg3) = m ((c.tc : Thread Cert.BranchA.nD Cert.BranchA.τ).loc Cert.BranchA.main_arg3)
      ∧ r.2.mem ((c.tc : Thread Cert.BranchA.nD Cert.BranchA.τ).loc Cert.BranchA.main_arg4) = m ((c.tc : Thread Cert.BranchA.nD Cert.BranchA.τ).loc Cert.BranchA.main_arg4)
      ∧ r.2.mem ((c.tc : Thread Cert.BranchA.nD Cert.BranchA.τ).loc Cert.BranchA.main_arg5) = m ((c.tc : Thread Cert.BranchA.nD Cert.BranchA.τ).loc Cert.BranchA.main_arg5)
      ∧ r.2.mem ((c.tc : Thread Cert.BranchA.nD Cert.BranchA.τ).loc Cert.BranchA.main_arg6) = m ((c.tc : Thread Cert.BranchA.nD Cert.BranchA.τ).loc Cert.BranchA.main_arg6))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1)
      ∧ r.2.mem ((c.tc : Thread Cert.BranchAIdeal.nD Cert.BranchAIdeal.τ).loc Cert.BranchAIdeal.main_arg2) = m ((c.tc : Thread Cert.BranchAIdeal.nD Cert.BranchAIdeal.τ).loc Cert.BranchAIdeal.main_arg2)
      ∧ r.2.mem ((c.tc : Thread Cert.BranchAIdeal.nD Cert.BranchAIdeal.τ).loc Cert.BranchAIdeal.main_arg3) = m ((c.tc : Thread Cert.BranchAIdeal.nD Cert.BranchAIdeal.τ).loc Cert.BranchAIdeal.main_arg3)
      ∧ r.2.mem ((c.tc : Thread Cert.BranchAIdeal.nD Cert.BranchAIdeal.τ).loc Cert.BranchAIdeal.main_arg4) = m ((c.tc : Thread Cert.BranchAIdeal.nD Cert.BranchAIdeal.τ).loc Cert.BranchAIdeal.main_arg4)
      ∧ r.2.mem ((c.tc : Thread Cert.BranchAIdeal.nD Cert.BranchAIdeal.τ).loc Cert.BranchAIdeal.main_arg5) = m ((c.tc : Thread Cert.BranchAIdeal.nD Cert.BranchAIdeal.τ).loc Cert.BranchAIdeal.main_arg5)
      ∧ r.2.mem ((c.tc : Thread Cert.BranchAIdeal.nD Cert.BranchAIdeal.τ).loc Cert.BranchAIdeal.main_arg6) = m ((c.tc : Thread Cert.BranchAIdeal.nD Cert.BranchAIdeal.τ).loc Cert.BranchAIdeal.main_arg6))
      ∧ r.2.sem = fun _ => 0)

def quiescent_BranchARefIdeal [hBranchARefIdeal : Cert.BranchARefIdeal.Facts] : Prop :=
  ∀ (m : (ℓ : Loc Cert.BranchARefIdeal.nD Cert.BranchARefIdeal.τ Cert.BranchARefIdeal.sig) → Buf (Elt Ideal) ℓ) (g : Dev Cert.BranchARefIdeal.nD → PrngReg), Pre_BranchARefIdeal m →
    θ_run (Cert.BranchARefIdeal.defs (F := Ideal)) (onTc (τ := Cert.BranchARefIdeal.τ) (Cert.BranchARefIdeal.main (F := Ideal))) ⟨m, fun _ => 0, g⟩ (fun r => (∀ c : Dev Cert.BranchARefIdeal.nD,
      r.2.mem ((c.tc : Thread Cert.BranchARefIdeal.nD Cert.BranchARefIdeal.τ).loc Cert.BranchARefIdeal.main_arg0) = m ((c.tc : Thread Cert.BranchARefIdeal.nD Cert.BranchARefIdeal.τ).loc Cert.BranchARefIdeal.main_arg0)
      ∧ r.2.mem ((c.tc : Thread Cert.BranchARefIdeal.nD Cert.BranchARefIdeal.τ).loc Cert.BranchARefIdeal.main_arg1) = m ((c.tc : Thread Cert.BranchARefIdeal.nD Cert.BranchARefIdeal.τ).loc Cert.BranchARefIdeal.main_arg1)
      ∧ r.2.mem ((c.tc : Thread Cert.BranchARefIdeal.nD Cert.BranchARefIdeal.τ).loc Cert.BranchARefIdeal.main_arg2) = m ((c.tc : Thread Cert.BranchARefIdeal.nD Cert.BranchARefIdeal.τ).loc Cert.BranchARefIdeal.main_arg2)
      ∧ r.2.mem ((c.tc : Thread Cert.BranchARefIdeal.nD Cert.BranchARefIdeal.τ).loc Cert.BranchARefIdeal.main_arg3) = m ((c.tc : Thread Cert.BranchARefIdeal.nD Cert.BranchARefIdeal.τ).loc Cert.BranchARefIdeal.main_arg3)
      ∧ r.2.mem ((c.tc : Thread Cert.BranchARefIdeal.nD Cert.BranchARefIdeal.τ).loc Cert.BranchARefIdeal.main_arg4) = m ((c.tc : Thread Cert.BranchARefIdeal.nD Cert.BranchARefIdeal.τ).loc Cert.BranchARefIdeal.main_arg4)
      ∧ r.2.mem ((c.tc : Thread Cert.BranchARefIdeal.nD Cert.BranchARefIdeal.τ).loc Cert.BranchARefIdeal.main_arg5) = m ((c.tc : Thread Cert.BranchARefIdeal.nD Cert.BranchARefIdeal.τ).loc Cert.BranchARefIdeal.main_arg5)
      ∧ r.2.mem ((c.tc : Thread Cert.BranchARefIdeal.nD Cert.BranchARefIdeal.τ).loc Cert.BranchARefIdeal.main_arg6) = m ((c.tc : Thread Cert.BranchARefIdeal.nD Cert.BranchARefIdeal.τ).loc Cert.BranchARefIdeal.main_arg6))
      ∧ r.2.sem = fun _ => 0)

def quiescent_ProductIn [hProductIn : Cert.ProductIn.Facts] : Prop :=
  ∀ (m : (ℓ : Loc Cert.ProductIn.nD Cert.ProductIn.τ Cert.ProductIn.sig) → Buf (Elt Bits) ℓ) (g : Dev Cert.ProductIn.nD → PrngReg), Pre_ProductIn m →
    θ_run (Cert.ProductIn.defs (F := Bits)) (onTc (τ := Cert.ProductIn.τ) (Cert.ProductIn.main (F := Bits))) ⟨m, fun _ => 0, g⟩ (fun r => (∀ c : Dev Cert.ProductIn.nD,
      r.2.mem ((c.tc : Thread Cert.ProductIn.nD Cert.ProductIn.τ).loc Cert.ProductIn.main_arg0) = m ((c.tc : Thread Cert.ProductIn.nD Cert.ProductIn.τ).loc Cert.ProductIn.main_arg0)
      ∧ r.2.mem ((c.tc : Thread Cert.ProductIn.nD Cert.ProductIn.τ).loc Cert.ProductIn.main_arg1) = m ((c.tc : Thread Cert.ProductIn.nD Cert.ProductIn.τ).loc Cert.ProductIn.main_arg1))
      ∧ r.2.sem = fun _ => 0)

def quiescent_ProductInIdeal [hProductInIdeal : Cert.ProductInIdeal.Facts] : Prop :=
  ∀ (m : (ℓ : Loc Cert.ProductInIdeal.nD Cert.ProductInIdeal.τ Cert.ProductInIdeal.sig) → Buf (Elt Ideal) ℓ) (g : Dev Cert.ProductInIdeal.nD → PrngReg), Pre_ProductInIdeal m →
    θ_run (Cert.ProductInIdeal.defs (F := Ideal)) (onTc (τ := Cert.ProductInIdeal.τ) (Cert.ProductInIdeal.main (F := Ideal))) ⟨m, fun _ => 0, g⟩ (fun r => (∀ c : Dev Cert.ProductInIdeal.nD,
      r.2.mem ((c.tc : Thread Cert.ProductInIdeal.nD Cert.ProductInIdeal.τ).loc Cert.ProductInIdeal.main_arg0) = m ((c.tc : Thread Cert.ProductInIdeal.nD Cert.ProductInIdeal.τ).loc Cert.ProductInIdeal.main_arg0)
      ∧ r.2.mem ((c.tc : Thread Cert.ProductInIdeal.nD Cert.ProductInIdeal.τ).loc Cert.ProductInIdeal.main_arg1) = m ((c.tc : Thread Cert.ProductInIdeal.nD Cert.ProductInIdeal.τ).loc Cert.ProductInIdeal.main_arg1))
      ∧ r.2.sem = fun _ => 0)

def quiescent_ProductInRefIdeal [hProductInRefIdeal : Cert.ProductInRefIdeal.Facts] : Prop :=
  ∀ (m : (ℓ : Loc Cert.ProductInRefIdeal.nD Cert.ProductInRefIdeal.τ Cert.ProductInRefIdeal.sig) → Buf (Elt Ideal) ℓ) (g : Dev Cert.ProductInRefIdeal.nD → PrngReg), Pre_ProductInRefIdeal m →
    θ_run (Cert.ProductInRefIdeal.defs (F := Ideal)) (onTc (τ := Cert.ProductInRefIdeal.τ) (Cert.ProductInRefIdeal.main (F := Ideal))) ⟨m, fun _ => 0, g⟩ (fun r => (∀ c : Dev Cert.ProductInRefIdeal.nD,
      r.2.mem ((c.tc : Thread Cert.ProductInRefIdeal.nD Cert.ProductInRefIdeal.τ).loc Cert.ProductInRefIdeal.main_arg0) = m ((c.tc : Thread Cert.ProductInRefIdeal.nD Cert.ProductInRefIdeal.τ).loc Cert.ProductInRefIdeal.main_arg0)
      ∧ r.2.mem ((c.tc : Thread Cert.ProductInRefIdeal.nD Cert.ProductInRefIdeal.τ).loc Cert.ProductInRefIdeal.main_arg1) = m ((c.tc : Thread Cert.ProductInRefIdeal.nD Cert.ProductInRefIdeal.τ).loc Cert.ProductInRefIdeal.main_arg1))
      ∧ r.2.sem = fun _ => 0)

def quiescent_ProductInDx [hProductInDx : Cert.ProductInDx.Facts] : Prop :=
  ∀ (m : (ℓ : Loc Cert.ProductInDx.nD Cert.ProductInDx.τ Cert.ProductInDx.sig) → Buf (Elt Bits) ℓ) (g : Dev Cert.ProductInDx.nD → PrngReg), Pre_ProductInDx m →
    θ_run (Cert.ProductInDx.defs (F := Bits)) (onTc (τ := Cert.ProductInDx.τ) (Cert.ProductInDx.main (F := Bits))) ⟨m, fun _ => 0, g⟩ (fun r => (∀ c : Dev Cert.ProductInDx.nD,
      r.2.mem ((c.tc : Thread Cert.ProductInDx.nD Cert.ProductInDx.τ).loc Cert.ProductInDx.main_arg0) = m ((c.tc : Thread Cert.ProductInDx.nD Cert.ProductInDx.τ).loc Cert.ProductInDx.main_arg0)
      ∧ r.2.mem ((c.tc : Thread Cert.ProductInDx.nD Cert.ProductInDx.τ).loc Cert.ProductInDx.main_arg1) = m ((c.tc : Thread Cert.ProductInDx.nD Cert.ProductInDx.τ).loc Cert.ProductInDx.main_arg1)
      ∧ r.2.mem ((c.tc : Thread Cert.ProductInDx.nD Cert.ProductInDx.τ).loc Cert.ProductInDx.main_arg2) = m ((c.tc : Thread Cert.ProductInDx.nD Cert.ProductInDx.τ).loc Cert.ProductInDx.main_arg2))
      ∧ r.2.sem = fun _ => 0)

def quiescent_ProductInDxIdeal [hProductInDxIdeal : Cert.ProductInDxIdeal.Facts] : Prop :=
  ∀ (m : (ℓ : Loc Cert.ProductInDxIdeal.nD Cert.ProductInDxIdeal.τ Cert.ProductInDxIdeal.sig) → Buf (Elt Ideal) ℓ) (g : Dev Cert.ProductInDxIdeal.nD → PrngReg), Pre_ProductInDxIdeal m →
    θ_run (Cert.ProductInDxIdeal.defs (F := Ideal)) (onTc (τ := Cert.ProductInDxIdeal.τ) (Cert.ProductInDxIdeal.main (F := Ideal))) ⟨m, fun _ => 0, g⟩ (fun r => (∀ c : Dev Cert.ProductInDxIdeal.nD,
      r.2.mem ((c.tc : Thread Cert.ProductInDxIdeal.nD Cert.ProductInDxIdeal.τ).loc Cert.ProductInDxIdeal.main_arg0) = m ((c.tc : Thread Cert.ProductInDxIdeal.nD Cert.ProductInDxIdeal.τ).loc Cert.ProductInDxIdeal.main_arg0)
      ∧ r.2.mem ((c.tc : Thread Cert.ProductInDxIdeal.nD Cert.ProductInDxIdeal.τ).loc Cert.ProductInDxIdeal.main_arg1) = m ((c.tc : Thread Cert.ProductInDxIdeal.nD Cert.ProductInDxIdeal.τ).loc Cert.ProductInDxIdeal.main_arg1)
      ∧ r.2.mem ((c.tc : Thread Cert.ProductInDxIdeal.nD Cert.ProductInDxIdeal.τ).loc Cert.ProductInDxIdeal.main_arg2) = m ((c.tc : Thread Cert.ProductInDxIdeal.nD Cert.ProductInDxIdeal.τ).loc Cert.ProductInDxIdeal.main_arg2))
      ∧ r.2.sem = fun _ => 0)

def quiescent_ProductInDxRefIdeal [hProductInDxRefIdeal : Cert.ProductInDxRefIdeal.Facts] : Prop :=
  ∀ (m : (ℓ : Loc Cert.ProductInDxRefIdeal.nD Cert.ProductInDxRefIdeal.τ Cert.ProductInDxRefIdeal.sig) → Buf (Elt Ideal) ℓ) (g : Dev Cert.ProductInDxRefIdeal.nD → PrngReg), Pre_ProductInDxRefIdeal m →
    θ_run (Cert.ProductInDxRefIdeal.defs (F := Ideal)) (onTc (τ := Cert.ProductInDxRefIdeal.τ) (Cert.ProductInDxRefIdeal.main (F := Ideal))) ⟨m, fun _ => 0, g⟩ (fun r => (∀ c : Dev Cert.ProductInDxRefIdeal.nD,
      r.2.mem ((c.tc : Thread Cert.ProductInDxRefIdeal.nD Cert.ProductInDxRefIdeal.τ).loc Cert.ProductInDxRefIdeal.main_arg0) = m ((c.tc : Thread Cert.ProductInDxRefIdeal.nD Cert.ProductInDxRefIdeal.τ).loc Cert.ProductInDxRefIdeal.main_arg0)
      ∧ r.2.mem ((c.tc : Thread Cert.ProductInDxRefIdeal.nD Cert.ProductInDxRefIdeal.τ).loc Cert.ProductInDxRefIdeal.main_arg1) = m ((c.tc : Thread Cert.ProductInDxRefIdeal.nD Cert.ProductInDxRefIdeal.τ).loc Cert.ProductInDxRefIdeal.main_arg1)
      ∧ r.2.mem ((c.tc : Thread Cert.ProductInDxRefIdeal.nD Cert.ProductInDxRefIdeal.τ).loc Cert.ProductInDxRefIdeal.main_arg2) = m ((c.tc : Thread Cert.ProductInDxRefIdeal.nD Cert.ProductInDxRefIdeal.τ).loc Cert.ProductInDxRefIdeal.main_arg2))
      ∧ r.2.sem = fun _ => 0)

def quiescent_ProductInDw [hProductInDw : Cert.ProductInDw.Facts] : Prop :=
  ∀ (m : (ℓ : Loc Cert.ProductInDw.nD Cert.ProductInDw.τ Cert.ProductInDw.sig) → Buf (Elt Bits) ℓ) (g : Dev Cert.ProductInDw.nD → PrngReg), Pre_ProductInDw m →
    θ_run (Cert.ProductInDw.defs (F := Bits)) (onTc (τ := Cert.ProductInDw.τ) (Cert.ProductInDw.main (F := Bits))) ⟨m, fun _ => 0, g⟩ (fun r => (∀ c : Dev Cert.ProductInDw.nD,
      r.2.mem ((c.tc : Thread Cert.ProductInDw.nD Cert.ProductInDw.τ).loc Cert.ProductInDw.main_arg0) = m ((c.tc : Thread Cert.ProductInDw.nD Cert.ProductInDw.τ).loc Cert.ProductInDw.main_arg0)
      ∧ r.2.mem ((c.tc : Thread Cert.ProductInDw.nD Cert.ProductInDw.τ).loc Cert.ProductInDw.main_arg1) = m ((c.tc : Thread Cert.ProductInDw.nD Cert.ProductInDw.τ).loc Cert.ProductInDw.main_arg1)
      ∧ r.2.mem ((c.tc : Thread Cert.ProductInDw.nD Cert.ProductInDw.τ).loc Cert.ProductInDw.main_arg2) = m ((c.tc : Thread Cert.ProductInDw.nD Cert.ProductInDw.τ).loc Cert.ProductInDw.main_arg2))
      ∧ r.2.sem = fun _ => 0)

def quiescent_ProductInDwIdeal [hProductInDwIdeal : Cert.ProductInDwIdeal.Facts] : Prop :=
  ∀ (m : (ℓ : Loc Cert.ProductInDwIdeal.nD Cert.ProductInDwIdeal.τ Cert.ProductInDwIdeal.sig) → Buf (Elt Ideal) ℓ) (g : Dev Cert.ProductInDwIdeal.nD → PrngReg), Pre_ProductInDwIdeal m →
    θ_run (Cert.ProductInDwIdeal.defs (F := Ideal)) (onTc (τ := Cert.ProductInDwIdeal.τ) (Cert.ProductInDwIdeal.main (F := Ideal))) ⟨m, fun _ => 0, g⟩ (fun r => (∀ c : Dev Cert.ProductInDwIdeal.nD,
      r.2.mem ((c.tc : Thread Cert.ProductInDwIdeal.nD Cert.ProductInDwIdeal.τ).loc Cert.ProductInDwIdeal.main_arg0) = m ((c.tc : Thread Cert.ProductInDwIdeal.nD Cert.ProductInDwIdeal.τ).loc Cert.ProductInDwIdeal.main_arg0)
      ∧ r.2.mem ((c.tc : Thread Cert.ProductInDwIdeal.nD Cert.ProductInDwIdeal.τ).loc Cert.ProductInDwIdeal.main_arg1) = m ((c.tc : Thread Cert.ProductInDwIdeal.nD Cert.ProductInDwIdeal.τ).loc Cert.ProductInDwIdeal.main_arg1)
      ∧ r.2.mem ((c.tc : Thread Cert.ProductInDwIdeal.nD Cert.ProductInDwIdeal.τ).loc Cert.ProductInDwIdeal.main_arg2) = m ((c.tc : Thread Cert.ProductInDwIdeal.nD Cert.ProductInDwIdeal.τ).loc Cert.ProductInDwIdeal.main_arg2))
      ∧ r.2.sem = fun _ => 0)

def quiescent_ProductInDwRefIdeal [hProductInDwRefIdeal : Cert.ProductInDwRefIdeal.Facts] : Prop :=
  ∀ (m : (ℓ : Loc Cert.ProductInDwRefIdeal.nD Cert.ProductInDwRefIdeal.τ Cert.ProductInDwRefIdeal.sig) → Buf (Elt Ideal) ℓ) (g : Dev Cert.ProductInDwRefIdeal.nD → PrngReg), Pre_ProductInDwRefIdeal m →
    θ_run (Cert.ProductInDwRefIdeal.defs (F := Ideal)) (onTc (τ := Cert.ProductInDwRefIdeal.τ) (Cert.ProductInDwRefIdeal.main (F := Ideal))) ⟨m, fun _ => 0, g⟩ (fun r => (∀ c : Dev Cert.ProductInDwRefIdeal.nD,
      r.2.mem ((c.tc : Thread Cert.ProductInDwRefIdeal.nD Cert.ProductInDwRefIdeal.τ).loc Cert.ProductInDwRefIdeal.main_arg0) = m ((c.tc : Thread Cert.ProductInDwRefIdeal.nD Cert.ProductInDwRefIdeal.τ).loc Cert.ProductInDwRefIdeal.main_arg0)
      ∧ r.2.mem ((c.tc : Thread Cert.ProductInDwRefIdeal.nD Cert.ProductInDwRefIdeal.τ).loc Cert.ProductInDwRefIdeal.main_arg1) = m ((c.tc : Thread Cert.ProductInDwRefIdeal.nD Cert.ProductInDwRefIdeal.τ).loc Cert.ProductInDwRefIdeal.main_arg1)
      ∧ r.2.mem ((c.tc : Thread Cert.ProductInDwRefIdeal.nD Cert.ProductInDwRefIdeal.τ).loc Cert.ProductInDwRefIdeal.main_arg2) = m ((c.tc : Thread Cert.ProductInDwRefIdeal.nD Cert.ProductInDwRefIdeal.τ).loc Cert.ProductInDwRefIdeal.main_arg2))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)
      ∧ m' ((c.tc : Thread Cert.NormMemRefIdeal.nD Cert.NormMemRefIdeal.τ).loc Cert.NormMemRefIdeal.main_arg2) = m ((c.tc : Thread Cert.NormMemIdeal.nD Cert.NormMemIdeal.τ).loc Cert.NormMemIdeal.main_arg2)) →
    ∃ (v0 : (c : Dev Cert.NormMemIdeal.nD) → Buf (Elt Ideal) ((c.tc : Thread Cert.NormMemIdeal.nD Cert.NormMemIdeal.τ).loc Cert.NormMemIdeal.main_v0)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
          ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v14) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1)
          ∧ r.2.mem ((c.tc : Thread Cert.NormMemRefIdeal.nD Cert.NormMemRefIdeal.τ).loc Cert.NormMemRefIdeal.main_arg2) = m' ((c.tc : Thread Cert.NormMemRefIdeal.nD Cert.NormMemRefIdeal.τ).loc Cert.NormMemRefIdeal.main_arg2))

def preserves_NormTop_NormTopIdeal : Prop :=
  True

def algebraic_NormTopIdeal_NormTopRefIdeal [hNormTopIdeal : Cert.NormTopIdeal.Facts] [hNormTopRefIdeal : Cert.NormTopRefIdeal.Facts] : Prop :=
  ∀ (m : (ℓ : Loc Cert.NormTopIdeal.nD Cert.NormTopIdeal.τ Cert.NormTopIdeal.sig) → Buf (Elt Ideal) ℓ) (g : Dev Cert.NormTopIdeal.nD → PrngReg)
    (m' : (ℓ : Loc Cert.NormTopRefIdeal.nD Cert.NormTopRefIdeal.τ Cert.NormTopRefIdeal.sig) → Buf (Elt Ideal) ℓ) (g' : Dev Cert.NormTopRefIdeal.nD → PrngReg), Pre_NormTopIdeal m →
    (∀ c : Dev Cert.NormTopIdeal.nD,
      m' ((c.tc : Thread Cert.NormTopRefIdeal.nD Cert.NormTopRefIdeal.τ).loc Cert.NormTopRefIdeal.main_arg0) = m ((c.tc : Thread Cert.NormTopIdeal.nD Cert.NormTopIdeal.τ).loc Cert.NormTopIdeal.main_arg0)
      ∧ m' ((c.tc : Thread Cert.NormTopRefIdeal.nD Cert.NormTopRefIdeal.τ).loc Cert.NormTopRefIdeal.main_arg1) = m ((c.tc : Thread Cert.NormTopIdeal.nD Cert.NormTopIdeal.τ).loc Cert.NormTopIdeal.main_arg1)
      ∧ m' ((c.tc : Thread Cert.NormTopRefIdeal.nD Cert.NormTopRefIdeal.τ).loc Cert.NormTopRefIdeal.main_arg2) = m ((c.tc : Thread Cert.NormTopIdeal.nD Cert.NormTopIdeal.τ).loc Cert.NormTopIdeal.main_arg2)) →
    ∃ (v0 : (c : Dev Cert.NormTopIdeal.nD) → Buf (Elt Ideal) ((c.tc : Thread Cert.NormTopIdeal.nD Cert.NormTopIdeal.τ).loc Cert.NormTopIdeal.main_v0_0)) (v1 : (c : Dev Cert.NormTopIdeal.nD) → Buf (Elt Ideal) ((c.tc : Thread Cert.NormTopIdeal.nD Cert.NormTopIdeal.τ).loc Cert.NormTopIdeal.main_v0_1)),
      θ_run (Cert.NormTopIdeal.defs (F := Ideal)) (onTc (τ := Cert.NormTopIdeal.τ) (Cert.NormTopIdeal.main (F := Ideal))) ⟨m, fun _ => 0, g⟩ (fun r => ∀ c : Dev Cert.NormTopIdeal.nD,
          r.2.mem ((c.tc : Thread Cert.NormTopIdeal.nD Cert.NormTopIdeal.τ).loc Cert.NormTopIdeal.main_v0_0) = v0 c
          ∧ r.2.mem ((c.tc : Thread Cert.NormTopIdeal.nD Cert.NormTopIdeal.τ).loc Cert.NormTopIdeal.main_v0_1) = v1 c
          ∧ r.2.mem ((c.tc : Thread Cert.NormTopIdeal.nD Cert.NormTopIdeal.τ).loc Cert.NormTopIdeal.main_arg0) = m ((c.tc : Thread Cert.NormTopIdeal.nD Cert.NormTopIdeal.τ).loc Cert.NormTopIdeal.main_arg0)
          ∧ r.2.mem ((c.tc : Thread Cert.NormTopIdeal.nD Cert.NormTopIdeal.τ).loc Cert.NormTopIdeal.main_arg1) = m ((c.tc : Thread Cert.NormTopIdeal.nD Cert.NormTopIdeal.τ).loc Cert.NormTopIdeal.main_arg1)
          ∧ r.2.mem ((c.tc : Thread Cert.NormTopIdeal.nD Cert.NormTopIdeal.τ).loc Cert.NormTopIdeal.main_arg2) = m ((c.tc : Thread Cert.NormTopIdeal.nD Cert.NormTopIdeal.τ).loc Cert.NormTopIdeal.main_arg2))
      ∧ θ_run (Cert.NormTopRefIdeal.defs (F := Ideal)) (onTc (τ := Cert.NormTopRefIdeal.τ) (Cert.NormTopRefIdeal.main (F := Ideal))) ⟨m', fun _ => 0, g'⟩ (fun r => ∀ c : Dev Cert.NormTopRefIdeal.nD,
          r.2.mem ((c.tc : Thread Cert.NormTopRefIdeal.nD Cert.NormTopRefIdeal.τ).loc Cert.NormTopRefIdeal.main_v35) = v0 c
          ∧ r.2.mem ((c.tc : Thread Cert.NormTopRefIdeal.nD Cert.NormTopRefIdeal.τ).loc Cert.NormTopRefIdeal.main_v18) = v1 c
          ∧ r.2.mem ((c.tc : Thread Cert.NormTopRefIdeal.nD Cert.NormTopRefIdeal.τ).loc Cert.NormTopRefIdeal.main_arg0) = m' ((c.tc : Thread Cert.NormTopRefIdeal.nD Cert.NormTopRefIdeal.τ).loc Cert.NormTopRefIdeal.main_arg0)
          ∧ r.2.mem ((c.tc : Thread Cert.NormTopRefIdeal.nD Cert.NormTopRefIdeal.τ).loc Cert.NormTopRefIdeal.main_arg1) = m' ((c.tc : Thread Cert.NormTopRefIdeal.nD Cert.NormTopRefIdeal.τ).loc Cert.NormTopRefIdeal.main_arg1)
          ∧ r.2.mem ((c.tc : Thread Cert.NormTopRefIdeal.nD Cert.NormTopRefIdeal.τ).loc Cert.NormTopRefIdeal.main_arg2) = m' ((c.tc : Thread Cert.NormTopRefIdeal.nD Cert.NormTopRefIdeal.τ).loc Cert.NormTopRefIdeal.main_arg2))

def preserves_NormLast_NormLastIdeal : Prop :=
  True

def algebraic_NormLastIdeal_NormLastRefIdeal [hNormLastIdeal : Cert.NormLastIdeal.Facts] [hNormLastRefIdeal : Cert.NormLastRefIdeal.Facts] : Prop :=
  ∀ (m : (ℓ : Loc Cert.NormLastIdeal.nD Cert.NormLastIdeal.τ Cert.NormLastIdeal.sig) → Buf (Elt Ideal) ℓ) (g : Dev Cert.NormLastIdeal.nD → PrngReg)
    (m' : (ℓ : Loc Cert.NormLastRefIdeal.nD Cert.NormLastRefIdeal.τ Cert.NormLastRefIdeal.sig) → Buf (Elt Ideal) ℓ) (g' : Dev Cert.NormLastRefIdeal.nD → PrngReg), Pre_NormLastIdeal m →
    (∀ c : Dev Cert.NormLastIdeal.nD,
      m' ((c.tc : Thread Cert.NormLastRefIdeal.nD Cert.NormLastRefIdeal.τ).loc Cert.NormLastRefIdeal.main_arg0) = m ((c.tc : Thread Cert.NormLastIdeal.nD Cert.NormLastIdeal.τ).loc Cert.NormLastIdeal.main_arg0)
      ∧ m' ((c.tc : Thread Cert.NormLastRefIdeal.nD Cert.NormLastRefIdeal.τ).loc Cert.NormLastRefIdeal.main_arg1) = m ((c.tc : Thread Cert.NormLastIdeal.nD Cert.NormLastIdeal.τ).loc Cert.NormLastIdeal.main_arg1)
      ∧ m' ((c.tc : Thread Cert.NormLastRefIdeal.nD Cert.NormLastRefIdeal.τ).loc Cert.NormLastRefIdeal.main_arg2) = m ((c.tc : Thread Cert.NormLastIdeal.nD Cert.NormLastIdeal.τ).loc Cert.NormLastIdeal.main_arg2)
      ∧ m' ((c.tc : Thread Cert.NormLastRefIdeal.nD Cert.NormLastRefIdeal.τ).loc Cert.NormLastRefIdeal.main_arg3) = m ((c.tc : Thread Cert.NormLastIdeal.nD Cert.NormLastIdeal.τ).loc Cert.NormLastIdeal.main_arg3)) →
    ∃ (v0 : (c : Dev Cert.NormLastIdeal.nD) → Buf (Elt Ideal) ((c.tc : Thread Cert.NormLastIdeal.nD Cert.NormLastIdeal.τ).loc Cert.NormLastIdeal.main_v0_0)) (v1 : (c : Dev Cert.NormLastIdeal.nD) → Buf (Elt Ideal) ((c.tc : Thread Cert.NormLastIdeal.nD Cert.NormLastIdeal.τ).loc Cert.NormLastIdeal.main_v0_1)),
      θ_run (Cert.NormLastIdeal.defs (F := Ideal)) (onTc (τ := Cert.NormLastIdeal.τ) (Cert.NormLastIdeal.main (F := Ideal))) ⟨m, fun _ => 0, g⟩ (fun r => ∀ c : Dev Cert.NormLastIdeal.nD,
          r.2.mem ((c.tc : Thread Cert.NormLastIdeal.nD Cert.NormLastIdeal.τ).loc Cert.NormLastIdeal.main_v0_0) = v0 c
          ∧ r.2.mem ((c.tc : Thread Cert.NormLastIdeal.nD Cert.NormLastIdeal.τ).loc Cert.NormLastIdeal.main_v0_1) = v1 c
          ∧ r.2.mem ((c.tc : Thread Cert.NormLastIdeal.nD Cert.NormLastIdeal.τ).loc Cert.NormLastIdeal.main_arg0) = m ((c.tc : Thread Cert.NormLastIdeal.nD Cert.NormLastIdeal.τ).loc Cert.NormLastIdeal.main_arg0)
          ∧ r.2.mem ((c.tc : Thread Cert.NormLastIdeal.nD Cert.NormLastIdeal.τ).loc Cert.NormLastIdeal.main_arg1) = m ((c.tc : Thread Cert.NormLastIdeal.nD Cert.NormLastIdeal.τ).loc Cert.NormLastIdeal.main_arg1)
          ∧ r.2.mem ((c.tc : Thread Cert.NormLastIdeal.nD Cert.NormLastIdeal.τ).loc Cert.NormLastIdeal.main_arg2) = m ((c.tc : Thread Cert.NormLastIdeal.nD Cert.NormLastIdeal.τ).loc Cert.NormLastIdeal.main_arg2)
          ∧ r.2.mem ((c.tc : Thread Cert.NormLastIdeal.nD Cert.NormLastIdeal.τ).loc Cert.NormLastIdeal.main_arg3) = m ((c.tc : Thread Cert.NormLastIdeal.nD Cert.NormLastIdeal.τ).loc Cert.NormLastIdeal.main_arg3))
      ∧ θ_run (Cert.NormLastRefIdeal.defs (F := Ideal)) (onTc (τ := Cert.NormLastRefIdeal.τ) (Cert.NormLastRefIdeal.main (F := Ideal))) ⟨m', fun _ => 0, g'⟩ (fun r => ∀ c : Dev Cert.NormLastRefIdeal.nD,
          r.2.mem ((c.tc : Thread Cert.NormLastRefIdeal.nD Cert.NormLastRefIdeal.τ).loc Cert.NormLastRefIdeal.main_v35) = v0 c
          ∧ r.2.mem ((c.tc : Thread Cert.NormLastRefIdeal.nD Cert.NormLastRefIdeal.τ).loc Cert.NormLastRefIdeal.main_v18) = v1 c
          ∧ r.2.mem ((c.tc : Thread Cert.NormLastRefIdeal.nD Cert.NormLastRefIdeal.τ).loc Cert.NormLastRefIdeal.main_arg0) = m' ((c.tc : Thread Cert.NormLastRefIdeal.nD Cert.NormLastRefIdeal.τ).loc Cert.NormLastRefIdeal.main_arg0)
          ∧ r.2.mem ((c.tc : Thread Cert.NormLastRefIdeal.nD Cert.NormLastRefIdeal.τ).loc Cert.NormLastRefIdeal.main_arg1) = m' ((c.tc : Thread Cert.NormLastRefIdeal.nD Cert.NormLastRefIdeal.τ).loc Cert.NormLastRefIdeal.main_arg1)
          ∧ r.2.mem ((c.tc : Thread Cert.NormLastRefIdeal.nD Cert.NormLastRefIdeal.τ).loc Cert.NormLastRefIdeal.main_arg2) = m' ((c.tc : Thread Cert.NormLastRefIdeal.nD Cert.NormLastRefIdeal.τ).loc Cert.NormLastRefIdeal.main_arg2)
          ∧ r.2.mem ((c.tc : Thread Cert.NormLastRefIdeal.nD Cert.NormLastRefIdeal.τ).loc Cert.NormLastRefIdeal.main_arg3) = m' ((c.tc : Thread Cert.NormLastRefIdeal.nD Cert.NormLastRefIdeal.τ).loc Cert.NormLastRefIdeal.main_arg3))

def preserves_NormMid_NormMidIdeal : Prop :=
  True

def algebraic_NormMidIdeal_NormMidRefIdeal [hNormMidIdeal : Cert.NormMidIdeal.Facts] [hNormMidRefIdeal : Cert.NormMidRefIdeal.Facts] : Prop :=
  ∀ (m : (ℓ : Loc Cert.NormMidIdeal.nD Cert.NormMidIdeal.τ Cert.NormMidIdeal.sig) → Buf (Elt Ideal) ℓ) (g : Dev Cert.NormMidIdeal.nD → PrngReg)
    (m' : (ℓ : Loc Cert.NormMidRefIdeal.nD Cert.NormMidRefIdeal.τ Cert.NormMidRefIdeal.sig) → Buf (Elt Ideal) ℓ) (g' : Dev Cert.NormMidRefIdeal.nD → PrngReg), Pre_NormMidIdeal m →
    (∀ c : Dev Cert.NormMidIdeal.nD,
      m' ((c.tc : Thread Cert.NormMidRefIdeal.nD Cert.NormMidRefIdeal.τ).loc Cert.NormMidRefIdeal.main_arg0) = m ((c.tc : Thread Cert.NormMidIdeal.nD Cert.NormMidIdeal.τ).loc Cert.NormMidIdeal.main_arg0)
      ∧ m' ((c.tc : Thread Cert.NormMidRefIdeal.nD Cert.NormMidRefIdeal.τ).loc Cert.NormMidRefIdeal.main_arg1) = m ((c.tc : Thread Cert.NormMidIdeal.nD Cert.NormMidIdeal.τ).loc Cert.NormMidIdeal.main_arg1)
      ∧ m' ((c.tc : Thread Cert.NormMidRefIdeal.nD Cert.NormMidRefIdeal.τ).loc Cert.NormMidRefIdeal.main_arg2) = m ((c.tc : Thread Cert.NormMidIdeal.nD Cert.NormMidIdeal.τ).loc Cert.NormMidIdeal.main_arg2)
      ∧ m' ((c.tc : Thread Cert.NormMidRefIdeal.nD Cert.NormMidRefIdeal.τ).loc Cert.NormMidRefIdeal.main_arg3) = m ((c.tc : Thread Cert.NormMidIdeal.nD Cert.NormMidIdeal.τ).loc Cert.NormMidIdeal.main_arg3)
      ∧ m' ((c.tc : Thread Cert.NormMidRefIdeal.nD Cert.NormMidRefIdeal.τ).loc Cert.NormMidRefIdeal.main_arg4) = m ((c.tc : Thread Cert.NormMidIdeal.nD Cert.NormMidIdeal.τ).loc Cert.NormMidIdeal.main_arg4)
      ∧ m' ((c.tc : Thread Cert.NormMidRefIdeal.nD Cert.NormMidRefIdeal.τ).loc Cert.NormMidRefIdeal.main_arg5) = m ((c.tc : Thread Cert.NormMidIdeal.nD Cert.NormMidIdeal.τ).loc Cert.NormMidIdeal.main_arg5)) →
    ∃ (v0 : (c : Dev Cert.NormMidIdeal.nD) → Buf (Elt Ideal) ((c.tc : Thread Cert.NormMidIdeal.nD Cert.NormMidIdeal.τ).loc Cert.NormMidIdeal.main_v1_0)) (v1 : (c : Dev Cert.NormMidIdeal.nD) → Buf (Elt Ideal) ((c.tc : Thread Cert.NormMidIdeal.nD Cert.NormMidIdeal.τ).loc Cert.NormMidIdeal.main_v1_1)) (v2 : (c : Dev Cert.NormMidIdeal.nD) → Buf (Elt Ideal) ((c.tc : Thread Cert.NormMidIdeal.nD Cert.NormMidIdeal.τ).loc Cert.NormMidIdeal.main_v1_2)) (v3 : (c : Dev Cert.NormMidIdeal.nD) → Buf (Elt Ideal) ((c.tc : Thread Cert.NormMidIdeal.nD Cert.NormMidIdeal.τ).loc Cert.NormMidIdeal.main_v1_3)),
      θ_run (Cert.NormMidIdeal.defs (F := Ideal)) (onTc (τ := Cert.NormMidIdeal.τ) (Cert.NormMidIdeal.main (F := Ideal))) ⟨m, fun _ => 0, g⟩ (fun r => ∀ c : Dev Cert.NormMidIdeal.nD,
          r.2.mem ((c.tc : Thread Cert.NormMidIdeal.nD Cert.NormMidIdeal.τ).loc Cert.NormMidIdeal.main_v1_0) = v0 c
          ∧ r.2.mem ((c.tc : Thread Cert.NormMidIdeal.nD Cert.NormMidIdeal.τ).loc Cert.NormMidIdeal.main_v1_1) = v1 c
          ∧ r.2.mem ((c.tc : Thread Cert.NormMidIdeal.nD Cert.NormMidIdeal.τ).loc Cert.NormMidIdeal.main_v1_2) = v2 c
          ∧ r.2.mem ((c.tc : Thread Cert.NormMidIdeal.nD Cert.NormMidIdeal.τ).loc Cert.NormMidIdeal.main_v1_3) = v3 c
          ∧ r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
          ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
          ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
          ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
          ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
          ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5))
      ∧ θ_run (Cert.NormMidRefIdeal.defs (F := Ideal)) (onTc (τ := Cert.NormMidRefIdeal.τ) (Cert.NormMidRefIdeal.main (F := Ideal))) ⟨m', fun _ => 0, g'⟩ (fun r => ∀ c : Dev Cert.NormMidRefIdeal.nD,
          r.2.mem ((c.tc : Thread Cert.NormMidRefIdeal.nD Cert.NormMidRefIdeal.τ).loc Cert.NormMidRefIdeal.main_v52) = v0 c
          ∧ r.2.mem ((c.tc : Thread Cert.NormMidRefIdeal.nD Cert.NormMidRefIdeal.τ).loc Cert.NormMidRefIdeal.main_v73) = v1 c
          ∧ r.2.mem ((c.tc : Thread Cert.NormMidRefIdeal.nD Cert.NormMidRefIdeal.τ).loc Cert.NormMidRefIdeal.main_v35) = v2 c
          ∧ r.2.mem ((c.tc : Thread Cert.NormMidRefIdeal.nD Cert.NormMidRefIdeal.τ).loc Cert.NormMidRefIdeal.main_v56) = v3 c
          ∧ r.2.mem ((c.tc : Thread Cert.NormMidRefIdeal.nD Cert.NormMidRefIdeal.τ).loc Cert.NormMidRefIdeal.main_arg0) = m' ((c.tc : Thread Cert.NormMidRefIdeal.nD Cert.NormMidRefIdeal.τ).loc Cert.NormMidRefIdeal.main_arg0)
          ∧ r.2.mem ((c.tc : Thread Cert.NormMidRefIdeal.nD Cert.NormMidRefIdeal.τ).loc Cert.NormMidRefIdeal.main_arg1) = m' ((c.tc : Thread Cert.NormMidRefIdeal.nD Cert.NormMidRefIdeal.τ).loc Cert.NormMidRefIdeal.main_arg1)
          ∧ r.2.mem ((c.tc : Thread Cert.NormMidRefIdeal.nD Cert.NormMidRefIdeal.τ).loc Cert.NormMidRefIdeal.main_arg2) = m' ((c.tc : Thread Cert.NormMidRefIdeal.nD Cert.NormMidRefIdeal.τ).loc Cert.NormMidRefIdeal.main_arg2)
          ∧ r.2.mem ((c.tc : Thread Cert.NormMidRefIdeal.nD Cert.NormMidRefIdeal.τ).loc Cert.NormMidRefIdeal.main_arg3) = m' ((c.tc : Thread Cert.NormMidRefIdeal.nD Cert.NormMidRefIdeal.τ).loc Cert.NormMidRefIdeal.main_arg3)
          ∧ r.2.mem ((c.tc : Thread Cert.NormMidRefIdeal.nD Cert.NormMidRefIdeal.τ).loc Cert.NormMidRefIdeal.main_arg4) = m' ((c.tc : Thread Cert.NormMidRefIdeal.nD Cert.NormMidRefIdeal.τ).loc Cert.NormMidRefIdeal.main_arg4)
          ∧ r.2.mem ((c.tc : Thread Cert.NormMidRefIdeal.nD Cert.NormMidRefIdeal.τ).loc Cert.NormMidRefIdeal.main_arg5) = m' ((c.tc : Thread Cert.NormMidRefIdeal.nD Cert.NormMidRefIdeal.τ).loc Cert.NormMidRefIdeal.main_arg5))

def preserves_AttnBwd_AttnBwdIdeal : Prop :=
  True

def algebraic_AttnBwdIdeal_AttnBwdRefIdeal_pre_finite_scores [hAttnBwdIdeal : Cert.AttnBwdIdeal.Facts] [hAttnBwdRefIdeal : Cert.AttnBwdRefIdeal.Facts] [hPre_finite_scores : Cert.Pre_finite_scores.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_scores m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v79) = v0 c
          ∧ r.2.mem ((c.tc : Thread Cert.AttnBwdRefIdeal.nD Cert.AttnBwdRefIdeal.τ).loc Cert.AttnBwdRefIdeal.main_v75) = v1 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_MergeBwd_MergeBwdIdeal : Prop :=
  True

def algebraic_MergeBwdIdeal_MergeBwdRefIdeal_on_mask [hMergeBwdIdeal : Cert.MergeBwdIdeal.Facts] [hMergeBwdRefIdeal : Cert.MergeBwdRefIdeal.Facts] [hOn_mask : Cert.On_mask.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          (∀ i : (⟨2, ![8192, 12288]⟩ : Shape).Idx, (Cert.On_mask.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).1 i = 1#1 → r.2.mem ((c.tc : Thread Cert.MergeBwdIdeal.nD Cert.MergeBwdIdeal.τ).loc Cert.MergeBwdIdeal.main_v0_0) i = v0 c i)
          ∧ (∀ i : (⟨2, ![8192, 2048]⟩ : Shape).Idx, (Cert.On_mask.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.1 i = 1#1 → r.2.mem ((c.tc : Thread Cert.MergeBwdIdeal.nD Cert.MergeBwdIdeal.τ).loc Cert.MergeBwdIdeal.main_v0_1) i = v1 c i)
          ∧ (∀ i : (⟨2, ![8192, 2048]⟩ : Shape).Idx, (Cert.On_mask.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.2.1 i = 1#1 → r.2.mem ((c.tc : Thread Cert.MergeBwdIdeal.nD Cert.MergeBwdIdeal.τ).loc Cert.MergeBwdIdeal.main_v0_2) i = v2 c i)
          ∧ (∀ i : (⟨2, ![8192, 2048]⟩ : Shape).Idx, (Cert.On_mask.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.2.2 i = 1#1 → r.2.mem ((c.tc : Thread Cert.MergeBwdIdeal.nD Cert.MergeBwdIdeal.τ).loc Cert.MergeBwdIdeal.main_v0_3) i = v3 c i)
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          (∀ i : (⟨2, ![8192, 12288]⟩ : Shape).Idx, (Cert.On_mask.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).1 i = 1#1 → r.2.mem ((c.tc : Thread Cert.MergeBwdRefIdeal.nD Cert.MergeBwdRefIdeal.τ).loc Cert.MergeBwdRefIdeal.main_v53) i = v0 c i)
          ∧ (∀ i : (⟨2, ![8192, 2048]⟩ : Shape).Idx, (Cert.On_mask.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.1 i = 1#1 → r.2.mem ((c.tc : Thread Cert.MergeBwdRefIdeal.nD Cert.MergeBwdRefIdeal.τ).loc Cert.MergeBwdRefIdeal.main_v50) i = v1 c i)
          ∧ (∀ i : (⟨2, ![8192, 2048]⟩ : Shape).Idx, (Cert.On_mask.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.2.1 i = 1#1 → r.2.mem ((c.tc : Thread Cert.MergeBwdRefIdeal.nD Cert.MergeBwdRefIdeal.τ).loc Cert.MergeBwdRefIdeal.main_v51) i = v2 c i)
          ∧ (∀ i : (⟨2, ![8192, 2048]⟩ : Shape).Idx, (Cert.On_mask.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.2.2 i = 1#1 → r.2.mem ((c.tc : Thread Cert.MergeBwdRefIdeal.nD Cert.MergeBwdRefIdeal.τ).loc Cert.MergeBwdRefIdeal.main_v52) i = v3 c i)
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_MlpDx_MlpDxIdeal : Prop :=
  True

def algebraic_MlpDxIdeal_MlpDxRefIdeal [hMlpDxIdeal : Cert.MlpDxIdeal.Facts] [hMlpDxRefIdeal : Cert.MlpDxRefIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg)
    (m' : (ℓ : Loc Cert.MlpDxRefIdeal.nD Cert.MlpDxRefIdeal.τ Cert.MlpDxRefIdeal.sig) → Buf (Elt Ideal) ℓ) (g' : Dev Cert.MlpDxRefIdeal.nD → PrngReg), Pre_MlpDxIdeal m →
    (∀ c : Dev Cert.MlpDxIdeal.nD,
      m' ((c.tc : Thread Cert.MlpDxRefIdeal.nD Cert.MlpDxRefIdeal.τ).loc Cert.MlpDxRefIdeal.main_arg0) = m ((c.tc : Thread Cert.MlpDxIdeal.nD Cert.MlpDxIdeal.τ).loc Cert.MlpDxIdeal.main_arg0)
      ∧ m' ((c.tc : Thread Cert.MlpDxRefIdeal.nD Cert.MlpDxRefIdeal.τ).loc Cert.MlpDxRefIdeal.main_arg1) = m ((c.tc : Thread Cert.MlpDxIdeal.nD Cert.MlpDxIdeal.τ).loc Cert.MlpDxIdeal.main_arg1)
      ∧ m' ((c.tc : Thread Cert.MlpDxRefIdeal.nD Cert.MlpDxRefIdeal.τ).loc Cert.MlpDxRefIdeal.main_arg2) = m ((c.tc : Thread Cert.MlpDxIdeal.nD Cert.MlpDxIdeal.τ).loc Cert.MlpDxIdeal.main_arg2)) →
    ∃ (v0 : (c : Dev Cert.MlpDxIdeal.nD) → Buf (Elt Ideal) ((c.tc : Thread Cert.MlpDxIdeal.nD Cert.MlpDxIdeal.τ).loc Cert.MlpDxIdeal.main_v0)),
      θ_run (Cert.MlpDxIdeal.defs (F := Ideal)) (onTc (τ := Cert.MlpDxIdeal.τ) (Cert.MlpDxIdeal.main (F := Ideal))) ⟨m, fun _ => 0, g⟩ (fun r => ∀ c : Dev Cert.MlpDxIdeal.nD,
          r.2.mem ((c.tc : Thread Cert.MlpDxIdeal.nD Cert.MlpDxIdeal.τ).loc Cert.MlpDxIdeal.main_v0) = v0 c
          ∧ r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
          ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
          ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2))
      ∧ θ_run (Cert.MlpDxRefIdeal.defs (F := Ideal)) (onTc (τ := Cert.MlpDxRefIdeal.τ) (Cert.MlpDxRefIdeal.main (F := Ideal))) ⟨m', fun _ => 0, g'⟩ (fun r => ∀ c : Dev Cert.MlpDxRefIdeal.nD,
          r.2.mem ((c.tc : Thread Cert.MlpDxRefIdeal.nD Cert.MlpDxRefIdeal.τ).loc Cert.MlpDxRefIdeal.main_v16) = v0 c
          ∧ r.2.mem ((c.tc : Thread Cert.MlpDxRefIdeal.nD Cert.MlpDxRefIdeal.τ).loc Cert.MlpDxRefIdeal.main_arg0) = m' ((c.tc : Thread Cert.MlpDxRefIdeal.nD Cert.MlpDxRefIdeal.τ).loc Cert.MlpDxRefIdeal.main_arg0)
          ∧ r.2.mem ((c.tc : Thread Cert.MlpDxRefIdeal.nD Cert.MlpDxRefIdeal.τ).loc Cert.MlpDxRefIdeal.main_arg1) = m' ((c.tc : Thread Cert.MlpDxRefIdeal.nD Cert.MlpDxRefIdeal.τ).loc Cert.MlpDxRefIdeal.main_arg1)
          ∧ r.2.mem ((c.tc : Thread Cert.MlpDxRefIdeal.nD Cert.MlpDxRefIdeal.τ).loc Cert.MlpDxRefIdeal.main_arg2) = m' ((c.tc : Thread Cert.MlpDxRefIdeal.nD Cert.MlpDxRefIdeal.τ).loc Cert.MlpDxRefIdeal.main_arg2))

def preserves_MlpDw_MlpDwIdeal : Prop :=
  True

def algebraic_MlpDwIdeal_MlpDwRefIdeal [hMlpDwIdeal : Cert.MlpDwIdeal.Facts] [hMlpDwRefIdeal : Cert.MlpDwRefIdeal.Facts] : Prop :=
  ∀ (m : (ℓ : Loc Cert.MlpDwIdeal.nD Cert.MlpDwIdeal.τ Cert.MlpDwIdeal.sig) → Buf (Elt Ideal) ℓ) (g : Dev Cert.MlpDwIdeal.nD → PrngReg)
    (m' : (ℓ : Loc Cert.MlpDwRefIdeal.nD Cert.MlpDwRefIdeal.τ Cert.MlpDwRefIdeal.sig) → Buf (Elt Ideal) ℓ) (g' : Dev Cert.MlpDwRefIdeal.nD → PrngReg), Pre_MlpDwIdeal m →
    (∀ c : Dev Cert.MlpDwIdeal.nD,
      m' ((c.tc : Thread Cert.MlpDwRefIdeal.nD Cert.MlpDwRefIdeal.τ).loc Cert.MlpDwRefIdeal.main_arg0) = m ((c.tc : Thread Cert.MlpDwIdeal.nD Cert.MlpDwIdeal.τ).loc Cert.MlpDwIdeal.main_arg0)
      ∧ m' ((c.tc : Thread Cert.MlpDwRefIdeal.nD Cert.MlpDwRefIdeal.τ).loc Cert.MlpDwRefIdeal.main_arg1) = m ((c.tc : Thread Cert.MlpDwIdeal.nD Cert.MlpDwIdeal.τ).loc Cert.MlpDwIdeal.main_arg1)
      ∧ m' ((c.tc : Thread Cert.MlpDwRefIdeal.nD Cert.MlpDwRefIdeal.τ).loc Cert.MlpDwRefIdeal.main_arg2) = m ((c.tc : Thread Cert.MlpDwIdeal.nD Cert.MlpDwIdeal.τ).loc Cert.MlpDwIdeal.main_arg2)) →
    ∃ (v0 : (c : Dev Cert.MlpDwIdeal.nD) → Buf (Elt Ideal) ((c.tc : Thread Cert.MlpDwIdeal.nD Cert.MlpDwIdeal.τ).loc Cert.MlpDwIdeal.main_v0)),
      θ_run (Cert.MlpDwIdeal.defs (F := Ideal)) (onTc (τ := Cert.MlpDwIdeal.τ) (Cert.MlpDwIdeal.main (F := Ideal))) ⟨m, fun _ => 0, g⟩ (fun r => ∀ c : Dev Cert.MlpDwIdeal.nD,
          r.2.mem ((c.tc : Thread Cert.MlpDwIdeal.nD Cert.MlpDwIdeal.τ).loc Cert.MlpDwIdeal.main_v0) = v0 c
          ∧ r.2.mem ((c.tc : Thread Cert.MlpDwIdeal.nD Cert.MlpDwIdeal.τ).loc Cert.MlpDwIdeal.main_arg0) = m ((c.tc : Thread Cert.MlpDwIdeal.nD Cert.MlpDwIdeal.τ).loc Cert.MlpDwIdeal.main_arg0)
          ∧ r.2.mem ((c.tc : Thread Cert.MlpDwIdeal.nD Cert.MlpDwIdeal.τ).loc Cert.MlpDwIdeal.main_arg1) = m ((c.tc : Thread Cert.MlpDwIdeal.nD Cert.MlpDwIdeal.τ).loc Cert.MlpDwIdeal.main_arg1)
          ∧ r.2.mem ((c.tc : Thread Cert.MlpDwIdeal.nD Cert.MlpDwIdeal.τ).loc Cert.MlpDwIdeal.main_arg2) = m ((c.tc : Thread Cert.MlpDwIdeal.nD Cert.MlpDwIdeal.τ).loc Cert.MlpDwIdeal.main_arg2))
      ∧ θ_run (Cert.MlpDwRefIdeal.defs (F := Ideal)) (onTc (τ := Cert.MlpDwRefIdeal.τ) (Cert.MlpDwRefIdeal.main (F := Ideal))) ⟨m', fun _ => 0, g'⟩ (fun r => ∀ c : Dev Cert.MlpDwRefIdeal.nD,
          r.2.mem ((c.tc : Thread Cert.MlpDwRefIdeal.nD Cert.MlpDwRefIdeal.τ).loc Cert.MlpDwRefIdeal.main_v10) = v0 c
          ∧ r.2.mem ((c.tc : Thread Cert.MlpDwRefIdeal.nD Cert.MlpDwRefIdeal.τ).loc Cert.MlpDwRefIdeal.main_arg0) = m' ((c.tc : Thread Cert.MlpDwRefIdeal.nD Cert.MlpDwRefIdeal.τ).loc Cert.MlpDwRefIdeal.main_arg0)
          ∧ r.2.mem ((c.tc : Thread Cert.MlpDwRefIdeal.nD Cert.MlpDwRefIdeal.τ).loc Cert.MlpDwRefIdeal.main_arg1) = m' ((c.tc : Thread Cert.MlpDwRefIdeal.nD Cert.MlpDwRefIdeal.τ).loc Cert.MlpDwRefIdeal.main_arg1)
          ∧ r.2.mem ((c.tc : Thread Cert.MlpDwRefIdeal.nD Cert.MlpDwRefIdeal.τ).loc Cert.MlpDwRefIdeal.main_arg2) = m' ((c.tc : Thread Cert.MlpDwRefIdeal.nD Cert.MlpDwRefIdeal.τ).loc Cert.MlpDwRefIdeal.main_arg2))

def preserves_NormLoss_NormLossIdeal : Prop :=
  True

def algebraic_NormLossIdeal_NormLossRefIdeal [hNormLossIdeal : Cert.NormLossIdeal.Facts] [hNormLossRefIdeal : Cert.NormLossRefIdeal.Facts] : Prop :=
  ∀ (m : (ℓ : Loc Cert.NormLossIdeal.nD Cert.NormLossIdeal.τ Cert.NormLossIdeal.sig) → Buf (Elt Ideal) ℓ) (g : Dev Cert.NormLossIdeal.nD → PrngReg)
    (m' : (ℓ : Loc Cert.NormLossRefIdeal.nD Cert.NormLossRefIdeal.τ Cert.NormLossRefIdeal.sig) → Buf (Elt Ideal) ℓ) (g' : Dev Cert.NormLossRefIdeal.nD → PrngReg), Pre_NormLossIdeal m →
    (∀ c : Dev Cert.NormLossIdeal.nD,
      m' ((c.tc : Thread Cert.NormLossRefIdeal.nD Cert.NormLossRefIdeal.τ).loc Cert.NormLossRefIdeal.main_arg0) = m ((c.tc : Thread Cert.NormLossIdeal.nD Cert.NormLossIdeal.τ).loc Cert.NormLossIdeal.main_arg0)
      ∧ m' ((c.tc : Thread Cert.NormLossRefIdeal.nD Cert.NormLossRefIdeal.τ).loc Cert.NormLossRefIdeal.main_arg1) = m ((c.tc : Thread Cert.NormLossIdeal.nD Cert.NormLossIdeal.τ).loc Cert.NormLossIdeal.main_arg1)
      ∧ m' ((c.tc : Thread Cert.NormLossRefIdeal.nD Cert.NormLossRefIdeal.τ).loc Cert.NormLossRefIdeal.main_arg2) = m ((c.tc : Thread Cert.NormLossIdeal.nD Cert.NormLossIdeal.τ).loc Cert.NormLossIdeal.main_arg2)
      ∧ m' ((c.tc : Thread Cert.NormLossRefIdeal.nD Cert.NormLossRefIdeal.τ).loc Cert.NormLossRefIdeal.main_arg3) = m ((c.tc : Thread Cert.NormLossIdeal.nD Cert.NormLossIdeal.τ).loc Cert.NormLossIdeal.main_arg3)) →
    ∃ (v0 : (c : Dev Cert.NormLossIdeal.nD) → Buf (Elt Ideal) ((c.tc : Thread Cert.NormLossIdeal.nD Cert.NormLossIdeal.τ).loc Cert.NormLossIdeal.main_v0_0)) (v1 : (c : Dev Cert.NormLossIdeal.nD) → Buf (Elt Ideal) ((c.tc : Thread Cert.NormLossIdeal.nD Cert.NormLossIdeal.τ).loc Cert.NormLossIdeal.main_v0_1)),
      θ_run (Cert.NormLossIdeal.defs (F := Ideal)) (onTc (τ := Cert.NormLossIdeal.τ) (Cert.NormLossIdeal.main (F := Ideal))) ⟨m, fun _ => 0, g⟩ (fun r => ∀ c : Dev Cert.NormLossIdeal.nD,
          r.2.mem ((c.tc : Thread Cert.NormLossIdeal.nD Cert.NormLossIdeal.τ).loc Cert.NormLossIdeal.main_v0_0) = v0 c
          ∧ r.2.mem ((c.tc : Thread Cert.NormLossIdeal.nD Cert.NormLossIdeal.τ).loc Cert.NormLossIdeal.main_v0_1) = v1 c
          ∧ r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
          ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
          ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2)
          ∧ r.2.mem ((c.tc : Thread Cert.NormLossIdeal.nD Cert.NormLossIdeal.τ).loc Cert.NormLossIdeal.main_arg3) = m ((c.tc : Thread Cert.NormLossIdeal.nD Cert.NormLossIdeal.τ).loc Cert.NormLossIdeal.main_arg3))
      ∧ θ_run (Cert.NormLossRefIdeal.defs (F := Ideal)) (onTc (τ := Cert.NormLossRefIdeal.τ) (Cert.NormLossRefIdeal.main (F := Ideal))) ⟨m', fun _ => 0, g'⟩ (fun r => ∀ c : Dev Cert.NormLossRefIdeal.nD,
          r.2.mem ((c.tc : Thread Cert.NormLossRefIdeal.nD Cert.NormLossRefIdeal.τ).loc Cert.NormLossRefIdeal.main_v28) = v0 c
          ∧ r.2.mem ((c.tc : Thread Cert.NormLossRefIdeal.nD Cert.NormLossRefIdeal.τ).loc Cert.NormLossRefIdeal.main_v32) = v1 c
          ∧ r.2.mem ((c.tc : Thread Cert.NormLossRefIdeal.nD Cert.NormLossRefIdeal.τ).loc Cert.NormLossRefIdeal.main_arg0) = m' ((c.tc : Thread Cert.NormLossRefIdeal.nD Cert.NormLossRefIdeal.τ).loc Cert.NormLossRefIdeal.main_arg0)
          ∧ r.2.mem ((c.tc : Thread Cert.NormLossRefIdeal.nD Cert.NormLossRefIdeal.τ).loc Cert.NormLossRefIdeal.main_arg1) = m' ((c.tc : Thread Cert.NormLossRefIdeal.nD Cert.NormLossRefIdeal.τ).loc Cert.NormLossRefIdeal.main_arg1)
          ∧ r.2.mem ((c.tc : Thread Cert.NormLossRefIdeal.nD Cert.NormLossRefIdeal.τ).loc Cert.NormLossRefIdeal.main_arg2) = m' ((c.tc : Thread Cert.NormLossRefIdeal.nD Cert.NormLossRefIdeal.τ).loc Cert.NormLossRefIdeal.main_arg2)
          ∧ r.2.mem ((c.tc : Thread Cert.NormLossRefIdeal.nD Cert.NormLossRefIdeal.τ).loc Cert.NormLossRefIdeal.main_arg3) = m' ((c.tc : Thread Cert.NormLossRefIdeal.nD Cert.NormLossRefIdeal.τ).loc Cert.NormLossRefIdeal.main_arg3))

def preserves_BranchB_BranchBIdeal : Prop :=
  True

def algebraic_BranchBIdeal_BranchBRefIdeal [hBranchBIdeal : Cert.BranchBIdeal.Facts] [hBranchBRefIdeal : Cert.BranchBRefIdeal.Facts] : Prop :=
  ∀ (m : (ℓ : Loc Cert.BranchBIdeal.nD Cert.BranchBIdeal.τ Cert.BranchBIdeal.sig) → Buf (Elt Ideal) ℓ) (g : Dev Cert.BranchBIdeal.nD → PrngReg)
    (m' : (ℓ : Loc Cert.BranchBRefIdeal.nD Cert.BranchBRefIdeal.τ Cert.BranchBRefIdeal.sig) → Buf (Elt Ideal) ℓ) (g' : Dev Cert.BranchBRefIdeal.nD → PrngReg), Pre_BranchBIdeal m →
    (∀ c : Dev Cert.BranchBIdeal.nD,
      m' ((c.tc : Thread Cert.BranchBRefIdeal.nD Cert.BranchBRefIdeal.τ).loc Cert.BranchBRefIdeal.main_arg0) = m ((c.tc : Thread Cert.BranchBIdeal.nD Cert.BranchBIdeal.τ).loc Cert.BranchBIdeal.main_arg0)
      ∧ m' ((c.tc : Thread Cert.BranchBRefIdeal.nD Cert.BranchBRefIdeal.τ).loc Cert.BranchBRefIdeal.main_arg1) = m ((c.tc : Thread Cert.BranchBIdeal.nD Cert.BranchBIdeal.τ).loc Cert.BranchBIdeal.main_arg1)
      ∧ m' ((c.tc : Thread Cert.BranchBRefIdeal.nD Cert.BranchBRefIdeal.τ).loc Cert.BranchBRefIdeal.main_arg2) = m ((c.tc : Thread Cert.BranchBIdeal.nD Cert.BranchBIdeal.τ).loc Cert.BranchBIdeal.main_arg2)
      ∧ m' ((c.tc : Thread Cert.BranchBRefIdeal.nD Cert.BranchBRefIdeal.τ).loc Cert.BranchBRefIdeal.main_arg3) = m ((c.tc : Thread Cert.BranchBIdeal.nD Cert.BranchBIdeal.τ).loc Cert.BranchBIdeal.main_arg3)) →
    ∃ (v0 : (c : Dev Cert.BranchBIdeal.nD) → Buf (Elt Ideal) ((c.tc : Thread Cert.BranchBIdeal.nD Cert.BranchBIdeal.τ).loc Cert.BranchBIdeal.main_v0_0)) (v1 : (c : Dev Cert.BranchBIdeal.nD) → Buf (Elt Ideal) ((c.tc : Thread Cert.BranchBIdeal.nD Cert.BranchBIdeal.τ).loc Cert.BranchBIdeal.main_v0_1)),
      θ_run (Cert.BranchBIdeal.defs (F := Ideal)) (onTc (τ := Cert.BranchBIdeal.τ) (Cert.BranchBIdeal.main (F := Ideal))) ⟨m, fun _ => 0, g⟩ (fun r => ∀ c : Dev Cert.BranchBIdeal.nD,
          r.2.mem ((c.tc : Thread Cert.BranchBIdeal.nD Cert.BranchBIdeal.τ).loc Cert.BranchBIdeal.main_v0_0) = v0 c
          ∧ r.2.mem ((c.tc : Thread Cert.BranchBIdeal.nD Cert.BranchBIdeal.τ).loc Cert.BranchBIdeal.main_v0_1) = v1 c
          ∧ r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
          ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1)
          ∧ r.2.mem ((c.tc : Thread Cert.BranchBIdeal.nD Cert.BranchBIdeal.τ).loc Cert.BranchBIdeal.main_arg2) = m ((c.tc : Thread Cert.BranchBIdeal.nD Cert.BranchBIdeal.τ).loc Cert.BranchBIdeal.main_arg2)
          ∧ r.2.mem ((c.tc : Thread Cert.BranchBIdeal.nD Cert.BranchBIdeal.τ).loc Cert.BranchBIdeal.main_arg3) = m ((c.tc : Thread Cert.BranchBIdeal.nD Cert.BranchBIdeal.τ).loc Cert.BranchBIdeal.main_arg3))
      ∧ θ_run (Cert.BranchBRefIdeal.defs (F := Ideal)) (onTc (τ := Cert.BranchBRefIdeal.τ) (Cert.BranchBRefIdeal.main (F := Ideal))) ⟨m', fun _ => 0, g'⟩ (fun r => ∀ c : Dev Cert.BranchBRefIdeal.nD,
          r.2.mem ((c.tc : Thread Cert.BranchBRefIdeal.nD Cert.BranchBRefIdeal.τ).loc Cert.BranchBRefIdeal.main_v80) = v0 c
          ∧ r.2.mem ((c.tc : Thread Cert.BranchBRefIdeal.nD Cert.BranchBRefIdeal.τ).loc Cert.BranchBRefIdeal.main_v70) = v1 c
          ∧ r.2.mem ((c.tc : Thread Cert.BranchBRefIdeal.nD Cert.BranchBRefIdeal.τ).loc Cert.BranchBRefIdeal.main_arg0) = m' ((c.tc : Thread Cert.BranchBRefIdeal.nD Cert.BranchBRefIdeal.τ).loc Cert.BranchBRefIdeal.main_arg0)
          ∧ r.2.mem ((c.tc : Thread Cert.BranchBRefIdeal.nD Cert.BranchBRefIdeal.τ).loc Cert.BranchBRefIdeal.main_arg1) = m' ((c.tc : Thread Cert.BranchBRefIdeal.nD Cert.BranchBRefIdeal.τ).loc Cert.BranchBRefIdeal.main_arg1)
          ∧ r.2.mem ((c.tc : Thread Cert.BranchBRefIdeal.nD Cert.BranchBRefIdeal.τ).loc Cert.BranchBRefIdeal.main_arg2) = m' ((c.tc : Thread Cert.BranchBRefIdeal.nD Cert.BranchBRefIdeal.τ).loc Cert.BranchBRefIdeal.main_arg2)
          ∧ r.2.mem ((c.tc : Thread Cert.BranchBRefIdeal.nD Cert.BranchBRefIdeal.τ).loc Cert.BranchBRefIdeal.main_arg3) = m' ((c.tc : Thread Cert.BranchBRefIdeal.nD Cert.BranchBRefIdeal.τ).loc Cert.BranchBRefIdeal.main_arg3))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v31) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)) →
    ∃ (v0 : (c : Dev Cert.NormFirstIdeal.nD) → Buf (Elt Ideal) ((c.tc : Thread Cert.NormFirstIdeal.nD Cert.NormFirstIdeal.τ).loc Cert.NormFirstIdeal.main_v0)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v0) = v0 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v12) = v0 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1))

def preserves_NormMemFwd_NormMemFwdIdeal : Prop :=
  True

def algebraic_NormMemFwdIdeal_NormMemFwdRefIdeal [hNormMemFwdIdeal : Cert.NormMemFwdIdeal.Facts] [hNormMemFwdRefIdeal : Cert.NormMemFwdRefIdeal.Facts] : Prop :=
  ∀ (m : (ℓ : Loc Cert.NormMemFwdIdeal.nD Cert.NormMemFwdIdeal.τ Cert.NormMemFwdIdeal.sig) → Buf (Elt Ideal) ℓ) (g : Dev Cert.NormMemFwdIdeal.nD → PrngReg)
    (m' : (ℓ : Loc Cert.NormMemFwdRefIdeal.nD Cert.NormMemFwdRefIdeal.τ Cert.NormMemFwdRefIdeal.sig) → Buf (Elt Ideal) ℓ) (g' : Dev Cert.NormMemFwdRefIdeal.nD → PrngReg), Pre_NormMemFwdIdeal m →
    (∀ c : Dev Cert.NormMemFwdIdeal.nD,
      m' ((c.tc : Thread Cert.NormMemFwdRefIdeal.nD Cert.NormMemFwdRefIdeal.τ).loc Cert.NormMemFwdRefIdeal.main_arg0) = m ((c.tc : Thread Cert.NormMemFwdIdeal.nD Cert.NormMemFwdIdeal.τ).loc Cert.NormMemFwdIdeal.main_arg0)
      ∧ m' ((c.tc : Thread Cert.NormMemFwdRefIdeal.nD Cert.NormMemFwdRefIdeal.τ).loc Cert.NormMemFwdRefIdeal.main_arg1) = m ((c.tc : Thread Cert.NormMemFwdIdeal.nD Cert.NormMemFwdIdeal.τ).loc Cert.NormMemFwdIdeal.main_arg1)) →
    ∃ (v0 : (c : Dev Cert.NormMemFwdIdeal.nD) → Buf (Elt Ideal) ((c.tc : Thread Cert.NormMemFwdIdeal.nD Cert.NormMemFwdIdeal.τ).loc Cert.NormMemFwdIdeal.main_v0)),
      θ_run (Cert.NormMemFwdIdeal.defs (F := Ideal)) (onTc (τ := Cert.NormMemFwdIdeal.τ) (Cert.NormMemFwdIdeal.main (F := Ideal))) ⟨m, fun _ => 0, g⟩ (fun r => ∀ c : Dev Cert.NormMemFwdIdeal.nD,
          r.2.mem ((c.tc : Thread Cert.NormMemFwdIdeal.nD Cert.NormMemFwdIdeal.τ).loc Cert.NormMemFwdIdeal.main_v0) = v0 c
          ∧ r.2.mem ((c.tc : Thread Cert.NormMemFwdIdeal.nD Cert.NormMemFwdIdeal.τ).loc Cert.NormMemFwdIdeal.main_arg0) = m ((c.tc : Thread Cert.NormMemFwdIdeal.nD Cert.NormMemFwdIdeal.τ).loc Cert.NormMemFwdIdeal.main_arg0)
          ∧ r.2.mem ((c.tc : Thread Cert.NormMemFwdIdeal.nD Cert.NormMemFwdIdeal.τ).loc Cert.NormMemFwdIdeal.main_arg1) = m ((c.tc : Thread Cert.NormMemFwdIdeal.nD Cert.NormMemFwdIdeal.τ).loc Cert.NormMemFwdIdeal.main_arg1))
      ∧ θ_run (Cert.NormMemFwdRefIdeal.defs (F := Ideal)) (onTc (τ := Cert.NormMemFwdRefIdeal.τ) (Cert.NormMemFwdRefIdeal.main (F := Ideal))) ⟨m', fun _ => 0, g'⟩ (fun r => ∀ c : Dev Cert.NormMemFwdRefIdeal.nD,
          r.2.mem ((c.tc : Thread Cert.NormMemFwdRefIdeal.nD Cert.NormMemFwdRefIdeal.τ).loc Cert.NormMemFwdRefIdeal.main_v12) = v0 c
          ∧ r.2.mem ((c.tc : Thread Cert.NormMemFwdRefIdeal.nD Cert.NormMemFwdRefIdeal.τ).loc Cert.NormMemFwdRefIdeal.main_arg0) = m' ((c.tc : Thread Cert.NormMemFwdRefIdeal.nD Cert.NormMemFwdRefIdeal.τ).loc Cert.NormMemFwdRefIdeal.main_arg0)
          ∧ r.2.mem ((c.tc : Thread Cert.NormMemFwdRefIdeal.nD Cert.NormMemFwdRefIdeal.τ).loc Cert.NormMemFwdRefIdeal.main_arg1) = m' ((c.tc : Thread Cert.NormMemFwdRefIdeal.nD Cert.NormMemFwdRefIdeal.τ).loc Cert.NormMemFwdRefIdeal.main_arg1))

def preserves_NormMidFwd_NormMidFwdIdeal : Prop :=
  True

def algebraic_NormMidFwdIdeal_NormMidFwdRefIdeal [hNormMidFwdIdeal : Cert.NormMidFwdIdeal.Facts] [hNormMidFwdRefIdeal : Cert.NormMidFwdRefIdeal.Facts] : Prop :=
  ∀ (m : (ℓ : Loc Cert.NormMidFwdIdeal.nD Cert.NormMidFwdIdeal.τ Cert.NormMidFwdIdeal.sig) → Buf (Elt Ideal) ℓ) (g : Dev Cert.NormMidFwdIdeal.nD → PrngReg)
    (m' : (ℓ : Loc Cert.NormMidFwdRefIdeal.nD Cert.NormMidFwdRefIdeal.τ Cert.NormMidFwdRefIdeal.sig) → Buf (Elt Ideal) ℓ) (g' : Dev Cert.NormMidFwdRefIdeal.nD → PrngReg), Pre_NormMidFwdIdeal m →
    (∀ c : Dev Cert.NormMidFwdIdeal.nD,
      m' ((c.tc : Thread Cert.NormMidFwdRefIdeal.nD Cert.NormMidFwdRefIdeal.τ).loc Cert.NormMidFwdRefIdeal.main_arg0) = m ((c.tc : Thread Cert.NormMidFwdIdeal.nD Cert.NormMidFwdIdeal.τ).loc Cert.NormMidFwdIdeal.main_arg0)
      ∧ m' ((c.tc : Thread Cert.NormMidFwdRefIdeal.nD Cert.NormMidFwdRefIdeal.τ).loc Cert.NormMidFwdRefIdeal.main_arg1) = m ((c.tc : Thread Cert.NormMidFwdIdeal.nD Cert.NormMidFwdIdeal.τ).loc Cert.NormMidFwdIdeal.main_arg1)
      ∧ m' ((c.tc : Thread Cert.NormMidFwdRefIdeal.nD Cert.NormMidFwdRefIdeal.τ).loc Cert.NormMidFwdRefIdeal.main_arg2) = m ((c.tc : Thread Cert.NormMidFwdIdeal.nD Cert.NormMidFwdIdeal.τ).loc Cert.NormMidFwdIdeal.main_arg2)
      ∧ m' ((c.tc : Thread Cert.NormMidFwdRefIdeal.nD Cert.NormMidFwdRefIdeal.τ).loc Cert.NormMidFwdRefIdeal.main_arg3) = m ((c.tc : Thread Cert.NormMidFwdIdeal.nD Cert.NormMidFwdIdeal.τ).loc Cert.NormMidFwdIdeal.main_arg3)) →
    ∃ (v0 : (c : Dev Cert.NormMidFwdIdeal.nD) → Buf (Elt Ideal) ((c.tc : Thread Cert.NormMidFwdIdeal.nD Cert.NormMidFwdIdeal.τ).loc Cert.NormMidFwdIdeal.main_v0_0)) (v1 : (c : Dev Cert.NormMidFwdIdeal.nD) → Buf (Elt Ideal) ((c.tc : Thread Cert.NormMidFwdIdeal.nD Cert.NormMidFwdIdeal.τ).loc Cert.NormMidFwdIdeal.main_v0_1)),
      θ_run (Cert.NormMidFwdIdeal.defs (F := Ideal)) (onTc (τ := Cert.NormMidFwdIdeal.τ) (Cert.NormMidFwdIdeal.main (F := Ideal))) ⟨m, fun _ => 0, g⟩ (fun r => ∀ c : Dev Cert.NormMidFwdIdeal.nD,
          r.2.mem ((c.tc : Thread Cert.NormMidFwdIdeal.nD Cert.NormMidFwdIdeal.τ).loc Cert.NormMidFwdIdeal.main_v0_0) = v0 c
          ∧ r.2.mem ((c.tc : Thread Cert.NormMidFwdIdeal.nD Cert.NormMidFwdIdeal.τ).loc Cert.NormMidFwdIdeal.main_v0_1) = v1 c
          ∧ r.2.mem ((c.tc : Thread Cert.NormMidFwdIdeal.nD Cert.NormMidFwdIdeal.τ).loc Cert.NormMidFwdIdeal.main_arg0) = m ((c.tc : Thread Cert.NormMidFwdIdeal.nD Cert.NormMidFwdIdeal.τ).loc Cert.NormMidFwdIdeal.main_arg0)
          ∧ r.2.mem ((c.tc : Thread Cert.NormMidFwdIdeal.nD Cert.NormMidFwdIdeal.τ).loc Cert.NormMidFwdIdeal.main_arg1) = m ((c.tc : Thread Cert.NormMidFwdIdeal.nD Cert.NormMidFwdIdeal.τ).loc Cert.NormMidFwdIdeal.main_arg1)
          ∧ r.2.mem ((c.tc : Thread Cert.NormMidFwdIdeal.nD Cert.NormMidFwdIdeal.τ).loc Cert.NormMidFwdIdeal.main_arg2) = m ((c.tc : Thread Cert.NormMidFwdIdeal.nD Cert.NormMidFwdIdeal.τ).loc Cert.NormMidFwdIdeal.main_arg2)
          ∧ r.2.mem ((c.tc : Thread Cert.NormMidFwdIdeal.nD Cert.NormMidFwdIdeal.τ).loc Cert.NormMidFwdIdeal.main_arg3) = m ((c.tc : Thread Cert.NormMidFwdIdeal.nD Cert.NormMidFwdIdeal.τ).loc Cert.NormMidFwdIdeal.main_arg3))
      ∧ θ_run (Cert.NormMidFwdRefIdeal.defs (F := Ideal)) (onTc (τ := Cert.NormMidFwdRefIdeal.τ) (Cert.NormMidFwdRefIdeal.main (F := Ideal))) ⟨m', fun _ => 0, g'⟩ (fun r => ∀ c : Dev Cert.NormMidFwdRefIdeal.nD,
          r.2.mem ((c.tc : Thread Cert.NormMidFwdRefIdeal.nD Cert.NormMidFwdRefIdeal.τ).loc Cert.NormMidFwdRefIdeal.main_v13) = v0 c
          ∧ r.2.mem ((c.tc : Thread Cert.NormMidFwdRefIdeal.nD Cert.NormMidFwdRefIdeal.τ).loc Cert.NormMidFwdRefIdeal.main_v26) = v1 c
          ∧ r.2.mem ((c.tc : Thread Cert.NormMidFwdRefIdeal.nD Cert.NormMidFwdRefIdeal.τ).loc Cert.NormMidFwdRefIdeal.main_arg0) = m' ((c.tc : Thread Cert.NormMidFwdRefIdeal.nD Cert.NormMidFwdRefIdeal.τ).loc Cert.NormMidFwdRefIdeal.main_arg0)
          ∧ r.2.mem ((c.tc : Thread Cert.NormMidFwdRefIdeal.nD Cert.NormMidFwdRefIdeal.τ).loc Cert.NormMidFwdRefIdeal.main_arg1) = m' ((c.tc : Thread Cert.NormMidFwdRefIdeal.nD Cert.NormMidFwdRefIdeal.τ).loc Cert.NormMidFwdRefIdeal.main_arg1)
          ∧ r.2.mem ((c.tc : Thread Cert.NormMidFwdRefIdeal.nD Cert.NormMidFwdRefIdeal.τ).loc Cert.NormMidFwdRefIdeal.main_arg2) = m' ((c.tc : Thread Cert.NormMidFwdRefIdeal.nD Cert.NormMidFwdRefIdeal.τ).loc Cert.NormMidFwdRefIdeal.main_arg2)
          ∧ r.2.mem ((c.tc : Thread Cert.NormMidFwdRefIdeal.nD Cert.NormMidFwdRefIdeal.τ).loc Cert.NormMidFwdRefIdeal.main_arg3) = m' ((c.tc : Thread Cert.NormMidFwdRefIdeal.nD Cert.NormMidFwdRefIdeal.τ).loc Cert.NormMidFwdRefIdeal.main_arg3))

def preserves_BranchBFwd_BranchBFwdIdeal : Prop :=
  True

def algebraic_BranchBFwdIdeal_BranchBFwdRefIdeal [hBranchBFwdIdeal : Cert.BranchBFwdIdeal.Facts] [hBranchBFwdRefIdeal : Cert.BranchBFwdRefIdeal.Facts] : Prop :=
  ∀ (m : (ℓ : Loc Cert.BranchBFwdIdeal.nD Cert.BranchBFwdIdeal.τ Cert.BranchBFwdIdeal.sig) → Buf (Elt Ideal) ℓ) (g : Dev Cert.BranchBFwdIdeal.nD → PrngReg)
    (m' : (ℓ : Loc Cert.BranchBFwdRefIdeal.nD Cert.BranchBFwdRefIdeal.τ Cert.BranchBFwdRefIdeal.sig) → Buf (Elt Ideal) ℓ) (g' : Dev Cert.BranchBFwdRefIdeal.nD → PrngReg), Pre_BranchBFwdIdeal m →
    (∀ c : Dev Cert.BranchBFwdIdeal.nD,
      m' ((c.tc : Thread Cert.BranchBFwdRefIdeal.nD Cert.BranchBFwdRefIdeal.τ).loc Cert.BranchBFwdRefIdeal.main_arg0) = m ((c.tc : Thread Cert.BranchBFwdIdeal.nD Cert.BranchBFwdIdeal.τ).loc Cert.BranchBFwdIdeal.main_arg0)
      ∧ m' ((c.tc : Thread Cert.BranchBFwdRefIdeal.nD Cert.BranchBFwdRefIdeal.τ).loc Cert.BranchBFwdRefIdeal.main_arg1) = m ((c.tc : Thread Cert.BranchBFwdIdeal.nD Cert.BranchBFwdIdeal.τ).loc Cert.BranchBFwdIdeal.main_arg1)) →
    ∃ (v0 : (c : Dev Cert.BranchBFwdIdeal.nD) → Buf (Elt Ideal) ((c.tc : Thread Cert.BranchBFwdIdeal.nD Cert.BranchBFwdIdeal.τ).loc Cert.BranchBFwdIdeal.main_v0)),
      θ_run (Cert.BranchBFwdIdeal.defs (F := Ideal)) (onTc (τ := Cert.BranchBFwdIdeal.τ) (Cert.BranchBFwdIdeal.main (F := Ideal))) ⟨m, fun _ => 0, g⟩ (fun r => ∀ c : Dev Cert.BranchBFwdIdeal.nD,
          r.2.mem ((c.tc : Thread Cert.BranchBFwdIdeal.nD Cert.BranchBFwdIdeal.τ).loc Cert.BranchBFwdIdeal.main_v0) = v0 c
          ∧ r.2.mem ((c.tc : Thread Cert.BranchBFwdIdeal.nD Cert.BranchBFwdIdeal.τ).loc Cert.BranchBFwdIdeal.main_arg0) = m ((c.tc : Thread Cert.BranchBFwdIdeal.nD Cert.BranchBFwdIdeal.τ).loc Cert.BranchBFwdIdeal.main_arg0)
          ∧ r.2.mem ((c.tc : Thread Cert.BranchBFwdIdeal.nD Cert.BranchBFwdIdeal.τ).loc Cert.BranchBFwdIdeal.main_arg1) = m ((c.tc : Thread Cert.BranchBFwdIdeal.nD Cert.BranchBFwdIdeal.τ).loc Cert.BranchBFwdIdeal.main_arg1))
      ∧ θ_run (Cert.BranchBFwdRefIdeal.defs (F := Ideal)) (onTc (τ := Cert.BranchBFwdRefIdeal.τ) (Cert.BranchBFwdRefIdeal.main (F := Ideal))) ⟨m', fun _ => 0, g'⟩ (fun r => ∀ c : Dev Cert.BranchBFwdRefIdeal.nD,
          r.2.mem ((c.tc : Thread Cert.BranchBFwdRefIdeal.nD Cert.BranchBFwdRefIdeal.τ).loc Cert.BranchBFwdRefIdeal.main_v36) = v0 c
          ∧ r.2.mem ((c.tc : Thread Cert.BranchBFwdRefIdeal.nD Cert.BranchBFwdRefIdeal.τ).loc Cert.BranchBFwdRefIdeal.main_arg0) = m' ((c.tc : Thread Cert.BranchBFwdRefIdeal.nD Cert.BranchBFwdRefIdeal.τ).loc Cert.BranchBFwdRefIdeal.main_arg0)
          ∧ r.2.mem ((c.tc : Thread Cert.BranchBFwdRefIdeal.nD Cert.BranchBFwdRefIdeal.τ).loc Cert.BranchBFwdRefIdeal.main_arg1) = m' ((c.tc : Thread Cert.BranchBFwdRefIdeal.nD Cert.BranchBFwdRefIdeal.τ).loc Cert.BranchBFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v29) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v6) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1))

def preserves_BranchAFwd_BranchAFwdIdeal : Prop :=
  True

def algebraic_BranchAFwdIdeal_BranchAFwdRefIdeal [hBranchAFwdIdeal : Cert.BranchAFwdIdeal.Facts] [hBranchAFwdRefIdeal : Cert.BranchAFwdRefIdeal.Facts] : Prop :=
  ∀ (m : (ℓ : Loc Cert.BranchAFwdIdeal.nD Cert.BranchAFwdIdeal.τ Cert.BranchAFwdIdeal.sig) → Buf (Elt Ideal) ℓ) (g : Dev Cert.BranchAFwdIdeal.nD → PrngReg)
    (m' : (ℓ : Loc Cert.BranchAFwdRefIdeal.nD Cert.BranchAFwdRefIdeal.τ Cert.BranchAFwdRefIdeal.sig) → Buf (Elt Ideal) ℓ) (g' : Dev Cert.BranchAFwdRefIdeal.nD → PrngReg), Pre_BranchAFwdIdeal m →
    (∀ c : Dev Cert.BranchAFwdIdeal.nD,
      m' ((c.tc : Thread Cert.BranchAFwdRefIdeal.nD Cert.BranchAFwdRefIdeal.τ).loc Cert.BranchAFwdRefIdeal.main_arg0) = m ((c.tc : Thread Cert.BranchAFwdIdeal.nD Cert.BranchAFwdIdeal.τ).loc Cert.BranchAFwdIdeal.main_arg0)
      ∧ m' ((c.tc : Thread Cert.BranchAFwdRefIdeal.nD Cert.BranchAFwdRefIdeal.τ).loc Cert.BranchAFwdRefIdeal.main_arg1) = m ((c.tc : Thread Cert.BranchAFwdIdeal.nD Cert.BranchAFwdIdeal.τ).loc Cert.BranchAFwdIdeal.main_arg1)
      ∧ m' ((c.tc : Thread Cert.BranchAFwdRefIdeal.nD Cert.BranchAFwdRefIdeal.τ).loc Cert.BranchAFwdRefIdeal.main_arg2) = m ((c.tc : Thread Cert.BranchAFwdIdeal.nD Cert.BranchAFwdIdeal.τ).loc Cert.BranchAFwdIdeal.main_arg2)
      ∧ m' ((c.tc : Thread Cert.BranchAFwdRefIdeal.nD Cert.BranchAFwdRefIdeal.τ).loc Cert.BranchAFwdRefIdeal.main_arg3) = m ((c.tc : Thread Cert.BranchAFwdIdeal.nD Cert.BranchAFwdIdeal.τ).loc Cert.BranchAFwdIdeal.main_arg3)
      ∧ m' ((c.tc : Thread Cert.BranchAFwdRefIdeal.nD Cert.BranchAFwdRefIdeal.τ).loc Cert.BranchAFwdRefIdeal.main_arg4) = m ((c.tc : Thread Cert.BranchAFwdIdeal.nD Cert.BranchAFwdIdeal.τ).loc Cert.BranchAFwdIdeal.main_arg4)) →
    ∃ (v0 : (c : Dev Cert.BranchAFwdIdeal.nD) → Buf (Elt Ideal) ((c.tc : Thread Cert.BranchAFwdIdeal.nD Cert.BranchAFwdIdeal.τ).loc Cert.BranchAFwdIdeal.main_v0_0)) (v1 : (c : Dev Cert.BranchAFwdIdeal.nD) → Buf (Elt Ideal) ((c.tc : Thread Cert.BranchAFwdIdeal.nD Cert.BranchAFwdIdeal.τ).loc Cert.BranchAFwdIdeal.main_v0_1)),
      θ_run (Cert.BranchAFwdIdeal.defs (F := Ideal)) (onTc (τ := Cert.BranchAFwdIdeal.τ) (Cert.BranchAFwdIdeal.main (F := Ideal))) ⟨m, fun _ => 0, g⟩ (fun r => ∀ c : Dev Cert.BranchAFwdIdeal.nD,
          r.2.mem ((c.tc : Thread Cert.BranchAFwdIdeal.nD Cert.BranchAFwdIdeal.τ).loc Cert.BranchAFwdIdeal.main_v0_0) = v0 c
          ∧ r.2.mem ((c.tc : Thread Cert.BranchAFwdIdeal.nD Cert.BranchAFwdIdeal.τ).loc Cert.BranchAFwdIdeal.main_v0_1) = v1 c
          ∧ r.2.mem ((c.tc : Thread Cert.BranchAFwdIdeal.nD Cert.BranchAFwdIdeal.τ).loc Cert.BranchAFwdIdeal.main_arg0) = m ((c.tc : Thread Cert.BranchAFwdIdeal.nD Cert.BranchAFwdIdeal.τ).loc Cert.BranchAFwdIdeal.main_arg0)
          ∧ r.2.mem ((c.tc : Thread Cert.BranchAFwdIdeal.nD Cert.BranchAFwdIdeal.τ).loc Cert.BranchAFwdIdeal.main_arg1) = m ((c.tc : Thread Cert.BranchAFwdIdeal.nD Cert.BranchAFwdIdeal.τ).loc Cert.BranchAFwdIdeal.main_arg1)
          ∧ r.2.mem ((c.tc : Thread Cert.BranchAFwdIdeal.nD Cert.BranchAFwdIdeal.τ).loc Cert.BranchAFwdIdeal.main_arg2) = m ((c.tc : Thread Cert.BranchAFwdIdeal.nD Cert.BranchAFwdIdeal.τ).loc Cert.BranchAFwdIdeal.main_arg2)
          ∧ r.2.mem ((c.tc : Thread Cert.BranchAFwdIdeal.nD Cert.BranchAFwdIdeal.τ).loc Cert.BranchAFwdIdeal.main_arg3) = m ((c.tc : Thread Cert.BranchAFwdIdeal.nD Cert.BranchAFwdIdeal.τ).loc Cert.BranchAFwdIdeal.main_arg3)
          ∧ r.2.mem ((c.tc : Thread Cert.BranchAFwdIdeal.nD Cert.BranchAFwdIdeal.τ).loc Cert.BranchAFwdIdeal.main_arg4) = m ((c.tc : Thread Cert.BranchAFwdIdeal.nD Cert.BranchAFwdIdeal.τ).loc Cert.BranchAFwdIdeal.main_arg4))
      ∧ θ_run (Cert.BranchAFwdRefIdeal.defs (F := Ideal)) (onTc (τ := Cert.BranchAFwdRefIdeal.τ) (Cert.BranchAFwdRefIdeal.main (F := Ideal))) ⟨m', fun _ => 0, g'⟩ (fun r => ∀ c : Dev Cert.BranchAFwdRefIdeal.nD,
          r.2.mem ((c.tc : Thread Cert.BranchAFwdRefIdeal.nD Cert.BranchAFwdRefIdeal.τ).loc Cert.BranchAFwdRefIdeal.main_v237) = v0 c
          ∧ r.2.mem ((c.tc : Thread Cert.BranchAFwdRefIdeal.nD Cert.BranchAFwdRefIdeal.τ).loc Cert.BranchAFwdRefIdeal.main_v261) = v1 c
          ∧ r.2.mem ((c.tc : Thread Cert.BranchAFwdRefIdeal.nD Cert.BranchAFwdRefIdeal.τ).loc Cert.BranchAFwdRefIdeal.main_arg0) = m' ((c.tc : Thread Cert.BranchAFwdRefIdeal.nD Cert.BranchAFwdRefIdeal.τ).loc Cert.BranchAFwdRefIdeal.main_arg0)
          ∧ r.2.mem ((c.tc : Thread Cert.BranchAFwdRefIdeal.nD Cert.BranchAFwdRefIdeal.τ).loc Cert.BranchAFwdRefIdeal.main_arg1) = m' ((c.tc : Thread Cert.BranchAFwdRefIdeal.nD Cert.BranchAFwdRefIdeal.τ).loc Cert.BranchAFwdRefIdeal.main_arg1)
          ∧ r.2.mem ((c.tc : Thread Cert.BranchAFwdRefIdeal.nD Cert.BranchAFwdRefIdeal.τ).loc Cert.BranchAFwdRefIdeal.main_arg2) = m' ((c.tc : Thread Cert.BranchAFwdRefIdeal.nD Cert.BranchAFwdRefIdeal.τ).loc Cert.BranchAFwdRefIdeal.main_arg2)
          ∧ r.2.mem ((c.tc : Thread Cert.BranchAFwdRefIdeal.nD Cert.BranchAFwdRefIdeal.τ).loc Cert.BranchAFwdRefIdeal.main_arg3) = m' ((c.tc : Thread Cert.BranchAFwdRefIdeal.nD Cert.BranchAFwdRefIdeal.τ).loc Cert.BranchAFwdRefIdeal.main_arg3)
          ∧ r.2.mem ((c.tc : Thread Cert.BranchAFwdRefIdeal.nD Cert.BranchAFwdRefIdeal.τ).loc Cert.BranchAFwdRefIdeal.main_arg4) = m' ((c.tc : Thread Cert.BranchAFwdRefIdeal.nD Cert.BranchAFwdRefIdeal.τ).loc Cert.BranchAFwdRefIdeal.main_arg4))

def preserves_BranchA_BranchAIdeal : Prop :=
  True

def preserves_ProductIn_ProductInIdeal : Prop :=
  True

def algebraic_ProductInIdeal_ProductInRefIdeal [hProductInIdeal : Cert.ProductInIdeal.Facts] [hProductInRefIdeal : Cert.ProductInRefIdeal.Facts] : Prop :=
  ∀ (m : (ℓ : Loc Cert.ProductInIdeal.nD Cert.ProductInIdeal.τ Cert.ProductInIdeal.sig) → Buf (Elt Ideal) ℓ) (g : Dev Cert.ProductInIdeal.nD → PrngReg)
    (m' : (ℓ : Loc Cert.ProductInRefIdeal.nD Cert.ProductInRefIdeal.τ Cert.ProductInRefIdeal.sig) → Buf (Elt Ideal) ℓ) (g' : Dev Cert.ProductInRefIdeal.nD → PrngReg), Pre_ProductInIdeal m →
    (∀ c : Dev Cert.ProductInIdeal.nD,
      m' ((c.tc : Thread Cert.ProductInRefIdeal.nD Cert.ProductInRefIdeal.τ).loc Cert.ProductInRefIdeal.main_arg0) = m ((c.tc : Thread Cert.ProductInIdeal.nD Cert.ProductInIdeal.τ).loc Cert.ProductInIdeal.main_arg0)
      ∧ m' ((c.tc : Thread Cert.ProductInRefIdeal.nD Cert.ProductInRefIdeal.τ).loc Cert.ProductInRefIdeal.main_arg1) = m ((c.tc : Thread Cert.ProductInIdeal.nD Cert.ProductInIdeal.τ).loc Cert.ProductInIdeal.main_arg1)) →
    ∃ (v0 : (c : Dev Cert.ProductInIdeal.nD) → Buf (Elt Ideal) ((c.tc : Thread Cert.ProductInIdeal.nD Cert.ProductInIdeal.τ).loc Cert.ProductInIdeal.main_v0)),
      θ_run (Cert.ProductInIdeal.defs (F := Ideal)) (onTc (τ := Cert.ProductInIdeal.τ) (Cert.ProductInIdeal.main (F := Ideal))) ⟨m, fun _ => 0, g⟩ (fun r => ∀ c : Dev Cert.ProductInIdeal.nD,
          r.2.mem ((c.tc : Thread Cert.ProductInIdeal.nD Cert.ProductInIdeal.τ).loc Cert.ProductInIdeal.main_v0) = v0 c
          ∧ r.2.mem ((c.tc : Thread Cert.ProductInIdeal.nD Cert.ProductInIdeal.τ).loc Cert.ProductInIdeal.main_arg0) = m ((c.tc : Thread Cert.ProductInIdeal.nD Cert.ProductInIdeal.τ).loc Cert.ProductInIdeal.main_arg0)
          ∧ r.2.mem ((c.tc : Thread Cert.ProductInIdeal.nD Cert.ProductInIdeal.τ).loc Cert.ProductInIdeal.main_arg1) = m ((c.tc : Thread Cert.ProductInIdeal.nD Cert.ProductInIdeal.τ).loc Cert.ProductInIdeal.main_arg1))
      ∧ θ_run (Cert.ProductInRefIdeal.defs (F := Ideal)) (onTc (τ := Cert.ProductInRefIdeal.τ) (Cert.ProductInRefIdeal.main (F := Ideal))) ⟨m', fun _ => 0, g'⟩ (fun r => ∀ c : Dev Cert.ProductInRefIdeal.nD,
          r.2.mem ((c.tc : Thread Cert.ProductInRefIdeal.nD Cert.ProductInRefIdeal.τ).loc Cert.ProductInRefIdeal.main_v5) = v0 c
          ∧ r.2.mem ((c.tc : Thread Cert.ProductInRefIdeal.nD Cert.ProductInRefIdeal.τ).loc Cert.ProductInRefIdeal.main_arg0) = m' ((c.tc : Thread Cert.ProductInRefIdeal.nD Cert.ProductInRefIdeal.τ).loc Cert.ProductInRefIdeal.main_arg0)
          ∧ r.2.mem ((c.tc : Thread Cert.ProductInRefIdeal.nD Cert.ProductInRefIdeal.τ).loc Cert.ProductInRefIdeal.main_arg1) = m' ((c.tc : Thread Cert.ProductInRefIdeal.nD Cert.ProductInRefIdeal.τ).loc Cert.ProductInRefIdeal.main_arg1))

def preserves_ProductInDx_ProductInDxIdeal : Prop :=
  True

def algebraic_ProductInDxIdeal_ProductInDxRefIdeal [hProductInDxIdeal : Cert.ProductInDxIdeal.Facts] [hProductInDxRefIdeal : Cert.ProductInDxRefIdeal.Facts] : Prop :=
  ∀ (m : (ℓ : Loc Cert.ProductInDxIdeal.nD Cert.ProductInDxIdeal.τ Cert.ProductInDxIdeal.sig) → Buf (Elt Ideal) ℓ) (g : Dev Cert.ProductInDxIdeal.nD → PrngReg)
    (m' : (ℓ : Loc Cert.ProductInDxRefIdeal.nD Cert.ProductInDxRefIdeal.τ Cert.ProductInDxRefIdeal.sig) → Buf (Elt Ideal) ℓ) (g' : Dev Cert.ProductInDxRefIdeal.nD → PrngReg), Pre_ProductInDxIdeal m →
    (∀ c : Dev Cert.ProductInDxIdeal.nD,
      m' ((c.tc : Thread Cert.ProductInDxRefIdeal.nD Cert.ProductInDxRefIdeal.τ).loc Cert.ProductInDxRefIdeal.main_arg0) = m ((c.tc : Thread Cert.ProductInDxIdeal.nD Cert.ProductInDxIdeal.τ).loc Cert.ProductInDxIdeal.main_arg0)
      ∧ m' ((c.tc : Thread Cert.ProductInDxRefIdeal.nD Cert.ProductInDxRefIdeal.τ).loc Cert.ProductInDxRefIdeal.main_arg1) = m ((c.tc : Thread Cert.ProductInDxIdeal.nD Cert.ProductInDxIdeal.τ).loc Cert.ProductInDxIdeal.main_arg1)
      ∧ m' ((c.tc : Thread Cert.ProductInDxRefIdeal.nD Cert.ProductInDxRefIdeal.τ).loc Cert.ProductInDxRefIdeal.main_arg2) = m ((c.tc : Thread Cert.ProductInDxIdeal.nD Cert.ProductInDxIdeal.τ).loc Cert.ProductInDxIdeal.main_arg2)) →
    ∃ (v0 : (c : Dev Cert.ProductInDxIdeal.nD) → Buf (Elt Ideal) ((c.tc : Thread Cert.ProductInDxIdeal.nD Cert.ProductInDxIdeal.τ).loc Cert.ProductInDxIdeal.main_v0)),
      θ_run (Cert.ProductInDxIdeal.defs (F := Ideal)) (onTc (τ := Cert.ProductInDxIdeal.τ) (Cert.ProductInDxIdeal.main (F := Ideal))) ⟨m, fun _ => 0, g⟩ (fun r => ∀ c : Dev Cert.ProductInDxIdeal.nD,
          r.2.mem ((c.tc : Thread Cert.ProductInDxIdeal.nD Cert.ProductInDxIdeal.τ).loc Cert.ProductInDxIdeal.main_v0) = v0 c
          ∧ r.2.mem ((c.tc : Thread Cert.ProductInDxIdeal.nD Cert.ProductInDxIdeal.τ).loc Cert.ProductInDxIdeal.main_arg0) = m ((c.tc : Thread Cert.ProductInDxIdeal.nD Cert.ProductInDxIdeal.τ).loc Cert.ProductInDxIdeal.main_arg0)
          ∧ r.2.mem ((c.tc : Thread Cert.ProductInDxIdeal.nD Cert.ProductInDxIdeal.τ).loc Cert.ProductInDxIdeal.main_arg1) = m ((c.tc : Thread Cert.ProductInDxIdeal.nD Cert.ProductInDxIdeal.τ).loc Cert.ProductInDxIdeal.main_arg1)
          ∧ r.2.mem ((c.tc : Thread Cert.ProductInDxIdeal.nD Cert.ProductInDxIdeal.τ).loc Cert.ProductInDxIdeal.main_arg2) = m ((c.tc : Thread Cert.ProductInDxIdeal.nD Cert.ProductInDxIdeal.τ).loc Cert.ProductInDxIdeal.main_arg2))
      ∧ θ_run (Cert.ProductInDxRefIdeal.defs (F := Ideal)) (onTc (τ := Cert.ProductInDxRefIdeal.τ) (Cert.ProductInDxRefIdeal.main (F := Ideal))) ⟨m', fun _ => 0, g'⟩ (fun r => ∀ c : Dev Cert.ProductInDxRefIdeal.nD,
          r.2.mem ((c.tc : Thread Cert.ProductInDxRefIdeal.nD Cert.ProductInDxRefIdeal.τ).loc Cert.ProductInDxRefIdeal.main_v7) = v0 c
          ∧ r.2.mem ((c.tc : Thread Cert.ProductInDxRefIdeal.nD Cert.ProductInDxRefIdeal.τ).loc Cert.ProductInDxRefIdeal.main_arg0) = m' ((c.tc : Thread Cert.ProductInDxRefIdeal.nD Cert.ProductInDxRefIdeal.τ).loc Cert.ProductInDxRefIdeal.main_arg0)
          ∧ r.2.mem ((c.tc : Thread Cert.ProductInDxRefIdeal.nD Cert.ProductInDxRefIdeal.τ).loc Cert.ProductInDxRefIdeal.main_arg1) = m' ((c.tc : Thread Cert.ProductInDxRefIdeal.nD Cert.ProductInDxRefIdeal.τ).loc Cert.ProductInDxRefIdeal.main_arg1)
          ∧ r.2.mem ((c.tc : Thread Cert.ProductInDxRefIdeal.nD Cert.ProductInDxRefIdeal.τ).loc Cert.ProductInDxRefIdeal.main_arg2) = m' ((c.tc : Thread Cert.ProductInDxRefIdeal.nD Cert.ProductInDxRefIdeal.τ).loc Cert.ProductInDxRefIdeal.main_arg2))

def preserves_ProductInDw_ProductInDwIdeal : Prop :=
  True

def algebraic_ProductInDwIdeal_ProductInDwRefIdeal [hProductInDwIdeal : Cert.ProductInDwIdeal.Facts] [hProductInDwRefIdeal : Cert.ProductInDwRefIdeal.Facts] : Prop :=
  ∀ (m : (ℓ : Loc Cert.ProductInDwIdeal.nD Cert.ProductInDwIdeal.τ Cert.ProductInDwIdeal.sig) → Buf (Elt Ideal) ℓ) (g : Dev Cert.ProductInDwIdeal.nD → PrngReg)
    (m' : (ℓ : Loc Cert.ProductInDwRefIdeal.nD Cert.ProductInDwRefIdeal.τ Cert.ProductInDwRefIdeal.sig) → Buf (Elt Ideal) ℓ) (g' : Dev Cert.ProductInDwRefIdeal.nD → PrngReg), Pre_ProductInDwIdeal m →
    (∀ c : Dev Cert.ProductInDwIdeal.nD,
      m' ((c.tc : Thread Cert.ProductInDwRefIdeal.nD Cert.ProductInDwRefIdeal.τ).loc Cert.ProductInDwRefIdeal.main_arg0) = m ((c.tc : Thread Cert.ProductInDwIdeal.nD Cert.ProductInDwIdeal.τ).loc Cert.ProductInDwIdeal.main_arg0)
      ∧ m' ((c.tc : Thread Cert.ProductInDwRefIdeal.nD Cert.ProductInDwRefIdeal.τ).loc Cert.ProductInDwRefIdeal.main_arg1) = m ((c.tc : Thread Cert.ProductInDwIdeal.nD Cert.ProductInDwIdeal.τ).loc Cert.ProductInDwIdeal.main_arg1)
      ∧ m' ((c.tc : Thread Cert.ProductInDwRefIdeal.nD Cert.ProductInDwRefIdeal.τ).loc Cert.ProductInDwRefIdeal.main_arg2) = m ((c.tc : Thread Cert.ProductInDwIdeal.nD Cert.ProductInDwIdeal.τ).loc Cert.ProductInDwIdeal.main_arg2)) →
    ∃ (v0 : (c : Dev Cert.ProductInDwIdeal.nD) → Buf (Elt Ideal) ((c.tc : Thread Cert.ProductInDwIdeal.nD Cert.ProductInDwIdeal.τ).loc Cert.ProductInDwIdeal.main_v0)),
      θ_run (Cert.ProductInDwIdeal.defs (F := Ideal)) (onTc (τ := Cert.ProductInDwIdeal.τ) (Cert.ProductInDwIdeal.main (F := Ideal))) ⟨m, fun _ => 0, g⟩ (fun r => ∀ c : Dev Cert.ProductInDwIdeal.nD,
          r.2.mem ((c.tc : Thread Cert.ProductInDwIdeal.nD Cert.ProductInDwIdeal.τ).loc Cert.ProductInDwIdeal.main_v0) = v0 c
          ∧ r.2.mem ((c.tc : Thread Cert.ProductInDwIdeal.nD Cert.ProductInDwIdeal.τ).loc Cert.ProductInDwIdeal.main_arg0) = m ((c.tc : Thread Cert.ProductInDwIdeal.nD Cert.ProductInDwIdeal.τ).loc Cert.ProductInDwIdeal.main_arg0)
          ∧ r.2.mem ((c.tc : Thread Cert.ProductInDwIdeal.nD Cert.ProductInDwIdeal.τ).loc Cert.ProductInDwIdeal.main_arg1) = m ((c.tc : Thread Cert.ProductInDwIdeal.nD Cert.ProductInDwIdeal.τ).loc Cert.ProductInDwIdeal.main_arg1)
          ∧ r.2.mem ((c.tc : Thread Cert.ProductInDwIdeal.nD Cert.ProductInDwIdeal.τ).loc Cert.ProductInDwIdeal.main_arg2) = m ((c.tc : Thread Cert.ProductInDwIdeal.nD Cert.ProductInDwIdeal.τ).loc Cert.ProductInDwIdeal.main_arg2))
      ∧ θ_run (Cert.ProductInDwRefIdeal.defs (F := Ideal)) (onTc (τ := Cert.ProductInDwRefIdeal.τ) (Cert.ProductInDwRefIdeal.main (F := Ideal))) ⟨m', fun _ => 0, g'⟩ (fun r => ∀ c : Dev Cert.ProductInDwRefIdeal.nD,
          r.2.mem ((c.tc : Thread Cert.ProductInDwRefIdeal.nD Cert.ProductInDwRefIdeal.τ).loc Cert.ProductInDwRefIdeal.main_v10) = v0 c
          ∧ r.2.mem ((c.tc : Thread Cert.ProductInDwRefIdeal.nD Cert.ProductInDwRefIdeal.τ).loc Cert.ProductInDwRefIdeal.main_arg0) = m' ((c.tc : Thread Cert.ProductInDwRefIdeal.nD Cert.ProductInDwRefIdeal.τ).loc Cert.ProductInDwRefIdeal.main_arg0)
          ∧ r.2.mem ((c.tc : Thread Cert.ProductInDwRefIdeal.nD Cert.ProductInDwRefIdeal.τ).loc Cert.ProductInDwRefIdeal.main_arg1) = m' ((c.tc : Thread Cert.ProductInDwRefIdeal.nD Cert.ProductInDwRefIdeal.τ).loc Cert.ProductInDwRefIdeal.main_arg1)
          ∧ r.2.mem ((c.tc : Thread Cert.ProductInDwRefIdeal.nD Cert.ProductInDwRefIdeal.τ).loc Cert.ProductInDwRefIdeal.main_arg2) = m' ((c.tc : Thread Cert.ProductInDwRefIdeal.nD Cert.ProductInDwRefIdeal.τ).loc Cert.ProductInDwRefIdeal.main_arg2))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hNormMem : Cert.NormMem.Facts) (hNormMemIdeal : Cert.NormMemIdeal.Facts) (hNormMemRefIdeal : Cert.NormMemRefIdeal.Facts) (hNormTop : Cert.NormTop.Facts) (hNormTopIdeal : Cert.NormTopIdeal.Facts) (hNormTopRefIdeal : Cert.NormTopRefIdeal.Facts) (hNormLast : Cert.NormLast.Facts) (hNormLastIdeal : Cert.NormLastIdeal.Facts) (hNormLastRefIdeal : Cert.NormLastRefIdeal.Facts) (hNormMid : Cert.NormMid.Facts) (hNormMidIdeal : Cert.NormMidIdeal.Facts) (hNormMidRefIdeal : Cert.NormMidRefIdeal.Facts) (hAttnBwd : Cert.AttnBwd.Facts) (hAttnBwdIdeal : Cert.AttnBwdIdeal.Facts) (hAttnBwdRefIdeal : Cert.AttnBwdRefIdeal.Facts) (hMergeBwd : Cert.MergeBwd.Facts) (hMergeBwdIdeal : Cert.MergeBwdIdeal.Facts) (hMergeBwdRefIdeal : Cert.MergeBwdRefIdeal.Facts) (hMlpDx : Cert.MlpDx.Facts) (hMlpDxIdeal : Cert.MlpDxIdeal.Facts) (hMlpDxRefIdeal : Cert.MlpDxRefIdeal.Facts) (hMlpDw : Cert.MlpDw.Facts) (hMlpDwIdeal : Cert.MlpDwIdeal.Facts) (hMlpDwRefIdeal : Cert.MlpDwRefIdeal.Facts) (hNormLoss : Cert.NormLoss.Facts) (hNormLossIdeal : Cert.NormLossIdeal.Facts) (hNormLossRefIdeal : Cert.NormLossRefIdeal.Facts) (hBranchB : Cert.BranchB.Facts) (hBranchBIdeal : Cert.BranchBIdeal.Facts) (hBranchBRefIdeal : Cert.BranchBRefIdeal.Facts) (hAttnFwd : Cert.AttnFwd.Facts) (hAttnFwdIdeal : Cert.AttnFwdIdeal.Facts) (hAttnFwdRefIdeal : Cert.AttnFwdRefIdeal.Facts) (hNormFirst : Cert.NormFirst.Facts) (hNormFirstIdeal : Cert.NormFirstIdeal.Facts) (hNormFirstRefIdeal : Cert.NormFirstRefIdeal.Facts) (hNormMemFwd : Cert.NormMemFwd.Facts) (hNormMemFwdIdeal : Cert.NormMemFwdIdeal.Facts) (hNormMemFwdRefIdeal : Cert.NormMemFwdRefIdeal.Facts) (hNormMidFwd : Cert.NormMidFwd.Facts) (hNormMidFwdIdeal : Cert.NormMidFwdIdeal.Facts) (hNormMidFwdRefIdeal : Cert.NormMidFwdRefIdeal.Facts) (hBranchBFwd : Cert.BranchBFwd.Facts) (hBranchBFwdIdeal : Cert.BranchBFwdIdeal.Facts) (hBranchBFwdRefIdeal : Cert.BranchBFwdRefIdeal.Facts) (hMergeFwd : Cert.MergeFwd.Facts) (hMergeFwdIdeal : Cert.MergeFwdIdeal.Facts) (hMergeFwdRefIdeal : Cert.MergeFwdRefIdeal.Facts) (hMlpDown : Cert.MlpDown.Facts) (hMlpDownIdeal : Cert.MlpDownIdeal.Facts) (hMlpDownRefIdeal : Cert.MlpDownRefIdeal.Facts) (hBranchAFwd : Cert.BranchAFwd.Facts) (hBranchAFwdIdeal : Cert.BranchAFwdIdeal.Facts) (hBranchAFwdRefIdeal : Cert.BranchAFwdRefIdeal.Facts) (hBranchA : Cert.BranchA.Facts) (hBranchAIdeal : Cert.BranchAIdeal.Facts) (hBranchARefIdeal : Cert.BranchARefIdeal.Facts) (hProductIn : Cert.ProductIn.Facts) (hProductInIdeal : Cert.ProductInIdeal.Facts) (hProductInRefIdeal : Cert.ProductInRefIdeal.Facts) (hProductInDx : Cert.ProductInDx.Facts) (hProductInDxIdeal : Cert.ProductInDxIdeal.Facts) (hProductInDxRefIdeal : Cert.ProductInDxRefIdeal.Facts) (hProductInDw : Cert.ProductInDw.Facts) (hProductInDwIdeal : Cert.ProductInDwIdeal.Facts) (hProductInDwRefIdeal : Cert.ProductInDwRefIdeal.Facts) (hAdamw : Cert.Adamw.Facts) (hAdamwIdeal : Cert.AdamwIdeal.Facts) (hAdamwRefIdeal : Cert.AdamwRefIdeal.Facts) (hSumSmall : Cert.SumSmall.Facts) (hSumSmallIdeal : Cert.SumSmallIdeal.Facts) (hSumSmallRefIdeal : Cert.SumSmallRefIdeal.Facts) (hPre_finite_scores : Cert.Pre_finite_scores.Facts) (hOn_mask : Cert.On_mask.Facts),
    quiescent_NormMem (hNormMem := hNormMem)
    ∧ quiescent_NormMemIdeal (hNormMemIdeal := hNormMemIdeal)
    ∧ quiescent_NormMemRefIdeal (hNormMemRefIdeal := hNormMemRefIdeal)
    ∧ quiescent_NormTop (hNormTop := hNormTop)
    ∧ quiescent_NormTopIdeal (hNormTopIdeal := hNormTopIdeal)
    ∧ quiescent_NormTopRefIdeal (hNormTopRefIdeal := hNormTopRefIdeal)
    ∧ quiescent_NormLast (hNormLast := hNormLast)
    ∧ quiescent_NormLastIdeal (hNormLastIdeal := hNormLastIdeal)
    ∧ quiescent_NormLastRefIdeal (hNormLastRefIdeal := hNormLastRefIdeal)
    ∧ quiescent_NormMid (hNormMid := hNormMid)
    ∧ quiescent_NormMidIdeal (hNormMidIdeal := hNormMidIdeal)
    ∧ quiescent_NormMidRefIdeal (hNormMidRefIdeal := hNormMidRefIdeal)
    ∧ quiescent_AttnBwd (hAttnBwd := hAttnBwd)
    ∧ quiescent_AttnBwdIdeal (hAttnBwdIdeal := hAttnBwdIdeal)
    ∧ quiescent_AttnBwdIdeal_pre_finite_scores (hAttnBwdIdeal := hAttnBwdIdeal) (hPre_finite_scores := hPre_finite_scores)
    ∧ quiescent_AttnBwdRefIdeal (hAttnBwdRefIdeal := hAttnBwdRefIdeal)
    ∧ quiescent_AttnBwdRefIdeal_pre_finite_scores (hAttnBwdRefIdeal := hAttnBwdRefIdeal) (hPre_finite_scores := hPre_finite_scores)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MlpDx (hMlpDx := hMlpDx)
    ∧ quiescent_MlpDxIdeal (hMlpDxIdeal := hMlpDxIdeal)
    ∧ quiescent_MlpDxRefIdeal (hMlpDxRefIdeal := hMlpDxRefIdeal)
    ∧ quiescent_MlpDw (hMlpDw := hMlpDw)
    ∧ quiescent_MlpDwIdeal (hMlpDwIdeal := hMlpDwIdeal)
    ∧ quiescent_MlpDwRefIdeal (hMlpDwRefIdeal := hMlpDwRefIdeal)
    ∧ quiescent_NormLoss (hNormLoss := hNormLoss)
    ∧ quiescent_NormLossIdeal (hNormLossIdeal := hNormLossIdeal)
    ∧ quiescent_NormLossRefIdeal (hNormLossRefIdeal := hNormLossRefIdeal)
    ∧ quiescent_BranchB (hBranchB := hBranchB)
    ∧ quiescent_BranchBIdeal (hBranchBIdeal := hBranchBIdeal)
    ∧ quiescent_BranchBRefIdeal (hBranchBRefIdeal := hBranchBRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ quiescent_NormMemFwd (hNormMemFwd := hNormMemFwd)
    ∧ quiescent_NormMemFwdIdeal (hNormMemFwdIdeal := hNormMemFwdIdeal)
    ∧ quiescent_NormMemFwdRefIdeal (hNormMemFwdRefIdeal := hNormMemFwdRefIdeal)
    ∧ quiescent_NormMidFwd (hNormMidFwd := hNormMidFwd)
    ∧ quiescent_NormMidFwdIdeal (hNormMidFwdIdeal := hNormMidFwdIdeal)
    ∧ quiescent_NormMidFwdRefIdeal (hNormMidFwdRefIdeal := hNormMidFwdRefIdeal)
    ∧ quiescent_BranchBFwd (hBranchBFwd := hBranchBFwd)
    ∧ quiescent_BranchBFwdIdeal (hBranchBFwdIdeal := hBranchBFwdIdeal)
    ∧ quiescent_BranchBFwdRefIdeal (hBranchBFwdRefIdeal := hBranchBFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_BranchAFwd (hBranchAFwd := hBranchAFwd)
    ∧ quiescent_BranchAFwdIdeal (hBranchAFwdIdeal := hBranchAFwdIdeal)
    ∧ quiescent_BranchAFwdRefIdeal (hBranchAFwdRefIdeal := hBranchAFwdRefIdeal)
    ∧ quiescent_BranchA (hBranchA := hBranchA)
    ∧ quiescent_BranchAIdeal (hBranchAIdeal := hBranchAIdeal)
    ∧ quiescent_BranchARefIdeal (hBranchARefIdeal := hBranchARefIdeal)
    ∧ quiescent_ProductIn (hProductIn := hProductIn)
    ∧ quiescent_ProductInIdeal (hProductInIdeal := hProductInIdeal)
    ∧ quiescent_ProductInRefIdeal (hProductInRefIdeal := hProductInRefIdeal)
    ∧ quiescent_ProductInDx (hProductInDx := hProductInDx)
    ∧ quiescent_ProductInDxIdeal (hProductInDxIdeal := hProductInDxIdeal)
    ∧ quiescent_ProductInDxRefIdeal (hProductInDxRefIdeal := hProductInDxRefIdeal)
    ∧ quiescent_ProductInDw (hProductInDw := hProductInDw)
    ∧ quiescent_ProductInDwIdeal (hProductInDwIdeal := hProductInDwIdeal)
    ∧ quiescent_ProductInDwRefIdeal (hProductInDwRefIdeal := hProductInDwRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_NormMem_NormMemIdeal
    ∧ algebraic_NormMemIdeal_NormMemRefIdeal (hNormMemIdeal := hNormMemIdeal) (hNormMemRefIdeal := hNormMemRefIdeal)
    ∧ preserves_NormTop_NormTopIdeal
    ∧ algebraic_NormTopIdeal_NormTopRefIdeal (hNormTopIdeal := hNormTopIdeal) (hNormTopRefIdeal := hNormTopRefIdeal)
    ∧ preserves_NormLast_NormLastIdeal
    ∧ algebraic_NormLastIdeal_NormLastRefIdeal (hNormLastIdeal := hNormLastIdeal) (hNormLastRefIdeal := hNormLastRefIdeal)
    ∧ preserves_NormMid_NormMidIdeal
    ∧ algebraic_NormMidIdeal_NormMidRefIdeal (hNormMidIdeal := hNormMidIdeal) (hNormMidRefIdeal := hNormMidRefIdeal)
    ∧ preserves_AttnBwd_AttnBwdIdeal
    ∧ algebraic_AttnBwdIdeal_AttnBwdRefIdeal_pre_finite_scores (hAttnBwdIdeal := hAttnBwdIdeal) (hAttnBwdRefIdeal := hAttnBwdRefIdeal) (hPre_finite_scores := hPre_finite_scores)
    ∧ preserves_MergeBwd_MergeBwdIdeal
    ∧ algebraic_MergeBwdIdeal_MergeBwdRefIdeal_on_mask (hMergeBwdIdeal := hMergeBwdIdeal) (hMergeBwdRefIdeal := hMergeBwdRefIdeal) (hOn_mask := hOn_mask)
    ∧ preserves_MlpDx_MlpDxIdeal
    ∧ algebraic_MlpDxIdeal_MlpDxRefIdeal (hMlpDxIdeal := hMlpDxIdeal) (hMlpDxRefIdeal := hMlpDxRefIdeal)
    ∧ preserves_MlpDw_MlpDwIdeal
    ∧ algebraic_MlpDwIdeal_MlpDwRefIdeal (hMlpDwIdeal := hMlpDwIdeal) (hMlpDwRefIdeal := hMlpDwRefIdeal)
    ∧ preserves_NormLoss_NormLossIdeal
    ∧ algebraic_NormLossIdeal_NormLossRefIdeal (hNormLossIdeal := hNormLossIdeal) (hNormLossRefIdeal := hNormLossRefIdeal)
    ∧ preserves_BranchB_BranchBIdeal
    ∧ algebraic_BranchBIdeal_BranchBRefIdeal (hBranchBIdeal := hBranchBIdeal) (hBranchBRefIdeal := hBranchBRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_NormFirst_NormFirstIdeal
    ∧ algebraic_NormFirstIdeal_NormFirstRefIdeal (hNormFirstIdeal := hNormFirstIdeal) (hNormFirstRefIdeal := hNormFirstRefIdeal)
    ∧ preserves_NormMemFwd_NormMemFwdIdeal
    ∧ algebraic_NormMemFwdIdeal_NormMemFwdRefIdeal (hNormMemFwdIdeal := hNormMemFwdIdeal) (hNormMemFwdRefIdeal := hNormMemFwdRefIdeal)
    ∧ preserves_NormMidFwd_NormMidFwdIdeal
    ∧ algebraic_NormMidFwdIdeal_NormMidFwdRefIdeal (hNormMidFwdIdeal := hNormMidFwdIdeal) (hNormMidFwdRefIdeal := hNormMidFwdRefIdeal)
    ∧ preserves_BranchBFwd_BranchBFwdIdeal
    ∧ algebraic_BranchBFwdIdeal_BranchBFwdRefIdeal (hBranchBFwdIdeal := hBranchBFwdIdeal) (hBranchBFwdRefIdeal := hBranchBFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MlpDown_MlpDownIdeal
    ∧ algebraic_MlpDownIdeal_MlpDownRefIdeal (hMlpDownIdeal := hMlpDownIdeal) (hMlpDownRefIdeal := hMlpDownRefIdeal)
    ∧ preserves_BranchAFwd_BranchAFwdIdeal
    ∧ algebraic_BranchAFwdIdeal_BranchAFwdRefIdeal (hBranchAFwdIdeal := hBranchAFwdIdeal) (hBranchAFwdRefIdeal := hBranchAFwdRefIdeal)
    ∧ preserves_BranchA_BranchAIdeal
    ∧ preserves_ProductIn_ProductInIdeal
    ∧ algebraic_ProductInIdeal_ProductInRefIdeal (hProductInIdeal := hProductInIdeal) (hProductInRefIdeal := hProductInRefIdeal)
    ∧ preserves_ProductInDx_ProductInDxIdeal
    ∧ algebraic_ProductInDxIdeal_ProductInDxRefIdeal (hProductInDxIdeal := hProductInDxIdeal) (hProductInDxRefIdeal := hProductInDxRefIdeal)
    ∧ preserves_ProductInDw_ProductInDwIdeal
    ∧ algebraic_ProductInDwIdeal_ProductInDwRefIdeal (hProductInDwIdeal := hProductInDwIdeal) (hProductInDwRefIdeal := hProductInDwRefIdeal)
    ∧ preserves_Adamw_AdamwIdeal
    ∧ algebraic_AdamwIdeal_AdamwRefIdeal (hAdamwIdeal := hAdamwIdeal) (hAdamwRefIdeal := hAdamwRefIdeal)
    ∧ preserves_SumSmall_SumSmallIdeal
    ∧ algebraic_SumSmallIdeal_SumSmallRefIdeal (hSumSmallIdeal := hSumSmallIdeal) (hSumSmallRefIdeal := hSumSmallRefIdeal)
-- ==== On_mask.lean ====
abbrev S8192x2048 : Shape := ⟨2, ![8192, 2048]⟩
abbrev S8192x12288 : Shape := ⟨2, ![8192, 12288]⟩
abbrev S_ : Shape := ⟨0, ![]⟩

class Facts : Prop where
  bcast_S_S8192x12288 : S_.BroadcastsInDim S8192x12288 (![] : Fin 0 → Fin S8192x12288.rank)
  bcast_S_S8192x2048 : S_.BroadcastsInDim S8192x2048 (![] : Fin 0 → Fin S8192x2048.rank)

variable [Facts]

def fn {F : FTy → Type} [FloatOps F] (main_arg0 : FVec F S8192x2048 .bf16) (main_arg1 : FVec F S8192x12288 .bf16) (main_arg2 : FVec F S8192x2048 .bf16) (main_arg3 : FVec F S8192x2048 .bf16) (main_arg4 : FVec F S8192x2048 .bf16) : IVec S8192x12288 1 × IVec S8192x2048 1 × IVec S8192x2048 1 × IVec S8192x2048 1 :=
  let main_v0 : IVec S8192x12288 32 := iotaInDim S8192x12288 32 1
  let main_c : IVec S_ 32 := constantI S_ 32 6144#32
  let main_v1 : IVec S8192x12288 32 := broadcastInDim S8192x12288 ![] bcast_S_S8192x12288 main_c
  let main_v2 : IVec S8192x12288 1 := cmpi .sge main_v0 main_v1
  let main_v3 : IVec S8192x2048 32 := iotaInDim S8192x2048 32 0
  let main_c_0 : IVec S_ 32 := constantI S_ 32 0#32
  let main_v4 : IVec S8192x2048 32 := broadcastInDim S8192x2048 ![] bcast_S_S8192x2048 main_c_0
  let main_v5 : IVec S8192x2048 1 := cmpi .sge main_v3 main_v4
  (main_v2, main_v5, main_v5, main_v5)
-- ==== Pre_finite_scores.lean ====
abbrev S8192x12288 : Shape := ⟨2, ![8192, 12288]⟩
abbrev S8192x1024 : Shape := ⟨2, ![8192, 1024]⟩
abbrev S256x2048 : Shape := ⟨2, ![256, 2048]⟩
abbrev S_ : Shape := ⟨0, ![]⟩
abbrev S256x1024 : Shape := ⟨2, ![256, 1024]⟩

class Facts : Prop where
  slices_S8192x12288_S8192x1024_0_5120 : S8192x12288.Slices ![0, 5120] S8192x1024
  bcast_S_S8192x1024 : S_.BroadcastsInDim S8192x1024 (![] : Fin 0 → Fin S8192x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S8192x12288 .bf16) (main_arg1 : FVec F S8192x1024 .bf16) (main_arg2 : FVec F S8192x12288 .bf16) (main_arg3 : FVec F S256x2048 .bf16) : IVec S8192x1024 1 × IVec S256x1024 1 :=
  let main_v0 : FVec F S8192x1024 .bf16 := (extractStridedSlice S8192x1024 ![0, 5120] · slices_S8192x12288_S8192x1024_0_5120) main_arg2
  let main_v1 : FVec F S8192x1024 .bf16 := Host.absf main_v0
  let main_cst : FVec F S_ .bf16 := constant S_ .bf16 0x7F80#16
  let main_v2 : FVec F S8192x1024 .bf16 := broadcastInDim S8192x1024 ![] bcast_S_S8192x1024 main_cst
  let main_v3 : IVec S8192x1024 1 := cmpf .olt main_v1 main_v2
  let main_v4 : FVec F S256x1024 .bf16 := (extractStridedSlice S256x1024 ![0, 0] · slices_S256x2048_S256x1024_0_0) main_arg3
  let main_v5 : FVec F S256x1024 .bf16 := Host.absf main_v4
  let main_cst_0 : FVec F S_ .bf16 := constant S_ .bf16 0x7F80#16
  let main_v6 : FVec F S256x1024 .bf16 := broadcastInDim S256x1024 ![] bcast_S_S256x1024 main_cst_0
  let main_v7 : IVec S256x1024 1 := cmpf .olt main_v5 main_v6
  (main_v3, main_v7)
-- ==== NormMem.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormMemRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S2048, .f32⟩
  | .hbm, ⟨21, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== NormTop.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormTopRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== NormLast.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormLastRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== NormMid.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S256x2048, .bf16⟩
  | .local _ .vmem, ⟨18, _⟩ => ⟨S256x2048, .bf16⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S1x2048, .f32⟩
  | .local _ .vmem, ⟨25, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg9_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== NormMidRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x2048, .f32⟩
  | .hbm, ⟨83, _⟩ => ⟨S8192x2048, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== AttnBwd.lean ====
abbrev S8192x12288 : Shape := ⟨2, ![8192, 12288]⟩
abbrev S8192x1024 : Shape := ⟨2, ![8192, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x12288, .bf16⟩
  | .hbm, ⟨1, _⟩ => ⟨S8192x1024, .bf16⟩
  | .hbm, ⟨2, _⟩ => ⟨S8192x12288, .bf16⟩
  | .hbm, ⟨3, _⟩ => ⟨S256x2048, .bf16⟩
  | .hbm, ⟨4, _⟩ => ⟨S8192x12288, .bf16⟩
  | .hbm, ⟨5, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttnBwdRefIdeal.lean ====
abbrev S8192x12288 : Shape := ⟨2, ![8192, 12288]⟩
abbrev S8192x1024 : Shape := ⟨2, ![8192, 1024]⟩
abbrev S256x2048 : Shape := ⟨2, ![256, 2048]⟩
abbrev S8192x6144 : Shape := ⟨2, ![8192, 6144]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S8192x5120 : Shape := ⟨2, ![8192, 5120]⟩

abbrev nBuf : Space → Nat
  | .hbm => 98
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S8192x1024, .bf16⟩
  | .hbm, ⟨2, _⟩ => ⟨S8192x12288, .bf16⟩
  | .hbm, ⟨3, _⟩ => ⟨S256x2048, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x6144, .bf16⟩
  | .hbm, ⟨11, _⟩ => ⟨S8192x1024, .f32⟩
  | .hbm, ⟨12, _⟩ => ⟨S256x2048, .f32⟩
  | .hbm, ⟨13, _⟩ => ⟨S256x1024, .f32⟩
  | .hbm, ⟨14, _⟩ => ⟨S256x1024, .f32⟩
  | .hbm, ⟨15, _⟩ => ⟨S8192x4x256, .f32⟩
  | .hbm, ⟨16, _⟩ => ⟨S256x4x256, .f32⟩
  | .hbm, ⟨17, _⟩ => ⟨S256x4x256, .f32⟩
  | .hbm, ⟨18, _⟩ => ⟨S4x8192x256, .f32⟩
  | .hbm, ⟨19, _⟩ => ⟨S_, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .i1⟩
  | .hbm, ⟨27, _⟩ => ⟨S4x8192x256, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .i1⟩
  | .hbm, ⟨36, _⟩ => ⟨S_, .f32⟩
  | .hbm, ⟨37, _⟩ => ⟨S4x8192, .f32⟩
  | .hbm, ⟨38, _⟩ => ⟨S4x8192, .i1⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192, .f32⟩
  | .hbm, ⟨47, _⟩ => ⟨S4x8192x1, .f32⟩
  | .hbm, ⟨48, _⟩ => ⟨S4x8192x256, .f32⟩
  | .hbm, ⟨49, _⟩ => ⟨S4x8192x256, .f32⟩
  | .hbm, ⟨50, _⟩ => ⟨S4x8192x256, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S4x8192x256, .f32⟩
  | .hbm, ⟨55, _⟩ => ⟨S4x8192x256, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x256x8192, .f32⟩
  | .hbm, ⟨61, _⟩ => ⟨S8192x4x256, .f32⟩
  | .hbm, ⟨62, _⟩ => ⟨S8192x1024, .f32⟩
  | .hbm, ⟨63, _⟩ => ⟨S8192x1024, .f32⟩
  | .hbm, ⟨64, _⟩ => ⟨S8192x4x256, .f32⟩
  | .hbm, ⟨65, _⟩ => ⟨S4x256x8192, .f32⟩
  | .hbm, ⟨66, _⟩ => ⟨S4x8192x256, .f32⟩
  | .hbm, ⟨67, _⟩ => ⟨S4x256x256, .f32⟩
  | .hbm, ⟨68, _⟩ => ⟨S256x4x256, .f32⟩
  | .hbm, ⟨69, _⟩ => ⟨S4x8192x256, .f32⟩
  | .hbm, ⟨70, _⟩ => ⟨S4x8192x256, .f32⟩
  | .hbm, ⟨71, _⟩ => ⟨S4x8192x256, .f32⟩
  | .hbm, ⟨72, _⟩ => ⟨S_, .f32⟩
  | .hbm, ⟨73, _⟩ => ⟨S4x8192, .f32⟩
  | .hbm, ⟨74, _⟩ => ⟨S4x8192x1, .f32⟩
  | .hbm, ⟨75, _⟩ => ⟨S4x8192x1, .f32⟩
  | .hbm, ⟨76, _⟩ => ⟨S4x8192x256, .f32⟩
  | .hbm, ⟨77, _⟩ => ⟨S4x8192x256, .f32⟩
  | .hbm, ⟨78, _⟩ => ⟨S_, .f32⟩
  | .hbm, ⟨79, _⟩ => ⟨S4x8192, .f32⟩
  | .hbm, ⟨80, _⟩ => ⟨S4x8192x256, .f32⟩
  | .hbm, ⟨81, _⟩ => ⟨S4x8192x256, .f32⟩
  | .hbm, ⟨82, _⟩ => ⟨S4x8192x256, .f32⟩
  | .hbm, ⟨83, _⟩ => ⟨S_, .f32⟩
  | .hbm, ⟨84, _⟩ => ⟨S4x8192x256, .f32⟩
  | .hbm, ⟨85, _⟩ => ⟨S4x8192x256, .f32⟩
  | .hbm, ⟨86, _⟩ => ⟨S4x256x256, .f32⟩
  | .hbm, ⟨87, _⟩ => ⟨S256x4x256, .f32⟩
  | .hbm, ⟨88, _⟩ => ⟨S4x8192x256, .f32⟩
  | .hbm, ⟨89, _⟩ => ⟨S8192x4x256, .f32⟩
  | .hbm, ⟨90, _⟩ => ⟨S256x1024, .f32⟩
  | .hbm, ⟨91, _⟩ => ⟨S256x1024, .f32⟩
  | .hbm, ⟨92, _⟩ => ⟨S8192x1024, .f32⟩
  | .hbm, ⟨93, _⟩ => ⟨S256x2048, .f32⟩
  | .hbm, ⟨94, _⟩ => ⟨S8192x5120, .bf16⟩
  | .hbm, ⟨95, _⟩ => ⟨S8192x1024, .bf16⟩
  | .hbm, ⟨96, _⟩ => ⟨S8192x6144, .bf16⟩
  | .hbm, ⟨97, _⟩ => ⟨S8192x12288, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== MergeBwd.lean ====
abbrev S8192x2048 : Shape := ⟨2, ![8192, 2048]⟩
abbrev S8192x12288 : Shape := ⟨2, ![8192, 12288]⟩
abbrev S256x2048 : Shape := ⟨2, ![256, 2048]⟩
abbrev S256x6144 : Shape := ⟨2, ![256, 6144]⟩

abbrev nBuf : Space → Nat
  | .hbm => 9
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x12288, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x6144, .bf16⟩
  | .local _ .vmem, ⟨3, _⟩ => ⟨S256x6144, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x6144, .bf16⟩
  | .local _ .vmem, ⟨11, _⟩ => ⟨S256x6144, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S8192x2048 : Shape := ⟨2, ![8192, 2048]⟩
abbrev S8192x12288 : Shape := ⟨2, ![8192, 12288]⟩
abbrev S8192x1024 : Shape := ⟨2, ![8192, 1024]⟩
abbrev S8192x6144 : Shape := ⟨2, ![8192, 6144]⟩
abbrev S_ : Shape := ⟨0, ![]⟩
abbrev S8192x3x2048 : Shape := ⟨3, ![8192, 3, 2048]⟩
abbrev S8192x1x2048 : Shape := ⟨3, ![8192, 1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x6144, .bf16⟩
  | .hbm, ⟨12, _⟩ => ⟨S8192x6144, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x6144, .f32⟩
  | .hbm, ⟨17, _⟩ => ⟨S8192x6144, .f32⟩
  | .hbm, ⟨18, _⟩ => ⟨S_, .f32⟩
  | .hbm, ⟨19, _⟩ => ⟨S8192x6144, .f32⟩
  | .hbm, ⟨20, _⟩ => ⟨S8192x6144, .f32⟩
  | .hbm, ⟨21, _⟩ => ⟨S_, .f32⟩
  | .hbm, ⟨22, _⟩ => ⟨S8192x6144, .f32⟩
  | .hbm, ⟨23, _⟩ => ⟨S8192x6144, .f32⟩
  | .hbm, ⟨24, _⟩ => ⟨S_, .f32⟩
  | .hbm, ⟨25, _⟩ => ⟨S8192x6144, .f32⟩
  | .hbm, ⟨26, _⟩ => ⟨S8192x6144, .f32⟩
  | .hbm, ⟨27, _⟩ => ⟨S8192x6144, .f32⟩
  | .hbm, ⟨28, _⟩ => ⟨S8192x3x2048, .f32⟩
  | .hbm, ⟨29, _⟩ => ⟨S8192x1x2048, .f32⟩
  | .hbm, ⟨30, _⟩ => ⟨S8192x2048, .f32⟩
  | .hbm, ⟨31, _⟩ => ⟨S8192x2048, .f32⟩
  | .hbm, ⟨32, _⟩ => ⟨S8192x1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x1x2048, .f32⟩
  | .hbm, ⟨44, _⟩ => ⟨S_, .f32⟩
  | .hbm, ⟨45, _⟩ => ⟨S8192x3x2048, .f32⟩
  | .hbm, ⟨46, _⟩ => ⟨S8192x2048, .f32⟩
  | .hbm, ⟨47, _⟩ => ⟨S8192x2048, .f32⟩
  | .hbm, ⟨48, _⟩ => ⟨S8192x1x2048, .f32⟩
  | .hbm, ⟨49, _⟩ => ⟨S_, .f32⟩
  | .hbm, ⟨50, _⟩ => ⟨S8192x3x2048, .f32⟩
  | .hbm, ⟨51, _⟩ => ⟨S8192x3x2048, .f32⟩
  | .hbm, ⟨52, _⟩ => ⟨S8192x2048, .f32⟩
  | .hbm, ⟨53, _⟩ => ⟨S8192x2048, .f32⟩
  | .hbm, ⟨54, _⟩ => ⟨S8192x1x2048, .f32⟩
  | .hbm, ⟨55, _⟩ => ⟨S_, .f32⟩
  | .hbm, ⟨56, _⟩ => ⟨S8192x3x2048, .f32⟩
  | .hbm, ⟨57, _⟩ => ⟨S8192x3x2048, .f32⟩
  | .hbm, ⟨58, _⟩ => ⟨S8192x6144, .f32⟩
  | .hbm, ⟨59, _⟩ => ⟨S8192x6144, .f32⟩
  | .hbm, ⟨60, _⟩ => ⟨S8192x6144, .bf16⟩
  | .hbm, ⟨61, _⟩ => ⟨S8192x2048, .bf16⟩
  | .hbm, ⟨62, _⟩ => ⟨S8192x2048, .bf16⟩
  | .hbm, ⟨63, _⟩ => ⟨S8192x2048, .bf16⟩
  | .hbm, ⟨64, _⟩ => ⟨S_, .i32⟩
  | .hbm, ⟨65, _⟩ => ⟨S_, .bf16⟩
  | .hbm, ⟨66, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c : Ref sig .tc := ⟨.hbm, 64, rfl⟩
abbrev main_call0_v0 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== MlpDx.lean ====
abbrev S8192x8192 : Shape := ⟨2, ![8192, 8192]⟩
abbrev S1x8192x2048 : Shape := ⟨3, ![1, 8192, 2048]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDxRefIdeal.lean ====
abbrev S8192x8192 : Shape := ⟨2, ![8192, 8192]⟩
abbrev S1x8192x2048 : Shape := ⟨3, ![1, 8192, 2048]⟩
abbrev S8192x2048 : Shape := ⟨2, ![8192, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x2048, .f32⟩
  | .hbm, ⟨19, _⟩ => ⟨S8192x2048, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== MlpDw.lean ====
abbrev S8192x8192 : Shape := ⟨2, ![8192, 8192]⟩
abbrev S1x8192x2048 : Shape := ⟨3, ![1, 8192, 2048]⟩
abbrev S8192x2048 : Shape := ⟨2, ![8192, 2048]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x2048, .bf16⟩
  | .hbm, ⟨3, _⟩ => ⟨S1x8192x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S1x512x512, .bf16⟩
  | .local _ .vmem, ⟨5, _⟩ => ⟨S1x512x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwRefIdeal.lean ====
abbrev S8192x8192 : Shape := ⟨2, ![8192, 8192]⟩
abbrev S1x8192x2048 : Shape := ⟨3, ![1, 8192, 2048]⟩
abbrev S8192x2048 : Shape := ⟨2, ![8192, 2048]⟩
abbrev S_ : Shape := ⟨0, ![]⟩
abbrev S2048x8192 : Shape := ⟨2, ![2048, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x2048, .bf16⟩
  | .hbm, ⟨3, _⟩ => ⟨S1x8192x2048, .f32⟩
  | .hbm, ⟨4, _⟩ => ⟨S8192x8192, .f32⟩
  | .hbm, ⟨5, _⟩ => ⟨S8192x2048, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x2048, .f32⟩
  | .hbm, ⟨11, _⟩ => ⟨S8192x2048, .f32⟩
  | .hbm, ⟨12, _⟩ => ⟨S2048x8192, .f32⟩
  | .hbm, ⟨13, _⟩ => ⟨S8192x2048, .f32⟩
  | .hbm, ⟨14, _⟩ => ⟨S1x8192x2048, .f32⟩
  | .hbm, ⟨15, _⟩ => ⟨S1x8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== NormLoss.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormLossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== BranchB.lean ====
abbrev S8192x12288 : Shape := ⟨2, ![8192, 12288]⟩
abbrev S8192x1024 : Shape := ⟨2, ![8192, 1024]⟩
abbrev S3x1024 : Shape := ⟨2, ![3, 1024]⟩
abbrev S256x1024 : Shape := ⟨2, ![256, 1024]⟩
abbrev S32x1024 : Shape := ⟨2, ![32, 1024]⟩
abbrev S288x1024 : Shape := ⟨2, ![288, 1024]⟩
abbrev S3x256x1024 : Shape := ⟨3, ![3, 256, 1024]⟩
abbrev S1x1024 : Shape := ⟨2, ![1, 1024]⟩
abbrev S1024 : Shape := ⟨1, ![1024]⟩
abbrev S1x256x1024 : Shape := ⟨3, ![1, 256, 1024]⟩

abbrev nBuf : Space → Nat
  | .hbm => 6
  | .vmem => 23
  | .smem => 0
  | _ => 0

abbrev bufTy : (tb : Table) → Fin (tcTables nBuf tb) → BufTy
  | .hbm, ⟨0, _⟩ => ⟨S8192x12288, .bf16⟩
  | .hbm, ⟨1, _⟩ => ⟨S8192x1024, .bf16⟩
  | .hbm, ⟨2, _⟩ => ⟨S8192x12288, .bf16⟩
  | .hbm, ⟨3, _⟩ => ⟨S3x1024, .f32⟩
  | .hbm, ⟨4, _⟩ => ⟨S8192x12288, .bf16⟩
  | .hbm, ⟨5, _⟩ => ⟨S3x1024, .f32⟩
  | .local _ .vmem, ⟨0, _⟩ => ⟨S256x1024, .bf16⟩
  | .local _ .vmem, ⟨1, _⟩ => ⟨S256x1024, .bf16⟩
  | .local _ .vmem, ⟨2, _⟩ => ⟨S32x1024, .bf16⟩
  | .local _ .vmem, ⟨3, _⟩ => ⟨S32x1024, .bf16⟩
  | .local _ .vmem, ⟨4, _⟩ => ⟨S256x1024, .bf16⟩
  | .local _ .vmem, ⟨5, _⟩ => ⟨S256x1024, .bf16⟩
  | .local _ .vmem, ⟨6, _⟩ => ⟨S32x1024, .bf16⟩
  | .local _ .vmem, ⟨7, _⟩ => ⟨S32x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S32x1024, .bf16⟩
  | .local _ .vmem, ⟨13, _⟩ => ⟨S32x1024, .bf16⟩
  | .local _ .vmem, ⟨14, _⟩ => ⟨S32x1024, .bf16⟩
  | .local _ .vmem, ⟨15, _⟩ => ⟨S32x1024, .bf16⟩
  | .local _ .vmem, ⟨16, _⟩ => ⟨S3x1024, .f32⟩
  | .local _ .vmem, ⟨17, _⟩ => ⟨S256x1024, .bf16⟩
  | .local _ .vmem, ⟨18, _⟩ => ⟨S256x1024, .bf16⟩
  | .local _ .vmem, ⟨19, _⟩ => ⟨S3x1024, .f32⟩
  | .local _ .vmem, ⟨20, _⟩ => ⟨S288x1024, .f32⟩
  | .local _ .vmem, ⟨21, _⟩ => ⟨S288x1024, .f32⟩
  | .local _ .vmem, ⟨22, _⟩ => ⟨S3x256x1024, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![32, 3], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_28 : BitVec 32 := 0#32
  let v45 : BitVec 1 := Scalar.cmpi .eq arg0 c0_i32_28
  let v46 : BitVec 32 := Scalar.extui v45
  let c0_i32_29 : BitVec 32 := 0#32
  let v47 : BitVec 1 := Scalar.cmpi .ne v46 c0_i32_29
  v47

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== BranchBRefIdeal.lean ====
abbrev S8192x12288 : Shape := ⟨2, ![8192, 12288]⟩
abbrev S8192x1024 : Shape := ⟨2, ![8192, 1024]⟩
abbrev S3x1024 : Shape := ⟨2, ![3, 1024]⟩
abbrev S8192x6144 : Shape := ⟨2, ![8192, 6144]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8192x2048 : Shape := ⟨2, ![8192, 2048]⟩
abbrev S8192x7168 : Shape := ⟨2, ![8192, 7168]⟩

abbrev nBuf : Space → Nat
  | .hbm => 100
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S8192x1024, .bf16⟩
  | .hbm, ⟨2, _⟩ => ⟨S8192x12288, .bf16⟩
  | .hbm, ⟨3, _⟩ => ⟨S3x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x6144, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S2x1024, .f32⟩
  | .hbm, ⟨17, _⟩ => ⟨S8194x1024, .f32⟩
  | .hbm, ⟨18, _⟩ => ⟨S_, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S_, .f32⟩
  | .hbm, ⟨56, _⟩ => ⟨S8194x1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S_, .f32⟩
  | .hbm, ⟨69, _⟩ => ⟨S8194x1024, .f32⟩
  | .hbm, ⟨70, _⟩ => ⟨S8194x1024, .f32⟩
  | .hbm, ⟨71, _⟩ => ⟨S1x1024, .f32⟩
  | .hbm, ⟨72, _⟩ => ⟨S_, .f32⟩
  | .hbm, ⟨73, _⟩ => ⟨S3x1024, .f32⟩
  | .hbm, ⟨74, _⟩ => ⟨S3x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S1024, .f32⟩
  | .hbm, ⟨83, _⟩ => ⟨S_, .f32⟩
  | .hbm, ⟨84, _⟩ => ⟨S8194x1024, .f32⟩
  | .hbm, ⟨85, _⟩ => ⟨S8194x1024, .f32⟩
  | .hbm, ⟨86, _⟩ => ⟨S1x1024, .f32⟩
  | .hbm, ⟨87, _⟩ => ⟨S_, .f32⟩
  | .hbm, ⟨88, _⟩ => ⟨S3x1024, .f32⟩
  | .hbm, ⟨89, _⟩ => ⟨S3x1024, .f32⟩
  | .hbm, ⟨90, _⟩ => ⟨S2x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .bf16⟩
  | .hbm, ⟨95, _⟩ => ⟨S8192x1024, .bf16⟩
  | .hbm, ⟨96, _⟩ => ⟨S8192x1024, .bf16⟩
  | .hbm, ⟨97, _⟩ => ⟨S8192x2048, .bf16⟩
  | .hbm, ⟨98, _⟩ => ⟨S8192x7168, .bf16⟩
  | .hbm, ⟨99, _⟩ => ⟨S8192x12288, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== AttnFwd.lean ====
abbrev S8192x12288 : Shape := ⟨2, ![8192, 12288]⟩
abbrev S256x2048 : Shape := ⟨2, ![256, 2048]⟩
abbrev S8192x1024 : Shape := ⟨2, ![8192, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x12288, .bf16⟩
  | .hbm, ⟨1, _⟩ => ⟨S256x2048, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnFwdRefIdeal.lean ====
abbrev S8192x12288 : Shape := ⟨2, ![8192, 12288]⟩
abbrev S256x2048 : Shape := ⟨2, ![256, 2048]⟩
abbrev S8192x1024 : Shape := ⟨2, ![8192, 1024]⟩
abbrev S8192x6144 : Shape := ⟨2, ![8192, 6144]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S256x2048, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x6144, .bf16⟩
  | .hbm, ⟨9, _⟩ => ⟨S8192x1024, .f32⟩
  | .hbm, ⟨10, _⟩ => ⟨S256x2048, .f32⟩
  | .hbm, ⟨11, _⟩ => ⟨S256x1024, .f32⟩
  | .hbm, ⟨12, _⟩ => ⟨S256x1024, .f32⟩
  | .hbm, ⟨13, _⟩ => ⟨S8192x4x256, .f32⟩
  | .hbm, ⟨14, _⟩ => ⟨S256x4x256, .f32⟩
  | .hbm, ⟨15, _⟩ => ⟨S256x4x256, .f32⟩
  | .hbm, ⟨16, _⟩ => ⟨S4x8192x256, .f32⟩
  | .hbm, ⟨17, _⟩ => ⟨S_, .f32⟩
  | .hbm, ⟨18, _⟩ => ⟨S4x8192x256, .f32⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S4x8192x1, .f32⟩
  | .hbm, ⟨26, _⟩ => ⟨S4x8192x256, .f32⟩
  | .hbm, ⟨27, _⟩ => ⟨S4x8192x256, .f32⟩
  | .hbm, ⟨28, _⟩ => ⟨S4x8192x256, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S4x8192x256, .f32⟩
  | .hbm, ⟨33, _⟩ => ⟨S4x8192x256, .f32⟩
  | .hbm, ⟨34, _⟩ => ⟨S4x256x8192, .f32⟩
  | .hbm, ⟨35, _⟩ => ⟨S8192x4x256, .f32⟩
  | .hbm, ⟨36, _⟩ => ⟨S8192x1024, .f32⟩
  | .hbm, ⟨37, _⟩ => ⟨S8192x1024, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== NormFirst.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFirstRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMemFwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemFwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMidFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormMidFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== BranchBFwd.lean ====
abbrev S8192x12288 : Shape := ⟨2, ![8192, 12288]⟩
abbrev S3x1024 : Shape := ⟨2, ![3, 1024]⟩
abbrev S8192x1024 : Shape := ⟨2, ![8192, 1024]⟩
abbrev S256x1024 : Shape := ⟨2, ![256, 1024]⟩
abbrev S32x1024 : Shape := ⟨2, ![32, 1024]⟩
abbrev S288x1024 : Shape := ⟨2, ![288, 1024]⟩
abbrev S1x1024 : Shape := ⟨2, ![1, 1024]⟩

abbrev nBuf : Space → Nat
  | .hbm => 3
  | .vmem => 14
  | .smem => 0
  | _ => 0

abbrev bufTy : (tb : Table) → Fin (tcTables nBuf tb) → BufTy
  | .hbm, ⟨0, _⟩ => ⟨S8192x12288, .bf16⟩
  | .hbm, ⟨1, _⟩ => ⟨S3x1024, .f32⟩
  | .hbm, ⟨2, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S32x1024, .bf16⟩
  | .local _ .vmem, ⟨7, _⟩ => ⟨S32x1024, .bf16⟩
  | .local _ .vmem, ⟨8, _⟩ => ⟨S32x1024, .bf16⟩
  | .local _ .vmem, ⟨9, _⟩ => ⟨S32x1024, .bf16⟩
  | .local _ .vmem, ⟨10, _⟩ => ⟨S3x1024, .f32⟩
  | .local _ .vmem, ⟨11, _⟩ => ⟨S256x1024, .bf16⟩
  | .local _ .vmem, ⟨12, _⟩ => ⟨S256x1024, .bf16⟩
  | .local _ .vmem, ⟨13, _⟩ => ⟨S288x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BranchBFwdRefIdeal.lean ====
abbrev S8192x12288 : Shape := ⟨2, ![8192, 12288]⟩
abbrev S3x1024 : Shape := ⟨2, ![3, 1024]⟩
abbrev S8192x1024 : Shape := ⟨2, ![8192, 1024]⟩
abbrev S8192x6144 : Shape := ⟨2, ![8192, 6144]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S3x1024, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x6144, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S2x1024, .f32⟩
  | .hbm, ⟨15, _⟩ => ⟨S8194x1024, .f32⟩
  | .hbm, ⟨16, _⟩ => ⟨S1x1024, .f32⟩
  | .hbm, ⟨17, _⟩ => ⟨S1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩

abbrev nD : Nat := 1
abbrev τ : Topo := Topo.v7x

variable {F : FTy → Type} [FloatOps F]
-- ==== MergeFwd.lean ====
abbrev S8192x12288 : Shape := ⟨2, ![8192, 12288]⟩
abbrev S8192x2048 : Shape := ⟨2, ![8192, 2048]⟩
abbrev S256x6144 : Shape := ⟨2, ![256, 6144]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x12288, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .local _ .vmem, ⟨0, _⟩ => ⟨S256x6144, .bf16⟩
  | .local _ .vmem, ⟨1, _⟩ => ⟨S256x6144, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdRefIdeal.lean ====
abbrev S8192x12288 : Shape := ⟨2, ![8192, 12288]⟩
abbrev S8192x2048 : Shape := ⟨2, ![8192, 2048]⟩
abbrev S8192x1024 : Shape := ⟨2, ![8192, 1024]⟩
abbrev S8192x6144 : Shape := ⟨2, ![8192, 6144]⟩
abbrev S_ : Shape := ⟨0, ![]⟩
abbrev S8192x3x2048 : Shape := ⟨3, ![8192, 3, 2048]⟩
abbrev S8192x1x2048 : Shape := ⟨3, ![8192, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x6144, .bf16⟩
  | .hbm, ⟨11, _⟩ => ⟨S8192x6144, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x6144, .f32⟩
  | .hbm, ⟨16, _⟩ => ⟨S8192x6144, .f32⟩
  | .hbm, ⟨17, _⟩ => ⟨S_, .f32⟩
  | .hbm, ⟨18, _⟩ => ⟨S8192x6144, .f32⟩
  | .hbm, ⟨19, _⟩ => ⟨S8192x6144, .f32⟩
  | .hbm, ⟨20, _⟩ => ⟨S_, .f32⟩
  | .hbm, ⟨21, _⟩ => ⟨S8192x6144, .f32⟩
  | .hbm, ⟨22, _⟩ => ⟨S8192x6144, .f32⟩
  | .hbm, ⟨23, _⟩ => ⟨S8192x3x2048, .f32⟩
  | .hbm, ⟨24, _⟩ => ⟨S8192x1x2048, .f32⟩
  | .hbm, ⟨25, _⟩ => ⟨S8192x2048, .f32⟩
  | .hbm, ⟨26, _⟩ => ⟨S8192x2048, .f32⟩
  | .hbm, ⟨27, _⟩ => ⟨S8192x1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== MlpDown.lean ====
abbrev S8192x8192 : Shape := ⟨2, ![8192, 8192]⟩
abbrev S1x8192x2048 : Shape := ⟨3, ![1, 8192, 2048]⟩
abbrev S8192x2048 : Shape := ⟨2, ![8192, 2048]⟩
abbrev S512x8192 : Shape := ⟨2, ![512, 8192]⟩
abbrev S1x8192x512 : Shape := ⟨3, ![1, 8192, 512]⟩
abbrev S512x512 : Shape := ⟨2, ![512, 512]⟩
abbrev S8192x512 : Shape := ⟨2, ![8192, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x2048, .bf16⟩
  | .local _ .vmem, ⟨0, _⟩ => ⟨S512x8192, .bf16⟩
  | .local _ .vmem, ⟨1, _⟩ => ⟨S512x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S512x512, .bf16⟩
  | .local _ .vmem, ⟨5, _⟩ => ⟨S512x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownRefIdeal.lean ====
abbrev S8192x8192 : Shape := ⟨2, ![8192, 8192]⟩
abbrev S1x8192x2048 : Shape := ⟨3, ![1, 8192, 2048]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x8192, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== BranchAFwd.lean ====
abbrev S8192x12288 : Shape := ⟨2, ![8192, 12288]⟩
abbrev S31x1024 : Shape := ⟨2, ![31, 1024]⟩
abbrev S1x1024 : Shape := ⟨2, ![1, 1024]⟩
abbrev S8192x1024 : Shape := ⟨2, ![8192, 1024]⟩
abbrev S256x1024 : Shape := ⟨2, ![256, 1024]⟩
abbrev S32x1024 : Shape := ⟨2, ![32, 1024]⟩
abbrev S296x1024 : Shape := ⟨2, ![296, 1024]⟩
abbrev S8x288x1024 : Shape := ⟨3, ![8, 288, 1024]⟩
abbrev S8x1024 : Shape := ⟨2, ![8, 1024]⟩
abbrev S288x1024 : Shape := ⟨2, ![288, 1024]⟩
abbrev S1x288x1024 : Shape := ⟨3, ![1, 288, 1024]⟩
abbrev S32x512 : Shape := ⟨2, ![32, 512]⟩
abbrev S1x512 : Shape := ⟨2, ![1, 512]⟩
abbrev S1x32x512 : Shape := ⟨3, ![1, 32, 512]⟩
abbrev S256 : Shape := ⟨1, ![256]⟩
abbrev S256x1 : Shape := ⟨2, ![256, 1]⟩

abbrev nBuf : Space → Nat
  | .hbm => 7
  | .vmem => 18
  | .smem => 0
  | _ => 0

abbrev bufTy : (tb : Table) → Fin (tcTables nBuf tb) → BufTy
  | .hbm, ⟨0, _⟩ => ⟨S8192x12288, .bf16⟩
  | .hbm, ⟨1, _⟩ => ⟨S31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S296x1024, .f32⟩
  | .local _ .vmem, ⟨17, _⟩ => ⟨S8x288x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== BranchAFwdRefIdeal.lean ====
abbrev S8192x12288 : Shape := ⟨2, ![8192, 12288]⟩
abbrev S31x1024 : Shape := ⟨2, ![31, 1024]⟩
abbrev S1x1024 : Shape := ⟨2, ![1, 1024]⟩
abbrev S8192x1024 : Shape := ⟨2, ![8192, 1024]⟩
abbrev S8192x6144 : Shape := ⟨2, ![8192, 6144]⟩
abbrev S_ : Shape := ⟨0, ![]⟩
abbrev S30x1024 : Shape := ⟨2, ![30, 1024]⟩
abbrev S8222x1024 : Shape := ⟨2, ![8222, 1024]⟩
abbrev S1024 : Shape := ⟨1, ![1024]⟩
abbrev S8192 : Shape := ⟨1, ![8192]⟩
abbrev S8192x1 : Shape := ⟨2, ![8192, 1]⟩

abbrev nBuf : Space → Nat
  | .hbm => 284
  | .vmem => 0
  | .smem => 0
  | _ => 0

abbrev hbmTy0_0 (i : Nat) : BufTy := match i % 128 with
  | 0 => ⟨S8192x12288, .bf16⟩
  | 1 => ⟨S31x1024, .f32⟩
  | 2 => ⟨S1x1024, .f32⟩
  | 3 => ⟨S1x1024, .f32⟩
  | 4 => ⟨S1x1024, .f32⟩
  | 5 => ⟨S8192x1024, .bf16⟩
  | 6 => ⟨S8192x1024, .bf16⟩
  | 7 => ⟨S8192x1024, .bf16⟩
  | 8 => ⟨S8192x1024, .bf16⟩
  | 9 => ⟨S8192x1024, .bf16⟩
  | 10 => ⟨S8192x1024, .bf16⟩
  | 11 => ⟨S8192x6144, .bf16⟩
  | 12 => ⟨S8192x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S_, .f32⟩
  | 24 => ⟨S30x1024, .f32⟩
  | 25 => ⟨S8222x1024, .f32⟩
  | 26 => ⟨S1x1024, .f32⟩
  | 27 => ⟨S1024, .f32⟩
  | 28 => ⟨S8192x1024, .f32⟩
  | 29 => ⟨S1x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S1x1024, .f32⟩
  | 36 => ⟨S1024, .f32⟩
  | 37 => ⟨S8192x1024, .f32⟩
  | 38 => ⟨S1x1024, .f32⟩
  | 39 => ⟨S8192x1024, .f32⟩
  | 40 => ⟨S8192x1024, .f32⟩
  | 41 => ⟨S8192x1024, .f32⟩
  | 42 => ⟨S1x1024, .f32⟩
  | 43 => ⟨S1024, .f32⟩
  | 44 => ⟨S8192x1024, .f32⟩
  | 45 => ⟨S1x1024, .f32⟩
  | 46 => ⟨S8192x1024, .f32⟩
  | 47 => ⟨S8192x1024, .f32⟩
  | 48 => ⟨S8192x1024, .f32⟩
  | 49 => ⟨S1x1024, .f32⟩
  | 50 => ⟨S1024, .f32⟩
  | 51 => ⟨S8192x1024, .f32⟩
  | 52 => ⟨S1x1024, .f32⟩
  | 53 => ⟨S8192x1024, .f32⟩
  | 54 => ⟨S8192x1024, .f32⟩
  | 55 => ⟨S8192x1024, .f32⟩
  | 56 => ⟨S1x1024, .f32⟩
  | 57 => ⟨S1024, .f32⟩
  | 58 => ⟨S8192x1024, .f32⟩
  | 59 => ⟨S1x1024, .f32⟩
  | 60 => ⟨S8192x1024, .f32⟩
  | 61 => ⟨S8192x1024, .f32⟩
  | 62 => ⟨S8192x1024, .f32⟩
  | 63 => ⟨S1x1024, .f32⟩
  | 64 => ⟨S1024, .f32⟩
  | 65 => ⟨S8192x1024, .f32⟩
  | 66 => ⟨S1x1024, .f32⟩
  | 67 => ⟨S8192x1024, .f32⟩
  | 68 => ⟨S8192x1024, .f32⟩
  | 69 => ⟨S8192x1024, .f32⟩
  | 70 => ⟨S1x1024, .f32⟩
  | 71 => ⟨S1024, .f32⟩
  | 72 => ⟨S8192x1024, .f32⟩
  | 73 => ⟨S1x1024, .f32⟩
  | 74 => ⟨S8192x1024, .f32⟩
  | 75 => ⟨S8192x1024, .f32⟩
  | 76 => ⟨S8192x1024, .f32⟩
  | 77 => ⟨S1x1024, .f32⟩
  | 78 => ⟨S1024, .f32⟩
  | 79 => ⟨S8192x1024, .f32⟩
  | 80 => ⟨S1x1024, .f32⟩
  | 81 => ⟨S8192x1024, .f32⟩
  | 82 => ⟨S8192x1024, .f32⟩
  | 83 => ⟨S8192x1024, .f32⟩
  | 84 => ⟨S1x1024, .f32⟩
  | 85 => ⟨S1024, .f32⟩
  | 86 => ⟨S8192x1024, .f32⟩
  | 87 => ⟨S1x1024, .f32⟩
  | 88 => ⟨S8192x1024, .f32⟩
  | 89 => ⟨S8192x1024, .f32⟩
  | 90 => ⟨S8192x1024, .f32⟩
  | 91 => ⟨S1x1024, .f32⟩
  | 92 => ⟨S1024, .f32⟩
  | 93 => ⟨S8192x1024, .f32⟩
  | 94 => ⟨S1x1024, .f32⟩
  | 95 => ⟨S8192x1024, .f32⟩
  | 96 => ⟨S8192x1024, .f32⟩
  | 97 => ⟨S8192x1024, .f32⟩
  | 98 => ⟨S1x1024, .f32⟩
  | 99 => ⟨S1024, .f32⟩
  | 100 => ⟨S8192x1024, .f32⟩
  | 101 => ⟨S1x1024, .f32⟩
  | 102 => ⟨S8192x1024, .f32⟩
  | 103 => ⟨S8192x1024, .f32⟩
  | 104 => ⟨S8192x1024, .f32⟩
  | 105 => ⟨S1x1024, .f32⟩
  | 106 => ⟨S1024, .f32⟩
  | 107 => ⟨S8192x1024, .f32⟩
  | 108 => ⟨S1x1024, .f32⟩
  | 109 => ⟨S8192x1024, .f32⟩
  | 110 => ⟨S8192x1024, .f32⟩
  | 111 => ⟨S8192x1024, .f32⟩
  | 112 => ⟨S1x1024, .f32⟩
  | 113 => ⟨S1024, .f32⟩
  | 114 => ⟨S8192x1024, .f32⟩
  | 115 => ⟨S1x1024, .f32⟩
  | 116 => ⟨S8192x1024, .f32⟩
  | 117 => ⟨S8192x1024, .f32⟩
  | 118 => ⟨S8192x1024, .f32⟩
  | 119 => ⟨S1x1024, .f32⟩
  | 120 => ⟨S1024, .f32⟩
  | 121 => ⟨S8192x1024, .f32⟩
  | 122 => ⟨S1x1024, .f32⟩
  | 123 => ⟨S8192x1024, .f32⟩
  | 124 => ⟨S8192x1024, .f32⟩
  | 125 => ⟨S8192x1024, .f32⟩
  | 126 => ⟨S1x1024, .f32⟩
  | 127 => ⟨S1024, .f32⟩
  | _ => ⟨S8192x12288, .bf16⟩

abbrev hbmTy0_1 (i : Nat) : BufTy := match i % 128 with
  | 0 => ⟨S8192x1024, .f32⟩
  | 1 => ⟨S1x1024, .f32⟩
  | 2 => ⟨S8192x1024, .f32⟩
  | 3 => ⟨S8192x1024, .f32⟩
  | 4 => ⟨S8192x1024, .f32⟩
  | 5 => ⟨S1x1024, .f32⟩
  | 6 => ⟨S1024, .f32⟩
  | 7 => ⟨S8192x1024, .f32⟩
  | 8 => ⟨S1x1024, .f32⟩
  | 9 => ⟨S8192x1024, .f32⟩
  | 10 => ⟨S8192x1024, .f32⟩
  | 11 => ⟨S8192x1024, .f32⟩
  | 12 => ⟨S1x1024, .f32⟩
  | 13 => ⟨S1024, .f32⟩
  | 14 => ⟨S8192x1024, .f32⟩
  | 15 => ⟨S1x1024, .f32⟩
  | 16 => ⟨S8192x1024, .f32⟩
  | 17 => ⟨S8192x1024, .f32⟩
  | 18 => ⟨S8192x1024, .f32⟩
  | 19 => ⟨S1x1024, .f32⟩
  | 20 => ⟨S1024, .f32⟩
  | 21 => ⟨S8192x1024, .f32⟩
  | 22 => ⟨S1x1024, .f32⟩
  | 23 => ⟨S8192x1024, .f32⟩
  | 24 => ⟨S8192x1024, .f32⟩
  | 25 => ⟨S8192x1024, .f32⟩
  | 26 => ⟨S1x1024, .f32⟩
  | 27 => ⟨S1024, .f32⟩
  | 28 => ⟨S8192x1024, .f32⟩
  | 29 => ⟨S1x1024, .f32⟩
  | 30 => ⟨S8192x1024, .f32⟩
  | 31 => ⟨S8192x1024, .f32⟩
  | 32 => ⟨S8192x1024, .f32⟩
  | 33 => ⟨S1x1024, .f32⟩
  | 34 => ⟨S1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S1x1024, .f32⟩
  | 41 => ⟨S1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S1x1024, .f32⟩
  | 48 => ⟨S1024, .f32⟩
  | 49 => ⟨S8192x1024, .f32⟩
  | 50 => ⟨S1x1024, .f32⟩
  | 51 => ⟨S8192x1024, .f32⟩
  | 52 => ⟨S8192x1024, .f32⟩
  | 53 => ⟨S8192x1024, .f32⟩
  | 54 => ⟨S1x1024, .f32⟩
  | 55 => ⟨S1024, .f32⟩
  | 56 => ⟨S8192x1024, .f32⟩
  | 57 => ⟨S1x1024, .f32⟩
  | 58 => ⟨S8192x1024, .f32⟩
  | 59 => ⟨S8192x1024, .f32⟩
  | 60 => ⟨S8192x1024, .f32⟩
  | 61 => ⟨S1x1024, .f32⟩
  | 62 => ⟨S1024, .f32⟩
  | 63 => ⟨S8192x1024, .f32⟩
  | 64 => ⟨S1x1024, .f32⟩
  | 65 => ⟨S8192x1024, .f32⟩
  | 66 => ⟨S8192x1024, .f32⟩
  | 67 => ⟨S8192x1024, .f32⟩
  | 68 => ⟨S1x1024, .f32⟩
  | 69 => ⟨S1024, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S1x1024, .f32⟩
  | 76 => ⟨S1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S1x1024, .f32⟩
  | 83 => ⟨S1024, .f32⟩
  | 84 => ⟨S8192x1024, .f32⟩
  | 85 => ⟨S1x1024, .f32⟩
  | 86 => ⟨S8192x1024, .f32⟩
  | 87 => ⟨S8192x1024, .f32⟩
  | 88 => ⟨S8192x1024, .f32⟩
  | 89 => ⟨S1x1024, .f32⟩
  | 90 => ⟨S1024, .f32⟩
  | 91 => ⟨S8192x1024, .f32⟩
  | 92 => ⟨S1x1024, .f32⟩
  | 93 => ⟨S8192x1024, .f32⟩
  | 94 => ⟨S8192x1024, .f32⟩
  | 95 => ⟨S8192x1024, .f32⟩
  | 96 => ⟨S1x1024, .f32⟩
  | 97 => ⟨S1024, .f32⟩
  | 98 => ⟨S8192x1024, .f32⟩
  | 99 => ⟨S1x1024, .f32⟩
  | 100 => ⟨S8192x1024, .f32⟩
  | 101 => ⟨S8192x1024, .f32⟩
  | 102 => ⟨S8192x1024, .f32⟩
  | 103 => ⟨S1x1024, .f32⟩
  | 104 => ⟨S1024, .f32⟩
  | 105 => ⟨S8192x1024, .f32⟩
  | 106 => ⟨S1x1024, .f32⟩
  | 107 => ⟨S8192x1024, .f32⟩
  | 108 => ⟨S8192x1024, .f32⟩
  | 109 => ⟨S8192x1024, .f32⟩
  | 110 => ⟨S1x1024, .f32⟩
  | 111 => ⟨S1024, .f32⟩
  | 112 => ⟨S8192x1024, .f32⟩
  | 113 => ⟨S1x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x1024, .f32⟩
  | 126 => ⟨S8192x1024, .f32⟩
  | 127 => ⟨S8192x1024, .f32⟩
  | _ => ⟨S8192x12288, .bf16⟩

abbrev hbmTy0_2 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S8192x1024, .f32⟩
  | 7 => ⟨S8192x1024, .f32⟩
  | 8 => ⟨S_, .f32⟩
  | 9 => ⟨S8192x1, .f32⟩
  | 10 => ⟨S8192x1, .f32⟩
  | 11 => ⟨S8192x1, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S8192x1024, .bf16⟩
  | _ => ⟨S8192x12288, .bf16⟩

abbrev hbmTy (i : Nat) : BufTy := match i / 128 with
  | 0 => hbmTy0_0 i
  | 1 => hbmTy0_1 i
  | 2 => hbmTy0_2 i
  | _ => ⟨S8192x12288, .bf16⟩

abbrev bufTy : (tb : Table) → Fin (tcTables nBuf tb) → BufTy
  | .hbm, ⟨i, _⟩ => hbmTy i
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_cst_3 : Ref sig .tc := ⟨.hbm, 247, rfl⟩
abbrev main_v238 : Ref sig .tc := ⟨.hbm, 248, rfl⟩
abbrev main_v239 : Ref sig .tc := ⟨.hbm, 249, rfl⟩
abbrev main_cst_4 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_cst_5 : Ref sig .tc := ⟨.hbm, 256, rfl⟩
abbrev main_v245 : Ref sig .tc := ⟨.hbm, 257, rfl⟩
abbrev main_v246 : Ref sig .tc := ⟨.hbm, 258, rfl⟩
abbrev main_cst_6 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_cst_7 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_call0_v0 : Ref sig .tc := ⟨.hbm, 274, rfl⟩
abbrev main_call0_v1 : Ref sig .tc := ⟨.hbm, 275, rfl⟩
abbrev main_call0_cst : Ref sig .tc := ⟨.hbm, 276, rfl⟩
abbrev main_call0_v2 : Ref sig .tc := ⟨.hbm, 277, rfl⟩
abbrev main_call0_v3 : Ref sig .tc := ⟨.hbm, 278, rfl⟩
abbrev main_call0_cst_0 : Ref sig .tc := ⟨.hbm, 279, rfl⟩
abbrev main_call0_v4 : Ref sig .tc := ⟨.hbm, 280, rfl⟩
abbrev main_call0_v5 : Ref sig .tc := ⟨.hbm, 281, rfl⟩
abbrev main_v260 : Ref sig .tc := ⟨.hbm, 282, rfl⟩
abbrev main_v261 : Ref sig .tc := ⟨.hbm, 283, rfl⟩

abbrev nD : Nat := 1
abbrev τ : Topo := Topo.v7x

variable {F : FTy → Type} [FloatOps F]
-- ==== BranchA.lean ====
abbrev S8192x12288 : Shape := ⟨2, ![8192, 12288]⟩
abbrev S8192x1024 : Shape := ⟨2, ![8192, 1024]⟩
abbrev S31x1024 : Shape := ⟨2, ![31, 1024]⟩
abbrev S1x1024 : Shape := ⟨2, ![1, 1024]⟩
abbrev S256x1024 : Shape := ⟨2, ![256, 1024]⟩
abbrev S32x1024 : Shape := ⟨2, ![32, 1024]⟩
abbrev S296x1024 : Shape := ⟨2, ![296, 1024]⟩
abbrev S8x288x1024 : Shape := ⟨3, ![8, 288, 1024]⟩
abbrev S8x1024 : Shape := ⟨2, ![8, 1024]⟩
abbrev S288x1024 : Shape := ⟨2, ![288, 1024]⟩
abbrev S1x288x1024 : Shape := ⟨3, ![1, 288, 1024]⟩
abbrev S32x512 : Shape := ⟨2, ![32, 512]⟩
abbrev S1x512 : Shape := ⟨2, ![1, 512]⟩
abbrev S1x32x512 : Shape := ⟨3, ![1, 32, 512]⟩
abbrev S256 : Shape := ⟨1, ![256]⟩
abbrev S256x1 : Shape := ⟨2, ![256, 1]⟩
abbrev S256x2048 : Shape := ⟨2, ![256, 2048]⟩
abbrev S32 : Shape := ⟨1, ![32]⟩
abbrev S32x1 : Shape := ⟨2, ![32, 1]⟩
abbrev S1024 : Shape := ⟨1, ![1024]⟩
abbrev S512 : Shape := ⟨1, ![512]⟩

abbrev nBuf : Space → Nat
  | .hbm => 14
  | .vmem => 48
  | .smem => 0
  | _ => 0

abbrev bufTy : (tb : Table) → Fin (tcTables nBuf tb) → BufTy
  | .hbm, ⟨0, _⟩ => ⟨S8192x12288, .bf16⟩
  | .hbm, ⟨1, _⟩ => ⟨S8192x1024, .bf16⟩
  | .hbm, ⟨2, _⟩ => ⟨S8192x12288, .bf16⟩
  | .hbm, ⟨3, _⟩ => ⟨S31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x12288, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S31x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S296x1024, .f32⟩
  | .local _ .vmem, ⟨17, _⟩ => ⟨S8x288x1024, .f32⟩
  | .local _ .vmem, ⟨18, _⟩ => ⟨S256x1024, .bf16⟩
  | .local _ .vmem, ⟨19, _⟩ => ⟨S256x1024, .bf16⟩
  | .local _ .vmem, ⟨20, _⟩ => ⟨S32x1024, .bf16⟩
  | .local _ .vmem, ⟨21, _⟩ => ⟨S32x1024, .bf16⟩
  | .local _ .vmem, ⟨22, _⟩ => ⟨S256x1024, .f32⟩
  | .local _ .vmem, ⟨23, _⟩ => ⟨S256x1024, .f32⟩
  | .local _ .vmem, ⟨24, _⟩ => ⟨S32x1024, .f32⟩
  | .local _ .vmem, ⟨25, _⟩ => ⟨S32x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S32x1024, .bf16⟩
  | .local _ .vmem, ⟨31, _⟩ => ⟨S32x1024, .bf16⟩
  | .local _ .vmem, ⟨32, _⟩ => ⟨S32x1024, .bf16⟩
  | .local _ .vmem, ⟨33, _⟩ => ⟨S32x1024, .bf16⟩
  | .local _ .vmem, ⟨34, _⟩ => ⟨S31x1024, .f32⟩
  | .local _ .vmem, ⟨35, _⟩ => ⟨S1x1024, .f32⟩
  | .local _ .vmem, ⟨36, _⟩ => ⟨S1x1024, .f32⟩
  | .local _ .vmem, ⟨37, _⟩ => ⟨S256x2048, .bf16⟩
  | .local _ .vmem, ⟨38, _⟩ => ⟨S256x2048, .bf16⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S31x1024, .f32⟩
  | .local _ .vmem, ⟨43, _⟩ => ⟨S296x1024, .f32⟩
  | .local _ .vmem, ⟨44, _⟩ => ⟨S296x1024, .f32⟩
  | .local _ .vmem, ⟨45, _⟩ => ⟨S256x1024, .f32⟩
  | .local _ .vmem, ⟨46, _⟩ => ⟨S8x288x1024, .f32⟩
  | .local _ .vmem, ⟨47, _⟩ => ⟨S8x288x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg13_0 : Ref sig .tc := ⟨.vmem, 40, rfl⟩
abbrev cc1_stg14_0 : Ref sig .tc := ⟨.vmem, 41, rfl⟩
abbrev cc1_stg15_0 : Ref sig .tc := ⟨.vmem, 42, rfl⟩
abbrev cc1_scratch0 : Ref sig .tc := ⟨.vmem, 43, rfl⟩
abbrev cc1_scratch1 : Ref sig .tc := ⟨.vmem, 44, rfl⟩
abbrev cc1_scratch2 : Ref sig .tc := ⟨.vmem, 45, rfl⟩
abbrev cc1_scratch3 : Ref sig .tc := ⟨.vmem, 46, rfl⟩
abbrev cc1_scratch4 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem11_1 : DmaSem sig := 36
abbrev cc1_sem12_0 : DmaSem sig := 37
abbrev cc1_sem13_0 : DmaSem sig := 38
abbrev cc1_sem14_0 : DmaSem sig := 39
abbrev cc1_sem15_0 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_7 (i : grid1.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_8 (i : grid1.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S32x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S32x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S31x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S31x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== BranchARefIdeal.lean ====
abbrev S8192x12288 : Shape := ⟨2, ![8192, 12288]⟩
abbrev S8192x1024 : Shape := ⟨2, ![8192, 1024]⟩
abbrev S31x1024 : Shape := ⟨2, ![31, 1024]⟩
abbrev S1x1024 : Shape := ⟨2, ![1, 1024]⟩
abbrev S8192x6144 : Shape := ⟨2, ![8192, 6144]⟩
abbrev S_ : Shape := ⟨0, ![]⟩
abbrev S30x1024 : Shape := ⟨2, ![30, 1024]⟩
abbrev S8222x1024 : Shape := ⟨2, ![8222, 1024]⟩
abbrev S1024 : Shape := ⟨1, ![1024]⟩
abbrev S8192 : Shape := ⟨1, ![8192]⟩
abbrev S8192x1 : Shape := ⟨2, ![8192, 1]⟩
abbrev S8192x10240 : Shape := ⟨2, ![8192, 10240]⟩

abbrev nBuf : Space → Nat
  | .hbm => 822
  | .vmem => 0
  | .smem => 0
  | _ => 0

abbrev hbmTy0_0 (i : Nat) : BufTy := match i % 128 with
  | 0 => ⟨S8192x12288, .bf16⟩
  | 1 => ⟨S8192x1024, .bf16⟩
  | 2 => ⟨S8192x12288, .bf16⟩
  | 3 => ⟨S31x1024, .f32⟩
  | 4 => ⟨S1x1024, .f32⟩
  | 5 => ⟨S1x1024, .f32⟩
  | 6 => ⟨S1x1024, .f32⟩
  | 7 => ⟨S8192x1024, .bf16⟩
  | 8 => ⟨S8192x1024, .bf16⟩
  | 9 => ⟨S8192x1024, .bf16⟩
  | 10 => ⟨S8192x1024, .bf16⟩
  | 11 => ⟨S8192x1024, .bf16⟩
  | 12 => ⟨S8192x1024, .bf16⟩
  | 13 => ⟨S8192x6144, .bf16⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S30x1024, .f32⟩
  | 31 => ⟨S8222x1024, .f32⟩
  | 32 => ⟨S_, .f32⟩
  | 33 => ⟨S30x1024, .f32⟩
  | 34 => ⟨S1x1024, .f32⟩
  | 35 => ⟨S1024, .f32⟩
  | 36 => ⟨S8192x1024, .f32⟩
  | 37 => ⟨S1x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S1x1024, .f32⟩
  | 44 => ⟨S1024, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S1x1024, .f32⟩
  | 51 => ⟨S1024, .f32⟩
  | 52 => ⟨S8192x1024, .f32⟩
  | 53 => ⟨S1x1024, .f32⟩
  | 54 => ⟨S8192x1024, .f32⟩
  | 55 => ⟨S8192x1024, .f32⟩
  | 56 => ⟨S8192x1024, .f32⟩
  | 57 => ⟨S1x1024, .f32⟩
  | 58 => ⟨S1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S1x1024, .f32⟩
  | 65 => ⟨S1024, .f32⟩
  | 66 => ⟨S8192x1024, .f32⟩
  | 67 => ⟨S1x1024, .f32⟩
  | 68 => ⟨S8192x1024, .f32⟩
  | 69 => ⟨S8192x1024, .f32⟩
  | 70 => ⟨S8192x1024, .f32⟩
  | 71 => ⟨S1x1024, .f32⟩
  | 72 => ⟨S1024, .f32⟩
  | 73 => ⟨S8192x1024, .f32⟩
  | 74 => ⟨S1x1024, .f32⟩
  | 75 => ⟨S8192x1024, .f32⟩
  | 76 => ⟨S8192x1024, .f32⟩
  | 77 => ⟨S8192x1024, .f32⟩
  | 78 => ⟨S1x1024, .f32⟩
  | 79 => ⟨S1024, .f32⟩
  | 80 => ⟨S8192x1024, .f32⟩
  | 81 => ⟨S1x1024, .f32⟩
  | 82 => ⟨S8192x1024, .f32⟩
  | 83 => ⟨S8192x1024, .f32⟩
  | 84 => ⟨S8192x1024, .f32⟩
  | 85 => ⟨S1x1024, .f32⟩
  | 86 => ⟨S1024, .f32⟩
  | 87 => ⟨S8192x1024, .f32⟩
  | 88 => ⟨S1x1024, .f32⟩
  | 89 => ⟨S8192x1024, .f32⟩
  | 90 => ⟨S8192x1024, .f32⟩
  | 91 => ⟨S8192x1024, .f32⟩
  | 92 => ⟨S1x1024, .f32⟩
  | 93 => ⟨S1024, .f32⟩
  | 94 => ⟨S8192x1024, .f32⟩
  | 95 => ⟨S1x1024, .f32⟩
  | 96 => ⟨S8192x1024, .f32⟩
  | 97 => ⟨S8192x1024, .f32⟩
  | 98 => ⟨S8192x1024, .f32⟩
  | 99 => ⟨S1x1024, .f32⟩
  | 100 => ⟨S1024, .f32⟩
  | 101 => ⟨S8192x1024, .f32⟩
  | 102 => ⟨S1x1024, .f32⟩
  | 103 => ⟨S8192x1024, .f32⟩
  | 104 => ⟨S8192x1024, .f32⟩
  | 105 => ⟨S8192x1024, .f32⟩
  | 106 => ⟨S1x1024, .f32⟩
  | 107 => ⟨S1024, .f32⟩
  | 108 => ⟨S8192x1024, .f32⟩
  | 109 => ⟨S1x1024, .f32⟩
  | 110 => ⟨S8192x1024, .f32⟩
  | 111 => ⟨S8192x1024, .f32⟩
  | 112 => ⟨S8192x1024, .f32⟩
  | 113 => ⟨S1x1024, .f32⟩
  | 114 => ⟨S1024, .f32⟩
  | 115 => ⟨S8192x1024, .f32⟩
  | 116 => ⟨S1x1024, .f32⟩
  | 117 => ⟨S8192x1024, .f32⟩
  | 118 => ⟨S8192x1024, .f32⟩
  | 119 => ⟨S8192x1024, .f32⟩
  | 120 => ⟨S1x1024, .f32⟩
  | 121 => ⟨S1024, .f32⟩
  | 122 => ⟨S8192x1024, .f32⟩
  | 123 => ⟨S1x1024, .f32⟩
  | 124 => ⟨S8192x1024, .f32⟩
  | 125 => ⟨S8192x1024, .f32⟩
  | 126 => ⟨S8192x1024, .f32⟩
  | 127 => ⟨S1x1024, .f32⟩
  | _ => ⟨S8192x12288, .bf16⟩

abbrev hbmTy0_1 (i : Nat) : BufTy := match i % 128 with
  | 0 => ⟨S1024, .f32⟩
  | 1 => ⟨S8192x1024, .f32⟩
  | 2 => ⟨S1x1024, .f32⟩
  | 3 => ⟨S8192x1024, .f32⟩
  | 4 => ⟨S8192x1024, .f32⟩
  | 5 => ⟨S8192x1024, .f32⟩
  | 6 => ⟨S1x1024, .f32⟩
  | 7 => ⟨S1024, .f32⟩
  | 8 => ⟨S8192x1024, .f32⟩
  | 9 => ⟨S1x1024, .f32⟩
  | 10 => ⟨S8192x1024, .f32⟩
  | 11 => ⟨S8192x1024, .f32⟩
  | 12 => ⟨S8192x1024, .f32⟩
  | 13 => ⟨S1x1024, .f32⟩
  | 14 => ⟨S1024, .f32⟩
  | 15 => ⟨S8192x1024, .f32⟩
  | 16 => ⟨S1x1024, .f32⟩
  | 17 => ⟨S8192x1024, .f32⟩
  | 18 => ⟨S8192x1024, .f32⟩
  | 19 => ⟨S8192x1024, .f32⟩
  | 20 => ⟨S1x1024, .f32⟩
  | 21 => ⟨S1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S1x1024, .f32⟩
  | 28 => ⟨S1024, .f32⟩
  | 29 => ⟨S8192x1024, .f32⟩
  | 30 => ⟨S1x1024, .f32⟩
  | 31 => ⟨S8192x1024, .f32⟩
  | 32 => ⟨S8192x1024, .f32⟩
  | 33 => ⟨S8192x1024, .f32⟩
  | 34 => ⟨S1x1024, .f32⟩
  | 35 => ⟨S1024, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S1x1024, .f32⟩
  | 42 => ⟨S1024, .f32⟩
  | 43 => ⟨S8192x1024, .f32⟩
  | 44 => ⟨S1x1024, .f32⟩
  | 45 => ⟨S8192x1024, .f32⟩
  | 46 => ⟨S8192x1024, .f32⟩
  | 47 => ⟨S8192x1024, .f32⟩
  | 48 => ⟨S1x1024, .f32⟩
  | 49 => ⟨S1024, .f32⟩
  | 50 => ⟨S8192x1024, .f32⟩
  | 51 => ⟨S1x1024, .f32⟩
  | 52 => ⟨S8192x1024, .f32⟩
  | 53 => ⟨S8192x1024, .f32⟩
  | 54 => ⟨S8192x1024, .f32⟩
  | 55 => ⟨S1x1024, .f32⟩
  | 56 => ⟨S1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S1x1024, .f32⟩
  | 63 => ⟨S1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S1x1024, .f32⟩
  | 70 => ⟨S1024, .f32⟩
  | 71 => ⟨S8192x1024, .f32⟩
  | 72 => ⟨S1x1024, .f32⟩
  | 73 => ⟨S8192x1024, .f32⟩
  | 74 => ⟨S8192x1024, .f32⟩
  | 75 => ⟨S8192x1024, .f32⟩
  | 76 => ⟨S1x1024, .f32⟩
  | 77 => ⟨S1024, .f32⟩
  | 78 => ⟨S8192x1024, .f32⟩
  | 79 => ⟨S1x1024, .f32⟩
  | 80 => ⟨S8192x1024, .f32⟩
  | 81 => ⟨S8192x1024, .f32⟩
  | 82 => ⟨S8192x1024, .f32⟩
  | 83 => ⟨S1x1024, .f32⟩
  | 84 => ⟨S1024, .f32⟩
  | 85 => ⟨S8192x1024, .f32⟩
  | 86 => ⟨S1x1024, .f32⟩
  | 87 => ⟨S8192x1024, .f32⟩
  | 88 => ⟨S8192x1024, .f32⟩
  | 89 => ⟨S8192x1024, .f32⟩
  | 90 => ⟨S1x1024, .f32⟩
  | 91 => ⟨S1024, .f32⟩
  | 92 => ⟨S8192x1024, .f32⟩
  | 93 => ⟨S1x1024, .f32⟩
  | 94 => ⟨S8192x1024, .f32⟩
  | 95 => ⟨S8192x1024, .f32⟩
  | 96 => ⟨S8192x1024, .f32⟩
  | 97 => ⟨S1x1024, .f32⟩
  | 98 => ⟨S1024, .f32⟩
  | 99 => ⟨S8192x1024, .f32⟩
  | 100 => ⟨S1x1024, .f32⟩
  | 101 => ⟨S8192x1024, .f32⟩
  | 102 => ⟨S8192x1024, .f32⟩
  | 103 => ⟨S8192x1024, .f32⟩
  | 104 => ⟨S1x1024, .f32⟩
  | 105 => ⟨S1024, .f32⟩
  | 106 => ⟨S8192x1024, .f32⟩
  | 107 => ⟨S1x1024, .f32⟩
  | 108 => ⟨S8192x1024, .f32⟩
  | 109 => ⟨S8192x1024, .f32⟩
  | 110 => ⟨S8192x1024, .f32⟩
  | 111 => ⟨S1x1024, .f32⟩
  | 112 => ⟨S1024, .f32⟩
  | 113 => ⟨S8192x1024, .f32⟩
  | 114 => ⟨S1x1024, .f32⟩
  | 115 => ⟨S8192x1024, .f32⟩
  | 116 => ⟨S8192x1024, .f32⟩
  | 117 => ⟨S8192x1024, .f32⟩
  | 118 => ⟨S1x1024, .f32⟩
  | 119 => ⟨S1024, .f32⟩
  | 120 => ⟨S8192x1024, .f32⟩
  | 121 => ⟨S1x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S_, .f32⟩
  | _ => ⟨S8192x12288, .bf16⟩

abbrev hbmTy0_2 (i : Nat) : BufTy := match i % 128 with
  | 0 => ⟨S8192, .f32⟩
  | 1 => ⟨S8192x1, .f32⟩
  | 2 => ⟨S_, .f32⟩
  | 3 => ⟨S8192x1, .f32⟩
  | 4 => ⟨S8192x1, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x1024, .f32⟩
  | 18 => ⟨S8192x1024, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S_, .f32⟩
  | 56 => ⟨S1024, .f32⟩
  | 57 => ⟨S1x1024, .f32⟩
  | 58 => ⟨S8192x1024, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S8192x1024, .f32⟩
  | 65 => ⟨S8192x1024, .f32⟩
  | 66 => ⟨S8192x1, .f32⟩
  | 67 => ⟨S8192x1024, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192, .f32⟩
  | 76 => ⟨S8192x1024, .f32⟩
  | 77 => ⟨S8192x1024, .f32⟩
  | 78 => ⟨S8192x1024, .f32⟩
  | 79 => ⟨S_, .f32⟩
  | 80 => ⟨S8192, .f32⟩
  | 81 => ⟨S8192x1, .f32⟩
  | 82 => ⟨S8192x1024, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S_, .f32⟩
  | 101 => ⟨S1024, .f32⟩
  | 102 => ⟨S_, .f32⟩
  | 103 => ⟨S8222x1024, .f32⟩
  | 104 => ⟨S1x1024, .f32⟩
  | 105 => ⟨S_, .f32⟩
  | 106 => ⟨S31x1024, .f32⟩
  | 107 => ⟨S8192x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S_, .f32⟩
  | 116 => ⟨S8222x1024, .f32⟩
  | 117 => ⟨S8222x1024, .f32⟩
  | 118 => ⟨S1x1024, .f32⟩
  | 119 => ⟨S_, .f32⟩
  | 120 => ⟨S31x1024, .f32⟩
  | 121 => ⟨S31x1024, .f32⟩
  | 122 => ⟨S8192x1024, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S8192x12288, .bf16⟩

abbrev hbmTy0_3 (i : Nat) : BufTy := match i % 128 with
  | 0 => ⟨S_, .f32⟩
  | 1 => ⟨S1024, .f32⟩
  | 2 => ⟨S_, .f32⟩
  | 3 => ⟨S8222x1024, .f32⟩
  | 4 => ⟨S8222x1024, .f32⟩
  | 5 => ⟨S1x1024, .f32⟩
  | 6 => ⟨S_, .f32⟩
  | 7 => ⟨S31x1024, .f32⟩
  | 8 => ⟨S31x1024, .f32⟩
  | 9 => ⟨S8192x1024, .f32⟩
  | 10 => ⟨S8192x1024, .f32⟩
  | 11 => ⟨S8192x1024, .f32⟩
  | 12 => ⟨S_, .f32⟩
  | 13 => ⟨S1024, .f32⟩
  | 14 => ⟨S1x1024, .f32⟩
  | 15 => ⟨S_, .f32⟩
  | 16 => ⟨S1024, .f32⟩
  | 17 => ⟨S_, .f32⟩
  | 18 => ⟨S8222x1024, .f32⟩
  | 19 => ⟨S8222x1024, .f32⟩
  | 20 => ⟨S1x1024, .f32⟩
  | 21 => ⟨S_, .f32⟩
  | 22 => ⟨S31x1024, .f32⟩
  | 23 => ⟨S31x1024, .f32⟩
  | 24 => ⟨S8192x1024, .f32⟩
  | 25 => ⟨S8192x1024, .f32⟩
  | 26 => ⟨S8192x1024, .f32⟩
  | 27 => ⟨S_, .f32⟩
  | 28 => ⟨S1024, .f32⟩
  | 29 => ⟨S1x1024, .f32⟩
  | 30 => ⟨S_, .f32⟩
  | 31 => ⟨S1024, .f32⟩
  | 32 => ⟨S_, .f32⟩
  | 33 => ⟨S8222x1024, .f32⟩
  | 34 => ⟨S8222x1024, .f32⟩
  | 35 => ⟨S1x1024, .f32⟩
  | 36 => ⟨S_, .f32⟩
  | 37 => ⟨S31x1024, .f32⟩
  | 38 => ⟨S31x1024, .f32⟩
  | 39 => ⟨S8192x1024, .f32⟩
  | 40 => ⟨S8192x1024, .f32⟩
  | 41 => ⟨S8192x1024, .f32⟩
  | 42 => ⟨S_, .f32⟩
  | 43 => ⟨S1024, .f32⟩
  | 44 => ⟨S1x1024, .f32⟩
  | 45 => ⟨S_, .f32⟩
  | 46 => ⟨S1024, .f32⟩
  | 47 => ⟨S_, .f32⟩
  | 48 => ⟨S8222x1024, .f32⟩
  | 49 => ⟨S8222x1024, .f32⟩
  | 50 => ⟨S1x1024, .f32⟩
  | 51 => ⟨S_, .f32⟩
  | 52 => ⟨S31x1024, .f32⟩
  | 53 => ⟨S31x1024, .f32⟩
  | 54 => ⟨S8192x1024, .f32⟩
  | 55 => ⟨S8192x1024, .f32⟩
  | 56 => ⟨S8192x1024, .f32⟩
  | 57 => ⟨S_, .f32⟩
  | 58 => ⟨S1024, .f32⟩
  | 59 => ⟨S1x1024, .f32⟩
  | 60 => ⟨S_, .f32⟩
  | 61 => ⟨S1024, .f32⟩
  | 62 => ⟨S_, .f32⟩
  | 63 => ⟨S8222x1024, .f32⟩
  | 64 => ⟨S8222x1024, .f32⟩
  | 65 => ⟨S1x1024, .f32⟩
  | 66 => ⟨S_, .f32⟩
  | 67 => ⟨S31x1024, .f32⟩
  | 68 => ⟨S31x1024, .f32⟩
  | 69 => ⟨S8192x1024, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S_, .f32⟩
  | 78 => ⟨S8222x1024, .f32⟩
  | 79 => ⟨S8222x1024, .f32⟩
  | 80 => ⟨S1x1024, .f32⟩
  | 81 => ⟨S_, .f32⟩
  | 82 => ⟨S31x1024, .f32⟩
  | 83 => ⟨S31x1024, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S_, .f32⟩
  | 91 => ⟨S1024, .f32⟩
  | 92 => ⟨S_, .f32⟩
  | 93 => ⟨S8222x1024, .f32⟩
  | 94 => ⟨S8222x1024, .f32⟩
  | 95 => ⟨S1x1024, .f32⟩
  | 96 => ⟨S_, .f32⟩
  | 97 => ⟨S31x1024, .f32⟩
  | 98 => ⟨S31x1024, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S_, .f32⟩
  | 106 => ⟨S1024, .f32⟩
  | 107 => ⟨S_, .f32⟩
  | 108 => ⟨S8222x1024, .f32⟩
  | 109 => ⟨S8222x1024, .f32⟩
  | 110 => ⟨S1x1024, .f32⟩
  | 111 => ⟨S_, .f32⟩
  | 112 => ⟨S31x1024, .f32⟩
  | 113 => ⟨S31x1024, .f32⟩
  | 114 => ⟨S8192x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S_, .f32⟩
  | 121 => ⟨S1024, .f32⟩
  | 122 => ⟨S_, .f32⟩
  | 123 => ⟨S8222x1024, .f32⟩
  | 124 => ⟨S8222x1024, .f32⟩
  | 125 => ⟨S1x1024, .f32⟩
  | 126 => ⟨S_, .f32⟩
  | 127 => ⟨S31x1024, .f32⟩
  | _ => ⟨S8192x12288, .bf16⟩

abbrev hbmTy0_4 (i : Nat) : BufTy := match i % 128 with
  | 0 => ⟨S31x1024, .f32⟩
  | 1 => ⟨S8192x1024, .f32⟩
  | 2 => ⟨S8192x1024, .f32⟩
  | 3 => ⟨S8192x1024, .f32⟩
  | 4 => ⟨S_, .f32⟩
  | 5 => ⟨S1024, .f32⟩
  | 6 => ⟨S1x1024, .f32⟩
  | 7 => ⟨S_, .f32⟩
  | 8 => ⟨S1024, .f32⟩
  | 9 => ⟨S_, .f32⟩
  | 10 => ⟨S8222x1024, .f32⟩
  | 11 => ⟨S8222x1024, .f32⟩
  | 12 => ⟨S1x1024, .f32⟩
  | 13 => ⟨S_, .f32⟩
  | 14 => ⟨S31x1024, .f32⟩
  | 15 => ⟨S31x1024, .f32⟩
  | 16 => ⟨S8192x1024, .f32⟩
  | 17 => ⟨S8192x1024, .f32⟩
  | 18 => ⟨S8192x1024, .f32⟩
  | 19 => ⟨S_, .f32⟩
  | 20 => ⟨S1024, .f32⟩
  | 21 => ⟨S1x1024, .f32⟩
  | 22 => ⟨S_, .f32⟩
  | 23 => ⟨S1024, .f32⟩
  | 24 => ⟨S_, .f32⟩
  | 25 => ⟨S8222x1024, .f32⟩
  | 26 => ⟨S8222x1024, .f32⟩
  | 27 => ⟨S1x1024, .f32⟩
  | 28 => ⟨S_, .f32⟩
  | 29 => ⟨S31x1024, .f32⟩
  | 30 => ⟨S31x1024, .f32⟩
  | 31 => ⟨S8192x1024, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S_, .f32⟩
  | 38 => ⟨S1024, .f32⟩
  | 39 => ⟨S_, .f32⟩
  | 40 => ⟨S8222x1024, .f32⟩
  | 41 => ⟨S8222x1024, .f32⟩
  | 42 => ⟨S1x1024, .f32⟩
  | 43 => ⟨S_, .f32⟩
  | 44 => ⟨S31x1024, .f32⟩
  | 45 => ⟨S31x1024, .f32⟩
  | 46 => ⟨S8192x1024, .f32⟩
  | 47 => ⟨S8192x1024, .f32⟩
  | 48 => ⟨S8192x1024, .f32⟩
  | 49 => ⟨S_, .f32⟩
  | 50 => ⟨S1024, .f32⟩
  | 51 => ⟨S1x1024, .f32⟩
  | 52 => ⟨S_, .f32⟩
  | 53 => ⟨S1024, .f32⟩
  | 54 => ⟨S_, .f32⟩
  | 55 => ⟨S8222x1024, .f32⟩
  | 56 => ⟨S8222x1024, .f32⟩
  | 57 => ⟨S1x1024, .f32⟩
  | 58 => ⟨S_, .f32⟩
  | 59 => ⟨S31x1024, .f32⟩
  | 60 => ⟨S31x1024, .f32⟩
  | 61 => ⟨S8192x1024, .f32⟩
  | 62 => ⟨S8192x1024, .f32⟩
  | 63 => ⟨S8192x1024, .f32⟩
  | 64 => ⟨S_, .f32⟩
  | 65 => ⟨S1024, .f32⟩
  | 66 => ⟨S1x1024, .f32⟩
  | 67 => ⟨S_, .f32⟩
  | 68 => ⟨S1024, .f32⟩
  | 69 => ⟨S_, .f32⟩
  | 70 => ⟨S8222x1024, .f32⟩
  | 71 => ⟨S8222x1024, .f32⟩
  | 72 => ⟨S1x1024, .f32⟩
  | 73 => ⟨S_, .f32⟩
  | 74 => ⟨S31x1024, .f32⟩
  | 75 => ⟨S31x1024, .f32⟩
  | 76 => ⟨S8192x1024, .f32⟩
  | 77 => ⟨S8192x1024, .f32⟩
  | 78 => ⟨S8192x1024, .f32⟩
  | 79 => ⟨S_, .f32⟩
  | 80 => ⟨S1024, .f32⟩
  | 81 => ⟨S1x1024, .f32⟩
  | 82 => ⟨S_, .f32⟩
  | 83 => ⟨S1024, .f32⟩
  | 84 => ⟨S_, .f32⟩
  | 85 => ⟨S8222x1024, .f32⟩
  | 86 => ⟨S8222x1024, .f32⟩
  | 87 => ⟨S1x1024, .f32⟩
  | 88 => ⟨S_, .f32⟩
  | 89 => ⟨S31x1024, .f32⟩
  | 90 => ⟨S31x1024, .f32⟩
  | 91 => ⟨S8192x1024, .f32⟩
  | 92 => ⟨S8192x1024, .f32⟩
  | 93 => ⟨S8192x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S_, .f32⟩
  | 100 => ⟨S8222x1024, .f32⟩
  | 101 => ⟨S8222x1024, .f32⟩
  | 102 => ⟨S1x1024, .f32⟩
  | 103 => ⟨S_, .f32⟩
  | 104 => ⟨S31x1024, .f32⟩
  | 105 => ⟨S31x1024, .f32⟩
  | 106 => ⟨S8192x1024, .f32⟩
  | 107 => ⟨S8192x1024, .f32⟩
  | 108 => ⟨S8192x1024, .f32⟩
  | 109 => ⟨S_, .f32⟩
  | 110 => ⟨S1024, .f32⟩
  | 111 => ⟨S1x1024, .f32⟩
  | 112 => ⟨S_, .f32⟩
  | 113 => ⟨S1024, .f32⟩
  | 114 => ⟨S_, .f32⟩
  | 115 => ⟨S8222x1024, .f32⟩
  | 116 => ⟨S8222x1024, .f32⟩
  | 117 => ⟨S1x1024, .f32⟩
  | 118 => ⟨S_, .f32⟩
  | 119 => ⟨S31x1024, .f32⟩
  | 120 => ⟨S31x1024, .f32⟩
  | 121 => ⟨S8192x1024, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S_, .f32⟩
  | _ => ⟨S8192x12288, .bf16⟩

abbrev hbmTy0_5 (i : Nat) : BufTy := match i % 128 with
  | 0 => ⟨S1024, .f32⟩
  | 1 => ⟨S_, .f32⟩
  | 2 => ⟨S8222x1024, .f32⟩
  | 3 => ⟨S8222x1024, .f32⟩
  | 4 => ⟨S1x1024, .f32⟩
  | 5 => ⟨S_, .f32⟩
  | 6 => ⟨S31x1024, .f32⟩
  | 7 => ⟨S31x1024, .f32⟩
  | 8 => ⟨S8192x1024, .f32⟩
  | 9 => ⟨S8192x1024, .f32⟩
  | 10 => ⟨S8192x1024, .f32⟩
  | 11 => ⟨S_, .f32⟩
  | 12 => ⟨S1024, .f32⟩
  | 13 => ⟨S1x1024, .f32⟩
  | 14 => ⟨S_, .f32⟩
  | 15 => ⟨S1024, .f32⟩
  | 16 => ⟨S_, .f32⟩
  | 17 => ⟨S8222x1024, .f32⟩
  | 18 => ⟨S8222x1024, .f32⟩
  | 19 => ⟨S1x1024, .f32⟩
  | 20 => ⟨S_, .f32⟩
  | 21 => ⟨S31x1024, .f32⟩
  | 22 => ⟨S31x1024, .f32⟩
  | 23 => ⟨S8192x1024, .f32⟩
  | 24 => ⟨S8192x1024, .f32⟩
  | 25 => ⟨S8192x1024, .f32⟩
  | 26 => ⟨S_, .f32⟩
  | 27 => ⟨S1024, .f32⟩
  | 28 => ⟨S1x1024, .f32⟩
  | 29 => ⟨S_, .f32⟩
  | 30 => ⟨S1024, .f32⟩
  | 31 => ⟨S_, .f32⟩
  | 32 => ⟨S8222x1024, .f32⟩
  | 33 => ⟨S8222x1024, .f32⟩
  | 34 => ⟨S1x1024, .f32⟩
  | 35 => ⟨S_, .f32⟩
  | 36 => ⟨S31x1024, .f32⟩
  | 37 => ⟨S31x1024, .f32⟩
  | 38 => ⟨S8192x1024, .f32⟩
  | 39 => ⟨S8192x1024, .f32⟩
  | 40 => ⟨S8192x1024, .f32⟩
  | 41 => ⟨S_, .f32⟩
  | 42 => ⟨S1024, .f32⟩
  | 43 => ⟨S1x1024, .f32⟩
  | 44 => ⟨S_, .f32⟩
  | 45 => ⟨S1024, .f32⟩
  | 46 => ⟨S_, .f32⟩
  | 47 => ⟨S8222x1024, .f32⟩
  | 48 => ⟨S8222x1024, .f32⟩
  | 49 => ⟨S1x1024, .f32⟩
  | 50 => ⟨S_, .f32⟩
  | 51 => ⟨S31x1024, .f32⟩
  | 52 => ⟨S31x1024, .f32⟩
  | 53 => ⟨S8192x1024, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S_, .f32⟩
  | 62 => ⟨S8222x1024, .f32⟩
  | 63 => ⟨S8222x1024, .f32⟩
  | 64 => ⟨S1x1024, .f32⟩
  | 65 => ⟨S_, .f32⟩
  | 66 => ⟨S31x1024, .f32⟩
  | 67 => ⟨S31x1024, .f32⟩
  | 68 => ⟨S8192x1024, .f32⟩
  | 69 => ⟨S8192x1024, .f32⟩
  | 70 => ⟨S8192x1024, .f32⟩
  | 71 => ⟨S_, .f32⟩
  | 72 => ⟨S1024, .f32⟩
  | 73 => ⟨S1x1024, .f32⟩
  | 74 => ⟨S_, .f32⟩
  | 75 => ⟨S1024, .f32⟩
  | 76 => ⟨S_, .f32⟩
  | 77 => ⟨S8222x1024, .f32⟩
  | 78 => ⟨S8222x1024, .f32⟩
  | 79 => ⟨S1x1024, .f32⟩
  | 80 => ⟨S_, .f32⟩
  | 81 => ⟨S31x1024, .f32⟩
  | 82 => ⟨S31x1024, .f32⟩
  | 83 => ⟨S8192x1024, .f32⟩
  | 84 => ⟨S8192x1024, .f32⟩
  | 85 => ⟨S8192x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S_, .f32⟩
  | 92 => ⟨S8222x1024, .f32⟩
  | 93 => ⟨S8222x1024, .f32⟩
  | 94 => ⟨S1x1024, .f32⟩
  | 95 => ⟨S_, .f32⟩
  | 96 => ⟨S31x1024, .f32⟩
  | 97 => ⟨S31x1024, .f32⟩
  | 98 => ⟨S8192x1024, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S_, .f32⟩
  | 107 => ⟨S8222x1024, .f32⟩
  | 108 => ⟨S8222x1024, .f32⟩
  | 109 => ⟨S1x1024, .f32⟩
  | 110 => ⟨S_, .f32⟩
  | 111 => ⟨S31x1024, .f32⟩
  | 112 => ⟨S31x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S_, .f32⟩
  | 120 => ⟨S1024, .f32⟩
  | 121 => ⟨S_, .f32⟩
  | 122 => ⟨S8222x1024, .f32⟩
  | 123 => ⟨S8222x1024, .f32⟩
  | 124 => ⟨S1x1024, .f32⟩
  | 125 => ⟨S_, .f32⟩
  | 126 => ⟨S31x1024, .f32⟩
  | 127 => ⟨S31x1024, .f32⟩
  | _ => ⟨S8192x12288, .bf16⟩

abbrev hbmTy0_6 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S1024, .f32⟩
  | 5 => ⟨S1x1024, .f32⟩
  | 6 => ⟨S_, .f32⟩
  | 7 => ⟨S1024, .f32⟩
  | 8 => ⟨S_, .f32⟩
  | 9 => ⟨S8222x1024, .f32⟩
  | 10 => ⟨S8222x1024, .f32⟩
  | 11 => ⟨S1x1024, .f32⟩
  | 12 => ⟨S_, .f32⟩
  | 13 => ⟨S31x1024, .f32⟩
  | 14 => ⟨S31x1024, .f32⟩
  | 15 => ⟨S8192x1024, .f32⟩
  | 16 => ⟨S8192x1024, .f32⟩
  | 17 => ⟨S8192x1024, .f32⟩
  | 18 => ⟨S_, .f32⟩
  | 19 => ⟨S1024, .f32⟩
  | 20 => ⟨S1x1024, .f32⟩
  | 21 => ⟨S_, .f32⟩
  | 22 => ⟨S1024, .f32⟩
  | 23 => ⟨S_, .f32⟩
  | 24 => ⟨S8222x1024, .f32⟩
  | 25 => ⟨S8222x1024, .f32⟩
  | 26 => ⟨S1x1024, .f32⟩
  | 27 => ⟨S_, .f32⟩
  | 28 => ⟨S31x1024, .f32⟩
  | 29 => ⟨S31x1024, .f32⟩
  | 30 => ⟨S8192x1024, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S_, .f32⟩
  | 37 => ⟨S1024, .f32⟩
  | 38 => ⟨S_, .f32⟩
  | 39 => ⟨S8222x1024, .f32⟩
  | 40 => ⟨S8222x1024, .f32⟩
  | 41 => ⟨S1x1024, .f32⟩
  | 42 => ⟨S_, .f32⟩
  | 43 => ⟨S31x1024, .f32⟩
  | 44 => ⟨S31x1024, .f32⟩
  | 45 => ⟨S30x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .bf16⟩
  | 51 => ⟨S8192x1024, .bf16⟩
  | 52 => ⟨S8192x10240, .bf16⟩
  | 53 => ⟨S8192x12288, .bf16⟩
  | _ => ⟨S8192x12288, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x12288, .bf16⟩

abbrev bufTy : (tb : Table) → Fin (tcTables nBuf tb) → BufTy
  | .hbm, ⟨i, _⟩ => hbmTy i
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_cst_7 : Ref sig .tc := ⟨.hbm, 264, rfl⟩
abbrev main_v249 : Ref sig .tc := ⟨.hbm, 265, rfl⟩
abbrev main_v250 : Ref sig .tc := ⟨.hbm, 266, rfl⟩
abbrev main_cst_8 : Ref sig .tc := ⟨.hbm, 267, rfl⟩
abbrev main_v251 : Ref sig .tc := ⟨.hbm, 268, rfl⟩
abbrev main_v252 : Ref sig .tc := ⟨.hbm, 269, rfl⟩
abbrev main_cst_9 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_cst_10 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_cst_11 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_call0_v0 : Ref sig .tc := ⟨.hbm, 289, rfl⟩
abbrev main_call0_v1 : Ref sig .tc := ⟨.hbm, 290, rfl⟩
abbrev main_call0_cst : Ref sig .tc := ⟨.hbm, 291, rfl⟩
abbrev main_call0_v2 : Ref sig .tc := ⟨.hbm, 292, rfl⟩
abbrev main_call0_v3 : Ref sig .tc := ⟨.hbm, 293, rfl⟩
abbrev main_call0_cst_0 : Ref sig .tc := ⟨.hbm, 294, rfl⟩
abbrev main_call0_v4 : Ref sig .tc := ⟨.hbm, 295, rfl⟩
abbrev main_v269_2 : Ref sig .tc := ⟨.hbm, 296, rfl⟩
abbrev main_call0_cst_1 : Ref sig .tc := ⟨.hbm, 297, rfl⟩
abbrev main_call0_v6 : Ref sig .tc := ⟨.hbm, 298, rfl⟩
abbrev main_call0_v7 : Ref sig .tc := ⟨.hbm, 299, rfl⟩
abbrev main_v269_1 : Ref sig .tc := ⟨.hbm, 300, rfl⟩
abbrev main_v269_0 : Ref sig .tc := ⟨.hbm, 301, rfl⟩
abbrev main_v270 : Ref sig .tc := ⟨.hbm, 302, rfl⟩
abbrev main_call1_v0 : Ref sig .tc := ⟨.hbm, 303, rfl⟩
abbrev main_call1_v1 : Ref sig .tc := ⟨.hbm, 304, rfl⟩
abbrev main_call1_v2 : Ref sig .tc := ⟨.hbm, 305, rfl⟩
abbrev main_v271 : Ref sig .tc := ⟨.hbm, 306, rfl⟩
abbrev main_cst_12 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_cst_13 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_cst_14 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_cst_15 : Ref sig .tc := ⟨.hbm, 324, rfl⟩
abbrev main_v286 : Ref sig .tc := ⟨.hbm, 325, rfl⟩
abbrev main_v287 : Ref sig .tc := ⟨.hbm, 326, rfl⟩
abbrev main_cst_16 : Ref sig .tc := ⟨.hbm, 327, rfl⟩
abbrev main_v288 : Ref sig .tc := ⟨.hbm, 328, rfl⟩
abbrev main_v289 : Ref sig .tc := ⟨.hbm, 329, rfl⟩
abbrev main_cst_17 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_cst_18 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_cst_19 : Ref sig .tc := ⟨.hbm, 340, rfl⟩
abbrev main_v298 : Ref sig .tc := ⟨.hbm, 341, rfl⟩
abbrev main_v299 : Ref sig .tc := ⟨.hbm, 342, rfl⟩
abbrev main_cst_20 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_cst_21 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_cst_22 : Ref sig .tc := ⟨.hbm, 353, rfl⟩
abbrev main_v308 : Ref sig .tc := ⟨.hbm, 354, rfl⟩
abbrev main_v309 : Ref sig .tc := ⟨.hbm, 355, rfl⟩
abbrev main_cst_23 : Ref sig .tc := ⟨.hbm, 356, rfl⟩
abbrev main_v310 : Ref sig .tc := ⟨.hbm, 357, rfl⟩
abbrev main_cst_24 : Ref sig .tc := ⟨.hbm, 358, rfl⟩
abbrev main_v311 : Ref sig .tc := ⟨.hbm, 359, rfl⟩
abbrev main_v312 : Ref sig .tc := ⟨.hbm, 360, rfl⟩
abbrev main_cst_25 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_cst_26 : Ref sig .tc := ⟨.hbm, 366, rfl⟩
abbrev main_v317 : Ref sig .tc := ⟨.hbm, 367, rfl⟩
abbrev main_v318 : Ref sig .tc := ⟨.hbm, 368, rfl⟩
abbrev main_cst_27 : Ref sig .tc := ⟨.hbm, 369, rfl⟩
abbrev main_v319 : Ref sig .tc := ⟨.hbm, 370, rfl⟩
abbrev main_cst_28 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_cst_29 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_cst_30 : Ref sig .tc := ⟨.hbm, 381, rfl⟩
abbrev main_v328 : Ref sig .tc := ⟨.hbm, 382, rfl⟩
abbrev main_v329 : Ref sig .tc := ⟨.hbm, 383, rfl⟩
abbrev main_cst_31 : Ref sig .tc := ⟨.hbm, 384, rfl⟩
abbrev main_v330 : Ref sig .tc := ⟨.hbm, 385, rfl⟩
abbrev main_cst_32 : Ref sig .tc := ⟨.hbm, 386, rfl⟩
abbrev main_v331 : Ref sig .tc := ⟨.hbm, 387, rfl⟩
abbrev main_v332 : Ref sig .tc := ⟨.hbm, 388, rfl⟩
abbrev main_v333 : Ref sig .tc := ⟨.hbm, 389, rfl⟩
abbrev main_cst_33 : Ref sig .tc := ⟨.hbm, 390, rfl⟩
abbrev main_v334 : Ref sig .tc := ⟨.hbm, 391, rfl⟩
abbrev main_v335 : Ref sig .tc := ⟨.hbm, 392, rfl⟩
abbrev main_v336 : Ref sig .tc := ⟨.hbm, 393, rfl⟩
abbrev main_v337 : Ref sig .tc := ⟨.hbm, 394, rfl⟩
abbrev main_v338 : Ref sig .tc := ⟨.hbm, 395, rfl⟩
abbrev main_cst_34 : Ref sig .tc := ⟨.hbm, 396, rfl⟩
abbrev main_v339 : Ref sig .tc := ⟨.hbm, 397, rfl⟩
abbrev main_v340 : Ref sig .tc := ⟨.hbm, 398, rfl⟩
abbrev main_cst_35 : Ref sig .tc := ⟨.hbm, 399, rfl⟩
abbrev main_v341 : Ref sig .tc := ⟨.hbm, 400, rfl⟩
abbrev main_cst_36 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_cst_37 : Ref sig .tc := ⟨.hbm, 405, rfl⟩
abbrev main_v345 : Ref sig .tc := ⟨.hbm, 406, rfl⟩
abbrev main_v346 : Ref sig .tc := ⟨.hbm, 407, rfl⟩
abbrev main_v347 : Ref sig .tc := ⟨.hbm, 408, rfl⟩
abbrev main_v348 : Ref sig .tc := ⟨.hbm, 409, rfl⟩
abbrev main_v349 : Ref sig .tc := ⟨.hbm, 410, rfl⟩
abbrev main_cst_38 : Ref sig .tc := ⟨.hbm, 411, rfl⟩
abbrev main_v350 : Ref sig .tc := ⟨.hbm, 412, rfl⟩
abbrev main_v351 : Ref sig .tc := ⟨.hbm, 413, rfl⟩
abbrev main_cst_39 : Ref sig .tc := ⟨.hbm, 414, rfl⟩
abbrev main_v352 : Ref sig .tc := ⟨.hbm, 415, rfl⟩
abbrev main_cst_40 : Ref sig .tc := ⟨.hbm, 416, rfl⟩
abbrev main_v353 : Ref sig .tc := ⟨.hbm, 417, rfl⟩
abbrev main_v354 : Ref sig .tc := ⟨.hbm, 418, rfl⟩
abbrev main_v355 : Ref sig .tc := ⟨.hbm, 419, rfl⟩
abbrev main_cst_41 : Ref sig .tc := ⟨.hbm, 420, rfl⟩
abbrev main_v356 : Ref sig .tc := ⟨.hbm, 421, rfl⟩
abbrev main_v357 : Ref sig .tc := ⟨.hbm, 422, rfl⟩
abbrev main_v358 : Ref sig .tc := ⟨.hbm, 423, rfl⟩
abbrev main_v359 : Ref sig .tc := ⟨.hbm, 424, rfl⟩
abbrev main_v360 : Ref sig .tc := ⟨.hbm, 425, rfl⟩
abbrev main_cst_42 : Ref sig .tc := ⟨.hbm, 426, rfl⟩
abbrev main_v361 : Ref sig .tc := ⟨.hbm, 427, rfl⟩
abbrev main_v362 : Ref sig .tc := ⟨.hbm, 428, rfl⟩
abbrev main_cst_43 : Ref sig .tc := ⟨.hbm, 429, rfl⟩
abbrev main_v363 : Ref sig .tc := ⟨.hbm, 430, rfl⟩
abbrev main_cst_44 : Ref sig .tc := ⟨.hbm, 431, rfl⟩
abbrev main_v364 : Ref sig .tc := ⟨.hbm, 432, rfl⟩
abbrev main_v365 : Ref sig .tc := ⟨.hbm, 433, rfl⟩
abbrev main_v366 : Ref sig .tc := ⟨.hbm, 434, rfl⟩
abbrev main_cst_45 : Ref sig .tc := ⟨.hbm, 435, rfl⟩
abbrev main_v367 : Ref sig .tc := ⟨.hbm, 436, rfl⟩
abbrev main_v368 : Ref sig .tc := ⟨.hbm, 437, rfl⟩
abbrev main_v369 : Ref sig .tc := ⟨.hbm, 438, rfl⟩
abbrev main_v370 : Ref sig .tc := ⟨.hbm, 439, rfl⟩
abbrev main_v371 : Ref sig .tc := ⟨.hbm, 440, rfl⟩
abbrev main_cst_46 : Ref sig .tc := ⟨.hbm, 441, rfl⟩
abbrev main_v372 : Ref sig .tc := ⟨.hbm, 442, rfl⟩
abbrev main_v373 : Ref sig .tc := ⟨.hbm, 443, rfl⟩
abbrev main_cst_47 : Ref sig .tc := ⟨.hbm, 444, rfl⟩
abbrev main_v374 : Ref sig .tc := ⟨.hbm, 445, rfl⟩
abbrev main_cst_48 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_cst_49 : Ref sig .tc := ⟨.hbm, 450, rfl⟩
abbrev main_v378 : Ref sig .tc := ⟨.hbm, 451, rfl⟩
abbrev main_v379 : Ref sig .tc := ⟨.hbm, 452, rfl⟩
abbrev main_v380 : Ref sig .tc := ⟨.hbm, 453, rfl⟩
abbrev main_v381 : Ref sig .tc := ⟨.hbm, 454, rfl⟩
abbrev main_v382 : Ref sig .tc := ⟨.hbm, 455, rfl⟩
abbrev main_cst_50 : Ref sig .tc := ⟨.hbm, 456, rfl⟩
abbrev main_v383 : Ref sig .tc := ⟨.hbm, 457, rfl⟩
abbrev main_v384 : Ref sig .tc := ⟨.hbm, 458, rfl⟩
abbrev main_cst_51 : Ref sig .tc := ⟨.hbm, 459, rfl⟩
abbrev main_v385 : Ref sig .tc := ⟨.hbm, 460, rfl⟩
abbrev main_cst_52 : Ref sig .tc := ⟨.hbm, 461, rfl⟩
abbrev main_v386 : Ref sig .tc := ⟨.hbm, 462, rfl⟩
abbrev main_v387 : Ref sig .tc := ⟨.hbm, 463, rfl⟩
abbrev main_v388 : Ref sig .tc := ⟨.hbm, 464, rfl⟩
abbrev main_cst_53 : Ref sig .tc := ⟨.hbm, 465, rfl⟩
abbrev main_v389 : Ref sig .tc := ⟨.hbm, 466, rfl⟩
abbrev main_v390 : Ref sig .tc := ⟨.hbm, 467, rfl⟩
abbrev main_v391 : Ref sig .tc := ⟨.hbm, 468, rfl⟩
abbrev main_v392 : Ref sig .tc := ⟨.hbm, 469, rfl⟩
abbrev main_v393 : Ref sig .tc := ⟨.hbm, 470, rfl⟩
abbrev main_cst_54 : Ref sig .tc := ⟨.hbm, 471, rfl⟩
abbrev main_v394 : Ref sig .tc := ⟨.hbm, 472, rfl⟩
abbrev main_v395 : Ref sig .tc := ⟨.hbm, 473, rfl⟩
abbrev main_cst_55 : Ref sig .tc := ⟨.hbm, 474, rfl⟩
abbrev main_v396 : Ref sig .tc := ⟨.hbm, 475, rfl⟩
abbrev main_cst_56 : Ref sig .tc := ⟨.hbm, 476, rfl⟩
abbrev main_v397 : Ref sig .tc := ⟨.hbm, 477, rfl⟩
abbrev main_v398 : Ref sig .tc := ⟨.hbm, 478, rfl⟩
abbrev main_v399 : Ref sig .tc := ⟨.hbm, 479, rfl⟩
abbrev main_cst_57 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_v404 : Ref sig .tc := ⟨.hbm, 485, rfl⟩
abbrev main_cst_58 : Ref sig .tc := ⟨.hbm, 486, rfl⟩
abbrev main_v405 : Ref sig .tc := ⟨.hbm, 487, rfl⟩
abbrev main_v406 : Ref sig .tc := ⟨.hbm, 488, rfl⟩
abbrev main_cst_59 : Ref sig .tc := ⟨.hbm, 489, rfl⟩
abbrev main_v407 : Ref sig .tc := ⟨.hbm, 490, rfl⟩
abbrev main_cst_60 : Ref sig .tc := ⟨.hbm, 491, rfl⟩
abbrev main_v408 : Ref sig .tc := ⟨.hbm, 492, rfl⟩
abbrev main_v409 : Ref sig .tc := ⟨.hbm, 493, rfl⟩
abbrev main_v410 : Ref sig .tc := ⟨.hbm, 494, rfl⟩
abbrev main_cst_61 : Ref sig .tc := ⟨.hbm, 495, rfl⟩
abbrev main_v411 : Ref sig .tc := ⟨.hbm, 496, rfl⟩
abbrev main_v412 : Ref sig .tc := ⟨.hbm, 497, rfl⟩
abbrev main_v413 : Ref sig .tc := ⟨.hbm, 498, rfl⟩
abbrev main_v414 : Ref sig .tc := ⟨.hbm, 499, rfl⟩
abbrev main_v415 : Ref sig .tc := ⟨.hbm, 500, rfl⟩
abbrev main_cst_62 : Ref sig .tc := ⟨.hbm, 501, rfl⟩
abbrev main_v416 : Ref sig .tc := ⟨.hbm, 502, rfl⟩
abbrev main_v417 : Ref sig .tc := ⟨.hbm, 503, rfl⟩
abbrev main_cst_63 : Ref sig .tc := ⟨.hbm, 504, rfl⟩
abbrev main_v418 : Ref sig .tc := ⟨.hbm, 505, rfl⟩
abbrev main_cst_64 : Ref sig .tc := ⟨.hbm, 506, rfl⟩
abbrev main_v419 : Ref sig .tc := ⟨.hbm, 507, rfl⟩
abbrev main_v420 : Ref sig .tc := ⟨.hbm, 508, rfl⟩
abbrev main_v421 : Ref sig .tc := ⟨.hbm, 509, rfl⟩
abbrev main_cst_65 : Ref sig .tc := ⟨.hbm, 510, rfl⟩
abbrev main_v422 : Ref sig .tc := ⟨.hbm, 511, rfl⟩
abbrev main_v423 : Ref sig .tc := ⟨.hbm, 512, rfl⟩
abbrev main_v424 : Ref sig .tc := ⟨.hbm, 513, rfl⟩
abbrev main_v425 : Ref sig .tc := ⟨.hbm, 514, rfl⟩
abbrev main_v426 : Ref sig .tc := ⟨.hbm, 515, rfl⟩
abbrev main_cst_66 : Ref sig .tc := ⟨.hbm, 516, rfl⟩
abbrev main_v427 : Ref sig .tc := ⟨.hbm, 517, rfl⟩
abbrev main_v428 : Ref sig .tc := ⟨.hbm, 518, rfl⟩
abbrev main_cst_67 : Ref sig .tc := ⟨.hbm, 519, rfl⟩
abbrev main_v429 : Ref sig .tc := ⟨.hbm, 520, rfl⟩
abbrev main_cst_68 : Ref sig .tc := ⟨.hbm, 521, rfl⟩
abbrev main_v430 : Ref sig .tc := ⟨.hbm, 522, rfl⟩
abbrev main_v431 : Ref sig .tc := ⟨.hbm, 523, rfl⟩
abbrev main_v432 : Ref sig .tc := ⟨.hbm, 524, rfl⟩
abbrev main_cst_69 : Ref sig .tc := ⟨.hbm, 525, rfl⟩
abbrev main_v433 : Ref sig .tc := ⟨.hbm, 526, rfl⟩
abbrev main_v434 : Ref sig .tc := ⟨.hbm, 527, rfl⟩
abbrev main_v435 : Ref sig .tc := ⟨.hbm, 528, rfl⟩
abbrev main_v436 : Ref sig .tc := ⟨.hbm, 529, rfl⟩
abbrev main_v437 : Ref sig .tc := ⟨.hbm, 530, rfl⟩
abbrev main_cst_70 : Ref sig .tc := ⟨.hbm, 531, rfl⟩
abbrev main_v438 : Ref sig .tc := ⟨.hbm, 532, rfl⟩
abbrev main_v439 : Ref sig .tc := ⟨.hbm, 533, rfl⟩
abbrev main_cst_71 : Ref sig .tc := ⟨.hbm, 534, rfl⟩
abbrev main_v440 : Ref sig .tc := ⟨.hbm, 535, rfl⟩
abbrev main_cst_72 : Ref sig .tc := ⟨.hbm, 536, rfl⟩
abbrev main_v441 : Ref sig .tc := ⟨.hbm, 537, rfl⟩
abbrev main_v442 : Ref sig .tc := ⟨.hbm, 538, rfl⟩
abbrev main_v443 : Ref sig .tc := ⟨.hbm, 539, rfl⟩
abbrev main_cst_73 : Ref sig .tc := ⟨.hbm, 540, rfl⟩
abbrev main_v444 : Ref sig .tc := ⟨.hbm, 541, rfl⟩
abbrev main_v445 : Ref sig .tc := ⟨.hbm, 542, rfl⟩
abbrev main_v446 : Ref sig .tc := ⟨.hbm, 543, rfl⟩
abbrev main_v447 : Ref sig .tc := ⟨.hbm, 544, rfl⟩
abbrev main_v448 : Ref sig .tc := ⟨.hbm, 545, rfl⟩
abbrev main_cst_74 : Ref sig .tc := ⟨.hbm, 546, rfl⟩
abbrev main_v449 : Ref sig .tc := ⟨.hbm, 547, rfl⟩
abbrev main_v450 : Ref sig .tc := ⟨.hbm, 548, rfl⟩
abbrev main_cst_75 : Ref sig .tc := ⟨.hbm, 549, rfl⟩
abbrev main_v451 : Ref sig .tc := ⟨.hbm, 550, rfl⟩
abbrev main_cst_76 : Ref sig .tc := ⟨.hbm, 551, rfl⟩
abbrev main_v452 : Ref sig .tc := ⟨.hbm, 552, rfl⟩
abbrev main_v453 : Ref sig .tc := ⟨.hbm, 553, rfl⟩
abbrev main_v454 : Ref sig .tc := ⟨.hbm, 554, rfl⟩
abbrev main_cst_77 : Ref sig .tc := ⟨.hbm, 555, rfl⟩
abbrev main_v455 : Ref sig .tc := ⟨.hbm, 556, rfl⟩
abbrev main_v456 : Ref sig .tc := ⟨.hbm, 557, rfl⟩
abbrev main_v457 : Ref sig .tc := ⟨.hbm, 558, rfl⟩
abbrev main_v458 : Ref sig .tc := ⟨.hbm, 559, rfl⟩
abbrev main_v459 : Ref sig .tc := ⟨.hbm, 560, rfl⟩
abbrev main_cst_78 : Ref sig .tc := ⟨.hbm, 561, rfl⟩
abbrev main_v460 : Ref sig .tc := ⟨.hbm, 562, rfl⟩
abbrev main_v461 : Ref sig .tc := ⟨.hbm, 563, rfl⟩
abbrev main_cst_79 : Ref sig .tc := ⟨.hbm, 564, rfl⟩
abbrev main_v462 : Ref sig .tc := ⟨.hbm, 565, rfl⟩
abbrev main_cst_80 : Ref sig .tc := ⟨.hbm, 566, rfl⟩
abbrev main_v463 : Ref sig .tc := ⟨.hbm, 567, rfl⟩
abbrev main_v464 : Ref sig .tc := ⟨.hbm, 568, rfl⟩
abbrev main_v465 : Ref sig .tc := ⟨.hbm, 569, rfl⟩
abbrev main_cst_81 : Ref sig .tc := ⟨.hbm, 570, rfl⟩
abbrev main_v466 : Ref sig .tc := ⟨.hbm, 571, rfl⟩
abbrev main_v467 : Ref sig .tc := ⟨.hbm, 572, rfl⟩
abbrev main_v468 : Ref sig .tc := ⟨.hbm, 573, rfl⟩
abbrev main_v469 : Ref sig .tc := ⟨.hbm, 574, rfl⟩
abbrev main_v470 : Ref sig .tc := ⟨.hbm, 575, rfl⟩
abbrev main_cst_82 : Ref sig .tc := ⟨.hbm, 576, rfl⟩
abbrev main_v471 : Ref sig .tc := ⟨.hbm, 577, rfl⟩
abbrev main_v472 : Ref sig .tc := ⟨.hbm, 578, rfl⟩
abbrev main_cst_83 : Ref sig .tc := ⟨.hbm, 579, rfl⟩
abbrev main_v473 : Ref sig .tc := ⟨.hbm, 580, rfl⟩
abbrev main_cst_84 : Ref sig .tc := ⟨.hbm, 581, rfl⟩
abbrev main_v474 : Ref sig .tc := ⟨.hbm, 582, rfl⟩
abbrev main_v475 : Ref sig .tc := ⟨.hbm, 583, rfl⟩
abbrev main_v476 : Ref sig .tc := ⟨.hbm, 584, rfl⟩
abbrev main_cst_85 : Ref sig .tc := ⟨.hbm, 585, rfl⟩
abbrev main_v477 : Ref sig .tc := ⟨.hbm, 586, rfl⟩
abbrev main_v478 : Ref sig .tc := ⟨.hbm, 587, rfl⟩
abbrev main_v479 : Ref sig .tc := ⟨.hbm, 588, rfl⟩
abbrev main_v480 : Ref sig .tc := ⟨.hbm, 589, rfl⟩
abbrev main_v481 : Ref sig .tc := ⟨.hbm, 590, rfl⟩
abbrev main_cst_86 : Ref sig .tc := ⟨.hbm, 591, rfl⟩
abbrev main_v482 : Ref sig .tc := ⟨.hbm, 592, rfl⟩
abbrev main_v483 : Ref sig .tc := ⟨.hbm, 593, rfl⟩
abbrev main_cst_87 : Ref sig .tc := ⟨.hbm, 594, rfl⟩
abbrev main_v484 : Ref sig .tc := ⟨.hbm, 595, rfl⟩
abbrev main_cst_88 : Ref sig .tc := ⟨.hbm, 596, rfl⟩
abbrev main_v485 : Ref sig .tc := ⟨.hbm, 597, rfl⟩
abbrev main_v486 : Ref sig .tc := ⟨.hbm, 598, rfl⟩
abbrev main_v487 : Ref sig .tc := ⟨.hbm, 599, rfl⟩
abbrev main_cst_89 : Ref sig .tc := ⟨.hbm, 600, rfl⟩
abbrev main_v488 : Ref sig .tc := ⟨.hbm, 601, rfl⟩
abbrev main_v489 : Ref sig .tc := ⟨.hbm, 602, rfl⟩
abbrev main_v490 : Ref sig .tc := ⟨.hbm, 603, rfl⟩
abbrev main_v491 : Ref sig .tc := ⟨.hbm, 604, rfl⟩
abbrev main_v492 : Ref sig .tc := ⟨.hbm, 605, rfl⟩
abbrev main_cst_90 : Ref sig .tc := ⟨.hbm, 606, rfl⟩
abbrev main_v493 : Ref sig .tc := ⟨.hbm, 607, rfl⟩
abbrev main_v494 : Ref sig .tc := ⟨.hbm, 608, rfl⟩
abbrev main_cst_91 : Ref sig .tc := ⟨.hbm, 609, rfl⟩
abbrev main_v495 : Ref sig .tc := ⟨.hbm, 610, rfl⟩
abbrev main_cst_92 : Ref sig .tc := ⟨.hbm, 611, rfl⟩
abbrev main_v496 : Ref sig .tc := ⟨.hbm, 612, rfl⟩
abbrev main_v497 : Ref sig .tc := ⟨.hbm, 613, rfl⟩
abbrev main_v498 : Ref sig .tc := ⟨.hbm, 614, rfl⟩
abbrev main_cst_93 : Ref sig .tc := ⟨.hbm, 615, rfl⟩
abbrev main_v499 : Ref sig .tc := ⟨.hbm, 616, rfl⟩
abbrev main_v500 : Ref sig .tc := ⟨.hbm, 617, rfl⟩
abbrev main_v501 : Ref sig .tc := ⟨.hbm, 618, rfl⟩
abbrev main_v502 : Ref sig .tc := ⟨.hbm, 619, rfl⟩
abbrev main_v503 : Ref sig .tc := ⟨.hbm, 620, rfl⟩
abbrev main_cst_94 : Ref sig .tc := ⟨.hbm, 621, rfl⟩
abbrev main_v504 : Ref sig .tc := ⟨.hbm, 622, rfl⟩
abbrev main_v505 : Ref sig .tc := ⟨.hbm, 623, rfl⟩
abbrev main_cst_95 : Ref sig .tc := ⟨.hbm, 624, rfl⟩
abbrev main_v506 : Ref sig .tc := ⟨.hbm, 625, rfl⟩
abbrev main_cst_96 : Ref sig .tc := ⟨.hbm, 626, rfl⟩
abbrev main_v507 : Ref sig .tc := ⟨.hbm, 627, rfl⟩
abbrev main_v508 : Ref sig .tc := ⟨.hbm, 628, rfl⟩
abbrev main_v509 : Ref sig .tc := ⟨.hbm, 629, rfl⟩
abbrev main_cst_97 : Ref sig .tc := ⟨.hbm, 630, rfl⟩
abbrev main_v510 : Ref sig .tc := ⟨.hbm, 631, rfl⟩
abbrev main_v511 : Ref sig .tc := ⟨.hbm, 632, rfl⟩
abbrev main_v512 : Ref sig .tc := ⟨.hbm, 633, rfl⟩
abbrev main_v513 : Ref sig .tc := ⟨.hbm, 634, rfl⟩
abbrev main_v514 : Ref sig .tc := ⟨.hbm, 635, rfl⟩
abbrev main_cst_98 : Ref sig .tc := ⟨.hbm, 636, rfl⟩
abbrev main_v515 : Ref sig .tc := ⟨.hbm, 637, rfl⟩
abbrev main_v516 : Ref sig .tc := ⟨.hbm, 638, rfl⟩
abbrev main_cst_99 : Ref sig .tc := ⟨.hbm, 639, rfl⟩
abbrev main_v517 : Ref sig .tc := ⟨.hbm, 640, rfl⟩
abbrev main_cst_100 : Ref sig .tc := ⟨.hbm, 641, rfl⟩
abbrev main_v518 : Ref sig .tc := ⟨.hbm, 642, rfl⟩
abbrev main_v519 : Ref sig .tc := ⟨.hbm, 643, rfl⟩
abbrev main_v520 : Ref sig .tc := ⟨.hbm, 644, rfl⟩
abbrev main_cst_101 : Ref sig .tc := ⟨.hbm, 645, rfl⟩
abbrev main_v521 : Ref sig .tc := ⟨.hbm, 646, rfl⟩
abbrev main_v522 : Ref sig .tc := ⟨.hbm, 647, rfl⟩
abbrev main_v523 : Ref sig .tc := ⟨.hbm, 648, rfl⟩
abbrev main_v524 : Ref sig .tc := ⟨.hbm, 649, rfl⟩
abbrev main_v525 : Ref sig .tc := ⟨.hbm, 650, rfl⟩
abbrev main_cst_102 : Ref sig .tc := ⟨.hbm, 651, rfl⟩
abbrev main_v526 : Ref sig .tc := ⟨.hbm, 652, rfl⟩
abbrev main_v527 : Ref sig .tc := ⟨.hbm, 653, rfl⟩
abbrev main_cst_103 : Ref sig .tc := ⟨.hbm, 654, rfl⟩
abbrev main_v528 : Ref sig .tc := ⟨.hbm, 655, rfl⟩
abbrev main_cst_104 : Ref sig .tc := ⟨.hbm, 656, rfl⟩
abbrev main_v529 : Ref sig .tc := ⟨.hbm, 657, rfl⟩
abbrev main_v530 : Ref sig .tc := ⟨.hbm, 658, rfl⟩
abbrev main_v531 : Ref sig .tc := ⟨.hbm, 659, rfl⟩
abbrev main_cst_105 : Ref sig .tc := ⟨.hbm, 660, rfl⟩
abbrev main_v532 : Ref sig .tc := ⟨.hbm, 661, rfl⟩
abbrev main_v533 : Ref sig .tc := ⟨.hbm, 662, rfl⟩
abbrev main_v534 : Ref sig .tc := ⟨.hbm, 663, rfl⟩
abbrev main_v535 : Ref sig .tc := ⟨.hbm, 664, rfl⟩
abbrev main_v536 : Ref sig .tc := ⟨.hbm, 665, rfl⟩
abbrev main_cst_106 : Ref sig .tc := ⟨.hbm, 666, rfl⟩
abbrev main_v537 : Ref sig .tc := ⟨.hbm, 667, rfl⟩
abbrev main_v538 : Ref sig .tc := ⟨.hbm, 668, rfl⟩
abbrev main_cst_107 : Ref sig .tc := ⟨.hbm, 669, rfl⟩
abbrev main_v539 : Ref sig .tc := ⟨.hbm, 670, rfl⟩
abbrev main_cst_108 : Ref sig .tc := ⟨.hbm, 671, rfl⟩
abbrev main_v540 : Ref sig .tc := ⟨.hbm, 672, rfl⟩
abbrev main_v541 : Ref sig .tc := ⟨.hbm, 673, rfl⟩
abbrev main_v542 : Ref sig .tc := ⟨.hbm, 674, rfl⟩
abbrev main_cst_109 : Ref sig .tc := ⟨.hbm, 675, rfl⟩
abbrev main_v543 : Ref sig .tc := ⟨.hbm, 676, rfl⟩
abbrev main_v544 : Ref sig .tc := ⟨.hbm, 677, rfl⟩
abbrev main_v545 : Ref sig .tc := ⟨.hbm, 678, rfl⟩
abbrev main_v546 : Ref sig .tc := ⟨.hbm, 679, rfl⟩
abbrev main_v547 : Ref sig .tc := ⟨.hbm, 680, rfl⟩
abbrev main_cst_110 : Ref sig .tc := ⟨.hbm, 681, rfl⟩
abbrev main_v548 : Ref sig .tc := ⟨.hbm, 682, rfl⟩
abbrev main_v549 : Ref sig .tc := ⟨.hbm, 683, rfl⟩
abbrev main_cst_111 : Ref sig .tc := ⟨.hbm, 684, rfl⟩
abbrev main_v550 : Ref sig .tc := ⟨.hbm, 685, rfl⟩
abbrev main_cst_112 : Ref sig .tc := ⟨.hbm, 686, rfl⟩
abbrev main_v551 : Ref sig .tc := ⟨.hbm, 687, rfl⟩
abbrev main_v552 : Ref sig .tc := ⟨.hbm, 688, rfl⟩
abbrev main_v553 : Ref sig .tc := ⟨.hbm, 689, rfl⟩
abbrev main_cst_113 : Ref sig .tc := ⟨.hbm, 690, rfl⟩
abbrev main_v554 : Ref sig .tc := ⟨.hbm, 691, rfl⟩
abbrev main_v555 : Ref sig .tc := ⟨.hbm, 692, rfl⟩
abbrev main_v556 : Ref sig .tc := ⟨.hbm, 693, rfl⟩
abbrev main_v557 : Ref sig .tc := ⟨.hbm, 694, rfl⟩
abbrev main_v558 : Ref sig .tc := ⟨.hbm, 695, rfl⟩
abbrev main_cst_114 : Ref sig .tc := ⟨.hbm, 696, rfl⟩
abbrev main_v559 : Ref sig .tc := ⟨.hbm, 697, rfl⟩
abbrev main_v560 : Ref sig .tc := ⟨.hbm, 698, rfl⟩
abbrev main_cst_115 : Ref sig .tc := ⟨.hbm, 699, rfl⟩
abbrev main_v561 : Ref sig .tc := ⟨.hbm, 700, rfl⟩
abbrev main_cst_116 : Ref sig .tc := ⟨.hbm, 701, rfl⟩
abbrev main_v562 : Ref sig .tc := ⟨.hbm, 702, rfl⟩
abbrev main_v563 : Ref sig .tc := ⟨.hbm, 703, rfl⟩
abbrev main_v564 : Ref sig .tc := ⟨.hbm, 704, rfl⟩
abbrev main_cst_117 : Ref sig .tc := ⟨.hbm, 705, rfl⟩
abbrev main_v565 : Ref sig .tc := ⟨.hbm, 706, rfl⟩
abbrev main_v566 : Ref sig .tc := ⟨.hbm, 707, rfl⟩
abbrev main_v567 : Ref sig .tc := ⟨.hbm, 708, rfl⟩
abbrev main_v568 : Ref sig .tc := ⟨.hbm, 709, rfl⟩
abbrev main_v569 : Ref sig .tc := ⟨.hbm, 710, rfl⟩
abbrev main_cst_118 : Ref sig .tc := ⟨.hbm, 711, rfl⟩
abbrev main_v570 : Ref sig .tc := ⟨.hbm, 712, rfl⟩
abbrev main_v571 : Ref sig .tc := ⟨.hbm, 713, rfl⟩
abbrev main_cst_119 : Ref sig .tc := ⟨.hbm, 714, rfl⟩
abbrev main_v572 : Ref sig .tc := ⟨.hbm, 715, rfl⟩
abbrev main_cst_120 : Ref sig .tc := ⟨.hbm, 716, rfl⟩
abbrev main_v573 : Ref sig .tc := ⟨.hbm, 717, rfl⟩
abbrev main_v574 : Ref sig .tc := ⟨.hbm, 718, rfl⟩
abbrev main_v575 : Ref sig .tc := ⟨.hbm, 719, rfl⟩
abbrev main_cst_121 : Ref sig .tc := ⟨.hbm, 720, rfl⟩
abbrev main_v576 : Ref sig .tc := ⟨.hbm, 721, rfl⟩
abbrev main_v577 : Ref sig .tc := ⟨.hbm, 722, rfl⟩
abbrev main_v578 : Ref sig .tc := ⟨.hbm, 723, rfl⟩
abbrev main_v579 : Ref sig .tc := ⟨.hbm, 724, rfl⟩
abbrev main_v580 : Ref sig .tc := ⟨.hbm, 725, rfl⟩
abbrev main_cst_122 : Ref sig .tc := ⟨.hbm, 726, rfl⟩
abbrev main_v581 : Ref sig .tc := ⟨.hbm, 727, rfl⟩
abbrev main_v582 : Ref sig .tc := ⟨.hbm, 728, rfl⟩
abbrev main_cst_123 : Ref sig .tc := ⟨.hbm, 729, rfl⟩
abbrev main_v583 : Ref sig .tc := ⟨.hbm, 730, rfl⟩
abbrev main_cst_124 : Ref sig .tc := ⟨.hbm, 731, rfl⟩
abbrev main_v584 : Ref sig .tc := ⟨.hbm, 732, rfl⟩
abbrev main_v585 : Ref sig .tc := ⟨.hbm, 733, rfl⟩
abbrev main_v586 : Ref sig .tc := ⟨.hbm, 734, rfl⟩
abbrev main_cst_125 : Ref sig .tc := ⟨.hbm, 735, rfl⟩
abbrev main_v587 : Ref sig .tc := ⟨.hbm, 736, rfl⟩
abbrev main_v588 : Ref sig .tc := ⟨.hbm, 737, rfl⟩
abbrev main_v589 : Ref sig .tc := ⟨.hbm, 738, rfl⟩
abbrev main_v590 : Ref sig .tc := ⟨.hbm, 739, rfl⟩
abbrev main_v591 : Ref sig .tc := ⟨.hbm, 740, rfl⟩
abbrev main_cst_126 : Ref sig .tc := ⟨.hbm, 741, rfl⟩
abbrev main_v592 : Ref sig .tc := ⟨.hbm, 742, rfl⟩
abbrev main_v593 : Ref sig .tc := ⟨.hbm, 743, rfl⟩
abbrev main_cst_127 : Ref sig .tc := ⟨.hbm, 744, rfl⟩
abbrev main_v594 : Ref sig .tc := ⟨.hbm, 745, rfl⟩
abbrev main_cst_128 : Ref sig .tc := ⟨.hbm, 746, rfl⟩
abbrev main_v595 : Ref sig .tc := ⟨.hbm, 747, rfl⟩
abbrev main_v596 : Ref sig .tc := ⟨.hbm, 748, rfl⟩
abbrev main_v597 : Ref sig .tc := ⟨.hbm, 749, rfl⟩
abbrev main_cst_129 : Ref sig .tc := ⟨.hbm, 750, rfl⟩
abbrev main_v598 : Ref sig .tc := ⟨.hbm, 751, rfl⟩
abbrev main_v599 : Ref sig .tc := ⟨.hbm, 752, rfl⟩
abbrev main_v600 : Ref sig .tc := ⟨.hbm, 753, rfl⟩
abbrev main_v601 : Ref sig .tc := ⟨.hbm, 754, rfl⟩
abbrev main_v602 : Ref sig .tc := ⟨.hbm, 755, rfl⟩
abbrev main_cst_130 : Ref sig .tc := ⟨.hbm, 756, rfl⟩
abbrev main_v603 : Ref sig .tc := ⟨.hbm, 757, rfl⟩
abbrev main_v604 : Ref sig .tc := ⟨.hbm, 758, rfl⟩
abbrev main_cst_131 : Ref sig .tc := ⟨.hbm, 759, rfl⟩
abbrev main_v605 : Ref sig .tc := ⟨.hbm, 760, rfl⟩
abbrev main_cst_132 : Ref sig .tc := ⟨.hbm, 761, rfl⟩
abbrev main_v606 : Ref sig .tc := ⟨.hbm, 762, rfl⟩
abbrev main_v607 : Ref sig .tc := ⟨.hbm, 763, rfl⟩
abbrev main_v608 : Ref sig .tc := ⟨.hbm, 764, rfl⟩
abbrev main_cst_133 : Ref sig .tc := ⟨.hbm, 765, rfl⟩
abbrev main_v609 : Ref sig .tc := ⟨.hbm, 766, rfl⟩
abbrev main_v610 : Ref sig .tc := ⟨.hbm, 767, rfl⟩
abbrev main_v611 : Ref sig .tc := ⟨.hbm, 768, rfl⟩
abbrev main_v612 : Ref sig .tc := ⟨.hbm, 769, rfl⟩
abbrev main_v613 : Ref sig .tc := ⟨.hbm, 770, rfl⟩
abbrev main_cst_134 : Ref sig .tc := ⟨.hbm, 771, rfl⟩
abbrev main_v614 : Ref sig .tc := ⟨.hbm, 772, rfl⟩
abbrev main_v615 : Ref sig .tc := ⟨.hbm, 773, rfl⟩
abbrev main_cst_135 : Ref sig .tc := ⟨.hbm, 774, rfl⟩
abbrev main_v616 : Ref sig .tc := ⟨.hbm, 775, rfl⟩
abbrev main_cst_136 : Ref sig .tc := ⟨.hbm, 776, rfl⟩
abbrev main_v617 : Ref sig .tc := ⟨.hbm, 777, rfl⟩
abbrev main_v618 : Ref sig .tc := ⟨.hbm, 778, rfl⟩
abbrev main_v619 : Ref sig .tc := ⟨.hbm, 779, rfl⟩
abbrev main_cst_137 : Ref sig .tc := ⟨.hbm, 780, rfl⟩
abbrev main_v620 : Ref sig .tc := ⟨.hbm, 781, rfl⟩
abbrev main_v621 : Ref sig .tc := ⟨.hbm, 782, rfl⟩
abbrev main_v622 : Ref sig .tc := ⟨.hbm, 783, rfl⟩
abbrev main_v623 : Ref sig .tc := ⟨.hbm, 784, rfl⟩
abbrev main_v624 : Ref sig .tc := ⟨.hbm, 785, rfl⟩
abbrev main_cst_138 : Ref sig .tc := ⟨.hbm, 786, rfl⟩
abbrev main_v625 : Ref sig .tc := ⟨.hbm, 787, rfl⟩
abbrev main_v626 : Ref sig .tc := ⟨.hbm, 788, rfl⟩
abbrev main_cst_139 : Ref sig .tc := ⟨.hbm, 789, rfl⟩
abbrev main_v627 : Ref sig .tc := ⟨.hbm, 790, rfl⟩
abbrev main_cst_140 : Ref sig .tc := ⟨.hbm, 791, rfl⟩
abbrev main_v628 : Ref sig .tc := ⟨.hbm, 792, rfl⟩
abbrev main_v629 : Ref sig .tc := ⟨.hbm, 793, rfl⟩
abbrev main_v630 : Ref sig .tc := ⟨.hbm, 794, rfl⟩
abbrev main_cst_141 : Ref sig .tc := ⟨.hbm, 795, rfl⟩
abbrev main_v631 : Ref sig .tc := ⟨.hbm, 796, rfl⟩
abbrev main_v632 : Ref sig .tc := ⟨.hbm, 797, rfl⟩
abbrev main_v633 : Ref sig .tc := ⟨.hbm, 798, rfl⟩
abbrev main_v634 : Ref sig .tc := ⟨.hbm, 799, rfl⟩
abbrev main_v635 : Ref sig .tc := ⟨.hbm, 800, rfl⟩
abbrev main_cst_142 : Ref sig .tc := ⟨.hbm, 801, rfl⟩
abbrev main_v636 : Ref sig .tc := ⟨.hbm, 802, rfl⟩
abbrev main_v637 : Ref sig .tc := ⟨.hbm, 803, rfl⟩
abbrev main_cst_143 : Ref sig .tc := ⟨.hbm, 804, rfl⟩
abbrev main_v638 : Ref sig .tc := ⟨.hbm, 805, rfl⟩
abbrev main_cst_144 : Ref sig .tc := ⟨.hbm, 806, rfl⟩
abbrev main_v639 : Ref sig .tc := ⟨.hbm, 807, rfl⟩
abbrev main_v640 : Ref sig .tc := ⟨.hbm, 808, rfl⟩
abbrev main_v641 : Ref sig .tc := ⟨.hbm, 809, rfl⟩
abbrev main_cst_145 : Ref sig .tc := ⟨.hbm, 810, rfl⟩
abbrev main_v642 : Ref sig .tc := ⟨.hbm, 811, rfl⟩
abbrev main_v643 : Ref sig .tc := ⟨.hbm, 812, rfl⟩
abbrev main_v644 : Ref sig .tc := ⟨.hbm, 813, rfl⟩
abbrev main_v645 : Ref sig .tc := ⟨.hbm, 814, rfl⟩
abbrev main_v646 : Ref sig .tc := ⟨.hbm, 815, rfl⟩
abbrev main_v647 : Ref sig .tc := ⟨.hbm, 816, rfl⟩
abbrev main_v648 : Ref sig .tc := ⟨.hbm, 817, rfl⟩
abbrev main_v649 : Ref sig .tc := ⟨.hbm, 818, rfl⟩
abbrev main_v650 : Ref sig .tc := ⟨.hbm, 819, rfl⟩
abbrev main_v651 : Ref sig .tc := ⟨.hbm, 820, rfl⟩
abbrev main_v652 : Ref sig .tc := ⟨.hbm, 821, rfl⟩

abbrev nD : Nat := 1
abbrev τ : Topo := Topo.v7x

variable {F : FTy → Type} [FloatOps F]
-- ==== ProductIn.lean ====
abbrev S8192x2048 : Shape := ⟨2, ![8192, 2048]⟩
abbrev S4x2048x3072 : Shape := ⟨3, ![4, 2048, 3072]⟩
abbrev S8192x12288 : Shape := ⟨2, ![8192, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S8192x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductInRefIdeal.lean ====
abbrev S8192x2048 : Shape := ⟨2, ![8192, 2048]⟩
abbrev S4x2048x3072 : Shape := ⟨3, ![4, 2048, 3072]⟩
abbrev S2048x4x3072 : Shape := ⟨3, ![2048, 4, 3072]⟩
abbrev S2048x12288 : Shape := ⟨2, ![2048, 12288]⟩
abbrev S8192x12288 : Shape := ⟨2, ![8192, 12288]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S8192x2048, .f32⟩
  | .hbm, ⟨3, _⟩ => ⟨S4x2048x3072, .f32⟩
  | .hbm, ⟨4, _⟩ => ⟨S2048x4x3072, .f32⟩
  | .hbm, ⟨5, _⟩ => ⟨S2048x12288, .f32⟩
  | .hbm, ⟨6, _⟩ => ⟨S8192x12288, .f32⟩
  | .hbm, ⟨7, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProductInDx.lean ====
abbrev S8192x2048 : Shape := ⟨2, ![8192, 2048]⟩
abbrev S4x2048x3072 : Shape := ⟨3, ![4, 2048, 3072]⟩
abbrev S8192x12288 : Shape := ⟨2, ![8192, 12288]⟩
abbrev S1024x3072 : Shape := ⟨2, ![1024, 3072]⟩
abbrev S1x1024x3072 : Shape := ⟨3, ![1, 1024, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S8192x12288, .bf16⟩
  | .hbm, ⟨3, _⟩ => ⟨S8192x2048, .bf16⟩
  | .local _ .vmem, ⟨0, _⟩ => ⟨S1024x3072, .bf16⟩
  | .local _ .vmem, ⟨1, _⟩ => ⟨S1024x3072, .bf16⟩
  | .local _ .vmem, ⟨2, _⟩ => ⟨S1x1024x3072, .bf16⟩
  | .local _ .vmem, ⟨3, _⟩ => ⟨S1x1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductInDxRefIdeal.lean ====
abbrev S8192x2048 : Shape := ⟨2, ![8192, 2048]⟩
abbrev S4x2048x3072 : Shape := ⟨3, ![4, 2048, 3072]⟩
abbrev S8192x12288 : Shape := ⟨2, ![8192, 12288]⟩
abbrev S2048x4x3072 : Shape := ⟨3, ![2048, 4, 3072]⟩
abbrev S2048x12288 : Shape := ⟨2, ![2048, 12288]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S8192x12288, .bf16⟩
  | .hbm, ⟨3, _⟩ => ⟨S4x2048x3072, .f32⟩
  | .hbm, ⟨4, _⟩ => ⟨S2048x4x3072, .f32⟩
  | .hbm, ⟨5, _⟩ => ⟨S2048x12288, .f32⟩
  | .hbm, ⟨6, _⟩ => ⟨S8192x2048, .f32⟩
  | .hbm, ⟨7, _⟩ => ⟨S8192x12288, .f32⟩
  | .hbm, ⟨8, _⟩ => ⟨S8192x12288, .f32⟩
  | .hbm, ⟨9, _⟩ => ⟨S8192x2048, .f32⟩
  | .hbm, ⟨10, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProductInDw.lean ====
abbrev S8192x2048 : Shape := ⟨2, ![8192, 2048]⟩
abbrev S4x2048x3072 : Shape := ⟨3, ![4, 2048, 3072]⟩
abbrev S8192x12288 : Shape := ⟨2, ![8192, 12288]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S8192x12288, .bf16⟩
  | .hbm, ⟨3, _⟩ => ⟨S4x2048x3072, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S1x512x512, .bf16⟩
  | .local _ .vmem, ⟨5, _⟩ => ⟨S1x512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductInDwRefIdeal.lean ====
abbrev S8192x2048 : Shape := ⟨2, ![8192, 2048]⟩
abbrev S4x2048x3072 : Shape := ⟨3, ![4, 2048, 3072]⟩
abbrev S8192x12288 : Shape := ⟨2, ![8192, 12288]⟩
abbrev S2048x4x3072 : Shape := ⟨3, ![2048, 4, 3072]⟩
abbrev S2048x12288 : Shape := ⟨2, ![2048, 12288]⟩
abbrev S12288x2048 : Shape := ⟨2, ![12288, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S8192x12288, .bf16⟩
  | .hbm, ⟨3, _⟩ => ⟨S4x2048x3072, .f32⟩
  | .hbm, ⟨4, _⟩ => ⟨S8192x2048, .f32⟩
  | .hbm, ⟨5, _⟩ => ⟨S2048x4x3072, .f32⟩
  | .hbm, ⟨6, _⟩ => ⟨S2048x12288, .f32⟩
  | .hbm, ⟨7, _⟩ => ⟨S8192x12288, .f32⟩
  | .hbm, ⟨8, _⟩ => ⟨S8192x12288, .f32⟩
  | .hbm, ⟨9, _⟩ => ⟨S12288x2048, .f32⟩
  | .hbm, ⟨10, _⟩ => ⟨S2048x12288, .f32⟩
  | .hbm, ⟨11, _⟩ => ⟨S2048x4x3072, .f32⟩
  | .hbm, ⟨12, _⟩ => ⟨S4x2048x3072, .f32⟩
  | .hbm, ⟨13, _⟩ => ⟨S4x2048x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Adamw.lean ====
abbrev S1x64x1024 : Shape := ⟨3, ![1, 64, 1024]⟩
abbrev S64x1024 : Shape := ⟨2, ![64, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x64x1024, .f32⟩
  | .hbm, ⟨1, _⟩ => ⟨S1x64x1024, .f32⟩
  | .hbm, ⟨2, _⟩ => ⟨S1x64x1024, .f32⟩
  | .hbm, ⟨3, _⟩ => ⟨S1x64x1024, .f32⟩
  | .hbm, ⟨4, _⟩ => ⟨S1x64x1024, .f32⟩
  | .hbm, ⟨5, _⟩ => ⟨S1x64x1024, .f32⟩
  | .hbm, ⟨6, _⟩ => ⟨S1x64x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | _, _ => ⟨S1x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 1 → Memref sig .tc .vmem S1x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamwRefIdeal.lean ====
abbrev S1x64x1024 : Shape := ⟨3, ![1, 64, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64x1024, .f32⟩
  | .hbm, ⟨1, _⟩ => ⟨S1x64x1024, .f32⟩
  | .hbm, ⟨2, _⟩ => ⟨S1x64x1024, .f32⟩
  | .hbm, ⟨3, _⟩ => ⟨S1x64x1024, .f32⟩
  | .hbm, ⟨4, _⟩ => ⟨S_, .f32⟩
  | .hbm, ⟨5, _⟩ => ⟨S1x64x1024, .f32⟩
  | .hbm, ⟨6, _⟩ => ⟨S1x64x1024, .f32⟩
  | .hbm, ⟨7, _⟩ => ⟨S_, .f32⟩
  | .hbm, ⟨8, _⟩ => ⟨S1x64x1024, .f32⟩
  | .hbm, ⟨9, _⟩ => ⟨S1x64x1024, .f32⟩
  | .hbm, ⟨10, _⟩ => ⟨S1x64x1024, .f32⟩
  | .hbm, ⟨11, _⟩ => ⟨S_, .f32⟩
  | .hbm, ⟨12, _⟩ => ⟨S1x64x1024, .f32⟩
  | .hbm, ⟨13, _⟩ => ⟨S1x64x1024, .f32⟩
  | .hbm, ⟨14, _⟩ => ⟨S1x64x1024, .f32⟩
  | .hbm, ⟨15, _⟩ => ⟨S_, .f32⟩
  | .hbm, ⟨16, _⟩ => ⟨S1x64x1024, .f32⟩
  | .hbm, ⟨17, _⟩ => ⟨S1x64x1024, .f32⟩
  | .hbm, ⟨18, _⟩ => ⟨S1x64x1024, .f32⟩
  | .hbm, ⟨19, _⟩ => ⟨S_, .f32⟩
  | .hbm, ⟨20, _⟩ => ⟨S1x64x1024, .f32⟩
  | .hbm, ⟨21, _⟩ => ⟨S1x64x1024, .f32⟩
  | .hbm, ⟨22, _⟩ => ⟨S_, .f32⟩
  | .hbm, ⟨23, _⟩ => ⟨S1x64x1024, .f32⟩
  | .hbm, ⟨24, _⟩ => ⟨S1x64x1024, .f32⟩
  | .hbm, ⟨25, _⟩ => ⟨S1x64x1024, .f32⟩
  | .hbm, ⟨26, _⟩ => ⟨S_, .f32⟩
  | .hbm, ⟨27, _⟩ => ⟨S1x64x1024, .f32⟩
  | .hbm, ⟨28, _⟩ => ⟨S1x64x1024, .f32⟩
  | .hbm, ⟨29, _⟩ => ⟨S1x64x1024, .f32⟩
  | .hbm, ⟨30, _⟩ => ⟨S_, .f32⟩
  | .hbm, ⟨31, _⟩ => ⟨S1x64x1024, .f32⟩
  | .hbm, ⟨32, _⟩ => ⟨S1x64x1024, .f32⟩
  | .hbm, ⟨33, _⟩ => ⟨S1x64x1024, .f32⟩
  | .hbm, ⟨34, _⟩ => ⟨S_, .f32⟩
  | .hbm, ⟨35, _⟩ => ⟨S1x64x1024, .f32⟩
  | .hbm, ⟨36, _⟩ => ⟨S1x64x1024, .f32⟩
  | _, _ => ⟨S1x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S1x8x208x1024 : Shape := ⟨4, ![1, 8, 208, 1024]⟩
abbrev S1x208x1024 : Shape := ⟨3, ![1, 208, 1024]⟩
abbrev S1x1x208x1024 : Shape := ⟨4, ![1, 1, 208, 1024]⟩
abbrev S208x1024 : Shape := ⟨2, ![208, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1x8x208x1024, .f32⟩
  | .hbm, ⟨1, _⟩ => ⟨S1x208x1024, .f32⟩
  | .local _ .vmem, ⟨0, _⟩ => ⟨S1x8x208x1024, .f32⟩
  | .local _ .vmem, ⟨1, _⟩ => ⟨S1x208x1024, .f32⟩
  | _, _ => ⟨S1x8x208x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x208x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x208x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== SumSmallRefIdeal.lean ====
abbrev S1x8x208x1024 : Shape := ⟨4, ![1, 8, 208, 1024]⟩
abbrev S_ : Shape := ⟨0, ![]⟩
abbrev S1x208x1024 : Shape := ⟨3, ![1, 208, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1x8x208x1024, .f32⟩
  | .hbm, ⟨1, _⟩ => ⟨S_, .f32⟩
  | .hbm, ⟨2, _⟩ => ⟨S1x208x1024, .f32⟩
  | _, _ => ⟨S1x8x208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Adamw.lean ====
/- One step of the optimiser: every array is one block, and each entry of a result is one expression in the four entries at its place. -/
module

public import proofs.«01_k».proof.Defs
public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwIdeal.Value

open Cert.AdamwIdeal Cert.AdamwIdeal.Gen
open Cert.AdamwRefIdeal.Read

variable (m : (ℓ : Loc nD τ sig) → Buf (Elt Ideal) ℓ)

/-- Every window holds its whole array. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] :=
  (by decide +kernel : ∀ t : Fin grid0.N, _)

/-- An entry of the update. -/
theorem point4 (c : Dev nD) (t : Fin cfg0.N) (y) : k0_pay1 (F := Ideal) (k0_pay7 (iblk m c 0 t) (iblk m c 1 t) (iblk m c 2 t) (iblk m c 3 t)) y
    = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay7, k0_pay5, k0_pay6, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  blk_point [iblk, V, idx t]

/-- The update. -/
theorem fin4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

/-- An entry of the first moment. -/
theorem point5 (c : Dev nD) (t : Fin cfg0.N) (y) : k0_pay2 (F := Ideal) (k0_pay5 (iblk m c 1 t) (iblk m c 2 t)) y
    = val_main_v4 (F := Ideal) (m ((c : Thread nD τ).loc main_arg1)) (m ((c : Thread nD τ).loc main_arg2)) (((cfg0.win 5).blk t).view.emb y) := by
  pointwise [k0_pay2, k0_pay5, val_main_v4, val_main_v3, val_main_v2, val_main_v1, val_main_v0, val_main_cst, val_main_cst_0]
  blk_point [iblk, V, idx t]

/-- The first moment. -/
theorem fin5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

/-- An entry of the second moment. -/
theorem point6 (c : Dev nD) (t : Fin cfg0.N) (y) : k0_pay3 (F := Ideal) (k0_pay6 (iblk m c 1 t) (iblk m c 3 t)) y
    = val_main_v10 (F := Ideal) (m ((c : Thread nD τ).loc main_arg1)) (m ((c : Thread nD τ).loc main_arg3)) (((cfg0.win 6).blk t).view.emb y) := by
  pointwise [k0_pay3, k0_pay6, val_main_v10, val_main_v9, val_main_v8, val_main_v7, val_main_v6, val_main_v5, val_main_cst_1, val_main_cst_2]
  blk_point [iblk, V, idx t]

/-- The second moment. -/
theorem fin6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point6 m c t y

/-- Over the reals the kernel's step is the reference's. -/
theorem algebraic : Cert.algebraic_AdamwIdeal_AdamwRefIdeal := fun m ρ m' ρ' _ hag =>
  ⟨fun c => val_main_v23 (F := Ideal) (m ((c : Thread nD τ).loc main_arg0)) (m ((c : Thread nD τ).loc main_arg1)) (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)),
    (θ_run _ _ _).mono (fun _ h c => ⟨(h c).1.trans (fin4 m c), (h c).2.1.trans (fin5 m c), (h c).2.2.1.trans (fin6 m c), (h c).2.2.2⟩) (run_blocks m ρ),
    (θ_run _ _ _).mono (fun _ h c => ⟨(h c).1.trans (by rw [val_main_v23_eq, (hag c).1, (hag c).2.1, (hag c).2.2.1, (hag c).2.2.2]),
      (h c).2.1.trans (by rw [val_main_v4_eq, (hag c).2.1, (hag c).2.2.1]), (h c).2.2.1.trans (by rw [val_main_v10_eq, (hag c).2.1, (hag c).2.2.2]), (h c).2.2.2⟩) (Cert.AdamwRefIdeal.Value.run m' ρ')⟩

end Cert.AdamwIdeal.Value

end
-- ==== Proof.Softmax.lean ====
/- The softmax of one row of scores and its gradient, over the extended reals: the form that divides first and
   then multiplies, and the form that the derivative of the quotient gives. -/
module

public import Idealize.ShloMosaic.PureOps.Ideal

@[expose] public section

noncomputable section

namespace Cert.Soft

open Idealize.ShloMosaic

variable {n : ℕ}

/-- The largest score of a row, starting from minus infinity. -/
def top (s : Fin n → EReal) : EReal := Finset.fold max (Ideal.ofBits .f32 0xFF800000#32) s Finset.univ

/-- The exponential of a score less the largest. -/
def ex (s : Fin n → EReal) (j : Fin n) : EReal := Ideal.exp (s j - top s)

/-- The sum of a row's exponentials. -/
def tot (s : Fin n → EReal) : EReal := ∑ j, ex s j

/-- The probabilities of a row. -/
def prob (s : Fin n → EReal) (j : Fin n) : EReal := Ideal.div (ex s j) (tot s)

/-- The gradient to a score, from the gradients `d` to the probabilities. -/
def dscore (s d : Fin n → EReal) (j : Fin n) : EReal := prob s j * (d j - ∑ x, d x * prob s x)

/-- The same gradient as the derivative of a quotient writes it. -/
def dquot (s d : Fin n → EReal) (j : Fin n) : EReal :=
  (Ideal.div (d j) (tot s) + -∑ x, d x * Ideal.div 1 (tot s * tot s) * ex s x) * ex s j

/-- The factor of the scores, a sixteenth. -/
theorem scale : Ideal.ofBits .f32 0x3D800000#32 = ((1 / 16 : ℝ) : EReal) := by
  simp [Ideal.ofBits, Ideal.ieee]; rw [← EReal.coe_mul]; norm_num

theorem low : Ideal.ofBits .f32 0xFF800000#32 = ⊥ := by
  simp [Ideal.ofBits, Ideal.ieee]

/-- A nonnegative real factor goes into a sum of any extended reals. -/
theorem sum_mul {ι : Type} (S : Finset ι) (f : ι → EReal) {c : ℝ} (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, ← ih,
      EReal.right_distrib_of_nonneg_of_ne_top (by exact_mod_cast hc) (EReal.coe_ne_top c)]

/-- A finite sum of products of finite numbers, scaled, is finite. -/
theorem sum_real {ι : Type} (S : Finset ι) (f : ι → EReal) (h : ∀ i ∈ S, ∃ r : ℝ, f i = r) : ∃ r : ℝ, ∑ i ∈ S, f i = r := by
  classical
  induction S using Finset.induction_on with
  | empty => exact ⟨0, by simp⟩
  | insert a S ha ih =>
    obtain ⟨x, hx⟩ := h a (Finset.mem_insert_self a S)
    obtain ⟨y, hy⟩ := ih fun i hi => h i (Finset.mem_insert_of_mem hi)
    exact ⟨x + y, by rw [Finset.sum_insert ha, hx, hy, EReal.coe_add]⟩

/-- The largest of at least one real score is real. -/
theorem top_real (s : Fin n → EReal) (hn : 0 < n) (h : ∀ j, ∃ r : ℝ, s j = r) : ∃ r : ℝ, top s = r := by
  have h1 : top s ≠ ⊤ := by
    refine ne_of_lt ((Finset.fold_max_lt _).mpr ⟨by rw [low]; exact bot_lt_top, fun j _ => ?_⟩)
    obtain ⟨r, hr⟩ := h j
    rw [hr]; exact EReal.coe_lt_top r
  have h2 : top s ≠ ⊥ := by
    refine ne_of_gt ((Finset.lt_fold_max _).mpr (.inr ⟨⟨0, hn⟩, Finset.mem_univ _, ?_⟩))
    obtain ⟨r, hr⟩ := h ⟨0, hn⟩
    rw [hr]; exact EReal.bot_lt_coe r
  exact ⟨(top s).toReal, (EReal.coe_toReal h1 h2).symm⟩

/-- The exponentials of a row of real scores are positive reals. -/
theorem ex_pos (s : Fin n → EReal) (h : ∀ j, ∃ r : ℝ, s j = r) (j : Fin n) : ∃ r : ℝ, 0 < r ∧ ex s j = r := by
  obtain ⟨t, ht⟩ := top_real s (lt_of_le_of_lt (Nat.zero_le _) j.isLt) h
  obtain ⟨r, hr⟩ := h j
  exact ⟨Real.exp (r - t), Real.exp_pos _, by rw [ex, hr, ht, ← EReal.coe_sub, Ideal.exp_coe]⟩

/-- Their sum is a positive real. -/
theorem tot_pos (s : Fin n → EReal) (hn : 0 < n) (h : ∀ j, ∃ r : ℝ, s j = r) : ∃ r : ℝ, 0 < r ∧ tot s = r := by
  choose e he hs using ex_pos s h
  refine ⟨∑ j, e j, Finset.sum_pos (fun j _ => he j) ⟨⟨0, hn⟩, Finset.mem_univ _⟩, ?_⟩
  rw [tot, show (fun j => ex s j) = fun j => ((e j : ℝ) : EReal) from funext hs]
  exact (map_sum (⟨⟨((↑) : ℝ → EReal), EReal.coe_zero⟩, EReal.coe_add⟩ : ℝ →+ EReal) e Finset.univ).symm

/-- On real scores the two gradients are one, whatever the gradients to the probabilities. -/
theorem dquot_eq (s d : Fin n → EReal) (h : ∀ j, ∃ r : ℝ, s j = r) (j : Fin n) : dquot s d j = dscore s d j := by
  obtain ⟨T, hT, hs⟩ := tot_pos s (lt_of_le_of_lt (Nat.zero_le _) j.isLt) h
  obtain ⟨e, he, hj⟩ := ex_pos s h j
  have h1 : Ideal.div 1 ((T : EReal) * (T : EReal)) = ((1 / (T * T) : ℝ) : EReal) := by
    rw [← EReal.coe_mul, Ideal.div_coe (by positivity), one_mul]
  have hp : ∀ x : EReal, Ideal.div x (T : EReal) = x * ((1 / T : ℝ) : EReal) := fun x => Ideal.div_coe hT.ne' x
  have hsum : ∑ x, d x * ((1 / (T * T) : ℝ) : EReal) * ex s x = (∑ x, d x * (ex s x * ((1 / T : ℝ) : EReal))) * ((1 / T : ℝ) : EReal) := by
    rw [sum_mul _ _ (by positivity)]
    refine Finset.sum_congr rfl fun x _ => ?_
    rw [mul_assoc, mul_assoc, mul_assoc, ← EReal.coe_mul, mul_comm (ex s x)]
    congr 3; ring
  unfold dquot dscore prob
  simp only [hs, hj, h1, hp]
  rw [hsum]
  generalize (∑ x, d x * (ex s x * ((1 / T : ℝ) : EReal))) = A
  rw [← sub_eq_add_neg, ← EReal.coe_mul, mul_comm ((e * (1 / T) : ℝ) : EReal), sub_eq_add_neg, sub_eq_add_neg, ← EReal.neg_mul,
    ← EReal.right_distrib_of_nonneg_of_ne_top (by exact_mod_cast (by positivity : 0 ≤ 1 / T)) (EReal.coe_ne_top _), mul_assoc, ← EReal.coe_mul,
    mul_comm (1 / T) e]

end Cert.Soft

end
-- ==== Proof.AttnBwdBlocks.lean ====
module

public import proofs.«01_k».proof.Defs
public import proofs.«01_k».proof.Proof.Softmax
public import proofs.«01_k».proof.Proof.Gen.AttnBwdIdeal.Value
public import proofs.«01_k».proof.Proof.Gen.AttnBwdRefIdeal.Run
public import proofs.«01_k».proof.Proof.Gen.AttnBwdRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnBwdIdeal.Value

open Cert.AttnBwdIdeal Cert.AttnBwdIdeal.Gen
open Cert.AttnBwdRefIdeal.Read

variable (m : (ℓ : Loc nD τ sig) → Buf (Elt Ideal) ℓ)

theorem idx : ∀ t : Fin cfg0.N, win0_0.index t = ![t.val, 0] ∧ win0_1.index t = ![t.val, 5] ∧ win0_2.index t = ![0, 0]
    ∧ win0_3.index t = ![t.val, 5] ∧ win0_4.index t = ![0, 0] :=
  (by decide +kernel : ∀ t : Fin grid0.N, _)

/-- The factor of the scores. -/
abbrev sc : EReal := Ideal.ofBits .f32 0x3D800000#32

/-- The scores of row `r` in head `h`. -/
def score (p : FVec Ideal S8192x12288 .bf16) (kv : FVec Ideal S256x2048 .bf16) (h : Fin 4) (r : Fin 8192) (j : Fin 256) : EReal :=
  (∑ x : Fin 256, p (ix2 r ⟨5120 + ((h : ℕ) * 256 + x), by omega⟩) * kv (ix2 j ⟨(h : ℕ) * 256 + x, by omega⟩)) * sc

/-- The gradients to the probabilities of row `r` in head `h`. -/
def dprob (d : FVec Ideal S8192x1024 .bf16) (kv : FVec Ideal S256x2048 .bf16) (h : Fin 4) (r : Fin 8192) (j : Fin 256) : EReal :=
  ∑ x : Fin 256, d (ix2 r ⟨(h : ℕ) * 256 + x, by omega⟩) * kv (ix2 j ⟨1024 + ((h : ℕ) * 256 + x), by omega⟩)

/-- The gradient to the score of row `r` against memory row `j` in head `h`. -/
def ds (d : FVec Ideal S8192x1024 .bf16) (p : FVec Ideal S8192x12288 .bf16) (kv : FVec Ideal S256x2048 .bf16) (h : Fin 4) (r : Fin 8192) (j : Fin 256) : EReal :=
  Soft.dscore (score p kv h r) (dprob d kv h r) j

/-- What a head's column of the queries' gradient holds. -/
def dqAt (d : FVec Ideal S8192x1024 .bf16) (p : FVec Ideal S8192x12288 .bf16) (kv : FVec Ideal S256x2048 .bf16) (h : Fin 4) (r : Fin 8192) (e : Fin 256) : EReal :=
  (∑ j : Fin 256, ds d p kv h r j * kv (ix2 j ⟨(h : ℕ) * 256 + e, by omega⟩)) * sc

/-- The gradient to the queries' columns of the projection. -/
def dq (d : FVec Ideal S8192x1024 .bf16) (p : FVec Ideal S8192x12288 .bf16) (kv : FVec Ideal S256x2048 .bf16) : FVec Ideal S8192x12288 .bf16 := fun i =>
  dqAt d p kv ⟨(i 1 : ℕ) / 256 % 4, Nat.mod_lt _ (by norm_num)⟩ (i 0) ⟨(i 1 : ℕ) % 256, Nat.mod_lt _ (by norm_num)⟩

/-- What one head of one block of rows reads: queries, keys, values and the cotangent. -/
structure Reads (m : (ℓ : Loc nD τ sig) → Buf (Elt Ideal) ℓ) (c : Dev nD) (t : Fin cfg0.N) (h : Fin 4) (Q : Vec Ideal S512x256 .bf16) (K V : Vec Ideal S256x256 .bf16) (D : Vec Ideal S512x256 .bf16) : Prop where
  q : ∀ (r : Fin 512) (x : Fin 256) (R : Fin 8192), (R : ℕ) = t.val * 512 + r → Q (ix2 r x) = (m ((c : Thread nD τ).loc main_arg2)) (ix2 R ⟨5120 + ((h : ℕ) * 256 + x), by omega⟩)
  k : ∀ (j x : Fin 256), K (ix2 j x) = (m ((c : Thread nD τ).loc main_arg3)) (ix2 j ⟨(h : ℕ) * 256 + x, by omega⟩)
  v : ∀ (j x : Fin 256), V (ix2 j x) = (m ((c : Thread nD τ).loc main_arg3)) (ix2 j ⟨1024 + ((h : ℕ) * 256 + x), by omega⟩)
  d : ∀ (r : Fin 512) (x : Fin 256) (R : Fin 8192), (R : ℕ) = t.val * 512 + r → D (ix2 r x) = (m ((c : Thread nD τ).loc main_arg1)) (ix2 R ⟨(h : ℕ) * 256 + x, by omega⟩)

variable {m} {c : Dev nD} {t : Fin cfg0.N} {h : Fin 4} {Q : Vec Ideal S512x256 .bf16} {K V : Vec Ideal S256x256 .bf16} {D : Vec Ideal S512x256 .bf16}

/-- A head's probabilities. -/
theorem prob_at (H : Reads m c t h Q K V D) (r : Fin 512) (R : Fin 8192) (hR : (R : ℕ) = t.val * 512 + r) (j : Fin 256) : k0_pay2 (F := Ideal) Q K (ix2 r j)
    = Soft.prob (score (m ((c : Thread nD τ).loc main_arg2)) (m ((c : Thread nD τ).loc main_arg3)) h R) j := by
  unfold Soft.prob Soft.tot Soft.ex Soft.top score
  pointwise [k0_pay2]
  simp only [H.q r _ R hR, H.k]

/-- A head's gradient to the scores. -/
theorem ds_at (H : Reads m c t h Q K V D) (r : Fin 512) (R : Fin 8192) (hR : (R : ℕ) = t.val * 512 + r) (j : Fin 256) : k0_pay3 (F := Ideal) Q K V D (ix2 r j)
    = ds (m ((c : Thread nD τ).loc main_arg1)) (m ((c : Thread nD τ).loc main_arg2)) (m ((c : Thread nD τ).loc main_arg3)) h R j := by
  unfold ds Soft.dscore dprob
  pointwise [k0_pay3]
  simp only [prob_at H r R hR, H.d r _ R hR, H.v]

/-- A head's gradient to the queries. -/
theorem dq_at (H : Reads m c t h Q K V D) (r : Fin 512) (R : Fin 8192) (hR : (R : ℕ) = t.val * 512 + r) (e : Fin 256) : k0_pay4 (F := Ideal) Q K V D (ix2 r e)
    = dqAt (m ((c : Thread nD τ).loc main_arg1)) (m ((c : Thread nD τ).loc main_arg2)) (m ((c : Thread nD τ).loc main_arg3)) h R e := by
  unfold dqAt
  pointwise [k0_pay4]
  simp only [ds_at H r R hR, H.k]

/-- One column block of the staged rows and of the keys and values is what a head reads. -/
theorem reads (hQ : ∀ x : S512x256.Idx, Q x = (iblk m c 1 t : Vec Ideal S512x1024 .bf16) (ix2 (x 0) ⟨(h : ℕ) * 256 + (x 1 : ℕ), by have := (x 1).isLt; change _ < 256 at this; omega⟩))
    (hK : ∀ x : S256x256.Idx, K x = (iblk m c 2 t : Vec Ideal S256x2048 .bf16) (ix2 (x 0) ⟨(h : ℕ) * 256 + (x 1 : ℕ), by have := (x 1).isLt; change _ < 256 at this; omega⟩))
    (hV : ∀ x : S256x256.Idx, V x = (iblk m c 2 t : Vec Ideal S256x2048 .bf16) (ix2 (x 0) ⟨1024 + (h : ℕ) * 256 + (x 1 : ℕ), by have := (x 1).isLt; change _ < 256 at this; omega⟩))
    (hD : ∀ x : S512x256.Idx, D x = (iblk m c 0 t : Vec Ideal S512x1024 .bf16) (ix2 (x 0) ⟨(h : ℕ) * 256 + (x 1 : ℕ), by have := (x 1).isLt; change _ < 256 at this; omega⟩)) :
    Reads m c t h Q K V D where
  q r x R hR := by rw [hQ]; blk_point [iblk, Gen.V, idx t]
  k j x := by rw [hK]; blk_point [iblk, Gen.V, idx t]
  v j x := by rw [hV]; blk_point [iblk, Gen.V, idx t]
  d r x R hR := by rw [hD]; blk_point [iblk, Gen.V, idx t]

/-- A head's columns of the queries' gradient. -/
theorem piece3 (H : Reads m c t h Q K V D) (x : S512x256.Idx) (j : S8192x12288.Idx) (hj0 : (j 0 : ℕ) = t.val * 512 + x 0) (hj1 : (j 1 : ℕ) = 5120 + ((h : ℕ) * 256 + x 1)) :
    k0_pay4 (F := Ideal) Q K V D x = dq (m ((c : Thread nD τ).loc main_arg1)) (m ((c : Thread nD τ).loc main_arg2)) (m ((c : Thread nD τ).loc main_arg3)) j := by
  obtain ⟨r, e, rfl⟩ : ∃ (r : Fin 512) (e : Fin 256), x = ix2 r e := ⟨x 0, x 1, by pointwise⟩
  rw [dq_at H r (j 0) hj0 e]
  have he : (j 1 : ℕ) = 5120 + ((h : ℕ) * 256 + e) := hj1
  unfold dq
  rw [show (⟨(j 1 : ℕ) / 256 % 4, Nat.mod_lt _ (by norm_num)⟩ : Fin 4) = h from Fin.ext (by show (j 1 : ℕ) / 256 % 4 = h; omega),
    show (⟨(j 1 : ℕ) % 256, Nat.mod_lt _ (by norm_num)⟩ : Fin 256) = e from Fin.ext (by show (j 1 : ℕ) % 256 = e; omega)]

/-- What one point leaves in the block of the queries' gradient. -/
theorem point3 (c : Dev nD) (t : Fin cfg0.N) (y : S512x1024.Idx) (j : S8192x12288.Idx) (hj0 : (j 0 : ℕ) = t.val * 512 + y 0) (hj1 : (j 1 : ℕ) = 5120 + y 1) :
    (outsAt0 m c t.val t.isLt).1 y = dq (m ((c : Thread nD τ).loc main_arg1)) (m ((c : Thread nD τ).loc main_arg2)) (m ((c : Thread nD τ).loc main_arg3)) j := by
  by_cases h : t.val % 16 = 0
  · rw [outsAt0_A m c t h]
    frame_out
    canon_tiles x hx
    · exact piece3 (t := t) (h := 3) (reads (fun x => by pointwise) (fun x => by pointwise) (fun x => by pointwise) (fun x => by pointwise)) x j (by omega) (by simp; omega)
    · exact piece3 (t := t) (h := 2) (reads (fun x => by pointwise) (fun x => by pointwise) (fun x => by pointwise) (fun x => by pointwise)) x j (by omega) (by simp; omega)
    · exact piece3 (t := t) (h := 1) (reads (fun x => by pointwise) (fun x => by pointwise) (fun x => by pointwise) (fun x => by pointwise)) x j (by omega) (by simp; omega)
    · exact piece3 (t := t) (h := 0) (reads (fun x => by pointwise) (fun x => by pointwise) (fun x => by pointwise) (fun x => by pointwise)) x j (by omega) (by simp; omega)
  · rw [outsAt0_B m c t h]
    frame_out
    canon_tiles x hx
    · exact piece3 (t := t) (h := 3) (reads (fun x => by pointwise) (fun x => by pointwise) (fun x => by pointwise) (fun x => by pointwise)) x j (by omega) (by simp; omega)
    · exact piece3 (t := t) (h := 2) (reads (fun x => by pointwise) (fun x => by pointwise) (fun x => by pointwise) (fun x => by pointwise)) x j (by omega) (by simp; omega)
    · exact piece3 (t := t) (h := 1) (reads (fun x => by pointwise) (fun x => by pointwise) (fun x => by pointwise) (fun x => by pointwise)) x j (by omega) (by simp; omega)
    · exact piece3 (t := t) (h := 0) (reads (fun x => by pointwise) (fun x => by pointwise) (fun x => by pointwise) (fun x => by pointwise)) x j (by omega) (by simp; omega)

theorem V_v0 (c : Dev nD) : Gen.V m c main_v0_0 = m ((c : Thread nD τ).loc main_arg0) := by
  unfold Gen.V
  after_results
  try rfl

/-- The first result: the queries' columns hold their gradient, the others what the argument held. -/
theorem final3 (c : Dev nD) : (dats m 0 c).arrAt 3 cfg0.N = fun i : S8192x12288.Idx => if 5120 ≤ (i 1 : ℕ) ∧ (i 1 : ℕ) < 6144 then dq (m ((c : Thread nD τ).loc main_arg1)) (m ((c : Thread nD τ).loc main_arg2)) (m ((c : Thread nD τ).loc main_arg3)) i else (m ((c : Thread nD τ).loc main_arg0)) i := by
  refine ((dats m 0 c).arrAt_eq_of_coversWhere 3 (dq (m ((c : Thread nD τ).loc main_arg1)) (m ((c : Thread nD τ).loc main_arg2)) (m ((c : Thread nD τ).loc main_arg3)))
    (P := fun i : S8192x12288.Idx => 5120 ≤ (i 1 : ℕ) ∧ (i 1 : ℕ) < 6144) (fun β => β 1 = 5) (by decide +kernel) (fun t _ y => ?_)
    (fun j => by blk_simp [Pipeline.Window.cell_apply]; omega)).trans ?_
  · blk_simp
    rw [after0_3]
    refine point3 c t y _ ?_ ?_ <;> (blk_simp [idx t] <;> try omega)
  · funext i
    split_ifs
    · rfl
    · exact congrFun (V_v0 c) i

/-- One row's part of the keys' gradient. -/
def dkRow (d : FVec Ideal S8192x1024 .bf16) (p : FVec Ideal S8192x12288 .bf16) (kv : FVec Ideal S256x2048 .bf16) (h : Fin 4) (j e : Fin 256) (r : Fin 8192) : EReal :=
  ds d p kv h r j * p (ix2 r ⟨5120 + ((h : ℕ) * 256 + e), by omega⟩)

/-- One row's part of the values' gradient. -/
def dvRow (d : FVec Ideal S8192x1024 .bf16) (p : FVec Ideal S8192x12288 .bf16) (kv : FVec Ideal S256x2048 .bf16) (h : Fin 4) (j e : Fin 256) (r : Fin 8192) : EReal :=
  Soft.prob (score p kv h r) j * d (ix2 r ⟨(h : ℕ) * 256 + e, by omega⟩)

/-- The row of the array that a point's row `k` is. -/
def row (t : Fin cfg0.N) (k : Fin 512) : Fin 8192 := ⟨t.val * 512 + k, by have h : t.val < grid0.N := t.isLt; rw [N_0] at h; omega⟩

/-- What one point adds to the gradients of the keys and the values. -/
def part (m : (ℓ : Loc nD τ sig) → Buf (Elt Ideal) ℓ) (c : Dev nD) (t : Fin cfg0.N) (y : S256x2048.Idx) : EReal :=
  if (y 1 : ℕ) < 1024 then (∑ k : Fin 512, dkRow (m ((c : Thread nD τ).loc main_arg1)) (m ((c : Thread nD τ).loc main_arg2)) (m ((c : Thread nD τ).loc main_arg3)) ⟨(y 1 : ℕ) / 256 % 4, Nat.mod_lt _ (by norm_num)⟩ (y 0) ⟨(y 1 : ℕ) % 256, Nat.mod_lt _ (by norm_num)⟩ (row t k)) * sc
  else ∑ k : Fin 512, dvRow (m ((c : Thread nD τ).loc main_arg1)) (m ((c : Thread nD τ).loc main_arg2)) (m ((c : Thread nD τ).loc main_arg3)) ⟨(y 1 : ℕ) / 256 % 4, Nat.mod_lt _ (by norm_num)⟩ (y 0) ⟨(y 1 : ℕ) % 256, Nat.mod_lt _ (by norm_num)⟩ (row t k)

/-- A head's step of the keys' gradient. -/
theorem dk_step (H : Reads m c t h Q K V D) (X : Vec Ideal S256x256 .f32) (x : S256x256.Idx) (y : S256x2048.Idx) (hy0 : (y 0 : ℕ) = x 0)
    (hy1 : (y 1 : ℕ) = (h : ℕ) * 256 + x 1) (Z : Vec Ideal S256x2048 .f32)
    (hX : ∀ x : S256x256.Idx, X x = Z (ix2 (x 0) ⟨(h : ℕ) * 256 + (x 1 : ℕ), by have := (x 1).isLt; change _ < 256 at this; omega⟩)) :
    k0_pay6 (F := Ideal) Q (k0_pay3 Q K V D) (k0_pay5 X) (constant S256x256 .f32 0x00000000#32) x = Z y + part m c t y := by
  obtain ⟨j, e, rfl⟩ : ∃ (j e : Fin 256), x = ix2 j e := ⟨x 0, x 1, by pointwise⟩
  have he : (y 1 : ℕ) = (h : ℕ) * 256 + e := hy1
  have hj : (y 0 : Fin 256) = j := Fin.ext hy0
  have hZ : X (ix2 j e) = Z y := (hX _).trans (congrArg Z (Shape.idx_ext₂ hy0.symm hy1.symm))
  unfold part
  rw [if_pos (by omega), show (⟨(y 1 : ℕ) / 256 % 4, Nat.mod_lt _ (by norm_num)⟩ : Fin 4) = h from Fin.ext (by show (y 1 : ℕ) / 256 % 4 = h; omega),
    show (⟨(y 1 : ℕ) % 256, Nat.mod_lt _ (by norm_num)⟩ : Fin 256) = e from Fin.ext (by show (y 1 : ℕ) % 256 = e; omega), hj, ← hZ]
  unfold dkRow
  pointwise [k0_pay6, k0_pay5]
  congr 2
  refine Finset.sum_congr rfl fun k _ => ?_
  rw [ds_at H k (row t k) rfl, H.q k e (row t k) rfl]

/-- A head's step of the values' gradient. -/
theorem dv_step (H : Reads m c t h Q K V D) (X : Vec Ideal S256x256 .f32) (x : S256x256.Idx) (y : S256x2048.Idx) (hy0 : (y 0 : ℕ) = x 0)
    (hy1 : (y 1 : ℕ) = 1024 + (h : ℕ) * 256 + x 1) (Z : Vec Ideal S256x2048 .f32)
    (hX : ∀ x : S256x256.Idx, X x = Z (ix2 (x 0) ⟨1024 + (h : ℕ) * 256 + (x 1 : ℕ), by have := (x 1).isLt; change _ < 256 at this; omega⟩)) :
    k0_pay7 (F := Ideal) D (k0_pay2 Q K) X x = Z y + part m c t y := by
  obtain ⟨j, e, rfl⟩ : ∃ (j e : Fin 256), x = ix2 j e := ⟨x 0, x 1, by pointwise⟩
  have he : (y 1 : ℕ) = 1024 + (h : ℕ) * 256 + e := hy1
  have hj : (y 0 : Fin 256) = j := Fin.ext hy0
  have hZ : X (ix2 j e) = Z y := (hX _).trans (congrArg Z (Shape.idx_ext₂ hy0.symm hy1.symm))
  unfold part
  rw [if_neg (by omega), show (⟨(y 1 : ℕ) / 256 % 4, Nat.mod_lt _ (by norm_num)⟩ : Fin 4) = h from Fin.ext (by show (y 1 : ℕ) / 256 % 4 = h; omega),
    show (⟨(y 1 : ℕ) % 256, Nat.mod_lt _ (by norm_num)⟩ : Fin 256) = e from Fin.ext (by show (y 1 : ℕ) % 256 = e; omega), hj, ← hZ]
  unfold dvRow
  pointwise [k0_pay7]
  congr 1
  refine Finset.sum_congr rfl fun k _ => ?_
  rw [prob_at H k (row t k) rfl, H.d k e (row t k) rfl]

section
variable (X : Vec Ideal S256x256 .f32)

theorem pay6 : k0_pay6 (F := Ideal) Q (k0_pay3 Q K V D) (k0_pay5 X) (constant S256x256 .f32 0x00000000#32) = k0_pay6 Q (k0_pay3 Q K V D) (k0_pay5 X) (constant S256x256 .f32 0x00000000#32) := rfl

theorem pay7 : k0_pay7 (F := Ideal) D (k0_pay2 Q K) X = k0_pay7 D (k0_pay2 Q K) X := rfl

theorem pay11 : k0_pay11 (F := Ideal) Q (k0_pay9 Q K V D) X = k0_pay6 Q (k0_pay3 Q K V D) (k0_pay5 X) (constant S256x256 .f32 0x00000000#32) := rfl

theorem pay18 : k0_pay18 (F := Ideal) Q V D (k0_pay13 Q K) (k0_pay14 Q K) X = k0_pay6 Q (k0_pay3 Q K V D) (k0_pay5 X) (constant S256x256 .f32 0x00000000#32) := rfl

theorem pay23 : k0_pay23 (F := Ideal) Q K V D X = k0_pay6 Q (k0_pay3 Q K V D) (k0_pay5 X) (constant S256x256 .f32 0x00000000#32) := rfl

theorem pay12 : k0_pay12 (F := Ideal) D (k0_pay8 Q K) X = k0_pay7 D (k0_pay2 Q K) X := rfl

theorem pay19 : k0_pay19 (F := Ideal) D (k0_pay13 Q K) (k0_pay14 Q K) X = k0_pay7 D (k0_pay2 Q K) X := rfl

theorem pay24 : k0_pay24 (F := Ideal) Q K D X = k0_pay7 D (k0_pay2 Q K) X := rfl

end

/-- Stores that cover the block leave nothing of an earlier fill of it. -/
theorem drop_fill (L : List (View.Piece (Elt Ideal) S256x2048 .f32)) (q : View.Piece (Elt Ideal) S256x2048 .f32) (y : S256x2048.Idx) (hc : ∃ p ∈ L, y ∈ p.1.set) :
    View.canon (L ++ [q]) y = View.canon L y := by
  induction L with
  | nil => obtain ⟨p, hp, _⟩ := hc; simp at hp
  | cons p L ih =>
    by_cases hm : y ∈ p.1.set
    · obtain ⟨x, rfl⟩ := p.1.exists_idx_of_mem hm
      exact (View.canon_cons_emb p.1 p.2 _ x).trans (View.canon_cons_emb p.1 p.2 _ x).symm
    · rw [List.cons_append, View.canon_cons_of_not_mem p _ hm, View.canon_cons_of_not_mem p _ hm]
      obtain ⟨p', hp', hy⟩ := hc
      rcases List.mem_cons.mp hp' with rfl | hp'
      · exact absurd hy hm
      · exact ih ⟨p', hp', hy⟩

/-- What one point leaves in the gradients of the keys and the values: its part over zeros at the first, over what the point before it left at a later one. -/
theorem point4 (c : Dev nD) (t : Fin cfg0.N) (y : S256x2048.Idx) :
    (t.val % 16 = 0 → (outsAt0 m c t.val t.isLt).2 y = 0 + part m c t y)
      ∧ (¬ t.val % 16 = 0 → (outsAt0 m c t.val t.isLt).2 y = (outsAt0 m c (t.val - 1) (Nat.lt_of_le_of_lt (Nat.sub_le _ _) t.isLt)).2 y + part m c t y) := by
  constructor <;> intro h
  on_goal 1 =>
    rw [outsAt0_A m c t h]
    frame_open
    simp (disch := decide) only [↓ View.readCov_skip, ↓ View.readCov_cons_toLoadRect, ↓ View.readCov_fill]
    frame_out
    refine (drop_fill [_, _, _, _, _, _, _, _] _ y (View.cover_of_tiledL _ ![256, 256] (by sl_kernel_rfl) y)).trans ?_
    rw [show (0 : EReal) = k0_pay1 (F := Ideal) y by pointwise [k0_pay1]]
    generalize k0_pay1 (F := Ideal) = Z
  on_goal 2 =>
    rw [outsAt0_B m c t h]
    frame_out
    generalize (outsAt0 m c (t.val - 1) _).2 = Z
  all_goals canon_tiles x hx
  all_goals first
    | (rw [pay24]
       refine dv_step (t := t) (h := 3) (Q := View.ld (iblk m c 1 t) (Rect.unit (s := S512x1024) ![0, 768] S512x256.size inb_S512x1024_S512x256_0_768)) (V := View.ld (iblk m c 2 t) (Rect.unit (s := S256x2048) ![0, 1792] S256x256.size inb_S256x2048_S256x256_0_1792)) ?_ _ x y ?_ ?_ Z ?_
       exacts [reads (fun x => by pointwise) (fun x => by pointwise) (fun x => by pointwise) (fun x => by pointwise), by omega, by simp; omega, fun x => by pointwise])
    | (rw [pay23]
       refine dk_step (t := t) (h := 3) ?_ _ x y ?_ ?_ Z ?_
       exacts [reads (fun x => by pointwise) (fun x => by pointwise) (fun x => by pointwise) (fun x => by pointwise), by omega, by simp; omega, fun x => by pointwise])
    | (rw [pay19]
       refine dv_step (t := t) (h := 2) (Q := View.ld (iblk m c 1 t) (Rect.unit (s := S512x1024) ![0, 512] S512x256.size inb_S512x1024_S512x256_0_512)) (V := View.ld (iblk m c 2 t) (Rect.unit (s := S256x2048) ![0, 1536] S256x256.size inb_S256x2048_S256x256_0_1536)) ?_ _ x y ?_ ?_ Z ?_
       exacts [reads (fun x => by pointwise) (fun x => by pointwise) (fun x => by pointwise) (fun x => by pointwise), by omega, by simp; omega, fun x => by pointwise])
    | (rw [pay18]
       refine dk_step (t := t) (h := 2) ?_ _ x y ?_ ?_ Z ?_
       exacts [reads (fun x => by pointwise) (fun x => by pointwise) (fun x => by pointwise) (fun x => by pointwise), by omega, by simp; omega, fun x => by pointwise])
    | (rw [pay12]
       refine dv_step (t := t) (h := 1) (Q := View.ld (iblk m c 1 t) (Rect.unit (s := S512x1024) ![0, 256] S512x256.size inb_S512x1024_S512x256_0_256)) (V := View.ld (iblk m c 2 t) (Rect.unit (s := S256x2048) ![0, 1280] S256x256.size inb_S256x2048_S256x256_0_1280)) ?_ _ x y ?_ ?_ Z ?_
       exacts [reads (fun x => by pointwise) (fun x => by pointwise) (fun x => by pointwise) (fun x => by pointwise), by omega, by simp; omega, fun x => by pointwise])
    | (rw [pay11]
       refine dk_step (t := t) (h := 1) ?_ _ x y ?_ ?_ Z ?_
       exacts [reads (fun x => by pointwise) (fun x => by pointwise) (fun x => by pointwise) (fun x => by pointwise), by omega, by simp; omega, fun x => by pointwise])
    | (rw [pay7]
       refine dv_step (t := t) (h := 0) (Q := View.ld (iblk m c 1 t) (Rect.unit (s := S512x1024) ![0, 0] S512x256.size inb_S512x1024_S512x256_0_0)) (V := View.ld (iblk m c 2 t) (Rect.unit (s := S256x2048) ![0, 1024] S256x256.size inb_S256x2048_S256x256_0_1024)) ?_ _ x y ?_ ?_ Z ?_
       exacts [reads (fun x => by pointwise) (fun x => by pointwise) (fun x => by pointwise) (fun x => by pointwise), by omega, by simp; omega, fun x => by pointwise])
    | (rw [pay6]
       refine dk_step (t := t) (h := 0) ?_ _ x y ?_ ?_ Z ?_
       exacts [reads (fun x => by pointwise) (fun x => by pointwise) (fun x => by pointwise) (fun x => by pointwise), by omega, by simp; omega, fun x => by pointwise])

/-- The gradients to the keys (first half) and to the values (second half). -/
def dkv (d : FVec Ideal S8192x1024 .bf16) (p : FVec Ideal S8192x12288 .bf16) (kv : FVec Ideal S256x2048 .bf16) : FVec Ideal S256x2048 .f32 := fun i =>
  if (i 1 : ℕ) < 1024 then ∑ R : Fin 8192, dkRow d p kv ⟨(i 1 : ℕ) / 256 % 4, Nat.mod_lt _ (by norm_num)⟩ (i 0) ⟨(i 1 : ℕ) % 256, Nat.mod_lt _ (by norm_num)⟩ R * sc
  else ∑ R : Fin 8192, dvRow d p kv ⟨(i 1 : ℕ) / 256 % 4, Nat.mod_lt _ (by norm_num)⟩ (i 0) ⟨(i 1 : ℕ) % 256, Nat.mod_lt _ (by norm_num)⟩ R

/-- The factor goes into a sum. -/
theorem sum_sc {ι : Type} (S : Finset ι) (f : ι → EReal) : (∑ i ∈ S, f i) * sc = ∑ i ∈ S, f i * sc := by
  rw [show sc = ((1 / 16 : ℝ) : EReal) from Soft.scale]
  exact Soft.sum_mul S f (by norm_num)

/-- The second result: the parts of all points. -/
theorem final4 (c : Dev nD) : (dats m 0 c).arrAt 4 cfg0.N = dkv (m ((c : Thread nD τ).loc main_arg1)) (m ((c : Thread nD τ).loc main_arg2)) (m ((c : Thread nD τ).loc main_arg3)) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) (fun t => part m c t)
    (fun t h j => (point4 c t j).1 h) (fun t h j => (point4 c t j).2 h) (le_of_eq N_0) t0_15 rfl _, zero_add]
  unfold dkv part
  by_cases hj : (j 1 : ℕ) < 1024
  · simp only [if_pos hj, sum_sc]
    exact Fin.sum_mul_add_congr (S := 16) fun s k hl => rfl
  · simp only [if_neg hj]
    exact Fin.sum_mul_add_congr (S := 16) fun s k hl => rfl

end Cert.AttnBwdIdeal.Value

end
-- ==== Proof.AttnBwd.lean ====
module

public import proofs.«01_k».proof.Defs
public import proofs.«01_k».proof.Proof.AttnBwdBlocks
public import proofs.«01_k».proof.Proof.Gen.AttnBwdIdeal.Value
public import proofs.«01_k».proof.Proof.Gen.AttnBwdRefIdeal.Run
public import proofs.«01_k».proof.Proof.Gen.AttnBwdRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnBwdIdeal.Value

open Cert.AttnBwdIdeal Cert.AttnBwdIdeal.Gen
open Cert.AttnBwdRefIdeal.Read

variable {m : (ℓ : Loc nD τ sig) → Buf (Elt Ideal) ℓ}

section
variable (d : FVec Ideal S8192x1024 .bf16) (p : FVec Ideal S8192x12288 .bf16) (kv : FVec Ideal S256x2048 .bf16) (h : Fin 4) (r : Fin 8192) (j e : Fin 256)

/-- The reference's scores. -/
theorem r16 : val_main_v16 (F := Ideal) p kv (ix3 h r j) = score p kv h r j := by
  have e : val_main_v14 (F := Ideal) p kv (ix3 h r j)
      = ∑ x : Fin 256, p (ix2 r ⟨5120 + ((h : ℕ) * 256 + x), by omega⟩) * kv (ix2 j ⟨(h : ℕ) * 256 + x, by omega⟩) := by
    pointwise [val_main_v14, val_main_v11, val_main_v7, val_main_v5, val_main_v12, val_main_v9, val_main_v8]
  rw [val_main_v16_apply, e]
  rfl

/-- Their largest in a row. -/
theorem r17 : val_main_v17 (F := Ideal) p kv (ix2 h r) = Soft.top (score p kv h r) := by
  have e : ∀ j, val_main_v16 (F := Ideal) p kv (ix3 h r j) = score p kv h r j := r16 p kv h r
  pointwise [val_main_v17, val_main_cst_0, Soft.top, e]

theorem low_max (x : EReal) : max (Ideal.ofBits .f32 4286578688#32) x = x := by
  rw [show Ideal.ofBits .f32 4286578688#32 = ⊥ from Soft.low]
  exact bot_sup_eq x

/-- The largest score, once more against the least value. -/
theorem r24 : val_main_v24 (F := Ideal) p kv (ix2 h r) = Soft.top (score p kv h r) := by
  rw [val_main_v24_apply, r17]
  exact low_max _

/-- The reference's exponentials. -/
theorem r37 : val_main_v37 (F := Ideal) p kv (ix3 h r j) = Soft.ex (score p kv h r) j := by
  have e : val_main_v35 (F := Ideal) p kv (ix3 h r j) = val_main_v24 (F := Ideal) p kv (ix2 h r) := by
    pointwise [val_main_v35, val_main_v34]
  rw [val_main_v37_apply, val_main_v36_apply, e, r24, r16]
  rfl

/-- Their sum. -/
theorem r38 : val_main_v38 (F := Ideal) p kv (ix2 h r) = Soft.tot (score p kv h r) := by
  have e : ∀ j, val_main_v37 (F := Ideal) p kv (ix3 h r j) = Soft.ex (score p kv h r) j := r37 p kv h r
  pointwise [val_main_v38, val_main_cst_8, Soft.tot, e]

/-- The reference's probabilities. -/
theorem r41 : val_main_v41 (F := Ideal) p kv (ix3 h r j) = Soft.prob (score p kv h r) j := by
  pointwise [val_main_v41, val_main_v40, val_main_v39, Soft.prob]
  rw [r37, r38]

/-- The reference's gradients to the probabilities. -/
theorem r51 : val_main_v51 (F := Ideal) d kv (ix3 h r j) = dprob d kv h r j := by
  pointwise [val_main_v51, val_main_v50, val_main_v49, val_main_v48, val_main_v13, val_main_v10, val_main_v8, dprob]

/-- The sum that the derivative of the quotient takes off. -/
theorem r57 : val_main_v57 (F := Ideal) d p kv (ix2 h r)
    = ∑ x, dprob d kv h r x * Ideal.div 1 (Soft.tot (score p kv h r) * Soft.tot (score p kv h r)) * Soft.ex (score p kv h r) x := by
  have e : ∀ j, val_main_v37 (F := Ideal) p kv (ix3 h r j) = Soft.ex (score p kv h r) j := r37 p kv h r
  have e' : ∀ j, val_main_v51 (F := Ideal) d kv (ix3 h r j) = dprob d kv h r j := r51 d kv h r
  pointwise [val_main_v57, val_main_cst_10, val_main_v56, val_main_v55, val_main_v54, val_main_v44, val_main_v43, val_main_cst_9, val_main_v42, val_main_v39, e, e', r38]

/-- The reference's gradients to the scores, before their factor. -/
theorem r65 : val_main_v65 (F := Ideal) d p kv (ix3 h r j) = Soft.dquot (score p kv h r) (dprob d kv h r) j := by
  pointwise [val_main_v65, val_main_v64, val_main_v63, val_main_v62, val_main_cst_11, val_main_v61, val_main_v60, val_main_v59, val_main_v58, val_main_v39, Soft.dquot]
  rw [r37, r38, r51, r57, Finset.sum_const, Finset.card_univ, Fintype.card_fin, one_smul]

/-- Where the scores of a row are real, the reference's gradients to them are the kernel's. -/
theorem r67 (hs : ∀ h r j, ∃ a : ℝ, score p kv h r j = a) : val_main_v67 (F := Ideal) d p kv (ix3 h r j) = ds d p kv h r j * sc := by
  pointwise [val_main_v67, val_main_v66, val_main_cst_12]
  rw [r65, Soft.dquot_eq _ _ (hs h r)]
  rfl

theorem r71 (hs : ∀ h r j, ∃ a : ℝ, score p kv h r j = a) : val_main_v71 (F := Ideal) d p kv (ix3 r h e) = dqAt d p kv h r e := by
  have e : ∀ j, val_main_v67 (F := Ideal) d p kv (ix3 h r j) = ds d p kv h r j * sc := fun j => r67 d p kv h r j hs
  unfold dqAt
  rw [sum_sc]
  pointwise [val_main_v71, val_main_v70, val_main_v12, val_main_v9, val_main_v8, e]
  exact Finset.sum_congr rfl fun j _ => mul_right_comm _ _ _

theorem r69 (hs : ∀ h r j, ∃ a : ℝ, score p kv h r j = a) : val_main_v69 (F := Ideal) d p kv (ix3 j h e) = ∑ R : Fin 8192, dkRow d p kv h j e R * sc := by
  have e : ∀ r, val_main_v67 (F := Ideal) d p kv (ix3 h r j) = ds d p kv h r j * sc := fun r => r67 d p kv h r j hs
  pointwise [val_main_v69, val_main_v68, val_main_v11, val_main_v7, val_main_v5, e, dkRow]
  exact Finset.sum_congr rfl fun j _ => mul_right_comm _ _ _

theorem r53 : val_main_v53 (F := Ideal) d p kv (ix3 j h e) = ∑ R : Fin 8192, dvRow d p kv h j e R := by
  have e : ∀ r, val_main_v41 (F := Ideal) p kv (ix3 h r j) = Soft.prob (score p kv h r) j := fun r => r41 p kv h r j
  pointwise [val_main_v53, val_main_v52, val_main_v50, val_main_v49, val_main_v48, e, dvRow]
  exact Finset.sum_congr rfl fun j _ => mul_comm _ _

theorem score_real (hp : ∀ (r : Fin 8192) (q : Fin 1024), ∃ a : ℝ, p (ix2 r ⟨5120 + (q : ℕ), by omega⟩) = a)
    (hk : ∀ (j : Fin 256) (q : Fin 1024), ∃ a : ℝ, kv (ix2 j ⟨q, by omega⟩) = a) : ∃ a : ℝ, score p kv h r j = a := by
  obtain ⟨a, ha⟩ := Soft.sum_real Finset.univ (fun x : Fin 256 => p (ix2 r ⟨5120 + ((h : ℕ) * 256 + x), by omega⟩) * kv (ix2 j ⟨(h : ℕ) * 256 + x, by omega⟩)) fun x _ => by
    obtain ⟨a, ha⟩ := hp r ⟨(h : ℕ) * 256 + x, by omega⟩
    obtain ⟨b, hb⟩ := hk j ⟨(h : ℕ) * 256 + x, by omega⟩
    exact ⟨a * b, by rw [EReal.coe_mul, ← ha, ← hb]⟩
  exact ⟨a * (1 / 16), by rw [EReal.coe_mul, ← ha, ← Soft.scale]; rfl⟩

theorem fin4 {i j : ℕ} (h : i = j) {hi : i < 4} {hj : j < 4} : (⟨i, hi⟩ : Fin 4) = ⟨j, hj⟩ := Fin.ext h

theorem fin256 {i j : ℕ} (h : i = j) {hi : i < 256} {hj : j < 256} : (⟨i, hi⟩ : Fin 256) = ⟨j, hj⟩ := Fin.ext h

/-- The reference's second result. -/
theorem same4 (hs : ∀ h r j, ∃ a : ℝ, score p kv h r j = a) : val_main_v75 (F := Ideal) d p kv = dkv d p kv := by
  funext i
  obtain ⟨j, q, rfl⟩ : ∃ (j : Fin 256) (q : Fin 2048), i = ix2 j q := ⟨i 0, i 1, by pointwise⟩
  have e1 : ∀ h e, val_main_v69 (F := Ideal) d p kv (ix3 j h e) = ∑ R : Fin 8192, dkRow d p kv h j e R * sc := fun h e => r69 d p kv h j e hs
  have e2 : ∀ h e, val_main_v53 (F := Ideal) d p kv (ix3 j h e) = ∑ R : Fin 8192, dvRow d p kv h j e R := fun h e => r53 d p kv h j e
  pointwise [val_main_v75, val_main_v73, val_main_v72, e1, e2, dkv]
  have hq := q.isLt
  by_cases h : (q : ℕ) < 1024
  · rw [dif_pos h, if_pos h, fin4 (i := (q : ℕ) / 256) (j := (q : ℕ) / 256 % 4) (by omega)]
  · rw [dif_neg h, if_neg h, fin4 (i := ((q : ℕ) - 1024) / 256) (j := (q : ℕ) / 256 % 4) (by omega), fin256 (i := ((q : ℕ) - 1024) % 256) (j := (q : ℕ) % 256) (by omega)]

/-- The reference's first result. -/
theorem same3 (x : FVec Ideal S8192x12288 .bf16) (hs : ∀ h r j, ∃ a : ℝ, score p kv h r j = a) :
    val_main_v79 (F := Ideal) x d p kv = fun i : S8192x12288.Idx => if 5120 ≤ (i 1 : ℕ) ∧ (i 1 : ℕ) < 6144 then dq d p kv i else x i := by
  funext i
  obtain ⟨r, q, rfl⟩ : ∃ (r : Fin 8192) (q : Fin 12288), i = ix2 r q := ⟨i 0, i 1, by pointwise⟩
  have e1 : ∀ h e, val_main_v71 (F := Ideal) d p kv (ix3 r h e) = dqAt d p kv h r e := fun h e => r71 d p kv h r e hs
  pointwise [val_main_v79, val_main_v78, val_main_v77, val_main_v76, val_main_v74, e1, dq]
  have hq := q.isLt
  have h3 : (5120 ≤ (q : ℕ) ∧ (q : ℕ) < 6144) ↔ (¬ (q : ℕ) < 5120 ∧ (q : ℕ) - 5120 < 1024) := by omega
  simp only [h3]
  by_cases h1 : (q : ℕ) < 5120
  · rw [dif_pos h1, if_neg (show ¬ (¬ (q : ℕ) < 5120 ∧ (q : ℕ) - 5120 < 1024) from fun h => h.1 h1)]
  · by_cases h2 : (q : ℕ) - 5120 < 1024
    · rw [dif_neg h1, dif_pos h2, if_pos (show (¬ (q : ℕ) < 5120 ∧ (q : ℕ) - 5120 < 1024) from ⟨h1, h2⟩), fin4 (i := ((q : ℕ) - 5120) / 256) (j := (q : ℕ) / 256 % 4) (by omega),
        fin256 (i := ((q : ℕ) - 5120) % 256) (j := (q : ℕ) % 256) (by omega)]
    · rw [dif_neg h1, dif_neg h2, if_neg (show ¬ (¬ (q : ℕ) < 5120 ∧ (q : ℕ) - 5120 < 1024) from fun h => h2 h.2)]
      exact congrArg x (congrArg (ix2 r) (Fin.ext (by show 6144 + ((q : ℕ) - 5120 - 1024) = q; omega)))

end

/-- A value below infinity in size is a real number. -/
theorem real_of_abs (x : EReal) (h : BitVec.ofBool (decide (FloatOps.absf (F := Ideal) (φ := .bf16) x < Ideal.ofBits .bf16 32640#16)) = 1#1) : ∃ a : ℝ, x = a := by
  have e : Ideal.ofBits .bf16 32640#16 = ⊤ := by simp [Ideal.ofBits, Ideal.ieee]
  rw [e] at h
  induction x using EReal.rec with
  | coe a => exact ⟨a, rfl⟩
  | bot => exact absurd h (by simp [FloatOps.absf])
  | top => exact absurd h (by simp [FloatOps.absf])

/-- Under the precondition the scores of all rows are real. -/
theorem scores [Cert.Pre_finite_scores.Facts] (h : Cert.Pre_AttnBwdIdeal_finite_scores m) (c : Dev nD) :
    ∀ h r j, ∃ a : ℝ, score (m ((c : Thread nD τ).loc main_arg2)) (m ((c : Thread nD τ).loc main_arg3)) h r j = a := by
  obtain ⟨h1, h2⟩ := h c
  refine fun g r j => score_real _ _ g r j (fun r q => ?_) (fun j q => ?_)
  · have e := congrFun h1 (ix2 r q)
    revert e
    pointwise [Cert.Pre_finite_scores.fn]
    exact real_of_abs _
  · have e := congrFun h2 (ix2 j q)
    revert e
    pointwise [Cert.Pre_finite_scores.fn]
    exact real_of_abs _

theorem algebraic [Cert.Pre_finite_scores.Facts] : Cert.algebraic_AttnBwdIdeal_AttnBwdRefIdeal_pre_finite_scores := fun m ρ m' ρ' hpre hag =>
  ⟨fun c => (fun i : S8192x12288.Idx => if 5120 ≤ (i 1 : ℕ) ∧ (i 1 : ℕ) < 6144 then dq (m ((c : Thread nD τ).loc main_arg1)) (m ((c : Thread nD τ).loc main_arg2)) (m ((c : Thread nD τ).loc main_arg3)) i else (m ((c : Thread nD τ).loc main_arg0)) i),
   fun c => dkv (m ((c : Thread nD τ).loc main_arg1)) (m ((c : Thread nD τ).loc main_arg2)) (m ((c : Thread nD τ).loc main_arg3)),
   (θ_run _ _ _).mono (fun _ h c => ⟨(h c).1.trans (final3 c), (h c).2.1.trans (final4 c), (h c).2.2⟩) (run_blocks m ρ),
   (θ_run _ _ _).mono (fun _ h c => ⟨(h c).1.trans (by
      rw [val_main_v79_eq, (hag c).1, (hag c).2.1, (hag c).2.2.1, (hag c).2.2.2]
      exact same3 _ _ _ _ (scores hpre c)), (h c).2.1.trans (by
      rw [val_main_v75_eq, (hag c).2.1, (hag c).2.2.1, (hag c).2.2.2]
      exact same4 _ _ _ (scores hpre c)), (h c).2.2⟩) (Cert.AttnBwdRefIdeal.Value.run m' ρ')⟩

end Cert.AttnBwdIdeal.Value
end
-- ==== Proof.AttnFwd.lean ====
/- The attention over the memory rows, forward: what one block of rows computes, the whole result, and the
   reference's result. A head of the kernel is one column block of the queries, of the keys and of the values. -/
module

public import proofs.«01_k».proof.Defs
public import proofs.«01_k».proof.Proof.Softmax
public import proofs.«01_k».proof.Proof.Gen.AttnFwdIdeal.Value
public import proofs.«01_k».proof.Proof.Gen.AttnFwdRefIdeal.Run
public import proofs.«01_k».proof.Proof.Gen.AttnFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwdIdeal.Value

open Cert.AttnFwdIdeal Cert.AttnFwdIdeal.Gen
open Cert.AttnFwdRefIdeal.Read

variable (m : (ℓ : Loc nD τ sig) → Buf (Elt Ideal) ℓ)

/-- Which block of its array each window holds at a point. -/
theorem idx : ∀ t : Fin cfg0.N, win0_0.index t = ![t.val, 5] ∧ win0_1.index t = ![0, 0] ∧ win0_2.index t = ![t.val, 0] :=
  (by decide +kernel : ∀ t : Fin grid0.N, _)

/-- The scores of row `r` in head `h`. -/
def score (p : FVec Ideal S8192x12288 .bf16) (kv : FVec Ideal S256x2048 .bf16) (h : Fin 4) (r : Fin 8192) (j : Fin 256) : EReal :=
  (∑ x : Fin 256, p (ix2 r ⟨5120 + ((h : ℕ) * 256 + x), by omega⟩) * kv (ix2 j ⟨(h : ℕ) * 256 + x, by omega⟩)) * Ideal.ofBits .f32 0x3D800000#32

/-- The mean of the values under the probabilities of row `r` in head `h`. -/
def mean (p : FVec Ideal S8192x12288 .bf16) (kv : FVec Ideal S256x2048 .bf16) (h : Fin 4) (r : Fin 8192) (e : Fin 256) : EReal :=
  ∑ j : Fin 256, Soft.prob (score p kv h r) j * kv (ix2 j ⟨1024 + ((h : ℕ) * 256 + e), by omega⟩)

/-- The attention's result: a column belongs to the head its block of 256 columns is. -/
def attn (p : FVec Ideal S8192x12288 .bf16) (kv : FVec Ideal S256x2048 .bf16) : FVec Ideal S8192x1024 .bf16 := fun i =>
  mean p kv ⟨(i 1 : ℕ) / 256 % 4, Nat.mod_lt _ (by norm_num)⟩ (i 0) ⟨(i 1 : ℕ) % 256, Nat.mod_lt _ (by norm_num)⟩

/-- What one head of one block of rows reads: queries, keys and values. -/
structure Reads (m : (ℓ : Loc nD τ sig) → Buf (Elt Ideal) ℓ) (c : Dev nD) (t : Fin cfg0.N) (h : Fin 4) (Q : Vec Ideal S512x256 .bf16) (K V : Vec Ideal S256x256 .bf16) : Prop where
  q : ∀ (r : Fin 512) (x : Fin 256) (R : Fin 8192), (R : ℕ) = t.val * 512 + r → Q (ix2 r x) = (m ((c : Thread nD τ).loc main_arg0)) (ix2 R ⟨5120 + ((h : ℕ) * 256 + x), by omega⟩)
  k : ∀ (j x : Fin 256), K (ix2 j x) = (m ((c : Thread nD τ).loc main_arg1)) (ix2 j ⟨(h : ℕ) * 256 + x, by omega⟩)
  v : ∀ (j x : Fin 256), V (ix2 j x) = (m ((c : Thread nD τ).loc main_arg1)) (ix2 j ⟨1024 + ((h : ℕ) * 256 + x), by omega⟩)

variable {m} {c : Dev nD} {t : Fin cfg0.N} {h : Fin 4} {Q : Vec Ideal S512x256 .bf16} {K V : Vec Ideal S256x256 .bf16}

/-- A head's rows of the result. -/
theorem mean_at (H : Reads m c t h Q K V) (r : Fin 512) (R : Fin 8192) (hR : (R : ℕ) = t.val * 512 + r) (e : Fin 256) :
    k0_pay2 (F := Ideal) Q K V (ix2 r e) = mean (m ((c : Thread nD τ).loc main_arg0)) (m ((c : Thread nD τ).loc main_arg1)) h R e := by
  unfold mean Soft.prob Soft.tot Soft.ex Soft.top score
  pointwise [k0_pay2]
  simp only [H.q r _ R hR, H.k, H.v]

/-- One column block of the staged rows and of the keys and values is what a head reads. -/
theorem reads (hQ : ∀ x : S512x256.Idx, Q x = (iblk m c 0 t : Vec Ideal S512x1024 .bf16) (ix2 (x 0) ⟨(h : ℕ) * 256 + (x 1 : ℕ), by have := (x 1).isLt; change _ < 256 at this; omega⟩))
    (hK : ∀ x : S256x256.Idx, K x = (iblk m c 1 t : Vec Ideal S256x2048 .bf16) (ix2 (x 0) ⟨(h : ℕ) * 256 + (x 1 : ℕ), by have := (x 1).isLt; change _ < 256 at this; omega⟩))
    (hV : ∀ x : S256x256.Idx, V x = (iblk m c 1 t : Vec Ideal S256x2048 .bf16) (ix2 (x 0) ⟨1024 + (h : ℕ) * 256 + (x 1 : ℕ), by have := (x 1).isLt; change _ < 256 at this; omega⟩)) :
    Reads m c t h Q K V where
  q r x R hR := by rw [hQ]; blk_point [iblk, Gen.V, idx t]
  k j x := by rw [hK]; blk_point [iblk, Gen.V, idx t]
  v j x := by rw [hV]; blk_point [iblk, Gen.V, idx t]

/-- A head's columns of the result. -/
theorem piece (H : Reads m c t h Q K V) (x : S512x256.Idx) (j : S8192x1024.Idx) (hj0 : (j 0 : ℕ) = t.val * 512 + x 0) (hj1 : (j 1 : ℕ) = (h : ℕ) * 256 + x 1) :
    k0_pay2 (F := Ideal) Q K V x = attn (m ((c : Thread nD τ).loc main_arg0)) (m ((c : Thread nD τ).loc main_arg1)) j := by
  obtain ⟨r, e, rfl⟩ : ∃ (r : Fin 512) (e : Fin 256), x = ix2 r e := ⟨x 0, x 1, by pointwise⟩
  rw [mean_at H r (j 0) hj0 e]
  have he : (j 1 : ℕ) = (h : ℕ) * 256 + e := hj1
  unfold attn
  rw [show (⟨(j 1 : ℕ) / 256 % 4, Nat.mod_lt _ (by norm_num)⟩ : Fin 4) = h from Fin.ext (by show (j 1 : ℕ) / 256 % 4 = h; omega),
    show (⟨(j 1 : ℕ) % 256, Nat.mod_lt _ (by norm_num)⟩ : Fin 256) = e from Fin.ext (by show (j 1 : ℕ) % 256 = e; omega)]

/-- The four heads' stores are the same operations, cut at other places. -/
theorem pay1 : k0_pay1 (F := Ideal) V (k0_pay6 Q K) = k0_pay2 Q K V := rfl

theorem pay4 : k0_pay4 (F := Ideal) V (k0_pay3 Q K) = k0_pay2 Q K V := rfl

theorem pay5 : k0_pay5 (F := Ideal) Q K V = k0_pay2 Q K V := rfl

/-- What one point leaves in its block of rows. -/
theorem point (c : Dev nD) (t : Fin cfg0.N) (y : S512x1024.Idx) (j : S8192x1024.Idx) (hj0 : (j 0 : ℕ) = t.val * 512 + y 0) (hj1 : (j 1 : ℕ) = y 1) :
    (dats m 0 c).after 2 t y = attn (m ((c : Thread nD τ).loc main_arg0)) (m ((c : Thread nD τ).loc main_arg1)) j := by
  rw [after0_2]
  frame_out
  canon_tiles x hx
  · rw [pay1]; exact piece (t := t) (h := 3) (reads (fun x => by pointwise) (fun x => by pointwise) (fun x => by pointwise)) x j (by omega) (by simp; omega)
  · rw [pay5]; exact piece (t := t) (h := 2) (reads (fun x => by pointwise) (fun x => by pointwise) (fun x => by pointwise)) x j (by omega) (by simp; omega)
  · rw [pay4]; exact piece (t := t) (h := 1) (reads (fun x => by pointwise) (fun x => by pointwise) (fun x => by pointwise)) x j (by omega) (by simp; omega)
  · exact piece (t := t) (h := 0) (reads (fun x => by pointwise) (fun x => by pointwise) (fun x => by pointwise)) x j (by omega) (by simp; omega)

/-- The kernel's result. -/
theorem final2 (c : Dev nD) : (dats m 0 c).arrAt 2 cfg0.N = attn (m ((c : Thread nD τ).loc main_arg0)) (m ((c : Thread nD τ).loc main_arg1)) := by
  refine (dats m 0 c).arrAt_eq_of_covers 2 _ (by decide +kernel) fun t _ y => ?_
  refine point c t y _ ?_ ?_ <;> (blk_simp [idx t] <;> try omega)

section
variable (p : FVec Ideal S8192x12288 .bf16) (kv : FVec Ideal S256x2048 .bf16) (h : Fin 4) (r : Fin 8192) (j e : Fin 256)

/-- The reference's scores. -/
theorem ref_score : val_main_v16 (F := Ideal) p kv (ix3 h r j) = score p kv h r j := by
  have e : val_main_v14 (F := Ideal) p kv (ix3 h r j)
      = ∑ x : Fin 256, p (ix2 r ⟨5120 + ((h : ℕ) * 256 + x), by omega⟩) * kv (ix2 j ⟨(h : ℕ) * 256 + x, by omega⟩) := by
    pointwise [val_main_v14, val_main_v11, val_main_v7, val_main_v5, val_main_v12, val_main_v9, val_main_v8]
  rw [val_main_v16_apply, e]
  rfl

/-- The largest score of a row: taken once more against the least value, which changes nothing. -/
theorem ref_top : val_main_v19 (F := Ideal) p kv (ix2 h r) = Soft.top (score p kv h r) := by
  have e : ∀ j, val_main_v16 (F := Ideal) p kv (ix3 h r j) = score p kv h r j := ref_score p kv h r
  have e' : val_main_v17 (F := Ideal) p kv (ix2 h r) = Soft.top (score p kv h r) := by
    pointwise [val_main_v17, val_main_cst_0, Soft.top, e]
  rw [val_main_v19_apply, e']
  show max (Ideal.ofBits .f32 0xFF800000#32) _ = _
  rw [Soft.low]
  exact bot_sup_eq _

/-- The reference's exponentials. -/
theorem ref_ex : val_main_v23 (F := Ideal) p kv (ix3 h r j) = Soft.ex (score p kv h r) j := by
  have e : val_main_v21 (F := Ideal) p kv (ix3 h r j) = val_main_v19 (F := Ideal) p kv (ix2 h r) := by
    pointwise [val_main_v21, val_main_v20]
  rw [val_main_v23_apply, val_main_v22_apply, e, ref_top, ref_score]
  rfl

/-- The reference's probabilities. -/
theorem ref_prob : val_main_v27 (F := Ideal) p kv (ix3 h r j) = Soft.prob (score p kv h r) j := by
  have e : ∀ j, val_main_v23 (F := Ideal) p kv (ix3 h r j) = Soft.ex (score p kv h r) j := ref_ex p kv h r
  have e' : val_main_v24 (F := Ideal) p kv (ix2 h r) = Soft.tot (score p kv h r) := by
    pointwise [val_main_v24, val_main_cst_2, Soft.tot, e]
  pointwise [val_main_v27, val_main_v26, val_main_v25, Soft.prob]
  rw [e, e']

/-- The reference's mean of the values. -/
theorem ref_mean : val_main_v29 (F := Ideal) p kv (ix3 r h e) = mean p kv h r e := by
  have e' : ∀ j, val_main_v27 (F := Ideal) p kv (ix3 h r j) = Soft.prob (score p kv h r) j := ref_prob p kv h r
  pointwise [val_main_v29, val_main_v28, val_main_v13, val_main_v10, val_main_v8, e', mean]
  exact Finset.sum_congr rfl fun j _ => mul_comm _ _

/-- The reference's result. -/
theorem same : attn p kv = val_main_v31 (F := Ideal) p kv := by
  funext i
  obtain ⟨r, q, rfl⟩ : ∃ (r : Fin 8192) (q : Fin 1024), i = ix2 r q := ⟨i 0, i 1, by pointwise⟩
  have e1 : ∀ h e, val_main_v29 (F := Ideal) p kv (ix3 r h e) = mean p kv h r e := fun h e => ref_mean p kv h r e
  pointwise [val_main_v31, val_main_v30, e1, attn]
  exact congrArg (fun h => mean p kv h r _) (Fin.ext (Nat.mod_eq_of_lt (by have := q.isLt; omega)))

end

/-- Over the reals the kernel's result is the reference's, for all queries, keys and values. -/
theorem algebraic : Cert.algebraic_AttnFwdIdeal_AttnFwdRefIdeal := fun m ρ m' ρ' _ hag =>
  ⟨fun c => attn (m ((c.tc : Thread nD τ).loc main_arg0)) (m ((c.tc : Thread nD τ).loc main_arg1)),
   (θ_run _ _ _).mono (fun _ h c => ⟨(h c).1.trans (final2 c), (h c).2⟩) (run_blocks m ρ),
   (θ_run _ _ _).mono (fun _ h c => ⟨(h c).1.trans (by rw [val_main_v31_eq, (hag c).1, (hag c).2]; exact (same _ _).symm), (h c).2⟩)
     (Cert.AttnFwdRefIdeal.Value.run m' ρ')⟩

end Cert.AttnFwdIdeal.Value

end
-- ==== Proof.BranchAFwd.lean ====
/- The first branch's forward call: a scratch holds the gated rows of a block under the halo of the rows above, eight copies of it begin at eight
   consecutive rows, and sixteen chunks of the block each add 31 taps times a load of a copy; the layer norm and its activation follow. -/
module

public import proofs.«01_k».proof.Defs
public import proofs.«01_k».proof.Proof.Gen.BranchAFwdIdeal.Value
public import proofs.«01_k».proof.Proof.Gen.BranchAFwdRefIdeal.Run
public import proofs.«01_k».proof.Proof.Gen.BranchAFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BranchAFwdIdeal.Value

open Cert.BranchAFwdIdeal Cert.BranchAFwdIdeal.Gen
open Cert.BranchAFwdRefIdeal.Read

variable (m : (ℓ : Loc nD τ sig) → Buf (Elt Ideal) ℓ)

/-- Which block of its array each window holds at a point: the halos hold the 32 rows above the point's rows. -/
theorem idx : ∀ t : Fin cfg0.N, win0_0.index t = ![t.val, 0] ∧ win0_1.index t = ![t.val, 1] ∧ win0_2.index t = ![t.val * 8 - 1, 0] ∧ win0_3.index t = ![t.val * 8 - 1, 1]
    ∧ win0_4.index t = ![0, 0] ∧ win0_5.index t = ![0, 0] ∧ win0_6.index t = ![0, 0] ∧ win0_7.index t = ![0, 0] ∧ win0_8.index t = ![t.val, 0] ∧ win0_9.index t = ![t.val, 0] :=
  (by decide +kernel : ∀ t : Fin grid0.N, _)

/-- Only the first point has no rows above it. -/
theorem first : ∀ t : Fin cfg0.N, Scalar.cmpi .sgt (BitVec.ofNat 32 (grid0.coords t 0 : ℕ)) 0#32 = if t.val = 0 then 0#1 else 1#1 :=
  (by decide +kernel : ∀ t : Fin grid0.N, _)

/-- Row `n` of the gated values, which 32 zero rows precede. -/
def gated (x : FVec Ideal S8192x12288 .bf16) (n q : ℕ) : EReal :=
  if h : 32 ≤ n ∧ n < 8224 ∧ q < 1024 then
    x (ix2 ⟨n - 32, by omega⟩ ⟨q, by omega⟩) * Ideal.div 1 (1 + Ideal.exp (-x (ix2 ⟨n - 32, by omega⟩ ⟨1024 + q, by omega⟩)))
  else 0

/-- What the first scratch holds at a point: its rows under the 32 above them, and eight zero rows below. -/
def held (c : Dev nD) (t : Fin cfg0.N) : FVec Ideal S296x1024 .f32 := fun x =>
  if (x 0).val < 288 then gated (m ((c : Thread nD τ).loc main_arg0)) (t.val * 256 + (x 0).val) (x 1).val else 0

/-- The three stores leave that in it. -/
theorem held_eq (c : Dev nD) (t : Fin cfg0.N) (y : S296x1024.Idx) :
    View.canon (Val := Elt Ideal) (s := S296x1024) (e := .f32) [⟨Rect.unit ![288, 0] ![8, 1024] inb_S296x1024_S8x1024_288_0, shapeCast S8x1024 (α := Ideal FTy.f32) (k0_pay4 (F := Ideal)) shapeCasts_S8x1024_S8x1024⟩,
        ⟨Rect.unit ![32, 0] ![256, 1024] inb_S296x1024_S256x1024_32_0, k0_pay3 (iblk m c 0 t) (iblk m c 1 t)⟩,
        ⟨Rect.unit ![0, 0] ![32, 1024] inb_S296x1024_S32x1024_0_0, k0_pay2 (grid0.coords t) (iblk m c 2 t) (iblk m c 3 t)⟩] y = held m c t y := by
  have lt : t.val < 32 := lt_of_lt_of_eq t.isLt (show cfg0.N = 32 from N_0)
  canon_tiles x hx using (View.cover_of_tiledBy _ ![8, 1024] (by sl_kernel_rfl) y)
  case piece0 =>
    pointwise [k0_pay4, held]
    rw [if_neg (by omega)]
  case piece1 =>
    pointwise [k0_pay3, held, gated]
    rw [if_pos (by omega), dif_pos (by omega), zero_sub]
    blk_point [iblk, V, idx t]
  case piece2 =>
    pointwise [k0_pay2, held, gated, first t]
    by_cases top : t.val = 0
    · rw [if_pos top, if_pos (by omega), dif_neg (by omega)]; rfl
    · rw [if_neg top, if_pos (by omega), dif_pos (by omega)]
      refine congrArg₂ (fun p q : EReal => p * Ideal.div 1 (1 + Ideal.exp q)) ?_ ?_
      · blk_point [iblk, V, idx t]
      · rw [zero_sub]; refine congrArg (fun p : EReal => -p) ?_; blk_point [iblk, V, idx t]

/-- A load of it at a row offset. -/
theorem held_read (c : Dev nD) (t : Fin cfg0.N) (o : ℕ) (inb : ∀ a, ![o, 0] a + ![288, 1024] a ≤ S296x1024.size a) :
    View.readCov (sig := sig) (κ := (Proc.tc : Proc τ).kind) (sp := .vmem) (s := S296x1024) (Val := Elt Ideal) (e := .f32) (View.whole cc0_scratch0) [⟨Rect.unit ![288, 0] ![8, 1024] inb_S296x1024_S8x1024_288_0, shapeCast S8x1024 (α := Ideal FTy.f32) (k0_pay4 (F := Ideal)) shapeCasts_S8x1024_S8x1024⟩,
        ⟨Rect.unit ![32, 0] ![256, 1024] inb_S296x1024_S256x1024_32_0, k0_pay3 (iblk m c 0 t) (iblk m c 1 t)⟩,
        ⟨Rect.unit ![0, 0] ![32, 1024] inb_S296x1024_S32x1024_0_0, k0_pay2 (grid0.coords t) (iblk m c 2 t) (iblk m c 3 t)⟩] (Rect.unit (s := S296x1024) ![o, 0] ![288, 1024] inb).toLoadRect
      = View.ld (Val := Elt Ideal) (e' := .f32) (S := S296x1024) (held m c t) (Rect.unit (s := S296x1024) ![o, 0] ![288, 1024] inb) :=
  (View.readCov_eq_canon_ld _ _ _ (View.cover_of_tiledBy _ ![8, 1024] (by sl_kernel_rfl))).trans (congrFun (congrArg View.ld (funext (held_eq m c t))) _)

/-- One of its eight copies: the rows from `s` on. -/
abbrev copied (c : Dev nD) (t : Fin cfg0.N) (s : ℕ) (inb : ∀ a, ![s, 0] a + ![288, 1024] a ≤ S296x1024.size a) : FVec Ideal S1x288x1024 .f32 :=
  shapeCast (s := S288x1024) S1x288x1024 (α := Ideal FTy.f32) (View.ld (Val := Elt Ideal) (e' := .f32) (S := S296x1024) (held m c t) (Rect.unit (s := S296x1024) ![s, 0] ![288, 1024] inb)) shapeCasts_S288x1024_S1x288x1024

/-- What the second scratch holds: copy `s` begins at row `s` of the first. -/
def shifted (c : Dev nD) (t : Fin cfg0.N) : FVec Ideal S8x288x1024 .f32 := fun x =>
  held m c t (ix2 ⟨(x 0).val + (x 1).val, by have h0 := (x 0).isLt; have h1 := (x 1).isLt; change _ < 8 at h0; change _ < 288 at h1; omega⟩ (x 2))

/-- The eight copies. -/
theorem shifted_eq (c : Dev nD) (t : Fin cfg0.N) (y : S8x288x1024.Idx) :
    View.canon (Val := Elt Ideal) (s := S8x288x1024) (e := .f32) [⟨Rect.unit ![7, 0, 0] ![1, 288, 1024] inb_S8x288x1024_S1x288x1024_7_0_0, copied m c t 7 inb_S296x1024_S288x1024_7_0⟩,
        ⟨Rect.unit ![6, 0, 0] ![1, 288, 1024] inb_S8x288x1024_S1x288x1024_6_0_0, copied m c t 6 inb_S296x1024_S288x1024_6_0⟩,
        ⟨Rect.unit ![5, 0, 0] ![1, 288, 1024] inb_S8x288x1024_S1x288x1024_5_0_0, copied m c t 5 inb_S296x1024_S288x1024_5_0⟩,
        ⟨Rect.unit ![4, 0, 0] ![1, 288, 1024] inb_S8x288x1024_S1x288x1024_4_0_0, copied m c t 4 inb_S296x1024_S288x1024_4_0⟩,
        ⟨Rect.unit ![3, 0, 0] ![1, 288, 1024] inb_S8x288x1024_S1x288x1024_3_0_0, copied m c t 3 inb_S296x1024_S288x1024_3_0⟩,
        ⟨Rect.unit ![2, 0, 0] ![1, 288, 1024] inb_S8x288x1024_S1x288x1024_2_0_0, copied m c t 2 inb_S296x1024_S288x1024_2_0⟩,
        ⟨Rect.unit ![1, 0, 0] ![1, 288, 1024] inb_S8x288x1024_S1x288x1024_1_0_0, copied m c t 1 inb_S296x1024_S288x1024_1_0⟩,
        ⟨Rect.unit ![0, 0, 0] ![1, 288, 1024] inb_S8x288x1024_S1x288x1024_0_0_0, copied m c t 0 inb_S296x1024_S288x1024_0_0⟩] y = shifted m c t y := by
  canon_tiles x hx
  all_goals
    pointwise [copied, shifted]
    refine congrArg (held m c t) (congrArg₂ ix2 (Fin.ext ?_) (Fin.ext ?_))
    · show _ = (y 0).val + (y 1).val; first | omega | (simp only []; omega)
    · exact hx2.symm

/-- A load of the copies. -/
theorem shifted_read (c : Dev nD) (t : Fin cfg0.N) (s o q : ℕ) (inb : ∀ a, ![s, o, q] a + ![1, 32, 512] a ≤ S8x288x1024.size a) :
    View.readCov (sig := sig) (κ := (Proc.tc : Proc τ).kind) (sp := .vmem) (s := S8x288x1024) (Val := Elt Ideal) (e := .f32) (View.whole cc0_scratch1) [⟨Rect.unit ![7, 0, 0] ![1, 288, 1024] inb_S8x288x1024_S1x288x1024_7_0_0, copied m c t 7 inb_S296x1024_S288x1024_7_0⟩,
        ⟨Rect.unit ![6, 0, 0] ![1, 288, 1024] inb_S8x288x1024_S1x288x1024_6_0_0, copied m c t 6 inb_S296x1024_S288x1024_6_0⟩,
        ⟨Rect.unit ![5, 0, 0] ![1, 288, 1024] inb_S8x288x1024_S1x288x1024_5_0_0, copied m c t 5 inb_S296x1024_S288x1024_5_0⟩,
        ⟨Rect.unit ![4, 0, 0] ![1, 288, 1024] inb_S8x288x1024_S1x288x1024_4_0_0, copied m c t 4 inb_S296x1024_S288x1024_4_0⟩,
        ⟨Rect.unit ![3, 0, 0] ![1, 288, 1024] inb_S8x288x1024_S1x288x1024_3_0_0, copied m c t 3 inb_S296x1024_S288x1024_3_0⟩,
        ⟨Rect.unit ![2, 0, 0] ![1, 288, 1024] inb_S8x288x1024_S1x288x1024_2_0_0, copied m c t 2 inb_S296x1024_S288x1024_2_0⟩,
        ⟨Rect.unit ![1, 0, 0] ![1, 288, 1024] inb_S8x288x1024_S1x288x1024_1_0_0, copied m c t 1 inb_S296x1024_S288x1024_1_0⟩,
        ⟨Rect.unit ![0, 0, 0] ![1, 288, 1024] inb_S8x288x1024_S1x288x1024_0_0_0, copied m c t 0 inb_S296x1024_S288x1024_0_0⟩] (Rect.unit (s := S8x288x1024) ![s, o, q] ![1, 32, 512] inb).toLoadRect
      = View.ld (Val := Elt Ideal) (e' := .f32) (S := S8x288x1024) (shifted m c t) (Rect.unit (s := S8x288x1024) ![s, o, q] ![1, 32, 512] inb) :=
  (View.readCov_eq_canon_ld _ _ _ (View.cover_of_tiledBy _ ![1, 288, 1024] (by sl_kernel_rfl))).trans (congrFun (congrArg View.ld (funext (shifted_eq m c t))) _)

/-- A tap's weight, by its number and its column. -/
def tap (w : FVec Ideal S31x1024 .f32) (k q : ℕ) : EReal := if h : k < 31 ∧ q < 1024 then w (ix2 ⟨k, h.1⟩ ⟨q, h.2⟩) else 0

/-- A row vector's entry, by its column. -/
def entry (b : FVec Ideal S1x1024 .f32) (q : ℕ) : EReal := if h : q < 1024 then b (ix2 0 ⟨q, h⟩) else 0

/-- The convolution at row `n` and column `q`: 31 taps over the gated values, and the bias. -/
def conv (x : FVec Ideal S8192x12288 .bf16) (w : FVec Ideal S31x1024 .f32) (b : FVec Ideal S1x1024 .f32) (n q : ℕ) : EReal :=
  tap w 0 q * gated x (n + 2) q + tap w 1 q * gated x (n + 3) q + tap w 2 q * gated x (n + 4) q + tap w 3 q * gated x (n + 5) q + tap w 4 q * gated x (n + 6) q + tap w 5 q * gated x (n + 7) q + tap w 6 q * gated x (n + 8) q + tap w 7 q * gated x (n + 9) q + tap w 8 q * gated x (n + 10) q + tap w 9 q * gated x (n + 11) q + tap w 10 q * gated x (n + 12) q + tap w 11 q * gated x (n + 13) q + tap w 12 q * gated x (n + 14) q + tap w 13 q * gated x (n + 15) q + tap w 14 q * gated x (n + 16) q + tap w 15 q * gated x (n + 17) q + tap w 16 q * gated x (n + 18) q + tap w 17 q * gated x (n + 19) q + tap w 18 q * gated x (n + 20) q + tap w 19 q * gated x (n + 21) q + tap w 20 q * gated x (n + 22) q + tap w 21 q * gated x (n + 23) q + tap w 22 q * gated x (n + 24) q + tap w 23 q * gated x (n + 25) q + tap w 24 q * gated x (n + 26) q + tap w 25 q * gated x (n + 27) q + tap w 26 q * gated x (n + 28) q + tap w 27 q * gated x (n + 29) q + tap w 28 q * gated x (n + 30) q + tap w 29 q * gated x (n + 31) q + tap w 30 q * gated x (n + 32) q + entry b q

/-- A load of the copies, by the row its rows begin at. -/
theorem copy_read (c : Dev nD) (t : Fin cfg0.N) (s o q : ℕ) (inb : ∀ a, ![s, o, q] a + ![1, 32, 512] a ≤ S8x288x1024.size a) (le : s + o + 32 ≤ 288) :
    View.readCov (sig := sig) (κ := (Proc.tc : Proc τ).kind) (sp := .vmem) (s := S8x288x1024) (Val := Elt Ideal) (e := .f32) (View.whole cc0_scratch1) [⟨Rect.unit ![7, 0, 0] ![1, 288, 1024] inb_S8x288x1024_S1x288x1024_7_0_0, copied m c t 7 inb_S296x1024_S288x1024_7_0⟩,
        ⟨Rect.unit ![6, 0, 0] ![1, 288, 1024] inb_S8x288x1024_S1x288x1024_6_0_0, copied m c t 6 inb_S296x1024_S288x1024_6_0⟩,
        ⟨Rect.unit ![5, 0, 0] ![1, 288, 1024] inb_S8x288x1024_S1x288x1024_5_0_0, copied m c t 5 inb_S296x1024_S288x1024_5_0⟩,
        ⟨Rect.unit ![4, 0, 0] ![1, 288, 1024] inb_S8x288x1024_S1x288x1024_4_0_0, copied m c t 4 inb_S296x1024_S288x1024_4_0⟩,
        ⟨Rect.unit ![3, 0, 0] ![1, 288, 1024] inb_S8x288x1024_S1x288x1024_3_0_0, copied m c t 3 inb_S296x1024_S288x1024_3_0⟩,
        ⟨Rect.unit ![2, 0, 0] ![1, 288, 1024] inb_S8x288x1024_S1x288x1024_2_0_0, copied m c t 2 inb_S296x1024_S288x1024_2_0⟩,
        ⟨Rect.unit ![1, 0, 0] ![1, 288, 1024] inb_S8x288x1024_S1x288x1024_1_0_0, copied m c t 1 inb_S296x1024_S288x1024_1_0⟩,
        ⟨Rect.unit ![0, 0, 0] ![1, 288, 1024] inb_S8x288x1024_S1x288x1024_0_0_0, copied m c t 0 inb_S296x1024_S288x1024_0_0⟩] (Rect.unit (s := S8x288x1024) ![s, o, q] ![1, 32, 512] inb).toLoadRect
      = fun y => gated (m ((c : Thread nD τ).loc main_arg0)) (t.val * 256 + (y 1).val + (s + o)) (q + (y 2).val) := by
  rw [shifted_read]
  funext y
  have h1 := (y 1).isLt
  change _ < 32 at h1
  have h0 := (y 0).isLt
  change _ < 1 at h0
  pointwise [shifted, held]
  rw [if_pos (by omega)]
  congr 1
  omega

/-- A load of the taps. -/
theorem tap_read (c : Dev nD) (t : Fin cfg0.N) (k q : ℕ) (inb : ∀ a, ![k, q] a + ![1, 512] a ≤ S31x1024.size a) :
    View.ld (Val := Elt Ideal) (e' := .f32) (S := S31x1024) (iblk m c 4 t) (Rect.unit (s := S31x1024) ![k, q] ![1, 512] inb) = fun y => tap (m ((c : Thread nD τ).loc main_arg1)) k (q + (y 1).val) := by
  funext y
  have i0 := inb 0
  have i1 := inb 1
  change k + 1 ≤ 31 at i0
  change q + 512 ≤ 1024 at i1
  have h1 := (y 1).isLt
  change _ < 512 at h1
  pointwise [tap]
  rw [dif_pos (by omega)]
  blk_point [iblk, V, idx t]

/-- A load of the bias. -/
theorem entry_read (c : Dev nD) (t : Fin cfg0.N) (q : ℕ) (inb : ∀ a, ![0, q] a + ![1, 512] a ≤ S1x1024.size a) :
    View.ld (Val := Elt Ideal) (e' := .f32) (S := S1x1024) (iblk m c 5 t) (Rect.unit (s := S1x1024) ![0, q] ![1, 512] inb) = fun y => entry (m ((c : Thread nD τ).loc main_arg2)) (q + (y 1).val) := by
  funext y
  have i1 := inb 1
  change q + 512 ≤ 1024 at i1
  have h1 := (y 1).isLt
  change _ < 512 at h1
  pointwise [entry]
  rw [dif_pos (by omega)]
  blk_point [iblk, V, idx t]

set_option maxHeartbeats 4000000 in
/-- The convolution's block: sixteen chunks. -/
theorem chunks (c : Dev nD) (t : Fin cfg0.N) (y : S256x1024.Idx) : out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) y
    = conv (m ((c : Thread nD τ).loc main_arg0)) (m ((c : Thread nD τ).loc main_arg1)) (m ((c : Thread nD τ).loc main_arg2)) (t.val * 256 + (y 0).val) (y 1).val := by
  unfold out0_A_8
  frame_out
  have e := copy_read m c t
  simp only [copied] at e
  canon_tiles x hx
  all_goals
    simp (discharger := omega) only [held_read, tap_read, entry_read, k0_pay11, k0_pay12, k0_pay13, e]
    pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, conv]
    simp only [hx0, hx1, show ∀ a b d k : ℕ, a + (b + d) + k = a + d + (b + k) from fun _ _ _ _ => by omega, Nat.reduceAdd]

/-- The reference's rows before the convolution: thirty of zeros, then the gated values. -/
theorem rows (x : FVec Ideal S8192x12288 .bf16) (y : Cert.BranchAFwdRefIdeal.S8222x1024.Idx) : val_main_v17 (F := Ideal) x y = gated x ((y 0).val + 2) (y 1).val := by
  idx_vars y
  pointwise [val_main_v17, val_main_v16, val_main_v15, val_main_v14, val_main_v13, val_main_v12, val_main_v11, val_main_v10, val_main_v9, val_main_v8, val_main_v7, val_main_v1, val_main_v0, val_main_cst, val_main_cst_0, val_main_cst_1, gated]
  by_cases h : y0.val < 30
  · rw [dif_pos h, dif_neg (by omega)]
  · rw [dif_neg h, dif_pos (by omega)]
    refine congrArg₂ (fun a b => x a * Ideal.div 1 (1 + Ideal.exp (-x b))) (congrArg₂ ix2 (Fin.ext ?_) rfl) (congrArg₂ ix2 (Fin.ext ?_) rfl) <;> simp only [] <;> omega

/-- The same at a row and a column. -/
theorem rows_at (x : FVec Ideal S8192x12288 .bf16) (n : Fin 8222) (q : Fin 1024) : val_main_v17 (F := Ideal) x (ix2 n q) = gated x (n.val + 2) q.val :=
  rows x (ix2 n q)

/-- A tap's weight at an index. -/
theorem tap_at (w : FVec Ideal S31x1024 .f32) (k : Fin 31) (q : Fin 1024) : w (ix2 k q) = tap w k.val q.val := by
  rw [tap, dif_pos ⟨k.isLt, q.isLt⟩]

/-- A row vector's entry at an index. -/
theorem entry_at (b : FVec Ideal S1x1024 .f32) (k : Fin 1) (q : Fin 1024) : b (ix2 k q) = entry b q.val := by
  rw [entry, dif_pos q.isLt, Subsingleton.elim k 0]

/-- The reference's convolution. -/
theorem refconv (x : FVec Ideal S8192x12288 .bf16) (w : FVec Ideal S31x1024 .f32) (b : FVec Ideal S1x1024 .f32) (y : S8192x1024.Idx) : val_main_v237 (F := Ideal) x w b y = conv x w b (y 0).val (y 1).val := by
  idx_vars y
  pointwise [val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_2, conv]
  simp only [rows_at, tap_at, entry_at, show ∀ (a : Fin 8192) (k : ℕ), k + a.val + 2 = a.val + (k + 2) from fun _ _ => by omega, Nat.reduceAdd]
  rfl

/-- The activation's block. -/
theorem acts (c : Dev nD) (t : Fin cfg0.N) (y : S256x1024.Idx) : out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) y
    = val_main_v261 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb y) := by
  unfold out0_A_9
  frame_out
  refine (congrArg (fun v : FVec Ideal S256x1024 .f32 => k0_pay1 (F := Ideal) (k0_pay153 v (iblk m c 6 t) (iblk m c 7 t)) (k0_pay154 v (iblk m c 6 t) (iblk m c 7 t)) k0_pay155 y)
    (?_ : _ = fun z : S256x1024.Idx => conv (m ((c : Thread nD τ).loc main_arg0)) (m ((c : Thread nD τ).loc main_arg1)) (m ((c : Thread nD τ).loc main_arg2)) (t.val * 256 + (z 0).val) (z 1).val)).trans ?_
  · refine (View.readCov_eq_canon_ld _ _ _ (View.cover_of_tiledBy _ ![32, 512] (by sl_kernel_rfl))).trans ?_
    refine (congrArg (fun g => View.ld g _) (funext fun z => Eq.trans ?_ (chunks m c t z))).trans ?_
    · unfold out0_A_8
      frame_out
    · funext z
      pointwise []
  pointwise [k0_pay1, k0_pay153, k0_pay154, k0_pay155, refconv, val_main_v261, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_cst_3, val_main_cst_4, val_main_cst_5, val_main_cst_6, val_main_cst_7, val_main_call0_v0, val_main_call0_v1, val_main_call0_v2, val_main_call0_v3, val_main_call0_v4, val_main_call0_v5, val_main_call0_cst, val_main_call0_cst_0, val_main_v260]
  rw [zero_sub]
  generalize conv _ _ _ = g
  blk_point [iblk, V, idx t]

/-- The convolution. -/
theorem final8 (c : Dev nD) : (dats m 0 c).arrAt 8 cfg0.N = val_main_v237 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  rw [refconv]
  blk_simp
  rw [after0_8]
  simp only [outsAt0]
  rw [chunks]
  generalize conv _ _ _ = g
  blk_point [idx t]

/-- The activation. -/
theorem final9 (c : Dev nD) : (dats m 0 c).arrAt 9 cfg0.N = val_main_v261 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]
  simp only [outsAt0]
  rw [acts]

/-- Over the reals both results are the reference's. -/
theorem algebraic : Cert.algebraic_BranchAFwdIdeal_BranchAFwdRefIdeal := fun m ρ m' ρ' _ hag =>
  ⟨fun c => val_main_v237 (F := Ideal) (m ((c : Thread nD τ).loc main_arg0)) (m ((c : Thread nD τ).loc main_arg1)) (m ((c : Thread nD τ).loc main_arg2)), fun c => val_main_v261 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun _ h c => ⟨(h c).1.trans (final8 m c), (h c).2.1.trans (final9 m c), (h c).2.2⟩) (run_blocks m ρ),
    (θ_run _ _ _).mono (fun _ h c => ⟨(h c).1.trans (by rw [val_main_v237_eq]; change val_main_v237 (F := Ideal) (m' ((c : Thread Cert.BranchAFwdRefIdeal.nD Cert.BranchAFwdRefIdeal.τ).loc Cert.BranchAFwdRefIdeal.main_arg0)) (m' ((c : Thread Cert.BranchAFwdRefIdeal.nD Cert.BranchAFwdRefIdeal.τ).loc Cert.BranchAFwdRefIdeal.main_arg1)) (m' ((c : Thread Cert.BranchAFwdRefIdeal.nD Cert.BranchAFwdRefIdeal.τ).loc Cert.BranchAFwdRefIdeal.main_arg2)) = _; rw [(hag c).1, (hag c).2.1, (hag c).2.2.1]),
      (h c).2.1.trans (by rw [val_main_v261_eq]; change val_main_v261 (F := Ideal) (m' ((c : Thread Cert.BranchAFwdRefIdeal.nD Cert.BranchAFwdRefIdeal.τ).loc Cert.BranchAFwdRefIdeal.main_arg0)) (m' ((c : Thread Cert.BranchAFwdRefIdeal.nD Cert.BranchAFwdRefIdeal.τ).loc Cert.BranchAFwdRefIdeal.main_arg1)) (m' ((c : Thread Cert.BranchAFwdRefIdeal.nD Cert.BranchAFwdRefIdeal.τ).loc Cert.BranchAFwdRefIdeal.main_arg2)) (m' ((c : Thread Cert.BranchAFwdRefIdeal.nD Cert.BranchAFwdRefIdeal.τ).loc Cert.BranchAFwdRefIdeal.main_arg3)) (m' ((c : Thread Cert.BranchAFwdRefIdeal.nD Cert.BranchAFwdRefIdeal.τ).loc Cert.BranchAFwdRefIdeal.main_arg4)) = _; rw [(hag c).1, (hag c).2.1, (hag c).2.2.1, (hag c).2.2.2.1, (hag c).2.2.2.2]), (h c).2.2⟩) (Cert.BranchAFwdRefIdeal.Value.run m' ρ')⟩

end Cert.BranchAFwdIdeal.Value

end
-- ==== Proof.BranchBRun.lean ====
module

public import proofs.«01_k».proof.Proof.Gen.BranchBIdeal.Frame
public import proofs.«01_k».proof.Proof.Gen.BranchBIdeal.Skeleton
public import proofs.«01_k».proof.Proof.Gen.BranchBIdeal.Launch
public import proofs.«01_k».proof.Proof.Gen.BranchBIdeal.Points
public import Idealize.ShloMosaic.Lib.Exec

@[expose] public section

set_option maxRecDepth 16384

/-! The convolution branch's backward kernel visits, for each block of 256 rows, three column blocks of its result.
At the first of the three it computes all three blocks into a scratch and adds to the taps' gradient; at the other two
it only copies its block out of the scratch. Here the body is run in its three situations: the very first point, the
first visit of a later row block, and a copying visit. -/

noncomputable section

namespace Cert.BranchBIdeal.Hand

open Cert.BranchBIdeal Cert.BranchBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg3 : Memref sig .tc .vmem S256x1024 .bf16) (harg3 : arg3.IsWhole)
  (arg4 : Memref sig .tc .vmem S32x1024 .bf16) (harg4 : arg4.IsWhole)
  (arg5 : Memref sig .tc .vmem S256x1024 .bf16) (harg5 : arg5.IsWhole)
  (arg6 : Memref sig .tc .vmem S32x1024 .bf16) (harg6 : arg6.IsWhole)
  (arg7 : Memref sig .tc .vmem S256x1024 .bf16) (harg7 : arg7.IsWhole)
  (arg8 : Memref sig .tc .vmem S256x1024 .bf16) (harg8 : arg8.IsWhole)
  (arg9 : Memref sig .tc .vmem S32x1024 .bf16) (harg9 : arg9.IsWhole)
  (arg10 : Memref sig .tc .vmem S32x1024 .bf16) (harg10 : arg10.IsWhole)
  (arg11 : Memref sig .tc .vmem S3x1024 .f32) (harg11 : arg11.IsWhole)
  (arg12 : Memref sig .tc .vmem S256x1024 .bf16) (harg12 : arg12.IsWhole)
  (arg13 : Memref sig .tc .vmem S3x1024 .f32) (harg13 : arg13.IsWhole)
  (arg14 : Memref sig .tc .vmem S288x1024 .f32) (harg14 : arg14.IsWhole)
  (arg15 : Memref sig .tc .vmem S288x1024 .f32) (harg15 : arg15.IsWhole)
  (arg16 : Memref sig .tc .vmem S3x256x1024 .bf16) (harg16 : arg16.IsWhole)

set_option maxHeartbeats 1000000 in
/-- The first point's body: the taps' gradient is cleared before it is added to. -/
noncomputable def runFirst (hc0 : k0_cond1 i = 1#1) (hc1 : k0_cond2 i = 1#1)
    (x0 : Vec F S256x1024 .bf16) (x1 : Vec F S32x1024 .bf16) (x2 : Vec F S256x1024 .bf16) (x3 : Vec F S32x1024 .bf16) (x4 : Vec F S256x1024 .bf16) (x5 : Vec F S256x1024 .bf16) (x6 : Vec F S32x1024 .bf16) (x7 : Vec F S32x1024 .bf16) (x8 : Vec F S3x1024 .f32) :
    Σ' (L9 : List (View.Piece (Elt F) S256x1024 .bf16)), Σ' (L10 : List (View.Piece (Elt F) S3x1024 .f32)),
    Σ' (LS2 : List (View.Piece (Elt F) S3x256x1024 .bf16)), Σ' (LT0 : List (View.Piece (Elt F) S288x1024 .f32)),
    { LT1 : List (View.Piece (Elt F) S288x1024 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
          ∗ (∃ f, arg12.view.loc (c : Thread nD τ) ↦[arg12.view.set]{fullShare} arg12.view.writes (Elt F) f L9)
          ∗ (∃ f, arg13.view.loc (c : Thread nD τ) ↦[arg13.view.set]{fullShare} arg13.view.writes (Elt F) f L10)
          ∗ (∃ f, arg14.view.loc (c : Thread nD τ) ↦[arg14.view.set]{fullShare} arg14.view.writes (Elt F) f LT0)
          ∗ (∃ f, arg15.view.loc (c : Thread nD τ) ↦[arg15.view.set]{fullShare} arg15.view.writes (Elt F) f LT1)
          ∗ (∃ f, arg16.view.loc (c : Thread nD τ) ↦[arg16.view.set]{fullShare} arg16.view.writes (Elt F) f LS2)) -∗ K ⟨⟩))
      ⊢ wp frame (wpE (defs₀ (F := F)) Variants.none c none) E (cc0_branch_b_bwd i (Memref.whole main_arg0) (Memref.isWhole_whole _)
      arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_branch_b_bwd_eq_skeleton]; unfold cc0_branch_b_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hf8
    sl_exec (disch := first | sl_exact hc0 | sl_exact hc1)
    sl_step
    iapply Hk
    isplitl [H0]; · iexists _; isplitr; (· ipureintro; exact harg3.read_unread _); iexact H0
    isplitl [H1]; · iexists _; isplitr; (· ipureintro; exact harg4.read_unread _); iexact H1
    isplitl [H2]; · iexists _; isplitr; (· ipureintro; exact harg5.read_unread _); iexact H2
    isplitl [H3]; · iexists _; isplitr; (· ipureintro; exact harg6.read_unread _); iexact H3
    isplitl [H4]; · iexists _; isplitr; (· ipureintro; exact harg7.read_unread _); iexact H4
    isplitl [H5]; · iexists _; isplitr; (· ipureintro; exact harg8.read_unread _); iexact H5
    isplitl [H6]; · iexists _; isplitr; (· ipureintro; exact harg9.read_unread _); iexact H6
    isplitl [H7]; · iexists _; isplitr; (· ipureintro; exact harg10.read_unread _); iexact H7
    isplitl [H8]; · iexists _; isplitr; (· ipureintro; exact harg11.read_unread _); iexact H8
    isplitl [H9]; · iexists _; iexact H9
    isplitl [H10]; · iexists _; iexact H10
    isplitl [HS0]; · iexists _; iexact HS0
    isplitl [HS1]; · iexists _; iexact HS1
    iexists _; iexact HS2

set_option maxHeartbeats 1000000 in
/-- The body at a later block of rows: the taps' gradient `xo` of the rows above is added to. -/
noncomputable def runRows (hc0 : k0_cond1 i = 1#1) (hc1 : ¬k0_cond2 i = 1#1)
    (x0 : Vec F S256x1024 .bf16) (x1 : Vec F S32x1024 .bf16) (x2 : Vec F S256x1024 .bf16) (x3 : Vec F S32x1024 .bf16) (x4 : Vec F S256x1024 .bf16) (x5 : Vec F S256x1024 .bf16) (x6 : Vec F S32x1024 .bf16) (x7 : Vec F S32x1024 .bf16) (x8 : Vec F S3x1024 .f32) (xo : Vec F S3x1024 .f32) :
    Σ' (L9 : List (View.Piece (Elt F) S256x1024 .bf16)), Σ' (L10 : List (View.Piece (Elt F) S3x1024 .f32)),
    Σ' (LS2 : List (View.Piece (Elt F) S3x256x1024 .bf16)), Σ' (LT0 : List (View.Piece (Elt F) S288x1024 .f32)),
    { LT1 : List (View.Piece (Elt F) S288x1024 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (∃ d, owns (c : Thread nD τ) arg12 fullShare d) ∗ owns (c : Thread nD τ) arg13 fullShare xo ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
          ∗ (∃ f, arg12.view.loc (c : Thread nD τ) ↦[arg12.view.set]{fullShare} arg12.view.writes (Elt F) f L9)
          ∗ (∃ f, arg13.view.loc (c : Thread nD τ) ↦[arg13.view.set]{fullShare} arg13.view.writes (Elt F) f L10)
          ∗ (∃ f, arg14.view.loc (c : Thread nD τ) ↦[arg14.view.set]{fullShare} arg14.view.writes (Elt F) f LT0)
          ∗ (∃ f, arg15.view.loc (c : Thread nD τ) ↦[arg15.view.set]{fullShare} arg15.view.writes (Elt F) f LT1)
          ∗ (∃ f, arg16.view.loc (c : Thread nD τ) ↦[arg16.view.set]{fullShare} arg16.view.writes (Elt F) f LS2)) -∗ K ⟨⟩))
      ⊢ wp frame (wpE (defs₀ (F := F)) Variants.none c none) E (cc0_branch_b_bwd i (Memref.whole main_arg0) (Memref.isWhole_whole _)
      arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_branch_b_bwd_eq_skeleton]; unfold cc0_branch_b_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hf8
    obtain rfl := harg13.eq_unread hf10
    sl_exec (disch := first | sl_exact hc0 | sl_exact hc1)
    sl_step
    iapply Hk
    isplitl [H0]; · iexists _; isplitr; (· ipureintro; exact harg3.read_unread _); iexact H0
    isplitl [H1]; · iexists _; isplitr; (· ipureintro; exact harg4.read_unread _); iexact H1
    isplitl [H2]; · iexists _; isplitr; (· ipureintro; exact harg5.read_unread _); iexact H2
    isplitl [H3]; · iexists _; isplitr; (· ipureintro; exact harg6.read_unread _); iexact H3
    isplitl [H4]; · iexists _; isplitr; (· ipureintro; exact harg7.read_unread _); iexact H4
    isplitl [H5]; · iexists _; isplitr; (· ipureintro; exact harg8.read_unread _); iexact H5
    isplitl [H6]; · iexists _; isplitr; (· ipureintro; exact harg9.read_unread _); iexact H6
    isplitl [H7]; · iexists _; isplitr; (· ipureintro; exact harg10.read_unread _); iexact H7
    isplitl [H8]; · iexists _; isplitr; (· ipureintro; exact harg11.read_unread _); iexact H8
    isplitl [H9]; · iexists _; iexact H9
    isplitl [H10]; · iexists _; iexact H10
    isplitl [HS0]; · iexists _; iexact HS0
    isplitl [HS1]; · iexists _; iexact HS1
    iexists _; iexact HS2

/-- A copying visit's body: one of the scratch's three blocks goes out, everything else is left alone. -/
noncomputable def runCopy (hc0 : ¬k0_cond1 i = 1#1) (xs : Vec F S3x256x1024 .bf16) :
    { L9 : List (View.Piece (Elt F) S256x1024 .bf16) // ∀ (E : Set ℕ) (K : PUnit → sProp 𝕄),
      iprop((∃ d, owns (c : Thread nD τ) arg12 fullShare d) ∗ owns (c : Thread nD τ) arg16 fullShare xs
        ∗ (iprop((∃ f, arg12.view.loc (c : Thread nD τ) ↦[arg12.view.set]{fullShare} arg12.view.writes (Elt F) f L9) ∗ owns (c : Thread nD τ) arg16 fullShare xs) -∗ K ⟨⟩))
      ⊢ wp frame (wpE (defs₀ (F := F)) Variants.none c none) E (cc0_branch_b_bwd i (Memref.whole main_arg0) (Memref.isWhole_whole _)
      arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_branch_b_bwd_eq_skeleton]; unfold cc0_branch_b_bwd_skel
    unfold owns
    iintro ⟨⟨%d9, %f9, -, H9⟩, ⟨%f, %hf, HS2⟩, Hk⟩
    obtain rfl := harg16.eq_unread hf
    sl_exec (disch := sl_exact hc0)
    sl_step
    iapply Hk
    isplitl [H9]; · iexists _; iexact H9
    iexists _; isplitr; (· ipureintro; exact harg16.read_unread _); iexact HS2

end Cert.BranchBIdeal.Hand

end
-- ==== Proof.BranchBFrame.lean ====
module

public import proofs.«01_k».proof.Proof.BranchBRun
public import proofs.«01_k».proof.Proof.Gen.BranchB
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim
public import proofs.«01_k».proof.Defs

@[expose] public section

set_option maxRecDepth 16384

/-! The launch of the convolution branch's backward kernel: what its two results' staging buffers and its scratch hold
after every point, the body's obligation at every point, and the frame claims of the program and of its idealization. -/

noncomputable section

namespace Cert.BranchBIdeal.Hand

open Cert.BranchBIdeal Cert.BranchBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- A point is the first of its row block when its number is a multiple of three; -/
theorem new_rows : ∀ t : Fin cfg0.N, k0_cond1 (grid0.coords t) = 1#1 ↔ t.val % 3 = 0 :=
  (by decide +kernel : ∀ t : Fin grid0.N, k0_cond1 (grid0.coords t) = 1#1 ↔ t.val % 3 = 0)
/-- it belongs to the first row block when it is one of the first three. -/
theorem top_rows : ∀ t : Fin cfg0.N, k0_cond2 (grid0.coords t) = 1#1 ↔ t.val < 3 :=
  (by decide +kernel : ∀ t : Fin grid0.N, k0_cond2 (grid0.coords t) = 1#1 ↔ t.val < 3)
/-- The taps' gradient is left alone at the copying points. -/
theorem idle10 : ∀ t : Fin cfg0.N, cfg0.idle 10 (grid0.coords t) = decide (¬t.val % 3 = 0) :=
  (by decide +kernel : ∀ t : Fin grid0.N, cfg0.idle 10 (grid0.coords t) = decide (¬t.val % 3 = 0))
/-- Its buffer holds nothing of the body's only before the first point and after the last. -/
theorem fresh10 (t : Fin cfg0.N) : cfg0.fresh 10 t.val = decide (t.val = 0 ∨ t.val = 96) :=
  Pipeline.Cfg.fresh_tab cfg0 10 (fun n => decide (n = 0 ∨ n = 96)) rfl (by decide +kernel) t.val (Nat.le_of_lt t.isLt)

/-! ## What one point leaves -/

/-- The views the contents are read through; which staging buffer it is does not matter. -/
abbrev V9 : View sig .tc .vmem S256x1024 .bf16 := (Memref.whole cc0_stg9_0 : Memref sig .tc .vmem S256x1024 .bf16).view
abbrev V10 : View sig .tc .vmem S3x1024 .f32 := (Memref.whole cc0_stg10_0 : Memref sig .tc .vmem S3x1024 .f32).view
abbrev VS : View sig .tc .vmem S3x256x1024 .bf16 := (Memref.whole cc0_scratch2 : Memref sig .tc .vmem S3x256x1024 .bf16).view

/-- The body's run at the first point. -/
def first (c : Dev nD) (t : Fin cfg0.N) (h0 : k0_cond1 (grid0.coords t) = 1#1) (h1 : k0_cond2 (grid0.coords t) = 1#1) :=
  runFirst (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (Memref.whole cc0_scratch0) (Memref.isWhole_whole _) (Memref.whole cc0_scratch1) (Memref.isWhole_whole _) (Memref.whole cc0_scratch2) (Memref.isWhole_whole _)
    h0 h1
    (iblk m c 0 t) (iblk m c 1 t) (iblk m c 2 t) (iblk m c 3 t) (iblk m c 4 t) (iblk m c 5 t) (iblk m c 6 t) (iblk m c 7 t) (iblk m c 8 t)

/-- The body's run at the first visit of a later row block. -/
def rows (c : Dev nD) (t : Fin cfg0.N) (h0 : k0_cond1 (grid0.coords t) = 1#1) (h1 : ¬k0_cond2 (grid0.coords t) = 1#1) (xo : Vec F S3x1024 .f32) :=
  runRows (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (Memref.whole cc0_scratch0) (Memref.isWhole_whole _) (Memref.whole cc0_scratch1) (Memref.isWhole_whole _) (Memref.whole cc0_scratch2) (Memref.isWhole_whole _)
    h0 h1
    (iblk m c 0 t) (iblk m c 1 t) (iblk m c 2 t) (iblk m c 3 t) (iblk m c 4 t) (iblk m c 5 t) (iblk m c 6 t) (iblk m c 7 t) (iblk m c 8 t) xo

/-- The body's run at a copying visit. -/
def copy (c : Dev nD) (t : Fin cfg0.N) (h0 : ¬k0_cond1 (grid0.coords t) = 1#1) (xs : Vec F S3x256x1024 .bf16) :=
  runCopy (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (Memref.whole cc0_scratch0) (Memref.isWhole_whole _) (Memref.whole cc0_scratch1) (Memref.isWhole_whole _) (Memref.whole cc0_scratch2) (Memref.isWhole_whole _)
    h0 xs

/-- What `first` leaves of the result's block. -/
def firstOut (c : Dev nD) (t : Fin cfg0.N) (h0 : k0_cond1 (grid0.coords t) = 1#1) (h1 : k0_cond2 (grid0.coords t) = 1#1) : Vec F S256x1024 .bf16 :=
  V9.read (Elt F) (V9.writes (Elt F) V9.junk (first m c t h0 h1).1)

theorem firstOut_cover (c : Dev nD) (t : Fin cfg0.N) (h0 : k0_cond1 (grid0.coords t) = 1#1) (h1 : k0_cond2 (grid0.coords t) = 1#1) (y : S256x1024.Idx) :
    ∃ pc ∈ (first m c t h0 h1).1, y ∈ pc.1.set :=
  View.cover_of_tiledL (first m c t h0 h1).1 S256x1024.size (by sl_kernel_rfl) y

/-- What `first` leaves of the taps' gradient. -/
def firstTaps (c : Dev nD) (t : Fin cfg0.N) (h0 : k0_cond1 (grid0.coords t) = 1#1) (h1 : k0_cond2 (grid0.coords t) = 1#1) : Vec F S3x1024 .f32 :=
  V10.read (Elt F) (V10.writes (Elt F) V10.junk (first m c t h0 h1).2.1)

theorem firstTaps_cover (c : Dev nD) (t : Fin cfg0.N) (h0 : k0_cond1 (grid0.coords t) = 1#1) (h1 : k0_cond2 (grid0.coords t) = 1#1) (y : S3x1024.Idx) :
    ∃ pc ∈ (first m c t h0 h1).2.1, y ∈ pc.1.set :=
  View.cover_of_tiledBy (first m c t h0 h1).2.1 ![1, 1024] (by sl_kernel_rfl) y

/-- What `first` leaves of the three blocks kept. -/
def firstRes (c : Dev nD) (t : Fin cfg0.N) (h0 : k0_cond1 (grid0.coords t) = 1#1) (h1 : k0_cond2 (grid0.coords t) = 1#1) : Vec F S3x256x1024 .bf16 :=
  VS.read (Elt F) (VS.writes (Elt F) VS.junk (first m c t h0 h1).2.2.1)

theorem firstRes_cover (c : Dev nD) (t : Fin cfg0.N) (h0 : k0_cond1 (grid0.coords t) = 1#1) (h1 : k0_cond2 (grid0.coords t) = 1#1) (y : S3x256x1024.Idx) :
    ∃ pc ∈ (first m c t h0 h1).2.2.1, y ∈ pc.1.set :=
  View.cover_of_tiledL (first m c t h0 h1).2.2.1 S1x256x1024.size (by sl_kernel_rfl) y

/-- What `rows` leaves of the result's block. -/
def rowsOut (c : Dev nD) (t : Fin cfg0.N) (h0 : k0_cond1 (grid0.coords t) = 1#1) (h1 : ¬k0_cond2 (grid0.coords t) = 1#1) (xo : Vec F S3x1024 .f32) : Vec F S256x1024 .bf16 :=
  V9.read (Elt F) (V9.writes (Elt F) V9.junk (rows m c t h0 h1 xo).1)

theorem rowsOut_cover (c : Dev nD) (t : Fin cfg0.N) (h0 : k0_cond1 (grid0.coords t) = 1#1) (h1 : ¬k0_cond2 (grid0.coords t) = 1#1) (xo : Vec F S3x1024 .f32) (y : S256x1024.Idx) :
    ∃ pc ∈ (rows m c t h0 h1 xo).1, y ∈ pc.1.set :=
  View.cover_of_tiledL (rows m c t h0 h1 xo).1 S256x1024.size (by sl_kernel_rfl) y

/-- What `rows` leaves of the taps' gradient. -/
def rowsTaps (c : Dev nD) (t : Fin cfg0.N) (h0 : k0_cond1 (grid0.coords t) = 1#1) (h1 : ¬k0_cond2 (grid0.coords t) = 1#1) (xo : Vec F S3x1024 .f32) : Vec F S3x1024 .f32 :=
  V10.read (Elt F) (V10.writes (Elt F) V10.junk (rows m c t h0 h1 xo).2.1)

theorem rowsTaps_cover (c : Dev nD) (t : Fin cfg0.N) (h0 : k0_cond1 (grid0.coords t) = 1#1) (h1 : ¬k0_cond2 (grid0.coords t) = 1#1) (xo : Vec F S3x1024 .f32) (y : S3x1024.Idx) :
    ∃ pc ∈ (rows m c t h0 h1 xo).2.1, y ∈ pc.1.set :=
  View.cover_of_tiledL (rows m c t h0 h1 xo).2.1 ![1, 1024] (by sl_kernel_rfl) y

/-- What `rows` leaves of the three blocks kept. -/
def rowsRes (c : Dev nD) (t : Fin cfg0.N) (h0 : k0_cond1 (grid0.coords t) = 1#1) (h1 : ¬k0_cond2 (grid0.coords t) = 1#1) (xo : Vec F S3x1024 .f32) : Vec F S3x256x1024 .bf16 :=
  VS.read (Elt F) (VS.writes (Elt F) VS.junk (rows m c t h0 h1 xo).2.2.1)

theorem rowsRes_cover (c : Dev nD) (t : Fin cfg0.N) (h0 : k0_cond1 (grid0.coords t) = 1#1) (h1 : ¬k0_cond2 (grid0.coords t) = 1#1) (xo : Vec F S3x1024 .f32) (y : S3x256x1024.Idx) :
    ∃ pc ∈ (rows m c t h0 h1 xo).2.2.1, y ∈ pc.1.set :=
  View.cover_of_tiledL (rows m c t h0 h1 xo).2.2.1 S1x256x1024.size (by sl_kernel_rfl) y

/-- What `copy` leaves of the result's block. -/
def copyOut (c : Dev nD) (t : Fin cfg0.N) (h0 : ¬k0_cond1 (grid0.coords t) = 1#1) (xs : Vec F S3x256x1024 .bf16) : Vec F S256x1024 .bf16 :=
  V9.read (Elt F) (V9.writes (Elt F) V9.junk (copy c t h0 xs).1)

theorem copyOut_cover (c : Dev nD) (t : Fin cfg0.N) (h0 : ¬k0_cond1 (grid0.coords t) = 1#1) (xs : Vec F S3x256x1024 .bf16) (y : S256x1024.Idx) :
    ∃ pc ∈ (copy c t h0 xs).1, y ∈ pc.1.set :=
  View.cover_of_tiledL (copy c t h0 xs).1 S256x1024.size (by sl_kernel_rfl) y

/-! ## What is left after every point -/

/-- The taps' gradient and the three blocks kept, after point `n`: the first point's, then a row block's over what
    the rows above left, then unchanged through the copying visits. -/
def state (c : Dev nD) : (n : ℕ) → n < cfg0.N → Vec F S3x1024 .f32 × Vec F S3x256x1024 .bf16
  | 0, hn => (firstTaps m c ⟨0, hn⟩ ((new_rows _).2 rfl) ((top_rows _).2 (by norm_num)), firstRes m c ⟨0, hn⟩ ((new_rows _).2 rfl) ((top_rows _).2 (by norm_num)))
  | n + 1, hn =>
    if h : (n + 1) % 3 = 0 then
      let xo := (state c n (Nat.lt_of_succ_lt hn)).1
      have h1 : ¬k0_cond2 (grid0.coords ⟨n + 1, hn⟩) = 1#1 := fun e => by
        have := (top_rows ⟨n + 1, hn⟩).1 e; simp only at this; omega
      (rowsTaps m c ⟨n + 1, hn⟩ ((new_rows _).2 h) h1 xo, rowsRes m c ⟨n + 1, hn⟩ ((new_rows _).2 h) h1 xo)
    else state c n (Nat.lt_of_succ_lt hn)

/-- The state after the point before `t`. -/
abbrev prev (c : Dev nD) (t : Fin cfg0.N) := state m c (t.val - 1) (Nat.lt_of_le_of_lt (Nat.sub_le _ _) t.isLt)

theorem state_first (c : Dev nD) (t : Fin cfg0.N) (h0 h1) (hz : t.val = 0) :
    state m c t.val t.isLt = (firstTaps m c t h0 h1, firstRes m c t h0 h1) := by
  obtain ⟨n, hn⟩ := t; obtain rfl : n = 0 := hz; rfl

theorem state_rows (c : Dev nD) (t : Fin cfg0.N) (h0 h1) (hz : t.val ≠ 0) :
    state m c t.val t.isLt = (rowsTaps m c t h0 h1 (prev m c t).1, rowsRes m c t h0 h1 (prev m c t).1) := by
  obtain ⟨n, hn⟩ := t
  cases n with
  | zero => exact absurd rfl hz
  | succ n => exact dif_pos ((new_rows _).1 h0)

theorem state_copy (c : Dev nD) (t : Fin cfg0.N) (h0 : ¬t.val % 3 = 0) : state m c t.val t.isLt = prev m c t := by
  obtain ⟨n, hn⟩ := t
  cases n with
  | zero => exact absurd (Nat.zero_mod 3) h0
  | succ n => exact dif_neg h0

/-- The result's block after point `t`. -/
def out (c : Dev nD) (t : Fin cfg0.N) : Vec F S256x1024 .bf16 :=
  if h0 : k0_cond1 (grid0.coords t) = 1#1 then
    if h1 : k0_cond2 (grid0.coords t) = 1#1 then firstOut m c t h0 h1 else rowsOut m c t h0 h1 (prev m c t).1
  else copyOut c t h0 (prev m c t).2

/-- What holds of the scratch before point `n`: anything at first, then the three blocks kept. -/
def kept (c : Dev nD) : (n : ℕ) → n ≤ cfg0.N → sProp 𝕄
  | 0, _ => Pipeline.ΦA spec0 c
  | n + 1, hn => iprop(iprop((∃ d, owns (c : Thread nD τ) (Memref.whole cc0_scratch0) fullShare d) ∗ (∃ d, owns (c : Thread nD τ) (Memref.whole cc0_scratch1) fullShare d) ∗ owns (c : Thread nD τ) (Memref.whole cc0_scratch2) fullShare (state m c n hn).2) ∗ (∃ r, prngReg c r))

theorem kept_succ (c : Dev nD) (n : ℕ) (hn : n < cfg0.N) :
    kept m c (n + 1) hn = iprop(iprop((∃ d, owns (c : Thread nD τ) (Memref.whole cc0_scratch0) fullShare d) ∗ (∃ d, owns (c : Thread nD τ) (Memref.whole cc0_scratch1) fullShare d) ∗ owns (c : Thread nD τ) (Memref.whole cc0_scratch2) fullShare (state m c n hn).2) ∗ (∃ r, prngReg c r)) := rfl

theorem kept_pos (c : Dev nD) (n : ℕ) (h : n ≤ cfg0.N) (hz : n ≠ 0) :
    kept m c n h = iprop(iprop((∃ d, owns (c : Thread nD τ) (Memref.whole cc0_scratch0) fullShare d) ∗ (∃ d, owns (c : Thread nD τ) (Memref.whole cc0_scratch1) fullShare d) ∗ owns (c : Thread nD τ) (Memref.whole cc0_scratch2) fullShare (state m c (n - 1) (by omega)).2) ∗ (∃ r, prngReg c r)) := by
  cases n with
  | zero => exact absurd rfl hz
  | succ n => rfl

theorem scratch_any (c : Dev nD) : (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The proof data of the one pipeline: the arrays as the region finds them, the inputs' blocks left in place, the
    results and the scratch as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out m c t
    | ⟨10, _⟩ => (state m c t.val t.isLt).1
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out m c t := by dsimp only [dats]
theorem after10 (c : Dev nD) (t : Fin cfg0.N) : (dats m 0 c).after 10 t = (state m c t.val t.isLt).1 := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d

/-- After the first point the taps' buffer holds what the point before left. -/
theorem before10 (c : Dev nD) (t : Fin cfg0.N) (hz : t.val ≠ 0) (d) : (dats m 0 c).before 10 t d = (prev m c t).1 := by
  have hN : t.val < 96 := lt_of_lt_of_eq t.isLt (show cfg0.N = 96 from N_0)
  rw [Dat.before_out_traj (dats m 0 c) 10 rfl (fun _ _ => rfl) (fun t hz hi hf => by
      rw [idle10 t] at hi
      rw [after10, after10, state_copy m c t (of_decide_eq_true hi)]) t.val t rfl d,
    if_neg (by rw [fresh10 t, decide_eq_true_eq]; omega)]
  dsimp only [dats]

/-- A window the body stores into is left at the proof data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point, by its three situations. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = kept m c (t.val + 1) t.isLt from rfl, kept_succ]
  rw [show (dats m 0 c).Φ t.castSucc = kept m c t.val (Nat.le_of_lt t.isLt) from rfl]
  rw [show (dats m 0 c).leavesExact 0 t = owns (c : Thread nD τ) (win0_0.stage (cfg0.slots t 0)) fullShare ((dats m 0 c).after 0 t) from leaves_live m c 0 t rfl, after0]
  rw [show (dats m 0 c).leavesExact 1 t = owns (c : Thread nD τ) (win0_1.stage (cfg0.slots t 1)) fullShare ((dats m 0 c).after 1 t) from leaves_live m c 1 t rfl, after1]
  rw [show (dats m 0 c).leavesExact 2 t = owns (c : Thread nD τ) (win0_2.stage (cfg0.slots t 2)) fullShare ((dats m 0 c).after 2 t) from leaves_live m c 2 t rfl, after2]
  rw [show (dats m 0 c).leavesExact 3 t = owns (c : Thread nD τ) (win0_3.stage (cfg0.slots t 3)) fullShare ((dats m 0 c).after 3 t) from leaves_live m c 3 t rfl, after3]
  rw [show (dats m 0 c).leavesExact 4 t = owns (c : Thread nD τ) (win0_4.stage (cfg0.slots t 4)) fullShare ((dats m 0 c).after 4 t) from leaves_live m c 4 t rfl, after4]
  rw [show (dats m 0 c).leavesExact 5 t = owns (c : Thread nD τ) (win0_5.stage (cfg0.slots t 5)) fullShare ((dats m 0 c).after 5 t) from leaves_live m c 5 t rfl, after5]
  rw [show (dats m 0 c).leavesExact 6 t = owns (c : Thread nD τ) (win0_6.stage (cfg0.slots t 6)) fullShare ((dats m 0 c).after 6 t) from leaves_live m c 6 t rfl, after6]
  rw [show (dats m 0 c).leavesExact 7 t = owns (c : Thread nD τ) (win0_7.stage (cfg0.slots t 7)) fullShare ((dats m 0 c).after 7 t) from leaves_live m c 7 t rfl, after7]
  rw [show (dats m 0 c).leavesExact 8 t = owns (c : Thread nD τ) (win0_8.stage (cfg0.slots t 8)) fullShare ((dats m 0 c).after 8 t) from leaves_live m c 8 t rfl, after8]
  rw [show (dats m 0 c).leavesExact 9 t = owns (c : Thread nD τ) (win0_9.stage (cfg0.slots t 9)) fullShare ((dats m 0 c).after 9 t) from leaves_live m c 9 t rfl, after9]
  by_cases h0 : k0_cond1 (grid0.coords t) = 1#1
  · have hm := (new_rows t).1 h0
    rw [show (dats m 0 c).leavesExact 10 t = owns (c : Thread nD τ) (win0_10.stage (cfg0.slots t 10)) fullShare ((dats m 0 c).after 10 t) from leaves_live m c 10 t (by rw [idle10 t]; simpa using hm), after10]
    by_cases h1 : k0_cond2 (grid0.coords t) = 1#1
    · have hz : t.val = 0 := by have := (top_rows t).1 h1; omega
      rw [show kept m c t.val (Nat.le_of_lt t.isLt) = Pipeline.ΦA spec0 c from by
        obtain ⟨n, hn⟩ := t; obtain rfl : n = 0 := hz; rfl, scratch_any]
      rw [show out m c t = firstOut m c t h0 h1 from (dif_pos h0).trans (dif_pos h1), state_first m c t h0 h1 hz]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((first m c t h0 h1).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      isplitl [HS2]; · iexact HS2
      iintro ⟨H0, H1, H2, H3, H4, H5, H6, H7, H8, ⟨%e9, H9⟩, ⟨%e10, H10⟩, ⟨%fT0, HS0⟩, ⟨%fT1, HS1⟩, ⟨%es2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          unfold owns; iexists _; isplitr
          swap; · iexact HS2
          ipureintro; exact View.read_writes_of_cover _ _ _ _ _ (firstRes_cover m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (firstOut_cover m c t h0 h1)
      unfold owns; iexists _; isplitr
      swap; · iexact H10
      ipureintro; exact View.read_writes_of_cover _ _ _ _ _ (firstTaps_cover m c t h0 h1)
    · have hz : t.val ≠ 0 := fun e => h1 ((top_rows t).2 (by omega))
      rw [kept_pos m c _ _ hz, show out m c t = rowsOut m c t h0 h1 (prev m c t).1 from (dif_pos h0).trans (dif_neg h1), state_rows m c t h0 h1 hz]
      simp only [before10 m c t hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((rows m c t h0 h1 (prev m c t).1).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      isplitl [HS1]; · iexact HS1
      isplitl [HS2]; · iexists _; iexact HS2
      iintro ⟨H0, H1, H2, H3, H4, H5, H6, H7, H8, ⟨%e9, H9⟩, ⟨%e10, H10⟩, ⟨%fT0, HS0⟩, ⟨%fT1, HS1⟩, ⟨%es2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          unfold owns; iexists _; isplitr
          swap; · iexact HS2
          ipureintro; exact View.read_writes_of_cover _ _ _ _ _ (rowsRes_cover m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (rowsOut_cover m c t h0 h1 _)
      unfold owns; iexists _; isplitr
      swap; · iexact H10
      ipureintro; exact View.read_writes_of_cover _ _ _ _ _ (rowsTaps_cover m c t h0 h1 _)
  · have hm : ¬t.val % 3 = 0 := fun e => h0 ((new_rows t).2 e)
    have hz : t.val ≠ 0 := fun e => hm (by rw [e])
    have h10 : (∃ d, owns (c : Thread nD τ) (win0_10.stage (cfg0.slots t 10)) fullShare ((dats m 0 c).before 10 t d) : sProp 𝕄) ⊢ (dats m 0 c).leavesExact 10 t := by
      unfold Dat.leavesExact
      rw [show cfg0.idle 10 (cfg0.grid.coords t) = true from (idle10 t).trans (by simpa using hm)]
      cases hf : (cfg0.win 10).flush t
      · exact .rfl
      · simp only [before10 m c t hz, after10, state_copy m c t hm]
        iintro ⟨%d, H⟩; iexact H
    rw [kept_pos m c _ _ hz, show out m c t = copyOut c t h0 (prev m c t).2 from dif_neg h0, state_copy m c t hm]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply ((copy c t h0 (prev m c t).2).2 Set.univ _)
    isplitl [H9]; · iexists _; iexact H9
    isplitl [HS2]; · iexact HS2
    iintro ⟨⟨%e9, H9⟩, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (copyOut_cover c t h0 _)
    iapply h10; iexact H10

/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

/-- After the last point the scratch's contents are forgotten. -/
theorem hout (c : Dev nD) : (dats m 0 c).Φ (Fin.last cfg0.N) ⊢ Pipeline.ΦA spec0 c := by
  rw [show (dats m 0 c).Φ (Fin.last cfg0.N) = kept m c cfg0.N le_rfl from rfl,
    kept_pos m c _ _ (by have : cfg0.N = 96 := N_0; omega), scratch_any]
  iintro ⟨⟨HS0, HS1, HS2⟩, Hg⟩
  isplitl [HS0 HS1 HS2]
  · isplitl [HS0]; · iexact HS0
    isplitl [HS1]; · iexact HS1
    iexists _; iexact HS2
  iexact Hg

set_option backward.isDefEq.respectTransparency.types false in
/-- The launch: every run ends, each array of the pipeline at what the proof data says, the other buffers as found and
    every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun c => .rfl) (hout := hout m)

/-- Over any numbers: every run ends with the arguments as they were and no semaphore raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

/-- The frame of the idealized program. -/
theorem frame : Cert.quiescent_BranchBIdeal := fun m ρ _ => unchanged m ρ

end Cert.BranchBIdeal.Hand

namespace Cert.BranchB.Hand

open Idealize.ShloMosaic Idealize.SL.Sem

/-- The program and its idealization are the same text, so the idealization's run over bit patterns is the program's. -/
theorem frame : Cert.quiescent_BranchB := fun m ρ _ =>
  have e : (θ_run Cert.BranchBIdeal.defs (onTc (τ := Cert.BranchBIdeal.τ) (Cert.BranchBIdeal.main (F := Bits))) ⟨m, fun _ => 0, ρ⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1)
      ∧ r.2.mem ((c.tc : Thread Cert.BranchBIdeal.nD Cert.BranchBIdeal.τ).loc Cert.BranchBIdeal.main_arg2) = m ((c.tc : Thread Cert.BranchBIdeal.nD Cert.BranchBIdeal.τ).loc Cert.BranchBIdeal.main_arg2)
      ∧ r.2.mem ((c.tc : Thread Cert.BranchBIdeal.nD Cert.BranchBIdeal.τ).loc Cert.BranchBIdeal.main_arg3) = m ((c.tc : Thread Cert.BranchBIdeal.nD Cert.BranchBIdeal.τ).loc Cert.BranchBIdeal.main_arg3))
      ∧ r.2.sem = fun _ => 0))
    = (θ_run Cert.BranchB.defs (onTc (τ := Cert.BranchB.τ) (Cert.BranchB.main (F := Bits))) ⟨m, fun _ => 0, ρ⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1)
      ∧ r.2.mem ((c.tc : Thread Cert.BranchB.nD Cert.BranchB.τ).loc Cert.BranchB.main_arg2) = m ((c.tc : Thread Cert.BranchB.nD Cert.BranchB.τ).loc Cert.BranchB.main_arg2)
      ∧ r.2.mem ((c.tc : Thread Cert.BranchB.nD Cert.BranchB.τ).loc Cert.BranchB.main_arg3) = m ((c.tc : Thread Cert.BranchB.nD Cert.BranchB.τ).loc Cert.BranchB.main_arg3))
      ∧ r.2.sem = fun _ => 0)) := by sl_kernel_rfl
  e.mp (Cert.BranchBIdeal.Hand.unchanged (F := Bits) m ρ)

end Cert.BranchB.Hand

end
-- ==== Proof.BranchBBlocks.lean ====
module

public import proofs.«01_k».proof.Defs
public import proofs.«01_k».proof.Proof.BranchBFrame

public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BranchBIdeal.Value

open Cert.BranchBIdeal Cert.BranchBIdeal.Gen Cert.BranchBIdeal.Hand

variable (m : (ℓ : Loc nD τ sig) → Buf (Elt Ideal) ℓ)

/-- The product `sc·sx` under two zero rows. -/
def P (x : FVec Ideal S8192x12288 .bf16) (n : ℕ) (q : Fin 1024) : EReal :=
  if h : 2 ≤ n ∧ n < 8194 then x (ix2 ⟨n - 2, by omega⟩ ⟨3072 + q.val, by omega⟩) * x (ix2 ⟨n - 2, by omega⟩ ⟨4096 + q.val, by omega⟩) else 0

/-- The product `d·sb`, zero below its last row. -/
def D (b : FVec Ideal S8192x1024 .bf16) (x : FVec Ideal S8192x12288 .bf16) (n : ℕ) (q : Fin 1024) : EReal :=
  if h : n < 8192 then b (ix2 ⟨n, h⟩ q) * x (ix2 ⟨n, h⟩ ⟨2048 + q.val, by omega⟩) else 0

theorem idx : ∀ t : Fin cfg0.N, win0_0.index t = ![t.val / 3, 0] ∧ win0_1.index t = ![min ((t.val / 3 + 1) * 8) 255, 0]
    ∧ win0_2.index t = ![t.val / 3, 2] ∧ win0_3.index t = ![min ((t.val / 3 + 1) * 8) 255, 2]
    ∧ win0_4.index t = ![t.val / 3, 3] ∧ win0_5.index t = ![t.val / 3, 4]
    ∧ win0_6.index t = ![t.val / 3 * 8 - 1, 3] ∧ win0_7.index t = ![t.val / 3 * 8 - 1, 4]
    ∧ win0_8.index t = ![0, 0] ∧ win0_9.index t = ![t.val / 3, 2 + t.val % 3] ∧ win0_10.index t = ![0, 0] :=
  (by decide +kernel : ∀ t : Fin grid0.N, _)

theorem above : ∀ t : Fin cfg0.N, Scalar.cmpi .sgt (BitVec.ofNat 32 (grid0.coords t 0 : ℕ)) 0#32 = if t.val / 3 = 0 then 0#1 else 1#1 :=
  (by decide +kernel : ∀ t : Fin grid0.N, _)
theorem below : ∀ t : Fin cfg0.N, Scalar.cmpi .slt (BitVec.ofNat 32 (grid0.coords t 0 : ℕ)) 31#32 = if t.val / 3 = 31 then 0#1 else 1#1 :=
  (by decide +kernel : ∀ t : Fin grid0.N, _)
theorem part : ∀ t : Fin cfg0.N, k0_off1 (grid0.coords t) = ![t.val % 3, 0, 0] :=
  (by decide +kernel : ∀ t : Fin grid0.N, _)

/-- What the first scratch holds through a row block's first visit: the products under the halo of the rows above. -/
def prods (c : Dev nD) (t : Fin cfg0.N) : FVec Ideal S288x1024 .f32 := fun x =>
  P (m ((c : Thread nD τ).loc main_arg2)) (t.val / 3 * 256 + (x 0).val - 30) (x 1)

/-- What the second scratch holds: `d·sb` over the halo of the rows below. -/
def grads (c : Dev nD) (t : Fin cfg0.N) : FVec Ideal S288x1024 .f32 := fun x =>
  D (m ((c : Thread nD τ).loc main_arg1)) (m ((c : Thread nD τ).loc main_arg2)) (t.val / 3 * 256 + (x 0).val) (x 1)

theorem prods_eq (c : Dev nD) (t : Fin cfg0.N) (y : S288x1024.Idx) :
    View.canon (Val := Elt Ideal) (s := S288x1024) (e := .f32) [⟨Rect.unit ![32, 0] ![256, 1024] inb_S288x1024_S256x1024_32_0,
          k0_pay9 (iblk m c 4 t) (iblk m c 5 t)⟩,
        ⟨Rect.unit ![0, 0] ![32, 1024] inb_S288x1024_S32x1024_0_0,
          k0_pay8 (BitVec.ofNat 32 (grid0.coords t 0 : ℕ)) (iblk m c 6 t) (iblk m c 7 t)⟩] y = prods m c t y := by
  have lt : t.val < 96 := lt_of_lt_of_eq t.isLt (show cfg0.N = 96 from N_0)
  canon_tiles x hx using (View.cover_of_tiledBy _ ![32, 1024] (by sl_kernel_rfl) y)
  case piece0 =>
    pointwise [k0_pay9, k0_pay5, k0_pay6, prods, P]
    rw [dif_pos (by omega)]
    blk_point [iblk, V_main_arg2, idx t]
  case piece1 =>
    pointwise [k0_pay8, prods, P, above t]
    by_cases top : t.val / 3 = 0
    · rw [if_pos top, dif_neg (by omega)]; rfl
    · rw [if_neg top, dif_pos (by omega)]
      refine congrArg₂ (fun p q : EReal => p * q) ?_ ?_ <;> blk_point [iblk, V_main_arg2, idx t]
theorem grads_eq (c : Dev nD) (t : Fin cfg0.N) (y : S288x1024.Idx) :
    View.canon (Val := Elt Ideal) (s := S288x1024) (e := .f32) [⟨Rect.unit ![256, 0] ![32, 1024] inb_S288x1024_S32x1024_256_0,
                        k0_pay13 (BitVec.ofNat 32 ↑(grid0.coords t 0)) (k0_pay11 (iblk m c 1 t) (iblk m c 3 t)) 31#32⟩,
                      ⟨Rect.unit ![0, 0] ![256, 1024] inb_S288x1024_S256x1024_0_0,
                        k0_pay12 (iblk m c 2 t) (iblk m c 0 t)⟩] y = grads m c t y := by
  have lt : t.val < 96 := lt_of_lt_of_eq t.isLt (show cfg0.N = 96 from N_0)
  canon_tiles x hx using (View.cover_of_tiledBy _ ![32, 1024] (by sl_kernel_rfl) y)
  case piece0 =>
    pointwise [k0_pay13, k0_pay11, grads, D, below t]
    by_cases last : t.val / 3 = 31
    · rw [if_pos last, dif_neg (by omega)]; rfl
    · rw [if_neg last, dif_pos (by omega)]
      refine congrArg₂ (fun p q : EReal => p * q) ?_ ?_ <;> blk_point [iblk, V_main_arg1, V_main_arg2, idx t]
  case piece1 =>
    pointwise [k0_pay12, k0_pay10, k0_pay7, grads, D]
    rw [dif_pos (by omega)]
    blk_point [iblk, V_main_arg1, V_main_arg2, idx t]

theorem prods_read (c : Dev nD) (t : Fin cfg0.N) (o : ℕ) (inb : ∀ a, ![o, 0] a + ![256, 1024] a ≤ S288x1024.size a) :
    (View.whole cc0_scratch0).readCov (Val := Elt Ideal) (e := .f32) [⟨Rect.unit ![32, 0] ![256, 1024] inb_S288x1024_S256x1024_32_0,
          k0_pay9 (iblk m c 4 t) (iblk m c 5 t)⟩,
        ⟨Rect.unit ![0, 0] ![32, 1024] inb_S288x1024_S32x1024_0_0,
          k0_pay8 (BitVec.ofNat 32 (grid0.coords t 0 : ℕ)) (iblk m c 6 t) (iblk m c 7 t)⟩] (Rect.unit (s := S288x1024) ![o, 0] ![256, 1024] inb).toLoadRect = View.ld (Val := Elt Ideal) (e' := .f32) (S := S288x1024) (prods m c t) (Rect.unit (s := S288x1024) ![o, 0] ![256, 1024] inb) :=
  (View.readCov_eq_canon_ld _ _ _ (View.cover_of_tiledBy _ ![32, 1024] (by sl_kernel_rfl))).trans (congrFun (congrArg View.ld (funext (prods_eq m c t))) _)

theorem grads_read (c : Dev nD) (t : Fin cfg0.N) (o : ℕ) (inb : ∀ a, ![o, 0] a + ![256, 1024] a ≤ S288x1024.size a) :
    (View.whole cc0_scratch1).readCov (Val := Elt Ideal) (e := .f32) [⟨Rect.unit ![256, 0] ![32, 1024] inb_S288x1024_S32x1024_256_0,
                        k0_pay13 (BitVec.ofNat 32 ↑(grid0.coords t 0)) (k0_pay11 (iblk m c 1 t) (iblk m c 3 t)) 31#32⟩,
                      ⟨Rect.unit ![0, 0] ![256, 1024] inb_S288x1024_S256x1024_0_0,
                        k0_pay12 (iblk m c 2 t) (iblk m c 0 t)⟩] (Rect.unit (s := S288x1024) ![o, 0] ![256, 1024] inb).toLoadRect = View.ld (Val := Elt Ideal) (e' := .f32) (S := S288x1024) (grads m c t) (Rect.unit (s := S288x1024) ![o, 0] ![256, 1024] inb) :=
  (View.readCov_eq_canon_ld _ _ _ (View.cover_of_tiledBy _ ![32, 1024] (by sl_kernel_rfl))).trans (congrFun (congrArg View.ld (funext (grads_eq m c t))) _)

/-- The convolution of row `r`. -/
def conv (x : FVec Ideal S8192x12288 .bf16) (w : FVec Ideal S3x1024 .f32) (r : ℕ) (q : Fin 1024) : EReal :=
  w (ix2 0 q) * P x r q + w (ix2 1 q) * P x (r + 1) q + w (ix2 2 q) * P x (r + 2) q

/-- The gradient to the product `sc·sx` of row `r`. -/
def back (b : FVec Ideal S8192x1024 .bf16) (x : FVec Ideal S8192x12288 .bf16) (w : FVec Ideal S3x1024 .f32) (r : ℕ) (q : Fin 1024) : EReal :=
  w (ix2 0 q) * D b x (r + 2) q + w (ix2 1 q) * D b x (r + 1) q + w (ix2 2 q) * D b x r q

/-- The gradients to `sb`, `sc` and `sx`, side by side. -/
def dparts (b : FVec Ideal S8192x1024 .bf16) (x : FVec Ideal S8192x12288 .bf16) (w : FVec Ideal S3x1024 .f32) (j : ℕ) (r : Fin 8192) (q : Fin 1024) : EReal :=
  if j = 0 then b (ix2 r q) * conv x w r q
  else if j = 1 then back b x w r q * x (ix2 r ⟨4096 + q.val, by omega⟩)
  else back b x w r q * x (ix2 r ⟨3072 + q.val, by omega⟩)

/-- The array's row that row `k` of a point's block is. -/
def row (t : Fin cfg0.N) (k : Fin 256) : Fin 8192 := ⟨t.val / 3 * 256 + k, by have h := lt_of_lt_of_eq t.isLt (show cfg0.N = 96 from N_0); omega⟩

/-- The three blocks a row block keeps. -/
def blocks (c : Dev nD) (t : Fin cfg0.N) : FVec Ideal S3x256x1024 .bf16 := fun z =>
  dparts (m ((c : Thread nD τ).loc main_arg1)) (m ((c : Thread nD τ).loc main_arg2)) (m ((c : Thread nD τ).loc main_arg3)) (z 0) (row t (z 1)) (z 2)

/-- What row block `i` adds to the taps' gradient. -/
def taps (c : Dev nD) (i : ℕ) : FVec Ideal S3x1024 .f32 := fun z =>
  ∑ k : Fin 256, D (m ((c : Thread nD τ).loc main_arg1)) (m ((c : Thread nD τ).loc main_arg2)) (i * 256 + k) (z 1)
    * P (m ((c : Thread nD τ).loc main_arg2)) (i * 256 + k + (z 0).val) (z 1)

/-- The three blocks stored are the three gradients of the row block. -/
theorem blocks_eq (c : Dev nD) (t : Fin cfg0.N) :
    View.canon (Val := Elt Ideal) (s := S3x256x1024) (e := .bf16) [
      ⟨Rect.unit ![2, 0, 0] ![1, 256, 1024] inb_S3x256x1024_S1x256x1024_2_0_0, k0_pay3 (k0_pay5 (iblk m c 4 t)) (k0_pay19 (k0_pay15 (View.ld (Val := Elt Ideal) (e' := .f32) (S := S3x1024) (iblk m c 8 t) (Rect.unit ![0, 0] ![1, 1024] inb_S3x1024_S1x1024_0_0)) (View.ld (Val := Elt Ideal) (e' := .f32) (S := S288x1024) (grads m c t) (Rect.unit ![2, 0] ![256, 1024] inb_S288x1024_S256x1024_2_0))) (View.ld (Val := Elt Ideal) (e' := .f32) (S := S3x1024) (iblk m c 8 t) (Rect.unit ![1, 0] ![1, 1024] inb_S3x1024_S1x1024_1_0)) (View.ld (Val := Elt Ideal) (e' := .f32) (S := S288x1024) (grads m c t) (Rect.unit ![1, 0] ![256, 1024] inb_S288x1024_S256x1024_1_0)) (View.ld (Val := Elt Ideal) (e' := .f32) (S := S3x1024) (iblk m c 8 t) (Rect.unit ![2, 0] ![1, 1024] inb_S3x1024_S1x1024_2_0)) (View.ld (Val := Elt Ideal) (e' := .f32) (S := S288x1024) (grads m c t) (Rect.unit ![0, 0] ![256, 1024] inb_S288x1024_S256x1024_0_0)))⟩,
      ⟨Rect.unit ![1, 0, 0] ![1, 256, 1024] inb_S3x256x1024_S1x256x1024_1_0_0, k0_pay2 (k0_pay6 (iblk m c 5 t)) (k0_pay19 (k0_pay15 (View.ld (Val := Elt Ideal) (e' := .f32) (S := S3x1024) (iblk m c 8 t) (Rect.unit ![0, 0] ![1, 1024] inb_S3x1024_S1x1024_0_0)) (View.ld (Val := Elt Ideal) (e' := .f32) (S := S288x1024) (grads m c t) (Rect.unit ![2, 0] ![256, 1024] inb_S288x1024_S256x1024_2_0))) (View.ld (Val := Elt Ideal) (e' := .f32) (S := S3x1024) (iblk m c 8 t) (Rect.unit ![1, 0] ![1, 1024] inb_S3x1024_S1x1024_1_0)) (View.ld (Val := Elt Ideal) (e' := .f32) (S := S288x1024) (grads m c t) (Rect.unit ![1, 0] ![256, 1024] inb_S288x1024_S256x1024_1_0)) (View.ld (Val := Elt Ideal) (e' := .f32) (S := S3x1024) (iblk m c 8 t) (Rect.unit ![2, 0] ![1, 1024] inb_S3x1024_S1x1024_2_0)) (View.ld (Val := Elt Ideal) (e' := .f32) (S := S288x1024) (grads m c t) (Rect.unit ![0, 0] ![256, 1024] inb_S288x1024_S256x1024_0_0)))⟩,
      ⟨Rect.unit ![0, 0, 0] ![1, 256, 1024] inb_S3x256x1024_S1x256x1024_0_0_0, k0_pay1 (k0_pay21 (k0_pay7 (iblk m c 0 t)) (k0_pay17 (View.ld (Val := Elt Ideal) (e' := .f32) (S := S288x1024) (prods m c t) (Rect.unit ![30, 0] ![256, 1024] inb_S288x1024_S256x1024_30_0)) (View.ld (Val := Elt Ideal) (e' := .f32) (S := S3x1024) (iblk m c 8 t) (Rect.unit ![0, 0] ![1, 1024] inb_S3x1024_S1x1024_0_0)) (View.ld (Val := Elt Ideal) (e' := .f32) (S := S288x1024) (prods m c t) (Rect.unit ![31, 0] ![256, 1024] inb_S288x1024_S256x1024_31_0)) (View.ld (Val := Elt Ideal) (e' := .f32) (S := S3x1024) (iblk m c 8 t) (Rect.unit ![1, 0] ![1, 1024] inb_S3x1024_S1x1024_1_0))) (View.ld (Val := Elt Ideal) (e' := .f32) (S := S288x1024) (prods m c t) (Rect.unit ![32, 0] ![256, 1024] inb_S288x1024_S256x1024_32_0)) (View.ld (Val := Elt Ideal) (e' := .f32) (S := S3x1024) (iblk m c 8 t) (Rect.unit ![2, 0] ![1, 1024] inb_S3x1024_S1x1024_2_0)))⟩] = blocks m c t := by
  funext z
  canon_tiles x hx
  case piece0 =>
    pointwise [k0_pay3, k0_pay5, k0_pay19, k0_pay15, blocks, dparts, back, grads, row]
    rw [if_neg (by omega), if_neg (by omega), show t.val / 3 * 256 + (2 + (x 1).val) = t.val / 3 * 256 + (z 1).val + 2 by omega,
      show t.val / 3 * 256 + (1 + (x 1).val) = t.val / 3 * 256 + (z 1).val + 1 by omega, ← hx1, show x 2 = z 2 from Fin.ext hx2.symm]
    blk_point [iblk, V_main_arg3, V_main_arg2, idx t]
  case piece1 =>
    pointwise [k0_pay2, k0_pay6, k0_pay19, k0_pay15, blocks, dparts, back, grads, row]
    rw [if_neg (by omega), if_pos (by omega), show t.val / 3 * 256 + (2 + (x 1).val) = t.val / 3 * 256 + (z 1).val + 2 by omega,
      show t.val / 3 * 256 + (1 + (x 1).val) = t.val / 3 * 256 + (z 1).val + 1 by omega, ← hx1, show x 2 = z 2 from Fin.ext hx2.symm]
    blk_point [iblk, V_main_arg3, V_main_arg2, idx t]
  case piece2 =>
    pointwise [k0_pay1, k0_pay21, k0_pay7, k0_pay17, blocks, dparts, conv, prods, row]
    rw [if_pos (by omega), show t.val / 3 * 256 + (30 + (x 1).val) - 30 = t.val / 3 * 256 + (z 1).val by omega,
      show t.val / 3 * 256 + (31 + (x 1).val) - 30 = t.val / 3 * 256 + (z 1).val + 1 by omega,
      show t.val / 3 * 256 + (32 + (x 1).val) - 30 = t.val / 3 * 256 + (z 1).val + 2 by omega, show x 2 = z 2 from Fin.ext hx2.symm]
    blk_point [iblk, V_main_arg3, V_main_arg2, V_main_arg1, idx t]

theorem rowsRes_eq (c : Dev nD) (t : Fin cfg0.N) (h0 h1 xo) : rowsRes m c t h0 h1 xo = blocks m c t := by
  unfold rowsRes rows
  frame_out
  rw [prods_read m c t 30 _, prods_read m c t 31 _, prods_read m c t 32 _, grads_read m c t 0 _, grads_read m c t 1 _, grads_read m c t 2 _, blocks_eq]

theorem firstRes_eq (c : Dev nD) (t : Fin cfg0.N) (h0 h1) : firstRes m c t h0 h1 = blocks m c t := by
  unfold firstRes first
  frame_out
  rw [prods_read m c t 30 _, prods_read m c t 31 _, prods_read m c t 32 _, grads_read m c t 0 _, grads_read m c t 1 _, grads_read m c t 2 _, blocks_eq]

/-- The block copied at a visit. -/
theorem pick (t : Fin cfg0.N) (inb) (xs : FVec Ideal S3x256x1024 .bf16) (y : S256x1024.Idx) :
    k0_pay4 (F := Ideal) (View.ld (Val := Elt Ideal) (e' := .bf16) (S := S3x256x1024) xs (Rect.unit (k0_off1 (grid0.coords t)) ![1, 256, 1024] inb)) y
      = xs (ix3 (⟨t.val % 3, Nat.mod_lt _ (by norm_num)⟩ : Fin 3) (y 0 : Fin 256) (y 1 : Fin 1024)) := by
  have e := part t
  pointwise [k0_pay4]
  congr 1
  refine congr (congr (congrArg ix3 (Fin.ext ?_)) (Fin.ext ?_)) (Fin.ext ?_)
  · exact congrFun e 0
  · show k0_off1 (grid0.coords t) 1 + _ = _; rw [show k0_off1 (grid0.coords t) 1 = 0 from congrFun e 1, Nat.zero_add]
  · show k0_off1 (grid0.coords t) 2 + _ = _; rw [show k0_off1 (grid0.coords t) 2 = 0 from congrFun e 2, Nat.zero_add]

theorem firstOut_eq (c : Dev nD) (t : Fin cfg0.N) (h0 h1) (y : S256x1024.Idx) :
    firstOut m c t h0 h1 y = blocks m c t (ix3 (⟨t.val % 3, Nat.mod_lt _ (by norm_num)⟩ : Fin 3) (y 0 : Fin 256) (y 1 : Fin 1024)) := by
  unfold firstOut first
  frame_out
  rw [prods_read m c t 30 _, prods_read m c t 31 _, prods_read m c t 32 _, grads_read m c t 0 _, grads_read m c t 1 _, grads_read m c t 2 _, blocks_eq]
  exact pick t _ _ y
theorem rowsOut_eq (c : Dev nD) (t : Fin cfg0.N) (h0 h1 xo) (y : S256x1024.Idx) :
    rowsOut m c t h0 h1 xo y = blocks m c t (ix3 (⟨t.val % 3, Nat.mod_lt _ (by norm_num)⟩ : Fin 3) (y 0 : Fin 256) (y 1 : Fin 1024)) := by
  unfold rowsOut rows
  frame_out
  rw [prods_read m c t 30 _, prods_read m c t 31 _, prods_read m c t 32 _, grads_read m c t 0 _, grads_read m c t 1 _, grads_read m c t 2 _, blocks_eq]
  exact pick t _ _ y
theorem copyOut_eq (c : Dev nD) (t : Fin cfg0.N) (h0) (xs : FVec Ideal S3x256x1024 .bf16) (y : S256x1024.Idx) :
    copyOut (F := Ideal) c t h0 xs y = xs (ix3 (⟨t.val % 3, Nat.mod_lt _ (by norm_num)⟩ : Fin 3) (y 0 : Fin 256) (y 1 : Fin 1024)) := by
  unfold copyOut copy
  frame_out
  rw [read_unread_whole]
  exact pick t _ _ y

/-- One tap of the taps' gradient, one row block on. -/
theorem tap_step (c : Dev nD) (t : Fin cfg0.N) (d s : FVec Ideal S256x1024 .bf16) (ed : d = iblk m c 0 t) (es : s = iblk m c 2 t)
    (Z : FVec Ideal S3x1024 .f32) (k : Fin 3) (q : Fin 1024) (z : S3x1024.Idx) (e0 : (z 0).val = k.val) (e1 : (z 1).val = q.val) (o : ℕ) (eo : o = 30 + k.val) :
    Z (ix2 k q) + ∑ r : Fin 256, d (ix2 r q) * s (ix2 r q) * P (m ((c : Thread nD τ).loc main_arg2)) (t.val / 3 * 256 + (o + r) - 30) q
      = Z z + taps m c (t.val / 3) z := by
  have lt : t.val < 96 := lt_of_lt_of_eq t.isLt (show cfg0.N = 96 from N_0)
  obtain ⟨a, b, rfl⟩ : ∃ (a : Fin 3) (b : Fin 1024), z = ix2 a b := ⟨z 0, z 1, by pointwise⟩
  obtain rfl : a = k := Fin.ext e0
  obtain rfl : b = q := Fin.ext e1
  refine congrArg (Z (ix2 a b) + ·) (Finset.sum_congr rfl fun r _ => ?_)
  show _ = D _ _ (t.val / 3 * 256 + r.val) b * P _ (t.val / 3 * 256 + r.val + a.val) b
  rw [show t.val / 3 * 256 + (o + r.val) - 30 = t.val / 3 * 256 + r.val + a.val by omega, D, dif_pos (by omega)]
  subst ed es
  refine congrArg (· * P _ _ b) (congrArg₂ (fun p q : EReal => p * q) ?_ ?_) <;> blk_point [iblk, V_main_arg2, V_main_arg1, idx t]

/-- The taps' gradient stored over `Z`, a tap at a time. -/
theorem taps_eq (c : Dev nD) (t : Fin cfg0.N) (Z : FVec Ideal S3x1024 .f32) (z : S3x1024.Idx) :
    View.canon (Val := Elt Ideal) (s := S3x1024) (e := .f32) [
      ⟨Rect.unit ![2, 0] ![1, 1024] inb_S3x1024_S1x1024_2_0, k0_pay20 (k0_pay10 (iblk m c 2 t) (iblk m c 0 t)) (View.ld (Val := Elt Ideal) (e' := .f32) (S := S288x1024) (prods m c t) (Rect.unit ![32, 0] ![256, 1024] inb_S288x1024_S256x1024_32_0)) (View.ld (Val := Elt Ideal) (e' := .f32) (S := S3x1024) Z (Rect.unit ![2, 0] ![1, 1024] inb_S3x1024_S1x1024_2_0))⟩,
      ⟨Rect.unit ![1, 0] ![1, 1024] inb_S3x1024_S1x1024_1_0, k0_pay18 (k0_pay10 (iblk m c 2 t) (iblk m c 0 t)) (View.ld (Val := Elt Ideal) (e' := .f32) (S := S288x1024) (prods m c t) (Rect.unit ![31, 0] ![256, 1024] inb_S288x1024_S256x1024_31_0)) (View.ld (Val := Elt Ideal) (e' := .f32) (S := S3x1024) Z (Rect.unit ![1, 0] ![1, 1024] inb_S3x1024_S1x1024_1_0))⟩,
      ⟨Rect.unit ![0, 0] ![1, 1024] inb_S3x1024_S1x1024_0_0, k0_pay16 (k0_pay10 (iblk m c 2 t) (iblk m c 0 t)) (View.ld (Val := Elt Ideal) (e' := .f32) (S := S288x1024) (prods m c t) (Rect.unit ![30, 0] ![256, 1024] inb_S288x1024_S256x1024_30_0)) (View.ld (Val := Elt Ideal) (e' := .f32) (S := S3x1024) Z (Rect.unit ![0, 0] ![1, 1024] inb_S3x1024_S1x1024_0_0))⟩] z
      = Z z + taps m c (t.val / 3) z := by
  canon_tiles x hx
  case piece0 =>
    pointwise [k0_pay20, k0_pay10, k0_pay7, prods]
    exact tap_step m c t _ _ rfl rfl Z 2 (x 1) z (by omega) hx1 32 rfl
  case piece1 =>
    pointwise [k0_pay18, k0_pay10, k0_pay7, prods]
    exact tap_step m c t _ _ rfl rfl Z 1 (x 1) z (by omega) hx1 31 rfl
  case piece2 =>
    pointwise [k0_pay16, k0_pay10, k0_pay7, prods]
    exact tap_step m c t _ _ rfl rfl Z 0 (x 1) z (by omega) hx1 30 rfl

theorem rowsTaps_eq (c : Dev nD) (t : Fin cfg0.N) (h0 h1) (xo : FVec Ideal S3x1024 .f32) (z : S3x1024.Idx) :
    rowsTaps m c t h0 h1 xo z = xo z + taps m c (t.val / 3) z := by
  unfold rowsTaps rows
  frame_out
  rw [prods_read m c t 30 _, prods_read m c t 31 _, prods_read m c t 32 _]
  exact taps_eq m c t xo z

/-- A store of the whole buffer is gone once later stores cover it. -/
theorem drop_fill (L : List (View.Piece (Elt Ideal) S3x1024 .f32)) (q : View.Piece (Elt Ideal) S3x1024 .f32) (y : S3x1024.Idx) (hc : ∃ p ∈ L, y ∈ p.1.set) :
    View.canon (L ++ [q]) y = View.canon L y := by
  induction L with
  | nil => obtain ⟨p, hp, _⟩ := hc; simp at hp
  | cons p L ih =>
    by_cases hm : y ∈ p.1.set
    · obtain ⟨x, rfl⟩ := p.1.exists_idx_of_mem hm
      exact (View.canon_cons_emb p.1 p.2 _ x).trans (View.canon_cons_emb p.1 p.2 _ x).symm
    · rw [List.cons_append, View.canon_cons_of_not_mem p _ hm, View.canon_cons_of_not_mem p _ hm]
      obtain ⟨p', hp', hy⟩ := hc
      rcases List.mem_cons.mp hp' with rfl | hp'
      · exact absurd hy hm
      · exact ih ⟨p', hp', hy⟩

theorem firstTaps_eq (c : Dev nD) (t : Fin cfg0.N) (h0 h1) (z : S3x1024.Idx) : firstTaps m c t h0 h1 z = taps m c (t.val / 3) z := by
  unfold firstTaps first
  frame_open
  simp (disch := decide) only [↓ View.readCov_skip, ↓ View.readCov_fill]
  frame_out
  rw [prods_read m c t 30 _, prods_read m c t 31 _, prods_read m c t 32 _]
  refine (drop_fill [_, _, _] _ z (View.cover_of_tiledL _ ![1, 1024] (by sl_kernel_rfl) z)).trans ((taps_eq m c t (k0_pay14 (F := Ideal)) z).trans ?_)
  rw [show k0_pay14 (F := Ideal) z = 0 by pointwise [k0_pay14], zero_add]

/-- The blocks of a row block do not depend on the visit. -/
theorem blocks_congr (c : Dev nD) (t s : Fin cfg0.N) (h : t.val / 3 = s.val / 3) : blocks m c t = blocks m c s := by
  have e : row t = row s := funext fun k => Fin.ext (by show t.val / 3 * 256 + k.val = s.val / 3 * 256 + k.val; rw [h])
  unfold blocks; rw [e]

/-- The state after a point: the row blocks' sums so far, and this row block's three gradients. -/
def Holds (c : Dev nD) (t : Fin cfg0.N) : Prop :=
  (∀ z, (state m c t.val t.isLt).1 z = ∑ i ∈ Finset.range (t.val / 3 + 1), taps m c i z) ∧ (state m c t.val t.isLt).2 = blocks m c t

theorem holds_first (c : Dev nD) (t : Fin cfg0.N) (h : t.val = 0) : Holds m c t := by
  have h0 := (new_rows t).2 (by omega)
  have h1 := (top_rows t).2 (by omega)
  have e := state_first m c t h0 h1 h
  unfold Holds
  constructor
  · intro z
    rw [e, show t.val / 3 = 0 by omega, Nat.zero_add, Finset.sum_range_one, ← show t.val / 3 = 0 by omega]
    dsimp only
    exact firstTaps_eq m c t h0 h1 z
  · rw [e]; dsimp only
    exact firstRes_eq m c t h0 h1

theorem holds_rows (c : Dev nD) (t s : Fin cfg0.N) (hs : s.val = t.val - 1) (hz : t.val ≠ 0) (h : t.val % 3 = 0) (ih : Holds m c s) : Holds m c t := by
  have h0 := (new_rows t).2 h
  have h1 : ¬k0_cond2 (grid0.coords t) = 1#1 := fun e => by have := (top_rows t).1 e; omega
  have e := state_rows m c t h0 h1 hz
  unfold Holds at ih ⊢
  have eh : prev m c t = state m c s.val s.isLt := by unfold prev; simp only [hs]
  rw [← eh] at ih
  constructor
  · intro z
    rw [e, Finset.sum_range_succ, show t.val / 3 = s.val / 3 + 1 by omega, ← ih.1 z, ← show t.val / 3 = s.val / 3 + 1 by omega]
    dsimp only
    exact rowsTaps_eq m c t h0 h1 _ z
  · rw [e]; dsimp only
    exact rowsRes_eq m c t h0 h1 _

theorem holds_copy (c : Dev nD) (t s : Fin cfg0.N) (hs : s.val = t.val - 1) (h : ¬t.val % 3 = 0) (ih : Holds m c s) : Holds m c t := by
  have e := state_copy m c t h
  unfold Holds at ih ⊢
  have eh : prev m c t = state m c s.val s.isLt := by unfold prev; simp only [hs]
  rw [e, eh]
  exact ⟨fun z => by rw [ih.1 z, show s.val / 3 = t.val / 3 by omega], ih.2.trans (blocks_congr m c s t (by omega))⟩

theorem holds (c : Dev nD) (n : ℕ) : ∀ hn : n < cfg0.N, Holds m c ⟨n, hn⟩ := by
  induction n with
  | zero => exact fun hn => holds_first m c ⟨0, hn⟩ rfl
  | succ n ih =>
    intro hn
    have hp := ih (Nat.lt_of_succ_lt hn)
    by_cases h : (n + 1) % 3 = 0
    · exact holds_rows m c ⟨n + 1, hn⟩ _ rfl (Nat.succ_ne_zero n) h hp
    · exact holds_copy m c ⟨n + 1, hn⟩ _ rfl h hp

/-- What a visit leaves of the result's block. -/
theorem out_eq (c : Dev nD) (t : Fin cfg0.N) (y : S256x1024.Idx) :
    out m c t y = blocks m c t (ix3 (⟨t.val % 3, Nat.mod_lt _ (by norm_num)⟩ : Fin 3) (y 0 : Fin 256) (y 1 : Fin 1024)) := by
  unfold out
  split_ifs with h0 h1
  · exact firstOut_eq m c t h0 h1 y
  · exact rowsOut_eq m c t h0 h1 _ y
  · refine (copyOut_eq c t h0 _ y).trans ?_
    have h : ¬t.val % 3 = 0 := fun e => h0 ((new_rows t).2 e)
    rw [(holds m c (t.val - 1) (Nat.lt_of_le_of_lt (Nat.sub_le _ _) t.isLt)).2, blocks_congr m c ⟨t.val - 1, _⟩ t (by show (t.val - 1) / 3 = t.val / 3; omega)]

theorem V_v0 (c : Dev nD) : Gen.V m c main_v0_0 = m ((c : Thread nD τ).loc main_arg0) := by
  unfold Gen.V
  after_results
  try rfl

/-- The kernel's first result. -/
def dproj (a : FVec Ideal S8192x12288 .bf16) (b : FVec Ideal S8192x1024 .bf16) (x : FVec Ideal S8192x12288 .bf16) (w : FVec Ideal S3x1024 .f32) :
    FVec Ideal S8192x12288 .bf16 := fun i =>
  if 2048 ≤ (i 1 : ℕ) ∧ (i 1 : ℕ) < 5120 then dparts b x w (((i 1 : ℕ) - 2048) / 1024) (i 0) ⟨(i 1 : ℕ) % 1024, Nat.mod_lt _ (by norm_num)⟩ else a i

/-- The kernel's second result. -/
def dtaps (b : FVec Ideal S8192x1024 .bf16) (x : FVec Ideal S8192x12288 .bf16) : FVec Ideal S3x1024 .f32 := fun z =>
  ∑ r : Fin 8192, D b x r (z 1) * P x (r.val + (z 0).val) (z 1)

theorem final9 (c : Dev nD) : (dats m 0 c).arrAt 9 cfg0.N
    = dproj (m ((c : Thread nD τ).loc main_arg0)) (m ((c : Thread nD τ).loc main_arg1)) (m ((c : Thread nD τ).loc main_arg2)) (m ((c : Thread nD τ).loc main_arg3)) := by
  refine ((dats m 0 c).arrAt_eq_of_coversWhere 9 (fun i : S8192x12288.Idx => dparts (m ((c : Thread nD τ).loc main_arg1)) (m ((c : Thread nD τ).loc main_arg2)) (m ((c : Thread nD τ).loc main_arg3)) (((i 1 : ℕ) - 2048) / 1024) (i 0) ⟨(i 1 : ℕ) % 1024, Nat.mod_lt _ (by norm_num)⟩)
    (P := fun i : S8192x12288.Idx => 2048 ≤ (i 1 : ℕ) ∧ (i 1 : ℕ) < 5120) (fun β => 2 ≤ β 1 ∧ β 1 < 5) (by decide +kernel) (fun t _ y => ?_)
    (fun j => by blk_simp [Pipeline.Window.cell_apply]; omega)).trans ?_
  · blk_simp
    rw [after9, out_eq]
    have lt : t.val < 96 := lt_of_lt_of_eq t.isLt (show cfg0.N = 96 from N_0)
    have e9 : win0_9.index t 1 = 2 + t.val % 3 := congrFun (idx t).2.2.2.2.2.2.2.2.2.1 1
    have y1 : (y 1 : ℕ) < 1024 := (y 1).isLt
    unfold blocks
    refine congr (congr (congrArg _ ?_) (Fin.ext ?_)) (Fin.ext ?_)
    · show t.val % 3 = _; omega
    · show t.val / 3 * 256 + (y 0 : ℕ) = _; blk_simp [idx t]
    · show (y 1 : ℕ) = (win0_9.index t 1 * 1024 + (y 1 : ℕ)) % 1024; omega
  · funext i
    unfold dproj
    split_ifs
    · rfl
    · exact congrFun (V_v0 m c) i

/-- The last point. -/
abbrev last : Fin cfg0.N := ⟨95, by rw [show cfg0.N = 96 from N_0]; norm_num⟩

theorem taps_sum (c : Dev nD) (z : S3x1024.Idx) : ∑ i ∈ Finset.range 32, taps m c i z = dtaps (m ((c : Thread nD τ).loc main_arg1)) (m ((c : Thread nD τ).loc main_arg2)) z := by
  rw [Finset.sum_range]
  unfold dtaps taps
  exact Fin.sum_mul_add_congr (S := 32) fun s k hl => rfl

theorem final10 (c : Dev nD) : (dats m 0 c).arrAt 10 cfg0.N = dtaps (m ((c : Thread nD τ).loc main_arg1)) (m ((c : Thread nD τ).loc main_arg2)) := by
  refine (dats m 0 c).arrAt_eq_of_after_last 10 last (by decide +kernel) _ fun j => ?_
  blk_simp
  rw [after10]
  exact ((holds m c 95 _).1 _).trans (taps_sum m c _)

end Cert.BranchBIdeal.Value

end
-- ==== Proof.BranchB.lean ====
module

public import proofs.«01_k».proof.Defs
public import proofs.«01_k».proof.Proof.BranchBBlocks
public import proofs.«01_k».proof.Proof.Gen.BranchBRefIdeal.Run
public import proofs.«01_k».proof.Proof.Gen.BranchBRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BranchBIdeal.Value

open Cert.BranchBIdeal Cert.BranchBIdeal.Gen Cert.BranchBIdeal.Hand Cert.BranchBRefIdeal.Read

variable (b : FVec Ideal S8192x1024 .bf16) (x : FVec Ideal S8192x12288 .bf16) (w : FVec Ideal S3x1024 .f32)

/-- The reference's padded product. -/
theorem ref_prods (n : Fin 8194) (q : Fin 1024) : val_main_v12 (F := Ideal) x (ix2 n q) = P x n q := by
  pointwise [val_main_v12, val_main_v11, val_main_cst, val_main_v10, val_main_v9, val_main_v8, val_main_v4, val_main_v3, P]
  by_cases h : n.val < 2
  · rw [dif_pos h, dif_neg (by omega)]
  · rw [dif_neg h, dif_pos (by omega)]

/-- The reference's convolution. -/
theorem ref_conv (r : Fin 8192) (q : Fin 1024) : val_main_v35 (F := Ideal) x w (ix2 r q) = conv x w r q := by
  have e : ∀ n q, val_main_v12 (F := Ideal) x (ix2 n q) = P x n q := fun n q => ref_prods x n q
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_cst_1, conv, e]
  simp only [show ∀ k : ℕ, k + r.val = r.val + k from fun k => Nat.add_comm _ _]

/-- The reference's gradient to the convolution. -/
theorem ref_grads (r : Fin 8192) (q : Fin 1024) : val_main_v38 (F := Ideal) b x (ix2 r q) = D b x r q := by
  pointwise [val_main_v38, val_main_v37, val_main_v7, val_main_v2, D]
  exact mul_comm _ _

theorem D_out (n : ℕ) (q : Fin 1024) (h : ¬n < 8192) : D b x n q = 0 := dif_neg h

/-- The reference's gradient to the product: its three shifted copies, in another order. -/
theorem ref_back (r : Fin 8192) (q : Fin 1024) : val_main_v72 (F := Ideal) b x w (ix2 r q) = back b x w r q := by
  have e : ∀ n q, val_main_v38 (F := Ideal) b x (ix2 n q) = D b x n q := fun n q => ref_grads b x n q
  pointwise [val_main_v72, val_main_v67, val_main_v66, val_main_v56, val_main_v55, val_main_v46, val_main_v41, val_main_v40, val_main_v50, val_main_v49, val_main_v61, val_main_v60, val_main_v32, val_main_v30, val_main_v29, val_main_v25, val_main_v23, val_main_v22, val_main_v17, val_main_v15, val_main_v14, val_main_cst_4, val_main_cst_8, val_main_cst_12, back, e]
  rw [show 2 + r.val - 1 = r.val + 1 by omega, Nat.add_comm 2]
  have e1 : (if h : 1 ≤ r.val + 2 ∧ r.val + 1 < 8192 then w (ix2 1 q) * D b x (r.val + 1) q else 0) = w (ix2 1 q) * D b x (r.val + 1) q := by
    split_ifs with h
    · rfl
    · rw [D_out b x _ q (by omega), mul_zero]
  have e2 : (if h : r.val + 2 < 8192 then w (ix2 0 q) * D b x (r.val + 2) q else 0) = w (ix2 0 q) * D b x (r.val + 2) q := by
    split_ifs with h
    · rfl
    · rw [D_out b x _ q h, mul_zero]
  rw [e1, e2, add_comm, add_comm (_ * D b x r.val q), ← add_assoc]

/-- The first result. -/
theorem same9 (a : FVec Ideal S8192x12288 .bf16) : dproj a b x w = val_main_v80 (F := Ideal) a b x w := by
  funext i
  obtain ⟨r, q, rfl⟩ : ∃ (r : Fin 8192) (q : Fin 12288), i = ix2 r q := ⟨i 0, i 1, by pointwise⟩
  have e1 : ∀ r q, val_main_v35 (F := Ideal) x w (ix2 r q) = conv x w r q := fun r q => ref_conv x w r q
  have e2 : ∀ r q, val_main_v72 (F := Ideal) b x w (ix2 r q) = back b x w r q := fun r q => ref_back b x w r q
  pointwise [dproj, dparts, val_main_v80, val_main_v79, val_main_v78, val_main_v77, val_main_v76, val_main_v75, val_main_v74, val_main_v73, val_main_v39, val_main_v37, val_main_v9, val_main_v8, val_main_v4, val_main_v3, e1, e2]
  have lt := q.isLt
  by_cases h0 : q.val < 2048
  · rw [if_neg (by omega), dif_pos h0]
  rw [dif_neg h0]
  by_cases h1 : q.val < 3072
  · rw [if_pos (by omega), if_pos (by omega), dif_pos (by omega)]
    simp only [show q.val % 1024 = q.val - 2048 by omega]
  rw [dif_neg (by omega)]
  by_cases h2 : q.val < 4096
  · rw [if_pos (by omega), if_neg (by omega), if_pos (by omega), dif_pos (by omega)]
    simp only [show q.val % 1024 = q.val - 2048 - 1024 by omega]
  rw [dif_neg (by omega)]
  by_cases h3 : q.val < 5120
  · rw [if_pos (by omega), if_neg (by omega), if_neg (by omega), dif_pos (by omega)]
    simp only [show q.val % 1024 = q.val - 2048 - 1024 - 1024 by omega]
    exact mul_comm _ _
  · rw [if_neg (by omega), dif_neg (by omega)]
    exact congrArg a (congrArg (ix2 r) (Fin.ext (by show q.val = 5120 + (q.val - 2048 - 1024 - 1024 - 1024); omega)))

/-- The second result. -/
theorem same10 : dtaps b x = val_main_v70 (F := Ideal) b x := by
  funext i
  obtain ⟨k, q, rfl⟩ : ∃ (k : Fin 3) (q : Fin 1024), i = ix2 k q := ⟨i 0, i 1, by pointwise⟩
  have e0 : ∀ n q, val_main_v12 (F := Ideal) x (ix2 n q) = P x n q := fun n q => ref_prods x n q
  have e : ∀ n q, val_main_v38 (F := Ideal) b x (ix2 n q) = D b x n q := fun n q => ref_grads b x n q
  pointwise [dtaps, val_main_v70, val_main_v69, val_main_v68, val_main_v65, val_main_v64, val_main_v63, val_main_v62, val_main_v59, val_main_v58, val_main_v57, val_main_v54, val_main_v53, val_main_v52, val_main_v51, val_main_v48, val_main_v47, val_main_v45, val_main_v44, val_main_v43, val_main_v42, val_main_v31, val_main_v24, val_main_v16, val_main_cst_2, val_main_cst_3, val_main_cst_5, val_main_cst_6, val_main_cst_7, val_main_cst_9, val_main_cst_10, val_main_cst_11, val_main_cst_13, e0, e]
  rcases (by omega : k.val = 0 ∨ k.val = 1 ∨ k.val = 2) with h | h | h <;>
    simp [h, Nat.add_comm]

/-- Both results of the kernel's run, and its arguments unchanged. -/
theorem run_blocks (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dats m 0 c).arrAt 9 cfg0.N
      ∧ r.2.mem ((c.tc : Thread nD τ).loc main_v0_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 9, (h.1.1 c).1 10, (h.2.1 c).1, (h.2.1 c).2.1, (h.2.1 c).2.2.1, (h.2.1 c).2.2.2⟩)
    (θ_run_and (run_main m ρ) (unchanged m ρ))

/-- Over the reals the kernel's two results are the derivative's. -/
theorem algebraic : Cert.algebraic_BranchBIdeal_BranchBRefIdeal := fun m ρ m' ρ' _ hag =>
  ⟨fun c => dproj (m ((c.tc : Thread nD τ).loc main_arg0)) (m ((c.tc : Thread nD τ).loc main_arg1)) (m ((c.tc : Thread nD τ).loc main_arg2)) (m ((c.tc : Thread nD τ).loc main_arg3)),
   fun c => dtaps (m ((c.tc : Thread nD τ).loc main_arg1)) (m ((c.tc : Thread nD τ).loc main_arg2)),
   (θ_run _ _ _).mono (fun _ h c => ⟨(h c).1.trans (final9 m c), (h c).2.1.trans (final10 m c), (h c).2.2⟩) (run_blocks m ρ),
   (θ_run _ _ _).mono (fun _ h c =>
     ⟨(h c).1.trans (by rw [val_main_v80_eq, (hag c).1, (hag c).2.1, (hag c).2.2.1, (hag c).2.2.2]; exact (same9 _ _ _ _).symm),
      (h c).2.1.trans (by rw [val_main_v70_eq, (hag c).2.1, (hag c).2.2.1]; exact (same10 _ _).symm), (h c).2.2⟩)
     (Cert.BranchBRefIdeal.Value.run m' ρ')⟩

end Cert.BranchBIdeal.Value

end
-- ==== Proof.BranchBFwd.lean ====
/- The second branch's forward call: a scratch holds the products of a block of rows under the halo of the rows above, and the three taps read it at three offsets. -/
module

public import proofs.«01_k».proof.Defs
public import proofs.«01_k».proof.Proof.Gen.BranchBFwdIdeal.Value
public import proofs.«01_k».proof.Proof.Gen.BranchBFwdRefIdeal.Run
public import proofs.«01_k».proof.Proof.Gen.BranchBFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BranchBFwdIdeal.Value

open Cert.BranchBFwdIdeal Cert.BranchBFwdIdeal.Gen
open Cert.BranchBFwdRefIdeal.Read

variable (m : (ℓ : Loc nD τ sig) → Buf (Elt Ideal) ℓ)

/-- Which block of its array each window holds at a point: the halos hold the 32 rows above the point's rows. -/
theorem idx : ∀ t : Fin cfg0.N, win0_0.index t = ![t.val, 2] ∧ win0_1.index t = ![t.val, 3] ∧ win0_2.index t = ![t.val, 4]
    ∧ win0_3.index t = ![t.val * 8 - 1, 3] ∧ win0_4.index t = ![t.val * 8 - 1, 4] ∧ win0_5.index t = ![0, 0] ∧ win0_6.index t = ![t.val, 0] :=
  (by decide +kernel : ∀ t : Fin grid0.N, _)

/-- Only the first point has no rows above it. -/
theorem first : ∀ t : Fin cfg0.N, Scalar.cmpi .sgt (BitVec.ofNat 32 (grid0.coords t 0 : ℕ)) 0#32 = if t.val = 0 then 0#1 else 1#1 :=
  (by decide +kernel : ∀ t : Fin grid0.N, _)

/-- Row `n` of the products `sc·sx`, which two zero rows precede. -/
def gated (x : FVec Ideal S8192x12288 .bf16) (n : ℕ) (q : Fin 1024) : EReal :=
  if h : 2 ≤ n ∧ n < 8194 then x (ix2 ⟨n - 2, by omega⟩ ⟨3072 + q.val, by omega⟩) * x (ix2 ⟨n - 2, by omega⟩ ⟨4096 + q.val, by omega⟩) else 0

/-- The branch: `sb` times the three taps over the products. -/
def branch (x : FVec Ideal S8192x12288 .bf16) (w : FVec Ideal S3x1024 .f32) : FVec Ideal S8192x1024 .bf16 := fun i =>
  x (ix2 (i 0) ⟨2048 + (i 1 : ℕ), by have := (i 1).isLt; change _ < 1024 at this; omega⟩)
    * (w (ix2 0 (i 1)) * gated x (i 0 : ℕ) (i 1) + w (ix2 1 (i 1)) * gated x ((i 0 : ℕ) + 1) (i 1) + w (ix2 2 (i 1)) * gated x ((i 0 : ℕ) + 2) (i 1))

/-- What the scratch holds at a point. -/
def held (c : Dev nD) (t : Fin cfg0.N) : FVec Ideal S288x1024 .f32 := fun x =>
  gated (m ((c : Thread nD τ).loc main_arg0)) (t.val * 256 + (x 0).val - 30) (x 1)

/-- The two stores leave that in it. -/
theorem held_eq (c : Dev nD) (t : Fin cfg0.N) (y : S288x1024.Idx) :
    View.canon (Val := Elt Ideal) (s := S288x1024) (e := .f32) [⟨Rect.unit ![32, 0] ![256, 1024] inb_S288x1024_S256x1024_32_0, k0_pay3 (iblk m c 1 t) (iblk m c 2 t)⟩,
        ⟨Rect.unit ![0, 0] ![32, 1024] inb_S288x1024_S32x1024_0_0, k0_pay2 (grid0.coords t) (iblk m c 3 t) (iblk m c 4 t)⟩] y = held m c t y := by
  have lt : t.val < 32 := lt_of_lt_of_eq t.isLt (show cfg0.N = 32 from N_0)
  canon_tiles x hx using (View.cover_of_tiledBy _ ![32, 1024] (by sl_kernel_rfl) y)
  case piece0 =>
    pointwise [k0_pay3, held, gated]
    rw [dif_pos (by omega)]
    blk_point [iblk, V, idx t]
  case piece1 =>
    pointwise [k0_pay2, held, gated, first t]
    by_cases top : t.val = 0
    · rw [if_pos top, dif_neg (by omega)]; rfl
    · rw [if_neg top, dif_pos (by omega)]
      refine congrArg₂ (fun p q : EReal => p * q) ?_ ?_ <;> blk_point [iblk, V, idx t]

/-- A load of it at a row offset reads the products from that row on. -/
theorem held_read (c : Dev nD) (t : Fin cfg0.N) (o : ℕ) (inb : ∀ a, ![o, 0] a + ![256, 1024] a ≤ S288x1024.size a) :
    (View.whole cc0_scratch0).readCov (Val := Elt Ideal) (e := .f32) [⟨Rect.unit ![32, 0] ![256, 1024] inb_S288x1024_S256x1024_32_0, k0_pay3 (iblk m c 1 t) (iblk m c 2 t)⟩,
        ⟨Rect.unit ![0, 0] ![32, 1024] inb_S288x1024_S32x1024_0_0, k0_pay2 (grid0.coords t) (iblk m c 3 t) (iblk m c 4 t)⟩] (Rect.unit (s := S288x1024) ![o, 0] ![256, 1024] inb).toLoadRect
      = View.ld (Val := Elt Ideal) (e' := .f32) (S := S288x1024) (held m c t) (Rect.unit (s := S288x1024) ![o, 0] ![256, 1024] inb) :=
  (View.readCov_eq_canon_ld _ _ _ (View.cover_of_tiledBy _ ![32, 1024] (by sl_kernel_rfl))).trans (congrFun (congrArg View.ld (funext (held_eq m c t))) _)

/-- What one block of rows holds. -/
theorem point (c : Dev nD) (t : Fin cfg0.N) (y) :
    k0_pay1 (F := Ideal) (k0_pay4 (View.ld (Val := Elt Ideal) (e' := .f32) (S := S3x1024) (iblk m c 5 t) (Rect.unit ![0, 0] ![1, 1024] inb_S3x1024_S1x1024_0_0)) (View.ld (Val := Elt Ideal) (e' := .f32) (S := S288x1024) (held m c t) (Rect.unit (s := S288x1024) ![30, 0] ![256, 1024] inb_S288x1024_S256x1024_30_0)) (View.ld (Val := Elt Ideal) (e' := .f32) (S := S3x1024) (iblk m c 5 t) (Rect.unit ![1, 0] ![1, 1024] inb_S3x1024_S1x1024_1_0)) (View.ld (Val := Elt Ideal) (e' := .f32) (S := S288x1024) (held m c t) (Rect.unit (s := S288x1024) ![31, 0] ![256, 1024] inb_S288x1024_S256x1024_31_0))) (View.ld (Val := Elt Ideal) (e' := .f32) (S := S3x1024) (iblk m c 5 t) (Rect.unit ![2, 0] ![1, 1024] inb_S3x1024_S1x1024_2_0)) (View.ld (Val := Elt Ideal) (e' := .f32) (S := S288x1024) (held m c t) (Rect.unit (s := S288x1024) ![32, 0] ![256, 1024] inb_S288x1024_S256x1024_32_0)) (iblk m c 0 t) y
    = branch (m ((c : Thread nD τ).loc main_arg0)) (m ((c : Thread nD τ).loc main_arg1)) (((cfg0.win 6).blk t).view.emb y) := by
  pointwise [k0_pay1, k0_pay4, branch, held]
  rw [show t.val * 256 + (30 + (y 0 : ℕ)) - 30 = t.val * 256 + (y 0 : ℕ) by omega,
    show t.val * 256 + (31 + (y 0 : ℕ)) - 30 = t.val * 256 + (y 0 : ℕ) + 1 by omega,
    show t.val * 256 + (32 + (y 0 : ℕ)) - 30 = t.val * 256 + (y 0 : ℕ) + 2 by omega]
  generalize gated (m ((c : Thread nD τ).loc main_arg0)) = g
  blk_point [iblk, V, idx t]
  all_goals refine congrArg (fun q => _ * g _ q) (Fin.ext ?_); blk_simp [idx t]

/-- The kernel's result. -/
theorem final (c : Dev nD) : (dats m 0 c).arrAt 6 cfg0.N = branch (m ((c : Thread nD τ).loc main_arg0)) (m ((c : Thread nD τ).loc main_arg1)) := by
  refine (dats m 0 c).arrAt_eq_of_covers 6 _ (by decide +kernel) fun t _ y => ?_
  blk_simp
  rw [after0_6]
  unfold outsAt0
  frame_out
  rw [held_read m c t 30 _, held_read m c t 31 _, held_read m c t 32 _]
  exact point m c t y

/-- The reference's padded products. -/
theorem ref_gated (x : FVec Ideal S8192x12288 .bf16) (n : Fin 8194) (q : Fin 1024) : val_main_v12 (F := Ideal) x (ix2 n q) = gated x n q := by
  pointwise [val_main_v12, val_main_v11, val_main_cst, val_main_v10, val_main_v9, val_main_v8, val_main_v4, val_main_v3, gated]
  by_cases h : n.val < 2
  · rw [dif_pos h, dif_neg (by omega)]
  · rw [dif_neg h, dif_pos (by omega)]

/-- The reference's result is the kernel's. -/
theorem same (x : FVec Ideal S8192x12288 .bf16) (w : FVec Ideal S3x1024 .f32) : branch x w = val_main_v36 (F := Ideal) x w := by
  funext i
  obtain ⟨r, q, rfl⟩ : ∃ (r : Fin 8192) (q : Fin 1024), i = ix2 r q := ⟨i 0, i 1, by pointwise⟩
  have e : ∀ n q, val_main_v12 (F := Ideal) x (ix2 n q) = gated x n q := fun n q => ref_gated x n q
  pointwise [branch, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v7, val_main_v2, val_main_cst_0, e]
  simp only [show ∀ k : ℕ, k + r.val = r.val + k from fun k => Nat.add_comm _ _, zero_add]

/-- Over the reals the kernel's branch is the reference's. -/
theorem algebraic : Cert.algebraic_BranchBFwdIdeal_BranchBFwdRefIdeal := fun m ρ m' ρ' _ hag =>
  ⟨fun c => branch (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans (by rw [val_main_v36_eq, (hag c).1, (hag c).2]; exact (same _ _).symm), (h c).2⟩) (Cert.BranchBFwdRefIdeal.Value.run m' ρ')⟩
-- ==== Proof.MergeBwd.lean ====
module

public import proofs.«01_k».proof.Defs
public import proofs.«01_k».proof.Proof.Gen.MergeBwdIdeal.Value
public import proofs.«01_k».proof.Proof.Gen.On_mask
public import proofs.«01_k».proof.Proof.Gen.MergeBwdRefIdeal.Run
public import proofs.«01_k».proof.Proof.Gen.MergeBwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen
open Cert.MergeBwdRefIdeal.Read

variable (m : (ℓ : Loc nD τ sig) → Buf (Elt Ideal) ℓ)

theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![t.val, 1] ∧ win0_6.index t = ![t.val, 0]
    ∧ win0_7.index t = ![t.val, 0] ∧ win0_8.index t = ![t.val, 0] :=
  (by decide +kernel : ∀ t : Fin grid0.N, _)

/-- The logistic of the projection's entry in row `r` and column `q`. -/
def gate (p : FVec Ideal S8192x12288 .bf16) (r : Fin 8192) (q : Fin 12288) : EReal := Ideal.div 1 (1 + Ideal.exp (0 - p (ix2 r q)))

/-- Which of the three branches a gate's column belongs to. -/
def branch (b0 b1 b2 : FVec Ideal S8192x2048 .bf16) (r : Fin 8192) (q : ℕ) : EReal :=
  if q < 8192 then b0 (ix2 r ⟨q % 2048, Nat.mod_lt _ (by norm_num)⟩)
  else if q < 10240 then b1 (ix2 r ⟨q % 2048, Nat.mod_lt _ (by norm_num)⟩) else b2 (ix2 r ⟨q % 2048, Nat.mod_lt _ (by norm_num)⟩)

/-- The gradient to the gates' columns of the projection, as the kernel writes it. -/
def dgate (d : FVec Ideal S8192x2048 .bf16) (p : FVec Ideal S8192x12288 .bf16) (b0 b1 b2 : FVec Ideal S8192x2048 .bf16) :
    FVec Ideal S8192x12288 .bf16 := fun i =>
  d (ix2 (i 0) ⟨(i 1 : ℕ) % 2048, Nat.mod_lt _ (by norm_num)⟩) * branch b0 b1 b2 (i 0) (i 1) * gate p (i 0) (i 1) * (1 - gate p (i 0) (i 1))

/-- The gradient to a branch whose gates start at column `s`. -/
def dbranch (s : ℕ) (hs : s + 2048 ≤ 12288) (d : FVec Ideal S8192x2048 .bf16) (p : FVec Ideal S8192x12288 .bf16) : FVec Ideal S8192x2048 .bf16 := fun i =>
  d i * gate p (i 0) ⟨s + (i 1 : ℕ), lt_of_lt_of_le (Nat.add_lt_add_left (i 1).isLt s) hs⟩

/-- What one point writes of the gates' gradient. -/
theorem point5 (c : Dev nD) (t : Fin cfg0.N) (y : S256x6144.Idx) (j : S8192x12288.Idx) (hj0 : (j 0 : ℕ) = t.val * 256 + y 0) (hj1 : (j 1 : ℕ) = 6144 + y 1) :
    out0_5 (F := Ideal) (iblk m c 0 t) (iblk m c 1 t) (iblk m c 2 t) (iblk m c 3 t) (iblk m c 4 t) y = dgate (m ((c : Thread nD τ).loc main_arg0)) (m ((c : Thread nD τ).loc main_arg1)) (m ((c : Thread nD τ).loc main_arg2)) (m ((c : Thread nD τ).loc main_arg3)) (m ((c : Thread nD τ).loc main_arg4)) j := by
  canon_tiles x h
  case piece0 =>
    open_payloads
    pointwise [dgate, branch, gate]
    rw [if_neg (by omega), if_neg (by omega)]
    blk_point [iblk, V, idx t]
  case piece1 =>
    open_payloads
    pointwise [dgate, branch, gate]
    rw [if_neg (by omega), if_pos (by omega)]
    blk_point [iblk, V, idx t]
  case piece2 =>
    open_payloads
    pointwise [dgate, branch, gate]
    rw [if_pos (by omega)]
    blk_point [iblk, V, idx t]

theorem point6 (c : Dev nD) (t : Fin cfg0.N) (y) : k0_pay9 (F := Ideal) (iblk m c 0 t) (View.ld (iblk m c 1 t) r0_1) y
    = dbranch 6144 (by norm_num) (m ((c : Thread nD τ).loc main_arg0)) (m ((c : Thread nD τ).loc main_arg1)) (((cfg0.win 6).blk t).view.emb y) := by
  pointwise [k0_pay9, k0_pay6, k0_pay7, dbranch, gate]
  blk_point [iblk, V, idx t]

theorem point7 (c : Dev nD) (t : Fin cfg0.N) (y) : out0_7 (F := Ideal) (iblk m c 0 t) (iblk m c 1 t) (iblk m c 2 t) (iblk m c 3 t) (iblk m c 4 t) y
    = dbranch 8192 (by norm_num) (m ((c : Thread nD τ).loc main_arg0)) (m ((c : Thread nD τ).loc main_arg1)) (((cfg0.win 7).blk t).view.emb y) := by
  unfold_out out0_7
  frame_out
  pointwise [k0_pay2, k0_pay6, k0_pay10, dbranch, gate]
  blk_point [iblk, V, idx t]

theorem point8 (c : Dev nD) (t : Fin cfg0.N) (y) : out0_8 (F := Ideal) (iblk m c 0 t) (iblk m c 1 t) (iblk m c 2 t) (iblk m c 3 t) (iblk m c 4 t) y
    = dbranch 10240 (by norm_num) (m ((c : Thread nD τ).loc main_arg0)) (m ((c : Thread nD τ).loc main_arg1)) (((cfg0.win 8).blk t).view.emb y) := by
  unfold_out out0_8
  frame_out
  pointwise [k0_pay5, k0_pay6, k0_pay3, dbranch, gate]
  blk_point [iblk, V, idx t]

/-- The reference's three gradients to the gates, one per branch, put side by side: the cotangent times the gate's own branch. -/
theorem stacked (d : FVec Ideal S8192x2048 .bf16) (b0 b1 b2 : FVec Ideal S8192x2048 .bf16) (i : Cert.MergeBwdRefIdeal.S8192x3x2048.Idx) (q : ℕ) (h1 : (i 1 : ℕ) = (q - 6144) / 2048)
    (h2 : (i 2 : ℕ) = q % 2048) (hq : 6144 ≤ q) (hq' : q < 12288) : val_main_v46 (F := Ideal) d b0 b1 b2 i = d (ix2 (i 0) (i 2)) * branch b0 b1 b2 (i 0) q := by
  pointwise [branch, val_main_v32, val_main_v33, val_main_v34, val_main_v35, val_main_v36, val_main_v37, val_main_v38, val_main_v39, val_main_v40, val_main_v41, val_main_v42, val_main_v43, val_main_v44, val_main_v45, val_main_v46, val_main_v8, val_main_v9, val_main_v10, val_main_cst, val_main_cst_0, val_main_cst_1, val_main_cst_2, val_main_cst_3, val_main_cst_4]
  have e : (⟨q % 2048, Nat.mod_lt _ (by norm_num)⟩ : Fin 2048) = i 2 := Fin.ext h2.symm
  rw [e]
  rcases (by omega : q < 8192 ∨ (8192 ≤ q ∧ q < 10240) ∨ 10240 ≤ q) with h | h | h
  · rw [dif_neg (by omega), dif_neg (by omega), dif_pos (by omega), if_pos h, zero_add, zero_add]
  · rw [dif_neg (by omega), dif_pos (by omega), dif_neg (by omega), if_neg (by omega), if_pos h.2, zero_add, add_zero]
  · rw [dif_pos (by omega), dif_neg (by omega), dif_neg (by omega), if_neg (by omega), if_neg (by omega), add_zero, add_zero]

/-- The reference's gradient is the kernel's. -/
theorem same5 (d : FVec Ideal S8192x2048 .bf16) (p : FVec Ideal S8192x12288 .bf16) (b0 b1 b2 : FVec Ideal S8192x2048 .bf16) (i : S8192x12288.Idx)
    (hi : 6144 ≤ (i 1 : ℕ)) : dgate d p b0 b1 b2 i = val_main_v53 (F := Ideal) d p b0 b1 b2 i := by
  obtain ⟨r, q, rfl⟩ : ∃ (r : Fin 8192) (q : Fin 12288), i = ix2 r q := ⟨i 0, i 1, by pointwise⟩
  have hi : 6144 ≤ (q : ℕ) := hi
  pointwise [dgate, gate, val_main_v53, val_main_v49, val_main_v48, val_main_v47, val_main_v19, val_main_call0_v0, val_main_c, val_main_v6, val_main_v7, val_main_v11, val_main_v12, val_main_v13, val_main_v14, val_main_v15, val_main_v16, val_main_v17, val_main_v18, val_main_v20, val_main_cst, val_main_cst_0, val_main_cst_1, val_main_cst_2, val_main_cst_3, val_main_cst_4]
  have e : (⟨6144 + ((q : ℕ) - 6144), by omega⟩ : Fin 12288) = q := Fin.ext (by show 6144 + ((q : ℕ) - 6144) = _; omega)
  have e' : (⟨((q : ℕ) - 6144) % 2048, Nat.mod_lt _ (by norm_num)⟩ : Fin 2048) = ⟨(q : ℕ) % 2048, Nat.mod_lt _ (by norm_num)⟩ :=
    Fin.ext (by show ((q : ℕ) - 6144) % 2048 = (q : ℕ) % 2048; omega)
  rw [dif_pos ⟨hi, by omega⟩, stacked d b0 b1 b2 _ q rfl (by show ((q : ℕ) - 6144) % 2048 = _; omega) hi q.isLt, e, zero_sub]
  simp only [ix3_0, ix3_2, e']
  exact mul_assoc _ _ _

theorem same6 (d : FVec Ideal S8192x2048 .bf16) (p : FVec Ideal S8192x12288 .bf16) : dbranch 6144 (by norm_num) d p = val_main_v50 (F := Ideal) d p := by
  funext i
  pointwise [dbranch, gate, val_main_v50, val_main_v42, val_main_v21, val_main_v22, val_main_v32, val_main_v6, val_main_v7, val_main_v11, val_main_v12, val_main_v13, val_main_v14, val_main_v15, val_main_v16, val_main_v17, val_main_v18, val_main_v20, val_main_cst, val_main_cst_0, val_main_cst_1, val_main_cst_2, val_main_cst_3, val_main_cst_4]
  rw [zero_sub, mul_comm]

theorem same7 (d : FVec Ideal S8192x2048 .bf16) (p : FVec Ideal S8192x12288 .bf16) : dbranch 8192 (by norm_num) d p = val_main_v51 (F := Ideal) d p := by
  funext i
  pointwise [dbranch, gate, val_main_v51, val_main_v37, val_main_v24, val_main_v25, val_main_v32, val_main_v6, val_main_v7, val_main_v11, val_main_v12, val_main_v13, val_main_v14, val_main_v15, val_main_v16, val_main_v17, val_main_v18, val_main_v20, val_main_cst, val_main_cst_0, val_main_cst_1, val_main_cst_2, val_main_cst_3, val_main_cst_4]
  rw [zero_sub, mul_comm]
  simp only [← Nat.add_assoc, Nat.reduceAdd]

theorem same8 (d : FVec Ideal S8192x2048 .bf16) (p : FVec Ideal S8192x12288 .bf16) : dbranch 10240 (by norm_num) d p = val_main_v52 (F := Ideal) d p := by
  funext i
  pointwise [dbranch, gate, val_main_v52, val_main_v33, val_main_v28, val_main_v29, val_main_v32, val_main_v6, val_main_v7, val_main_v11, val_main_v12, val_main_v13, val_main_v14, val_main_v15, val_main_v16, val_main_v17, val_main_v18, val_main_v20, val_main_cst, val_main_cst_0, val_main_cst_1, val_main_cst_2, val_main_cst_3, val_main_cst_4]
  rw [zero_sub, mul_comm]
  simp only [← Nat.add_assoc, Nat.reduceAdd]

/-- Where the mask is set, the gates' gradient has been written. -/
theorem final5 (c : Dev nD) (i : S8192x12288.Idx) (hi : 6144 ≤ (i 1 : ℕ)) : (dats m 0 c).arrAt 5 cfg0.N i = dgate (m ((c : Thread nD τ).loc main_arg0)) (m ((c : Thread nD τ).loc main_arg1)) (m ((c : Thread nD τ).loc main_arg2)) (m ((c : Thread nD τ).loc main_arg3)) (m ((c : Thread nD τ).loc main_arg4)) i := by
  refine ((dats m 0 c).arrAt_apply_of_coversWhere 5 (dgate (m ((c : Thread nD τ).loc main_arg0)) (m ((c : Thread nD τ).loc main_arg1)) (m ((c : Thread nD τ).loc main_arg2)) (m ((c : Thread nD τ).loc main_arg3)) (m ((c : Thread nD τ).loc main_arg4)))
    (P := fun i : S8192x12288.Idx => 6144 ≤ (i 1 : ℕ)) (fun β => 1 ≤ β 1) (by decide +kernel) (fun t _ y => ?_)
    (fun j => by blk_simp [Pipeline.Window.cell_apply]; omega) i).trans (if_pos hi)
  blk_simp
  rw [after0_5]
  refine point5 m c t y _ ?_ ?_ <;> (blk_simp [idx t] <;> try omega)

theorem final6 (c : Dev nD) : (dats m 0 c).arrAt 6 cfg0.N = dbranch 6144 (by norm_num) (m ((c : Thread nD τ).loc main_arg0)) (m ((c : Thread nD τ).loc main_arg1)) := by
  refine (dats m 0 c).arrAt_eq_of_covers 6 _ (by decide +kernel) fun t _ y => ?_
  blk_simp
  rw [after0_6]
  frame_out
  exact point6 m c t y

theorem final7 (c : Dev nD) : (dats m 0 c).arrAt 7 cfg0.N = dbranch 8192 (by norm_num) (m ((c : Thread nD τ).loc main_arg0)) (m ((c : Thread nD τ).loc main_arg1)) := by
  refine (dats m 0 c).arrAt_eq_of_covers 7 _ (by decide +kernel) fun t _ y => ?_
  blk_simp
  rw [after0_7]
  exact point7 m c t y

theorem final8 (c : Dev nD) : (dats m 0 c).arrAt 8 cfg0.N = dbranch 10240 (by norm_num) (m ((c : Thread nD τ).loc main_arg0)) (m ((c : Thread nD τ).loc main_arg1)) := by
  refine (dats m 0 c).arrAt_eq_of_covers 8 _ (by decide +kernel) fun t _ y => ?_
  blk_simp
  rw [after0_8]
  exact point8 m c t y

/-- The mask selects the gates' columns. -/
theorem masked (x0 : FVec Ideal S8192x2048 .bf16) (x1 : FVec Ideal S8192x12288 .bf16) (x2 x3 x4 : FVec Ideal S8192x2048 .bf16) (i : S8192x12288.Idx)
    (h : (Cert.On_mask.fn (F := Ideal) x0 x1 x2 x3 x4).1 i = 1#1) : 6144 ≤ (i 1 : ℕ) := by
  have h1 : (i 1 : ℕ) < 12288 := (i 1).isLt
  change BitVec.ofBool (BitVec.sle 6144#32 (BitVec.ofNat 32 (i 1 : ℕ))) = 1#1 at h
  by_contra hc
  have e : (BitVec.ofNat 32 (i 1 : ℕ)).toInt = (i 1 : ℕ) := by
    have e0 : (BitVec.ofNat 32 (i 1 : ℕ)).toNat = (i 1 : ℕ) := by rw [BitVec.toNat_ofNat]; exact Nat.mod_eq_of_lt (by omega)
    rw [BitVec.toInt_eq_toNat_of_lt (by omega), e0]
  rw [BitVec.sle_eq_decide, e, decide_eq_false (by change ¬ (6144 : ℤ) ≤ _; omega)] at h
  exact absurd h (by decide)

theorem algebraic : Cert.algebraic_MergeBwdIdeal_MergeBwdRefIdeal_on_mask := fun m ρ m' ρ' _ hag =>
  ⟨fun c => dgate (m ((c : Thread nD τ).loc main_arg0)) (m ((c : Thread nD τ).loc main_arg1)) (m ((c : Thread nD τ).loc main_arg2)) (m ((c : Thread nD τ).loc main_arg3)) (m ((c : Thread nD τ).loc main_arg4)), fun c => dbranch 6144 (by norm_num) (m ((c : Thread nD τ).loc main_arg0)) (m ((c : Thread nD τ).loc main_arg1)), fun c => dbranch 8192 (by norm_num) (m ((c : Thread nD τ).loc main_arg0)) (m ((c : Thread nD τ).loc main_arg1)),
    fun c => dbranch 10240 (by norm_num) (m ((c : Thread nD τ).loc main_arg0)) (m ((c : Thread nD τ).loc main_arg1)),
    (θ_run _ _ _).mono (fun _ h c => ⟨fun i hi => (congrFun (h c).1 i).trans (final5 m c i (masked _ _ _ _ _ i hi)),
      fun i _ => congrFun ((h c).2.1.trans (final6 m c)) i, fun i _ => congrFun ((h c).2.2.1.trans (final7 m c)) i,
      fun i _ => congrFun ((h c).2.2.2.1.trans (final8 m c)) i, (h c).2.2.2.2⟩) (run_blocks m ρ),
    (θ_run _ _ _).mono (fun _ h c => ⟨fun i hi => (congrFun (h c).1 i).trans (by
        rw [val_main_v53_eq, (hag c).1, (hag c).2.1, (hag c).2.2.1, (hag c).2.2.2.1, (hag c).2.2.2.2]
        exact (same5 _ _ _ _ _ i (masked _ _ _ _ _ i hi)).symm),
      fun i _ => congrFun ((h c).2.1.trans (by rw [val_main_v50_eq, (hag c).1, (hag c).2.1]; exact (same6 _ _).symm)) i,
      fun i _ => congrFun ((h c).2.2.1.trans (by rw [val_main_v51_eq, (hag c).1, (hag c).2.1]; exact (same7 _ _).symm)) i,
      fun i _ => congrFun ((h c).2.2.2.1.trans (by rw [val_main_v52_eq, (hag c).1, (hag c).2.1]; exact (same8 _ _).symm)) i,
      (h c).2.2.2.2⟩) (Cert.MergeBwdRefIdeal.Value.run m' ρ')⟩

end Cert.MergeBwdIdeal.Value

end
-- ==== Proof.MergeFwd.lean ====
/- The merge of the three branches: one block of rows holds, entry by entry, the sum of the branches under the logistics of their gates. -/
module

public import proofs.«01_k».proof.Defs
public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeFwdIdeal.Value

open Cert.MergeFwdIdeal Cert.MergeFwdIdeal.Gen
open Cert.MergeFwdRefIdeal.Read

variable (m : (ℓ : Loc nD τ sig) → Buf (Elt Ideal) ℓ)

/-- Which block of its array each window holds at a point. -/
theorem idx : ∀ t : Fin cfg0.N, win0_0.index t = ![t.val, 1] ∧ win0_1.index t = ![t.val, 0] ∧ win0_2.index t = ![t.val, 0] ∧ win0_3.index t = ![t.val, 0]
    ∧ win0_4.index t = ![t.val, 0] :=
  (by decide +kernel : ∀ t : Fin grid0.N, _)

/-- The logistic of the projection's entry in row `r` and column `q`. -/
def gate (p : FVec Ideal S8192x12288 .bf16) (r : Fin 8192) (q : Fin 12288) : EReal := Ideal.div 1 (1 + Ideal.exp (-p (ix2 r q)))

/-- The merged branches. -/
def merged (p : FVec Ideal S8192x12288 .bf16) (a b x : FVec Ideal S8192x2048 .bf16) : FVec Ideal S8192x2048 .bf16 := fun i =>
  gate p (i 0) ⟨6144 + (i 1 : ℕ), by have := (i 1).isLt; change _ < 2048 at this; omega⟩ * a i
    + gate p (i 0) ⟨8192 + (i 1 : ℕ), by have := (i 1).isLt; change _ < 2048 at this; omega⟩ * b i
    + gate p (i 0) ⟨10240 + (i 1 : ℕ), by have := (i 1).isLt; change _ < 2048 at this; omega⟩ * x i

/-- What one block of rows holds. -/
theorem point (c : Dev nD) (t : Fin cfg0.N) (y) : out0_4 (F := Ideal) (iblk m c 0 t) (iblk m c 1 t) (iblk m c 2 t) (iblk m c 3 t) y
    = merged (m ((c : Thread nD τ).loc main_arg0)) (m ((c : Thread nD τ).loc main_arg1)) (m ((c : Thread nD τ).loc main_arg2)) (m ((c : Thread nD τ).loc main_arg3)) (((cfg0.win 4).blk t).view.emb y) := by
  unfold out0_4
  frame_out
  pointwise [k0_pay1, k0_pay2, k0_pay3, merged, gate]
  simp only [zero_sub, zero_add]
  blk_point [iblk, V, idx t]

/-- The kernel's result. -/
theorem final (c : Dev nD) : (dats m 0 c).arrAt 4 cfg0.N = merged (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point m c t y

/-- The reference's result is the kernel's. -/
theorem same (p : FVec Ideal S8192x12288 .bf16) (a b x : FVec Ideal S8192x2048 .bf16) : merged p a b x = val_main_v29 (F := Ideal) p a b x := by
  funext i
  obtain ⟨r, q, rfl⟩ : ∃ (r : Fin 8192) (q : Fin 2048), i = ix2 r q := ⟨i 0, i 1, by pointwise⟩
  pointwise [merged, gate, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0]
  simp only [← Nat.add_assoc, Nat.reduceAdd]

/-- Over the reals the kernel's merge is the reference's. -/
theorem algebraic : Cert.algebraic_MergeFwdIdeal_MergeFwdRefIdeal := fun m ρ m' ρ' _ hag =>
  ⟨fun c => merged (m ((c : Thread nD τ).loc main_arg0)) (m ((c : Thread nD τ).loc main_arg1)) (m ((c : Thread nD τ).loc main_arg2)) (m ((c : Thread nD τ).loc main_arg3)),
    (θ_run _ _ _).mono (fun _ h c => ⟨(h c).1.trans (final m c), (h c).2⟩) (run_blocks m ρ),
    (θ_run _ _ _).mono (fun _ h c => ⟨(h c).1.trans (by
      rw [val_main_v29_eq, (hag c).1, (hag c).2.1, (hag c).2.2.1, (hag c).2.2.2]; exact (same _ _ _ _).symm), (h c).2⟩) (Cert.MergeFwdRefIdeal.Value.run m' ρ')⟩
-- ==== Proof.MlpDown.lean ====
/- The product of the squared rectifier: one tile holds whole sums over the contracted dimension. -/
module

public import proofs.«01_k».proof.Defs
public import proofs.«01_k».proof.Proof.Gen.MlpDownIdeal.Value
public import proofs.«01_k».proof.Proof.Gen.MlpDownRefIdeal.Run
public import proofs.«01_k».proof.Proof.Gen.MlpDownRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlpDownIdeal.Value

open Cert.MlpDownIdeal Cert.MlpDownIdeal.Gen
open Cert.MlpDownRefIdeal.Read

variable (m : (ℓ : Loc nD τ sig) → Buf (Elt Ideal) ℓ)

/-- Which block of its array each window holds at a point: the tiles of one column block come one after another. -/
theorem idx : ∀ t : Fin cfg0.N, win0_0.index t = ![t.val % 16, 0] ∧ win0_1.index t = ![0, 0, t.val / 16] ∧ win0_2.index t = ![t.val % 16, t.val / 16] :=
  (by decide +kernel : ∀ t : Fin grid0.N, _)

/-- The product of the squared rectifier with the weights. -/
def prod (u : FVec Ideal S8192x8192 .bf16) (w : FVec Ideal S1x8192x2048 .bf16) : FVec Ideal S8192x2048 .bf16 := fun i =>
  ∑ k : Fin 8192, max (u (ix2 (i 0) k)) 0 * max (u (ix2 (i 0) k)) 0 * w (ix3 0 k (i 1))

/-- What one tile holds. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The kernel's result. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The reference's result is the kernel's. -/
theorem same (u : FVec Ideal S8192x8192 .bf16) (w : FVec Ideal S1x8192x2048 .bf16) : prod u w = val_main_v6 (F := Ideal) u w := by
  funext i
  pointwise! [prod, val_main_v6, val_main_v5, val_main_v4, val_main_v3, val_main_v2, val_main_v1, val_main_v0, val_main_call0_v0, val_main_call0_cst]

/-- Over the reals the kernel's product is the reference's. -/
theorem algebraic : Cert.algebraic_MlpDownIdeal_MlpDownRefIdeal := fun m ρ m' ρ' _ hag =>
  ⟨fun c => prod (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans (by rw [val_main_v6_eq, (hag c).1, (hag c).2]; exact (same _ _).symm), (h c).2⟩) (Cert.MlpDownRefIdeal.Value.run m' ρ')⟩
-- ==== Proof.MlpDw.lean ====
module

public import proofs.«01_k».proof.Defs
public import proofs.«01_k».proof.Proof.Gen.MlpDwIdeal.Value
public import proofs.«01_k».proof.Proof.Gen.MlpDwRefIdeal.Run
public import proofs.«01_k».proof.Proof.Gen.MlpDwRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlpDwIdeal.Value

open Cert.MlpDwIdeal Cert.MlpDwIdeal.Gen
open Cert.MlpDwRefIdeal.Read

variable (m : (ℓ : Loc nD τ sig) → Buf (Elt Ideal) ℓ)

theorem idx : ∀ t : Fin cfg0.N, win0_0.index t = ![0, t.val / 4] ∧ win0_1.index t = ![0, t.val % 4] ∧ win0_2.index t = ![0, t.val / 4, t.val % 4] :=
  (by decide +kernel : ∀ t : Fin grid0.N, _)

/-- The gradient to the down projection, as the kernel writes it: the squared rectifier of `u` against the cotangent, summed over the rows. -/
def dw (u : FVec Ideal S8192x8192 .bf16) (d : FVec Ideal S8192x2048 .bf16) : FVec Ideal S1x8192x2048 .bf16 := fun i =>
  ∑ r : Fin 8192, max (u (ix2 r (i 1))) 0 * max (u (ix2 r (i 1))) 0 * d (ix2 r (i 2))

/-- What one tile writes. -/
theorem point (c : Dev nD) (t : Fin cfg0.N) (y) : k0_pay1 (F := Ideal) (iblk m c 0 t) (iblk m c 1 t) y
    = dw (m ((c : Thread nD τ).loc main_arg0)) (m ((c : Thread nD τ).loc main_arg2)) (((cfg0.win 2).blk t).view.emb y) := by
  pointwise [k0_pay1, dw]
  blk_point [iblk, V, idx t]

theorem final (c : Dev nD) : (dats m 0 c).arrAt 2 cfg0.N
    = dw (m ((c : Thread nD τ).loc main_arg0)) (m ((c : Thread nD τ).loc main_arg2)) := by
  refine (dats m 0 c).arrAt_eq_of_covers 2 _ (by decide +kernel) fun t _ y => ?_
  blk_simp
  rw [after0_2]
  frame_out
  exact point m c t y

/-- The reference's gradient is the kernel's. -/
theorem same (u : FVec Ideal S8192x8192 .bf16) (d : FVec Ideal S8192x2048 .bf16) : dw u d = val_main_v10 (F := Ideal) u d := by
  funext i
  pointwise [dw, val_main_v10, val_main_v9, val_main_v8, val_main_v7, val_main_v6, val_main_v4, val_main_v3, val_main_v1, val_main_call0_v0,
    val_main_call0_cst]
  exact Finset.sum_congr rfl fun r _ => mul_comm _ _

theorem algebraic : Cert.algebraic_MlpDwIdeal_MlpDwRefIdeal := fun m ρ m' ρ' _ hag =>
  ⟨fun c => dw (m ((c : Thread nD τ).loc main_arg0)) (m ((c : Thread nD τ).loc main_arg2)),
    (θ_run _ _ _).mono (fun _ h c => ⟨(h c).1.trans (final m c), (h c).2⟩) (run_blocks m ρ),
    (θ_run _ _ _).mono (fun _ h c => ⟨(h c).1.trans (by
      rw [val_main_v10_eq, (hag c).1, (hag c).2.2]; exact (same _ _).symm), (h c).2⟩) (Cert.MlpDwRefIdeal.Value.run m' ρ')⟩

end Cert.MlpDwIdeal.Value

end
-- ==== Proof.MlpDx.lean ====
module

public import proofs.«01_k».proof.Defs
public import proofs.«01_k».proof.Proof.Gen.MlpDxIdeal.Value
public import proofs.«01_k».proof.Proof.Gen.MlpDxRefIdeal.Run
public import proofs.«01_k».proof.Proof.Gen.MlpDxRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlpDxIdeal.Value

open Cert.MlpDxIdeal Cert.MlpDxIdeal.Gen
open Cert.MlpDxRefIdeal.Read

variable (m : (ℓ : Loc nD τ sig) → Buf (Elt Ideal) ℓ)

theorem idx : ∀ t : Fin cfg0.N, win0_0.index t = ![t.val / 8, 0] ∧ win0_1.index t = ![0, t.val % 8, 0]
    ∧ win0_2.index t = ![t.val / 8, t.val % 8] ∧ win0_3.index t = ![t.val / 8, t.val % 8] :=
  (by decide +kernel : ∀ t : Fin grid0.N, _)

/-- The gradient before the squared rectifier, as the kernel writes it. -/
def dup (u : FVec Ideal S8192x8192 .bf16) (w : FVec Ideal S1x8192x2048 .bf16) (d : FVec Ideal S8192x2048 .bf16) : FVec Ideal S8192x8192 .bf16 := fun i =>
  (∑ k : Fin 2048, d (ix2 (i 0) k) * w (ix3 0 (i 1) k)) * (Ideal.ofBits .f32 0x40000000#32 * max (u i) 0)

/-- What one tile writes. -/
theorem point (c : Dev nD) (t : Fin cfg0.N) (y) : k0_pay1 (F := Ideal) (iblk m c 0 t) (iblk m c 1 t) (iblk m c 2 t) y
    = dup (m ((c : Thread nD τ).loc main_arg0)) (m ((c : Thread nD τ).loc main_arg1)) (m ((c : Thread nD τ).loc main_arg2))
      (((cfg0.win 3).blk t).view.emb y) := by
  pointwise [k0_pay1, dup]
  blk_point [iblk, V, idx t]

theorem final (c : Dev nD) : (dats m 0 c).arrAt 3 cfg0.N
    = dup (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- Where the rectifier is shut the kernel's factor is zero, and the reference selects zero. -/
theorem shut (a b u : EReal) : a * (b * max u 0) = if 0 < u then a * (b * max u 0) else 0 := by
  split_ifs with h
  · rfl
  · rw [max_eq_right (not_lt.mp h), mul_zero, mul_zero]

/-- The reference's gradient is the kernel's. -/
theorem same (u : FVec Ideal S8192x8192 .bf16) (w : FVec Ideal S1x8192x2048 .bf16) (d : FVec Ideal S8192x2048 .bf16) :
    dup u w d = val_main_v16 (F := Ideal) u w d := by
  funext i
  rw [show dup u w d i = _ from shut _ _ _]
  pointwise! [dup, val_main_v16, val_main_v15, val_main_v14, val_main_v13, val_main_v12, val_main_v11, val_main_v9, val_main_v8, val_main_v6,
    val_main_v5, val_main_v4, val_main_v3, val_main_v2, val_main_v1, val_main_v0, val_main_call0_v0, val_main_call0_cst, val_main_cst,
    val_main_cst_0, val_main_cst_1, val_main_cst_2]

theorem algebraic : Cert.algebraic_MlpDxIdeal_MlpDxRefIdeal := fun m ρ m' ρ' _ hag =>
  ⟨fun c => dup (m ((c : Thread nD τ).loc main_arg0)) (m ((c : Thread nD τ).loc main_arg1)) (m ((c : Thread nD τ).loc main_arg2)),
    (θ_run _ _ _).mono (fun _ h c => ⟨(h c).1.trans (final m c), (h c).2⟩) (run_blocks m ρ),
    (θ_run _ _ _).mono (fun _ h c => ⟨(h c).1.trans (by
      rw [val_main_v16_eq, (hag c).1, (hag c).2.1, (hag c).2.2]; exact (same _ _ _).symm), (h c).2⟩) (Cert.MlpDxRefIdeal.Value.run m' ρ')⟩

end Cert.MlpDxIdeal.Value

end
-- ==== Proof.NormFirst.lean ====
/- The norm before the first layer: one block of rows holds the norm of its rows. -/
module

public import proofs.«01_k».proof.Defs
public import proofs.«01_k».proof.Proof.Gen.NormFirstIdeal.Value
public import proofs.«01_k».proof.Proof.Gen.NormFirstRefIdeal.Run
public import proofs.«01_k».proof.Proof.Gen.NormFirstRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormFirstIdeal.Value

open Cert.NormFirstIdeal Cert.NormFirstIdeal.Gen
open Cert.NormFirstRefIdeal.Read

variable (m : (ℓ : Loc nD τ sig) → Buf (Elt Ideal) ℓ)

/-- Which block of its array each window holds at a point. -/
theorem idx : ∀ t : Fin cfg0.N, win0_0.index t = ![t.val, 0] ∧ win0_1.index t = ![0, 0] ∧ win0_2.index t = ![t.val, 0] :=
  (by decide +kernel : ∀ t : Fin grid0.N, _)

/-- What one block of rows holds: the reference's norm of those rows. -/
theorem point (c : Dev nD) (t : Fin cfg0.N) (y) : k0_pay1 (F := Ideal) (iblk m c 0 t) (iblk m c 1 t) y
    = val_main_v12 (F := Ideal) (m ((c : Thread nD τ).loc main_arg0)) (m ((c : Thread nD τ).loc main_arg1)) (((cfg0.win 2).blk t).view.emb y) := by
  pointwise [k0_pay1, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The kernel's result. -/
theorem final (c : Dev nD) : (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- Over the reals the kernel's norm is the reference's. -/
theorem algebraic : Cert.algebraic_NormFirstIdeal_NormFirstRefIdeal := fun m ρ m' ρ' _ hag =>
  ⟨fun c => val_main_v12 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans (by rw [val_main_v12_eq, (hag c).1, (hag c).2]), (h c).2⟩) (Cert.NormFirstRefIdeal.Value.run m' ρ')⟩
-- ==== Proof.RmsNorm.lean ====
/- The arithmetic of a root-mean-square norm's gradient on the extended reals, with no condition on the entries.
   The mean square of a row plus a positive `ε` is a positive real or `⊤`; its inverse root is then a positive real or `0`. -/
module

public import Idealize.ShloMosaic.PureOps.Ideal.Laws
public import Idealize.ShloMosaic.Lib.Pointwise

@[expose] public section

noncomputable section

open Idealize.ShloMosaic

namespace Cert.Rms

/-- A positive extended real: a positive real number, or `⊤`. -/
def Pos (s : EReal) : Prop := s = ⊤ ∨ ∃ σ : ℝ, 0 < σ ∧ s = (σ : EReal)

theorem width : Ideal.ofBits .f32 0x45000000#32 = ((2048 : ℝ) : EReal) := by
  simp [Ideal.ofBits, Ideal.ieee]; rw [← EReal.coe_mul]; norm_num

theorem half_neg : Ideal.ofBits .f32 0xBF000000#32 = ((-(1 / 2) : ℝ) : EReal) := by
  simp [Ideal.ofBits, Ideal.ieee]; rw [← EReal.coe_mul]; norm_num

theorem eps_pos : ∃ ε : ℝ, 0 < ε ∧ Ideal.ofBits .f32 0x358637BD#32 = (ε : EReal) := by
  refine ⟨_, ?_, by simp [Ideal.ofBits, Ideal.ieee]; rfl⟩
  positivity

theorem div_real (x : EReal) {c : ℝ} (hc : c ≠ 0) : Ideal.div x (c : EReal) = x * ((c⁻¹ : ℝ) : EReal) := by
  unfold Ideal.div
  rw [if_neg (by exact_mod_cast hc), EReal.coe_inv]

theorem sq_nonneg (x : EReal) : 0 ≤ x * x := by
  rcases le_total 0 x with h | h
  · exact mul_nonneg h h
  · rw [← neg_mul_neg]; exact mul_nonneg (EReal.neg_nonneg.mpr h) (EReal.neg_nonneg.mpr h)

/-- The mean square plus `ε` is positive, whatever the row. -/
theorem mean_pos {n : ℕ} (x : Fin n → EReal) :
    Pos (Ideal.div (∑ k, x k * x k) (Ideal.ofBits .f32 0x45000000#32) + Ideal.ofBits .f32 0x358637BD#32) := by
  obtain ⟨ε, hε, he⟩ := eps_pos
  rw [he, width, div_real _ (by norm_num)]
  have h0 : 0 ≤ ∑ k, x k * x k := Finset.sum_nonneg fun k _ => sq_nonneg (x k)
  generalize ∑ k, x k * x k = t at h0 ⊢
  induction t using EReal.rec with
  | bot => simp at h0
  | top => left; rw [EReal.top_mul_coe_of_pos (by norm_num), EReal.top_add_coe]
  | coe r =>
    right
    have hr : 0 ≤ r := by exact_mod_cast h0
    exact ⟨r * 2048⁻¹ + ε, by positivity, by push_cast; rfl⟩

theorem neg_twice (y : EReal) : -y + -y = -(y + y) := by
  induction y using EReal.rec with
  | bot => rfl
  | top => rfl
  | coe r => norm_cast; ring_nf

/-- The two ways to write the gradient of `z · rsqrt(mean z² + ε)` against the cotangent `a`: subtracting the cube's term, and adding the
    two halves that the derivative of the inverse root gives. `S` is the row's sum of `a · z`, `s` its mean square plus `ε`. -/
theorem grad {s : EReal} (hs : Pos s) (a z S : EReal) :
    Ideal.rsqrt s * a - z * (Ideal.rsqrt s * Ideal.rsqrt s * Ideal.rsqrt s) * Ideal.div S (Ideal.ofBits .f32 0x45000000#32)
      = a * Ideal.rsqrt s
        + z * Ideal.div (S * (Ideal.ofBits .f32 0xBF000000#32 * Ideal.div (Ideal.rsqrt s) s)) (Ideal.ofBits .f32 0x45000000#32)
        + Ideal.div (S * (Ideal.ofBits .f32 0xBF000000#32 * Ideal.div (Ideal.rsqrt s) s)) (Ideal.ofBits .f32 0x45000000#32) * z := by
  rw [width, half_neg, div_real _ (by norm_num), div_real _ (by norm_num)]
  rcases hs with rfl | ⟨σ, hσ, rfl⟩
  · have h0 : Ideal.rsqrt ⊤ = 0 := rfl
    simp [h0, Ideal.div]
  · have hr : Ideal.rsqrt (σ : EReal) = (((Real.sqrt σ)⁻¹ : ℝ) : EReal) := by
      show (if σ < 0 then _ else if σ = 0 then _ else _) = _
      rw [if_neg hσ.not_gt, if_neg hσ.ne']
    have hc : (Real.sqrt σ)⁻¹ * σ⁻¹ = (Real.sqrt σ)⁻¹ * (Real.sqrt σ)⁻¹ * (Real.sqrt σ)⁻¹ := by
      rw [mul_assoc, ← mul_inv, ← mul_inv, ← mul_inv, Real.mul_self_sqrt hσ.le]
    have hd : (((Real.sqrt σ)⁻¹ : ℝ) : EReal) * ((σ⁻¹ : ℝ) : EReal)
        = (((Real.sqrt σ)⁻¹ * (Real.sqrt σ)⁻¹ * (Real.sqrt σ)⁻¹ : ℝ) : EReal) := by rw [← EReal.coe_mul, hc]
    rw [hr, div_real _ hσ.ne', hd, ← EReal.coe_mul, ← EReal.coe_mul, ← EReal.coe_mul]
    generalize (Real.sqrt σ)⁻¹ * (Real.sqrt σ)⁻¹ * (Real.sqrt σ)⁻¹ = q
    set y : EReal := z * S * ((q * (1 / 2) * 2048⁻¹ : ℝ) : EReal) with hy
    have e1 : z * (q : EReal) * (S * ((2048⁻¹ : ℝ) : EReal)) = y + y := by
      have : ((q * 2048⁻¹ : ℝ) : EReal) = ((q * (1 / 2) * 2048⁻¹ * 2 : ℝ) : EReal) := by congr 1; ring
      rw [mul_mul_mul_comm, ← EReal.coe_mul, this, EReal.coe_mul, ← mul_assoc, ← hy,
        show ((2 : ℝ) : EReal) = 1 + 1 by norm_cast, EReal.left_distrib_of_nonneg zero_le_one zero_le_one, mul_one]
    have e2 : z * (S * ((-(1 / 2) * q : ℝ) : EReal) * ((2048⁻¹ : ℝ) : EReal)) = -y := by
      have : ((-(1 / 2) * q * 2048⁻¹ : ℝ) : EReal) = -((q * (1 / 2) * 2048⁻¹ : ℝ) : EReal) := by rw [← EReal.coe_neg]; congr 1; ring
      rw [mul_assoc S, ← EReal.coe_mul, this, ← mul_assoc, mul_neg]
    rw [e1, mul_comm (S * _ * _) z, e2, add_assoc, neg_twice, mul_comm a, sub_eq_add_neg]

end Cert.Rms

end
-- ==== Proof.NormLast.lean ====
module

public import proofs.«01_k».proof.Defs
public import proofs.«01_k».proof.Proof.RmsNorm
public import proofs.«01_k».proof.Proof.Gen.NormLastIdeal.Value
public import proofs.«01_k».proof.Proof.Gen.NormLastRefIdeal.Run
public import proofs.«01_k».proof.Proof.Gen.NormLastRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormLastIdeal.Value

open Cert.NormLastIdeal Cert.NormLastIdeal.Gen
open Cert.NormLastRefIdeal.Read

variable (m : (ℓ : Loc nD τ sig) → Buf (Elt Ideal) ℓ)

/-- The mean square of row `r` of `x`, plus `ε`. -/
def ms (x : FVec Ideal S8192x2048 .f32) (r : Fin 8192) : EReal :=
  Ideal.div (∑ k : Fin 2048, x (ix2 r k) * x (ix2 r k)) (Ideal.ofBits .f32 0x45000000#32) + Ideal.ofBits .f32 0x358637BD#32

/-- The gradient to `x`, as the kernel writes it: what reached `x` past the norm (`e`), and the norm's own gradient. -/
def dx (x : FVec Ideal S8192x2048 .f32) (g : FVec Ideal S1x2048 .f32) (e : FVec Ideal S8192x2048 .f32) (d : FVec Ideal S8192x2048 .bf16) :
    FVec Ideal S8192x2048 .f32 := fun i =>
  e i + (Ideal.rsqrt (ms x (i 0)) * (d i * g (ix2 0 (i 1)))
    - x i * (Ideal.rsqrt (ms x (i 0)) * Ideal.rsqrt (ms x (i 0)) * Ideal.rsqrt (ms x (i 0)))
      * Ideal.div (∑ k : Fin 2048, d (ix2 (i 0) k) * g (ix2 0 k) * x (ix2 (i 0) k)) (Ideal.ofBits .f32 0x45000000#32))

/-- The gradient to the gain, as the kernel writes it. -/
def dg (x : FVec Ideal S8192x2048 .f32) (d : FVec Ideal S8192x2048 .bf16) : FVec Ideal S1x2048 .f32 := fun i =>
  ∑ r : Fin 8192, d (ix2 r (i 1)) * x (ix2 r (i 1)) * Ideal.rsqrt (ms x r)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- What one block of rows writes to `dx`. -/
theorem point (c : Dev nD) (t : Fin cfg0.N) (y) : k0_pay4 (F := Ideal) (iblk m c 0 t) (iblk m c 2 t) (iblk m c 1 t) (iblk m c 3 t) y
    = dx (m ((c : Thread nD τ).loc main_arg0)) (m ((c : Thread nD τ).loc main_arg1)) (m ((c : Thread nD τ).loc main_arg2))
      (m ((c : Thread nD τ).loc main_arg3)) (((cfg0.win 4).blk t).view.emb y) := by
  pointwise [k0_pay4, k0_pay3, k0_pay2, dx, ms]
  blk_point [iblk, V, idx t]

theorem final4 (c : Dev nD) : (dats m 0 c).arrAt 4 cfg0.N
    = dx (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  by_cases h : t.val % 32 = 0
  · rw [outsAt0_A m c t h]; frame_out; exact point m c t y
  · rw [outsAt0_B m c t h]; frame_out; exact point m c t y

theorem zero_at (j : S1x2048.Idx) : k0_pay5 (F := Ideal) j = 0 := by pointwise [k0_pay5]

/-- What one block of rows adds to the gain's gradient. -/
theorem step_at (d : FVec Ideal S256x2048 .bf16) (x : FVec Ideal S256x2048 .f32) (acc : FVec Ideal S1x2048 .f32) (j : S1x2048.Idx) :
    k0_pay1 (k0_pay6 acc) (k0_pay7 x d) (k0_pay8 x) j = acc j + ∑ r : Fin 256, d (ix2 r (j 1)) * x (ix2 r (j 1))
      * Ideal.rsqrt (Ideal.div (∑ k : Fin 2048, x (ix2 r k) * x (ix2 r k)) (Ideal.ofBits .f32 0x45000000#32) + Ideal.ofBits .f32 0x358637BD#32) := by
  pointwise! [k0_pay1, k0_pay6, k0_pay7, k0_pay8, k0_pay3, k0_pay2]

theorem final5 (c : Dev nD) : (dats m 0 c).arrAt 5 cfg0.N
    = dg (m ((c : Thread nD τ).loc main_arg0)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 32 (fun _ => 0) _
      (fun t h j => by rw [outsAt0_A m c t h]; frame_out; rw [step_at, zero_at])
      (fun t h j => by rw [outsAt0_B m c t h]; frame_out; rw [step_at]) t ((flush0_5 t).mp hf) _, zero_add]
  simp only [dg, ms]
  refine Fin.sum_mul_add_congr fun s k hl => ?_
  blk_point [iblk, V, idx t, idx ⟨_, Pipeline.run_point_lt_of_flush t ((flush0_5 t).mp hf) s⟩]

/-- The reference's gradient to `x` is the kernel's. -/
theorem same4 (x : FVec Ideal S8192x2048 .f32) (g : FVec Ideal S1x2048 .f32) (e : FVec Ideal S8192x2048 .f32) (d : FVec Ideal S8192x2048 .bf16) :
    dx x g e d = val_main_v35 (F := Ideal) x g e d := by
  funext i
  rw [show dx x g e d i = _ from congrArg (e i + ·) (Rms.grad (Rms.mean_pos fun k : Fin 2048 => x (ix2 (i 0) k)) (d i * g (ix2 0 (i 1))) (x i)
    (∑ k : Fin 2048, d (ix2 (i 0) k) * g (ix2 0 k) * x (ix2 (i 0) k)))]
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v15, val_main_v11,
    val_main_v10, val_main_v9, val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6]
  simp only [Fin.sum_univ_one, mul_comm (x (ix2 (i 0) _)) (d _ * g _), add_assoc]

/-- The reference's gradient to the gain is the kernel's. -/
theorem same5 (x : FVec Ideal S8192x2048 .f32) (d : FVec Ideal S8192x2048 .bf16) : dg x d = val_main_v18 (F := Ideal) x d := by
  funext i
  pointwise [dg, ms, val_main_v18, val_main_v17, val_main_v16, val_main_v15, val_main_v12, val_main_v11, val_main_v7, val_main_v6, val_main_v5,
    val_main_v4, val_main_v3, val_main_v2, val_main_v1, val_main_v0, val_main_cst, val_main_cst_0, val_main_cst_1, val_main_cst_3]
  refine Finset.sum_congr rfl fun r _ => ?_
  rw [mul_comm (d _), mul_right_comm]

theorem algebraic : Cert.algebraic_NormLastIdeal_NormLastRefIdeal := fun m ρ m' ρ' _ hag =>
  ⟨fun c => dx (m ((c : Thread nD τ).loc main_arg0)) (m ((c : Thread nD τ).loc main_arg1)) (m ((c : Thread nD τ).loc main_arg2))
      (m ((c : Thread nD τ).loc main_arg3)),
    fun c => dg (m ((c : Thread nD τ).loc main_arg0)) (m ((c : Thread nD τ).loc main_arg3)),
    (θ_run _ _ _).mono (fun _ h c => ⟨(h c).1.trans (final4 m c), (h c).2.1.trans (final5 m c), (h c).2.2⟩) (run_blocks m ρ),
    (θ_run _ _ _).mono (fun _ h c => ⟨(h c).1.trans (by
        rw [val_main_v35_eq, (hag c).1, (hag c).2.1, (hag c).2.2.1, (hag c).2.2.2]; exact (same4 _ _ _ _).symm),
      (h c).2.1.trans (by rw [val_main_v18_eq, (hag c).1, (hag c).2.2.2]; exact (same5 _ _).symm), (h c).2.2⟩)
      (Cert.NormLastRefIdeal.Value.run m' ρ')⟩

end Cert.NormLastIdeal.Value

end
-- ==== Proof.NormLoss.lean ====
module

public import proofs.«01_k».proof.Defs
public import proofs.«01_k».proof.Proof.RmsNorm
public import proofs.«01_k».proof.Proof.Gen.NormLossIdeal.Value
public import proofs.«01_k».proof.Proof.Gen.NormLossRefIdeal.Run
public import proofs.«01_k».proof.Proof.Gen.NormLossRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormLossIdeal.Value

open Cert.NormLossIdeal Cert.NormLossIdeal.Gen
open Cert.NormLossRefIdeal.Read

variable (m : (ℓ : Loc nD τ sig) → Buf (Elt Ideal) ℓ)

/-- How far the step's output is from the target: `x + z · rsqrt(mean z² + ε) · g - target`. -/
def off (x : FVec Ideal S8192x2048 .f32) (z : FVec Ideal S8192x2048 .bf16) (g : FVec Ideal S1x2048 .f32) (y : FVec Ideal S8192x2048 .f32) :
    FVec Ideal S8192x2048 .f32 := fun i =>
  x i + z i * Ideal.rsqrt (Ideal.div (∑ k : Fin 2048, z (ix2 (i 0) k) * z (ix2 (i 0) k)) (Ideal.ofBits .f32 0x45000000#32)
    + Ideal.ofBits .f32 0x358637BD#32) * g (ix2 0 (i 1)) - y i

/-- The loss's gradient, as the kernel writes it. -/
def dy (x : FVec Ideal S8192x2048 .f32) (z : FVec Ideal S8192x2048 .bf16) (g : FVec Ideal S1x2048 .f32) (y : FVec Ideal S8192x2048 .f32) :
    FVec Ideal S8192x2048 .f32 := fun i => off x z g y i * Ideal.ofBits .f32 0x3A000000#32

/-- The column sums of squares. -/
def cols (x : FVec Ideal S8192x2048 .f32) (z : FVec Ideal S8192x2048 .bf16) (g : FVec Ideal S1x2048 .f32) (y : FVec Ideal S8192x2048 .f32) :
    FVec Ideal S1x2048 .f32 := fun i => ∑ r : Fin 8192, off x z g y (ix2 r (i 1)) * off x z g y (ix2 r (i 1))

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- What one block of rows writes to the gradient. -/
theorem point (c : Dev nD) (t : Fin cfg0.N) (y) : k0_pay2 (F := Ideal) (iblk m c 0 t) (iblk m c 1 t) (iblk m c 2 t) (iblk m c 3 t) y
    = dy (m ((c : Thread nD τ).loc main_arg0)) (m ((c : Thread nD τ).loc main_arg1)) (m ((c : Thread nD τ).loc main_arg2))
      (m ((c : Thread nD τ).loc main_arg3)) (((cfg0.win 4).blk t).view.emb y) := by
  pointwise [k0_pay2, k0_pay1, dy, off]
  blk_point [iblk, V, idx t]

theorem final4 (c : Dev nD) : (dats m 0 c).arrAt 4 cfg0.N
    = dy (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  by_cases h : t.val % 32 = 0
  · rw [outsAt0_A m c t h]; frame_out; exact point m c t y
  · rw [outsAt0_B m c t h]; frame_out; exact point m c t y

theorem zero_at (j : S1x2048.Idx) : k0_pay3 (F := Ideal) j = 0 := by pointwise [k0_pay3]

/-- What one block of rows adds to the column sums. -/
theorem step_at (x : FVec Ideal S256x2048 .f32) (z : FVec Ideal S256x2048 .bf16) (g : FVec Ideal S1x2048 .f32) (y : FVec Ideal S256x2048 .f32)
    (acc : FVec Ideal S1x2048 .f32) (j : S1x2048.Idx) :
    k0_pay4 x z g y acc j = acc j + ∑ r : Fin 256,
      (x (ix2 r (j 1)) + z (ix2 r (j 1)) * Ideal.rsqrt (Ideal.div (∑ k : Fin 2048, z (ix2 r k) * z (ix2 r k)) (Ideal.ofBits .f32 0x45000000#32)
          + Ideal.ofBits .f32 0x358637BD#32) * g (ix2 0 (j 1)) - y (ix2 r (j 1)))
      * (x (ix2 r (j 1)) + z (ix2 r (j 1)) * Ideal.rsqrt (Ideal.div (∑ k : Fin 2048, z (ix2 r k) * z (ix2 r k)) (Ideal.ofBits .f32 0x45000000#32)
          + Ideal.ofBits .f32 0x358637BD#32) * g (ix2 0 (j 1)) - y (ix2 r (j 1))) := by
  pointwise! [k0_pay4, k0_pay1]

theorem final5 (c : Dev nD) : (dats m 0 c).arrAt 5 cfg0.N
    = cols (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 32 (fun _ => 0) _
      (fun t h j => by rw [outsAt0_A m c t h]; frame_out; rw [step_at, zero_at])
      (fun t h j => by rw [outsAt0_B m c t h]; frame_out; rw [step_at]) t ((flush0_5 t).mp hf) _, zero_add]
  simp only [cols, off]
  refine Fin.sum_mul_add_congr fun s k hl => ?_
  blk_point [iblk, V, idx t, idx ⟨_, Pipeline.run_point_lt_of_flush t ((flush0_5 t).mp hf) s⟩]

theorem two : Ideal.ofBits .f32 0x40000000#32 = ((2 : ℝ) : EReal) := by
  simp [Ideal.ofBits, Ideal.ieee]; rw [← EReal.coe_mul]; norm_num

theorem half : Ideal.ofBits .f32 0x3F000000#32 = ((1 / 2 : ℝ) : EReal) := by
  simp [Ideal.ofBits, Ideal.ieee]; rw [← EReal.coe_mul]; norm_num

theorem one : Ideal.ofBits .f32 0x3F800000#32 = ((1 : ℝ) : EReal) := by
  simp [Ideal.ofBits, Ideal.ieee]; rw [← EReal.coe_mul]; norm_num

theorem scale : Ideal.ofBits .f32 0x3A000000#32 = ((1 / 2048 : ℝ) : EReal) := by
  simp [Ideal.ofBits, Ideal.ieee]; rw [← EReal.coe_mul]; norm_num

/-- Half the derivative of a mean of squares is the difference over the width. -/
theorem factor (u : EReal) : u * Ideal.ofBits .f32 0x3A000000#32
    = Ideal.div (Ideal.ofBits .f32 0x3F000000#32 * Ideal.ofBits .f32 0x3F800000#32) (Ideal.ofBits .f32 0x45000000#32)
      * (Ideal.ofBits .f32 0x40000000#32 * u) := by
  rw [scale, half, one, two, Rms.width, Rms.div_real _ (by norm_num), ← EReal.coe_mul, ← EReal.coe_mul, ← mul_assoc, ← EReal.coe_mul, mul_comm u]
  norm_num

/-- The reference's gradient is the kernel's. -/
theorem same4 (x : FVec Ideal S8192x2048 .f32) (z : FVec Ideal S8192x2048 .bf16) (g : FVec Ideal S1x2048 .f32) (y : FVec Ideal S8192x2048 .f32) :
    dy x z g y = val_main_v28 (F := Ideal) x z g y := by
  funext i
  rw [show dy x z g y i = _ from factor (off x z g y i)]
  pointwise! [off, val_main_v28, val_main_v27, val_main_v26, val_main_v25, val_main_v24, val_main_v23, val_main_v17, val_main_v16, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2, val_main_cst_7, val_main_cst_8, val_main_cst_9]

/-- The reference's column sums are the kernel's. -/
theorem same5 (x : FVec Ideal S8192x2048 .f32) (z : FVec Ideal S8192x2048 .bf16) (g : FVec Ideal S1x2048 .f32) (y : FVec Ideal S8192x2048 .f32) :
    cols x z g y = val_main_v32 (F := Ideal) x z g y := by
  funext i
  pointwise! [cols, off, val_main_v32, val_main_v31, val_main_v30, val_main_v29, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1, val_main_cst_10]

theorem algebraic : Cert.algebraic_NormLossIdeal_NormLossRefIdeal := fun m ρ m' ρ' _ hag =>
  ⟨fun c => dy (m ((c : Thread nD τ).loc main_arg0)) (m ((c : Thread nD τ).loc main_arg1)) (m ((c : Thread nD τ).loc main_arg2))
      (m ((c : Thread nD τ).loc main_arg3)),
    fun c => cols (m ((c : Thread nD τ).loc main_arg0)) (m ((c : Thread nD τ).loc main_arg1)) (m ((c : Thread nD τ).loc main_arg2))
      (m ((c : Thread nD τ).loc main_arg3)),
    (θ_run _ _ _).mono (fun _ h c => ⟨(h c).1.trans (final4 m c), (h c).2.1.trans (final5 m c), (h c).2.2⟩) (run_blocks m ρ),
    (θ_run _ _ _).mono (fun _ h c => ⟨(h c).1.trans (by
        rw [val_main_v28_eq, (hag c).1, (hag c).2.1, (hag c).2.2.1, (hag c).2.2.2]; exact (same4 _ _ _ _).symm),
      (h c).2.1.trans (by rw [val_main_v32_eq, (hag c).1, (hag c).2.1, (hag c).2.2.1, (hag c).2.2.2]; exact (same5 _ _ _ _).symm), (h c).2.2⟩)
      (Cert.NormLossRefIdeal.Value.run m' ρ')⟩

end Cert.NormLossIdeal.Value

end
-- ==== Proof.NormMem.lean ====
/- The gradient of the memory's norm gain: one grid point holds all 256 rows, and the kernel's one block is the whole result.
   Its column sums of `(dh · mem) · r`, with `r` the row's inverse root mean square, are the reference's column sums of `(mem · r) · dh`:
   the factors come in another order. -/
module

public import proofs.«01_k».proof.Defs
public import proofs.«01_k».proof.Proof.Gen.NormMemIdeal.Value
public import proofs.«01_k».proof.Proof.Gen.NormMemRefIdeal.Run
public import proofs.«01_k».proof.Proof.Gen.NormMemRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormMemIdeal.Value

open Cert.NormMemIdeal Cert.NormMemIdeal.Gen

variable (m : (ℓ : Loc nD τ sig) → Buf (Elt Ideal) ℓ)

theorem idx : ∀ t : Fin cfg0.N, win0_0.index t = ![0, 0] ∧ win0_1.index t = ![0, 0] ∧ win0_3.index t = ![0, 0] :=
  (by decide +kernel : ∀ t : Fin grid0.N, _)

/-- The result after the run: the body's sum over the argument arrays, begun from zero. -/
theorem final (c : Dev nD) : (dats m 0 c).arrAt 3 cfg0.N
    = k0_pay2 (F := Ideal) (m ((c : Thread nD τ).loc main_arg0)) (m ((c : Thread nD τ).loc main_arg2)) (k0_pay1 (F := Ideal)) := by
  refine (dats m 0 c).arrAt_eq_of_after_last 3 t0_0 (by decide +kernel) _ fun j => ?_
  blk_simp
  rw [after0_3]
  unfold Gen.outsAt0
  frame_out
  blk_point [iblk, V, idx t0_0]

/-- The body's sum is the reference's. -/
theorem same (x dh : FVec Ideal S256x2048 .f32) :
    k0_pay2 (F := Ideal) x dh (k0_pay1 (F := Ideal)) = Cert.NormMemRefIdeal.Read.val_main_v14 (F := Ideal) x dh := by
  funext j
  rw [← Cert.NormMemRefIdeal.Read.val_main_v14_eq]
  pointwise [k0_pay2, k0_pay1]
  refine Finset.sum_congr rfl fun k _ => by rw [mul_comm (dh _), mul_right_comm]

theorem algebraic : Cert.algebraic_NormMemIdeal_NormMemRefIdeal := fun m ρ m' ρ' _ hag =>
  ⟨fun c => Cert.NormMemRefIdeal.Read.val_main_v14 (F := Ideal) (m ((c : Thread nD τ).loc main_arg0)) (m ((c : Thread nD τ).loc main_arg2)),
    (θ_run _ _ _).mono (fun _ h c => ⟨(h c).1.trans ((final m c).trans (same _ _)), (h c).2⟩) (run_blocks m ρ),
    (θ_run _ _ _).mono (fun _ h c => ⟨(h c).1.trans (by
      rw [Cert.NormMemRefIdeal.Read.val_main_v14_eq, (hag c).1, (hag c).2.2]), (h c).2⟩) (Cert.NormMemRefIdeal.Value.run m' ρ')⟩

end Cert.NormMemIdeal.Value

end
-- ==== Proof.NormMemFwd.lean ====
/- The norm of the memory: one block holds all 256 rows. -/
module

public import proofs.«01_k».proof.Defs
public import proofs.«01_k».proof.Proof.Gen.NormMemFwdIdeal.Value
public import proofs.«01_k».proof.Proof.Gen.NormMemFwdRefIdeal.Run
public import proofs.«01_k».proof.Proof.Gen.NormMemFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormMemFwdIdeal.Value

open Cert.NormMemFwdIdeal Cert.NormMemFwdIdeal.Gen
open Cert.NormMemFwdRefIdeal.Read

variable (m : (ℓ : Loc nD τ sig) → Buf (Elt Ideal) ℓ)

/-- Which block of its array each window holds at a point. -/
theorem idx : ∀ t : Fin cfg0.N, win0_0.index t = ![0, 0] ∧ win0_1.index t = ![0, 0] ∧ win0_2.index t = ![0, 0] :=
  (by decide +kernel : ∀ t : Fin grid0.N, _)

/-- What one block of rows holds: the reference's norm of those rows. -/
theorem point (c : Dev nD) (t : Fin cfg0.N) (y) : k0_pay1 (F := Ideal) (iblk m c 0 t) (iblk m c 1 t) y
    = val_main_v12 (F := Ideal) (m ((c : Thread nD τ).loc main_arg0)) (m ((c : Thread nD τ).loc main_arg1)) (((cfg0.win 2).blk t).view.emb y) := by
  pointwise [k0_pay1, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The kernel's result. -/
theorem final (c : Dev nD) : (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- Over the reals the kernel's norm is the reference's. -/
theorem algebraic : Cert.algebraic_NormMemFwdIdeal_NormMemFwdRefIdeal := fun m ρ m' ρ' _ hag =>
  ⟨fun c => val_main_v12 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans (by rw [val_main_v12_eq, (hag c).1, (hag c).2]), (h c).2⟩) (Cert.NormMemFwdRefIdeal.Value.run m' ρ')⟩
-- ==== Proof.NormMid.lean ====
/- The gradient of the middle residual norms: the forward call's residual row `x + norm(z)`, and the second call's four gradients over it. -/
module

public import proofs.«01_k».proof.Defs
public import proofs.«01_k».proof.Proof.RmsNorm
public import proofs.«01_k».proof.Proof.Gen.NormMidIdeal.Frame
public import proofs.«01_k».proof.Proof.Gen.NormMidRefIdeal.Run
public import proofs.«01_k».proof.Proof.Gen.NormMidRefIdeal.Read
public import Idealize.ShloMosaic.Lib.Pipeline.ValueKit
public import Idealize.ShloMosaic.Lib.Pointwise

@[expose] public section

set_option maxRecDepth 16384

noncomputable section

namespace Cert.NormMidIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormMidIdeal Cert.NormMidIdeal.Gen
open Cert.NormMidRefIdeal.Read

local notation "𝕄" => MT nD τ sig Unit (Elt Ideal) ℕ (UR sig nD τ) ℕ

section Run

variable (m : (ℓ : Loc nD τ sig) → Buf (Elt Ideal) ℓ) (ρ : Dev nD → PrngReg)

set_option backward.isDefEq.respectTransparency.types false in
/-- Every execution ends with the four result arrays at what the second call's write-backs leave, and the arguments as launched. -/
theorem run_results : θ_run defs (onTc (τ := τ) (main (F := Ideal))) ⟨m, fun _ => 0, ρ⟩ (fun r => ∀ c : Dev nD,
      r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_v1_2) = (dat1 (V1 m ρ) c).arrAt 8 cfg1.N
      ∧ r.2.mem ((c.tc : Thread nD τ).loc main_v1_3) = (dat1 (V1 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v1_0 (by decide))).trans (W2_arr m ρ c 6),
       (h c _ (mem_uc main_v1_1 (by decide))).trans (W2_arr m ρ c 7),
       (h c _ (mem_uc main_v1_2 (by decide))).trans (W2_arr m ρ c 8),
       (h c _ (mem_uc main_v1_3 (by decide))).trans (W2_arr m ρ c 9),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Run

/-- The mean square of row `r` of `z`, plus `ε`. -/
def ms {φ : FTy} (z : FVec Ideal S8192x2048 φ) (r : Fin 8192) : EReal :=
  Ideal.div (∑ k : Fin 2048, z (ix2 r k) * z (ix2 r k)) (Ideal.ofBits .f32 0x45000000#32) + Ideal.ofBits .f32 0x358637BD#32

/-- The residual row after the post-norm. -/
def res (x : FVec Ideal S8192x2048 .f32) (z : FVec Ideal S8192x2048 .bf16) (g : FVec Ideal S1x2048 .f32) : FVec Ideal S8192x2048 .f32 := fun i =>
  x i + z i * Ideal.rsqrt (ms z (i 0)) * g (ix2 0 (i 1))

/-- The gradient through a norm of `z` with gain `g` against the cotangent `d`, as the kernel writes it. -/
def back {φ ψ : FTy} (z : FVec Ideal S8192x2048 φ) (g : FVec Ideal S1x2048 .f32) (d : FVec Ideal S8192x2048 ψ) (i : S8192x2048.Idx) : EReal :=
  Ideal.rsqrt (ms z (i 0)) * (d i * g (ix2 0 (i 1)))
    - z i * (Ideal.rsqrt (ms z (i 0)) * Ideal.rsqrt (ms z (i 0)) * Ideal.rsqrt (ms z (i 0)))
      * Ideal.div (∑ k : Fin 2048, d (ix2 (i 0) k) * g (ix2 0 k) * z (ix2 (i 0) k)) (Ideal.ofBits .f32 0x45000000#32)

/-- The gradient to the residual: its own cotangent plus what comes back through the pre-norm. -/
def dx (x1 : FVec Ideal S8192x2048 .f32) (g : FVec Ideal S1x2048 .f32) (dh : FVec Ideal S8192x2048 .bf16) (dxo : FVec Ideal S8192x2048 .f32) :
    FVec Ideal S8192x2048 .f32 := fun i => dxo i + back x1 g dh i

/-- The gradient to the post-norm's argument. -/
def dz (z : FVec Ideal S8192x2048 .bf16) (g : FVec Ideal S1x2048 .f32) (d : FVec Ideal S8192x2048 .f32) : FVec Ideal S8192x2048 .bf16 := fun i => back z g d i

/-- The gradient to a norm's gain. -/
def dg {φ ψ : FTy} (z : FVec Ideal S8192x2048 φ) (d : FVec Ideal S8192x2048 ψ) : FVec Ideal S1x2048 .f32 := fun i =>
  ∑ r : Fin 8192, d (ix2 r (i 1)) * z (ix2 r (i 1)) * Ideal.rsqrt (ms z r)

theorem idx0 : ∀ t : Fin cfg0.N, win0_0.index t = ![t.val, 0] ∧ win0_1.index t = ![t.val, 0] ∧ win0_2.index t = ![0, 0]
    ∧ win0_4.index t = ![t.val, 0] :=
  (by decide +kernel : ∀ t : Fin grid0.N, _)

theorem idx1 : ∀ t : Fin cfg1.N, win1_0.index t = ![t.val, 0] ∧ win1_1.index t = ![t.val, 0] ∧ win1_2.index t = ![t.val, 0]
    ∧ win1_3.index t = ![0, 0] ∧ win1_4.index t = ![t.val, 0] ∧ win1_5.index t = ![0, 0] ∧ win1_6.index t = ![t.val, 0]
    ∧ win1_7.index t = ![t.val, 0] ∧ win1_8.index t = ![0, 0] ∧ win1_9.index t = ![0, 0] :=
  (by decide +kernel : ∀ t : Fin grid1.N, _)

section Calls

variable (V : (c : Dev nD) → (b : Ref sig .tc) → Buf (Elt Ideal) ((c : Thread nD τ).loc b))

theorem point4 (c : Dev nD) (t : Fin cfg0.N) (y) : k0_pay1 (F := Ideal) (iblk0 V c 0 t) (iblk0 V c 1 t) (iblk0 V c 2 t) y
    = res (V c main_arg0) (V c main_arg1) (V c main_arg2) (((cfg0.win 4).blk t).view.emb y) := by
  pointwise [k0_pay1, res, ms]
  blk_point [iblk0, idx0 t]

/-- The first call's residual array. -/
theorem saved (c : Dev nD) : (dat0 V c).arrAt 4 cfg0.N = res (V c main_arg0) (V c main_arg1) (V c main_arg2) := by
  refine (dat0 V c).arrAt_eq_of_covers 4 _ (by decide +kernel) fun t _ y => ?_
  blk_simp
  rw [after0_4]
  frame_out
  exact point4 V c t y

theorem point6 (c : Dev nD) (t : Fin cfg1.N) (y) : k1_pay5 (F := Ideal) (iblk1 V c 0 t) (iblk1 V c 2 t) (iblk1 V c 1 t) (iblk1 V c 3 t) y
    = dx (V c main_v0_0) (V c main_arg3) (V c main_arg5) (V c main_arg4) (((cfg1.win 6).blk t).view.emb y) := by
  pointwise [k1_pay5, k1_pay4, k1_pay3, k1_pay2, dx, back, ms]
  blk_point [iblk1, idx1 t]

theorem final6 (c : Dev nD) : (dat1 V c).arrAt 6 cfg1.N = dx (V c main_v0_0) (V c main_arg3) (V c main_arg5) (V c main_arg4) := by
  refine (dat1 V c).arrAt_eq_of_covers 6 _ (by decide +kernel) fun t _ y => ?_
  blk_simp
  rw [after1_6]
  by_cases h : t.val % 32 = 0
  · rw [outsAt1_A V c t h h]; frame_out; exact point6 V c t y
  · rw [outsAt1_B V c t h h]; frame_out; exact point6 V c t y

/-- The second norm's part of one point, over any block `d` of the first gradient. -/
theorem back_at (d : FVec Ideal S256x2048 .f32) (z : FVec Ideal S256x2048 .bf16) (g : FVec Ideal S1x2048 .f32) (r : Fin 256) (q : Fin 2048) :
    k1_pay12 d z g (ix2 r q)
      = Ideal.rsqrt (Ideal.div (∑ k : Fin 2048, z (ix2 r k) * z (ix2 r k)) (Ideal.ofBits .f32 0x45000000#32) + Ideal.ofBits .f32 0x358637BD#32)
          * (d (ix2 r q) * g (ix2 0 q))
        - z (ix2 r q)
          * (Ideal.rsqrt (Ideal.div (∑ k : Fin 2048, z (ix2 r k) * z (ix2 r k)) (Ideal.ofBits .f32 0x45000000#32) + Ideal.ofBits .f32 0x358637BD#32)
            * Ideal.rsqrt (Ideal.div (∑ k : Fin 2048, z (ix2 r k) * z (ix2 r k)) (Ideal.ofBits .f32 0x45000000#32) + Ideal.ofBits .f32 0x358637BD#32)
            * Ideal.rsqrt (Ideal.div (∑ k : Fin 2048, z (ix2 r k) * z (ix2 r k)) (Ideal.ofBits .f32 0x45000000#32) + Ideal.ofBits .f32 0x358637BD#32))
          * Ideal.div (∑ k : Fin 2048, d (ix2 r k) * g (ix2 0 k) * z (ix2 r k)) (Ideal.ofBits .f32 0x45000000#32) := by
  pointwise [k1_pay12, k1_pay11, k1_pay10]

/-- The rows of a point's block of the first gradient. -/
theorem rows6 (c : Dev nD) (t : Fin cfg1.N) (r : Fin 256) (q : Fin 2048) (h : t.val * 256 + r.val < 8192) :
    k1_pay5 (F := Ideal) (iblk1 V c 0 t) (iblk1 V c 2 t) (iblk1 V c 1 t) (iblk1 V c 3 t) (ix2 r q)
      = dx (V c main_v0_0) (V c main_arg3) (V c main_arg5) (V c main_arg4) (ix2 ⟨t.val * 256 + r.val, h⟩ q) := by
  rw [point6]
  congr 1
  blk_point [idx1 t]

theorem point7 (c : Dev nD) (t : Fin cfg1.N) (y) :
    k1_pay12 (F := Ideal) (k1_pay5 (iblk1 V c 0 t) (iblk1 V c 2 t) (iblk1 V c 1 t) (iblk1 V c 3 t)) (iblk1 V c 4 t) (iblk1 V c 5 t) y
    = dz (V c main_arg1) (V c main_arg2) (dx (V c main_v0_0) (V c main_arg3) (V c main_arg5) (V c main_arg4)) (((cfg1.win 7).blk t).view.emb y) := by
  obtain ⟨r, q, rfl⟩ : ∃ (r : Fin 256) (q : Fin 2048), y = ix2 r q := ⟨y 0, y 1, by pointwise⟩
  have h : t.val * 256 + r.val < 8192 := by have := t.isLt; have e : cfg1.N = 32 := N_1; omega
  rw [back_at]
  simp only [rows6 V c t r _ h]
  generalize dx (V c main_v0_0) (V c main_arg3) (V c main_arg5) (V c main_arg4) = d
  pointwise [dz, back, ms]
  blk_point [iblk1, idx1 t]

theorem final7 (c : Dev nD) : (dat1 V c).arrAt 7 cfg1.N
    = dz (V c main_arg1) (V c main_arg2) (dx (V c main_v0_0) (V c main_arg3) (V c main_arg5) (V c main_arg4)) := by
  refine (dat1 V c).arrAt_eq_of_covers 7 _ (by decide +kernel) fun t _ y => ?_
  blk_simp
  rw [after1_7]
  by_cases h : t.val % 32 = 0
  · rw [outsAt1_A V c t h h]; frame_out; exact point7 V c t y
  · rw [outsAt1_B V c t h h]; frame_out; exact point7 V c t y

theorem zero_at (j : S1x2048.Idx) : k1_pay6 (F := Ideal) j = 0 ∧ k1_pay13 (F := Ideal) j = 0 := by constructor <;> pointwise [k1_pay6, k1_pay13]

theorem step8_at (x : FVec Ideal S256x2048 .f32) (d : FVec Ideal S256x2048 .bf16) (acc : FVec Ideal S1x2048 .f32) (j : S1x2048.Idx) :
    k1_pay9 (k1_pay4 x) (k1_pay7 acc) (k1_pay8 x d) j = acc j + ∑ r : Fin 256, d (ix2 r (j 1)) * x (ix2 r (j 1))
      * Ideal.rsqrt (Ideal.div (∑ k : Fin 2048, x (ix2 r k) * x (ix2 r k)) (Ideal.ofBits .f32 0x45000000#32) + Ideal.ofBits .f32 0x358637BD#32) := by
  pointwise! [k1_pay9, k1_pay7, k1_pay8, k1_pay4, k1_pay3, k1_pay2]

theorem final8 (c : Dev nD) : (dat1 V c).arrAt 8 cfg1.N = dg (φ := .f32) (ψ := .bf16) (V c main_v0_0) (V c main_arg5) := by
  refine (dat1 V c).arrAt_eq_of_covers 8 _ (by decide +kernel) fun t hf y => ?_
  blk_simp
  rw [after1_8, Pipeline.eq_sum_fin_of_reset_step_apply_of_flush (fun n h => (outsAt1 V c n h).2.2.1) 32 (fun _ => 0) _
      (fun t h j => by rw [outsAt1_A V c t h h]; frame_out; rw [step8_at, (zero_at _).1])
      (fun t h j => by rw [outsAt1_B V c t h h]; frame_out; rw [step8_at]) t ((flush1_8 t).mp hf) _, zero_add]
  simp only [dg, ms]
  refine Fin.sum_mul_add_congr fun s k hl => ?_
  blk_point [iblk1, idx1 t, idx1 ⟨_, Pipeline.run_point_lt_of_flush t ((flush1_8 t).mp hf) s⟩]

theorem step9_at (d : FVec Ideal S256x2048 .f32) (z : FVec Ideal S256x2048 .bf16) (acc : FVec Ideal S1x2048 .f32) (j : S1x2048.Idx) :
    k1_pay1 (k1_pay11 z) (k1_pay14 acc) (k1_pay15 d z) j = acc j + ∑ r : Fin 256, d (ix2 r (j 1)) * z (ix2 r (j 1))
      * Ideal.rsqrt (Ideal.div (∑ k : Fin 2048, z (ix2 r k) * z (ix2 r k)) (Ideal.ofBits .f32 0x45000000#32) + Ideal.ofBits .f32 0x358637BD#32) := by
  pointwise! [k1_pay1, k1_pay14, k1_pay15, k1_pay11, k1_pay10]

theorem final9 (c : Dev nD) : (dat1 V c).arrAt 9 cfg1.N
    = dg (φ := .bf16) (ψ := .f32) (V c main_arg1) (dx (V c main_v0_0) (V c main_arg3) (V c main_arg5) (V c main_arg4)) := by
  refine (dat1 V c).arrAt_eq_of_covers 9 _ (by decide +kernel) fun t hf y => ?_
  blk_simp
  rw [after1_9, Pipeline.eq_sum_fin_of_reset_step_apply_of_flush (fun n h => (outsAt1 V c n h).2.2.2) 32 (fun _ => 0) _
      (fun t h j => by rw [outsAt1_A V c t h h]; frame_out; rw [step9_at, (zero_at _).2])
      (fun t h j => by rw [outsAt1_B V c t h h]; frame_out; rw [step9_at]) t ((flush1_9 t).mp hf) _, zero_add]
  simp only [dg, ms]
  refine Fin.sum_mul_add_congr fun s k hl => ?_
  have e := rows6 V c ⟨_, Pipeline.run_point_lt_of_flush t ((flush1_9 t).mp hf) s⟩ k (y 1)
    (by have := s.isLt; have := k.isLt; have := lt_of_lt_of_eq t.isLt (show cfg1.grid.N = 32 from N_1); dsimp only; omega)
  refine (congrArg (fun d => d * _ * _) e).trans ?_
  generalize dx (V c main_v0_0) (V c main_arg3) (V c main_arg5) (V c main_arg4) = d
  blk_point [iblk1, idx1 t, idx1 ⟨_, Pipeline.run_point_lt_of_flush t ((flush1_9 t).mp hf) s⟩]

end Calls

/-! ## The reference -/

theorem saved_same (x : FVec Ideal S8192x2048 .f32) (z : FVec Ideal S8192x2048 .bf16) (g : FVec Ideal S1x2048 .f32) (j : S8192x2048.Idx) :
    val_main_v16 (F := Ideal) x z g j = res x z g j := by
  pointwise [res, ms, val_main_v16, val_main_v15, val_main_v14, val_main_v13, val_main_v12, val_main_v8, val_main_v7, val_main_v6, val_main_v5,
    val_main_v4, val_main_v3, val_main_v2, val_main_v1, val_main_v0, val_main_cst, val_main_cst_0, val_main_cst_1]

theorem root_same (x : FVec Ideal S8192x2048 .f32) (z : FVec Ideal S8192x2048 .bf16) (g : FVec Ideal S1x2048 .f32) (j : Cert.NormMidRefIdeal.S8192x1.Idx) :
    val_main_v23 (F := Ideal) x z g j = ms (res x z g) (j 0) := by
  have e := saved_same x z g
  generalize res x z g = x1 at e ⊢
  pointwise [ms, val_main_v23, val_main_v22, val_main_v21, val_main_v20, val_main_v19, val_main_v18, val_main_v17, val_main_cst_3, val_main_cst_4, val_main_cst_5, e]

theorem same6 (x : FVec Ideal S8192x2048 .f32) (z : FVec Ideal S8192x2048 .bf16) (g gn : FVec Ideal S1x2048 .f32) (dxo : FVec Ideal S8192x2048 .f32)
    (dh : FVec Ideal S8192x2048 .bf16) : dx (res x z g) gn dh dxo = val_main_v52 (F := Ideal) x z g gn dxo dh := by
  funext i
  have e := saved_same x z g
  have er := root_same x z g
  generalize res x z g = x1 at e er ⊢
  rw [show dx x1 gn dh dxo i = _ from congrArg (dxo i + ·) (Rms.grad (Rms.mean_pos fun k : Fin 2048 => x1 (ix2 (i 0) k)) (dh i * gn (ix2 0 (i 1))) (x1 i)
    (∑ k : Fin 2048, dh (ix2 (i 0) k) * gn (ix2 0 k) * x1 (ix2 (i 0) k)))]
  pointwise [ms, val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v32, val_main_v27,
    val_main_v26, val_main_v25, val_main_v24, val_main_cst_6, val_main_cst_8, val_main_cst_9, val_main_cst_10, e, er]
  simp only [Fin.sum_univ_one, mul_comm (x1 (ix2 (i 0) _)) (dh _ * gn _), add_assoc]

theorem same7 (x : FVec Ideal S8192x2048 .f32) (z : FVec Ideal S8192x2048 .bf16) (g gn : FVec Ideal S1x2048 .f32) (dxo : FVec Ideal S8192x2048 .f32)
    (dh : FVec Ideal S8192x2048 .bf16) (d : FVec Ideal S8192x2048 .f32) (ed : d = val_main_v52 (F := Ideal) x z g gn dxo dh) :
    dz z g d = val_main_v73 (F := Ideal) x z g gn dxo dh := by
  funext i
  have e : ∀ j, val_main_v53 (F := Ideal) x z g gn dxo dh j = d j := fun j => by
    rw [ed]; unfold val_main_v53; exact congrFun (shapeCast_self _ _) j
  clear ed
  rw [show dz z g d i = _ from Rms.grad (Rms.mean_pos fun k : Fin 2048 => z (ix2 (i 0) k)) (d i * g (ix2 0 (i 1))) (z i)
    (∑ k : Fin 2048, d (ix2 (i 0) k) * g (ix2 0 k) * z (ix2 (i 0) k))]
  pointwise [ms, val_main_v73, val_main_v72, val_main_v71, val_main_v70, val_main_v69, val_main_v68, val_main_v67, val_main_v66, val_main_v65, val_main_v64,
    val_main_v63, val_main_v62, val_main_v61, val_main_v60, val_main_v59, val_main_v58, val_main_v57, val_main_v11, val_main_v10, val_main_v9,
    val_main_v8, val_main_v7, val_main_v6, val_main_v5, val_main_v4, val_main_v3, val_main_v2, val_main_v1, val_main_v0,
    val_main_cst, val_main_cst_0, val_main_cst_1, val_main_cst_2, val_main_cst_12, val_main_cst_13, val_main_cst_14, e]
  simp only [Fin.sum_univ_one, mul_comm (z (ix2 (i 0) _)) (d _ * g _)]

theorem same8 (x : FVec Ideal S8192x2048 .f32) (z : FVec Ideal S8192x2048 .bf16) (g : FVec Ideal S1x2048 .f32)
    (dh : FVec Ideal S8192x2048 .bf16) : dg (φ := .f32) (ψ := .bf16) (res x z g) dh = val_main_v35 (F := Ideal) x z g dh := by
  funext i
  have e := saved_same x z g
  have er := root_same x z g
  generalize res x z g = x1 at e er ⊢
  pointwise [dg, val_main_v35, val_main_v34, val_main_v33, val_main_v32, val_main_v29, val_main_v28, val_main_v24, val_main_cst_7, e, er]
  refine Finset.sum_congr rfl fun r _ => ?_
  rw [mul_comm (dh _), mul_right_comm]

theorem same9 (x : FVec Ideal S8192x2048 .f32) (z : FVec Ideal S8192x2048 .bf16) (g gn : FVec Ideal S1x2048 .f32) (dxo : FVec Ideal S8192x2048 .f32)
    (dh : FVec Ideal S8192x2048 .bf16) (d : FVec Ideal S8192x2048 .f32) (ed : d = val_main_v52 (F := Ideal) x z g gn dxo dh) :
    dg (φ := .bf16) (ψ := .f32) z d = val_main_v56 (F := Ideal) x z g gn dxo dh := by
  funext i
  have e : ∀ j, val_main_v53 (F := Ideal) x z g gn dxo dh j = d j := fun j => by
    rw [ed]; unfold val_main_v53; exact congrFun (shapeCast_self _ _) j
  clear ed
  pointwise [dg, ms, val_main_v56, val_main_v55, val_main_v54, val_main_v13, val_main_v12, val_main_v8, val_main_v7, val_main_v6, val_main_v5,
    val_main_v4, val_main_v3, val_main_v2, val_main_v1, val_main_v0, val_main_cst, val_main_cst_0, val_main_cst_1, val_main_cst_11, e]
  refine Finset.sum_congr rfl fun r _ => ?_
  rw [mul_comm (d _), mul_right_comm]

/-! ## The claim -/

section Claim

variable (m : (ℓ : Loc nD τ sig) → Buf (Elt Ideal) ℓ) (ρ : Dev nD → PrngReg)

/-- What the second call finds: the arguments as launched, and the first call's residual. -/
theorem entry (c : Dev nD) : V1 m ρ c main_v0_0 = res (m ((c : Thread nD τ).loc main_arg0)) (m ((c : Thread nD τ).loc main_arg1)) (m ((c : Thread nD τ).loc main_arg2))
    ∧ V1 m ρ c main_arg1 = m ((c : Thread nD τ).loc main_arg1) ∧ V1 m ρ c main_arg2 = m ((c : Thread nD τ).loc main_arg2)
    ∧ V1 m ρ c main_arg3 = m ((c : Thread nD τ).loc main_arg3) ∧ V1 m ρ c main_arg4 = m ((c : Thread nD τ).loc main_arg4)
    ∧ V1 m ρ c main_arg5 = m ((c : Thread nD τ).loc main_arg5) :=
  ⟨(W1_arr m ρ c 4).trans (saved (V0 m ρ) c), W1_args m ρ c _ (by decide), W1_args m ρ c _ (by decide), W1_args m ρ c _ (by decide),
    W1_args m ρ c _ (by decide), W1_args m ρ c _ (by decide)⟩

/-- The first gradient over the arguments. -/
def dxOf (c : Dev nD) : FVec Ideal S8192x2048 .f32 :=
  dx (res (m ((c : Thread nD τ).loc main_arg0)) (m ((c : Thread nD τ).loc main_arg1)) (m ((c : Thread nD τ).loc main_arg2)))
    (m ((c : Thread nD τ).loc main_arg3)) (m ((c : Thread nD τ).loc main_arg5)) (m ((c : Thread nD τ).loc main_arg4))

theorem run_closed : θ_run defs (onTc (τ := τ) (main (F := Ideal))) ⟨m, fun _ => 0, ρ⟩ (fun r => ∀ c : Dev nD,
      r.2.mem ((c.tc : Thread nD τ).loc main_v1_0) = dxOf m c
      ∧ r.2.mem ((c.tc : Thread nD τ).loc main_v1_1) = dz (m ((c : Thread nD τ).loc main_arg1)) (m ((c : Thread nD τ).loc main_arg2)) (dxOf m c)
      ∧ r.2.mem ((c.tc : Thread nD τ).loc main_v1_2)
        = dg (φ := .f32) (ψ := .bf16) (res (m ((c : Thread nD τ).loc main_arg0)) (m ((c : Thread nD τ).loc main_arg1)) (m ((c : Thread nD τ).loc main_arg2)))
          (m ((c : Thread nD τ).loc main_arg5))
      ∧ r.2.mem ((c.tc : Thread nD τ).loc main_v1_3) = dg (φ := .bf16) (ψ := .f32) (m ((c : Thread nD τ).loc main_arg1)) (dxOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun _ h c => ?_) (run_results m ρ)
  obtain ⟨e0, e1, e2, e3, e4, e5⟩ := entry m ρ c
  obtain ⟨h0, h1, h2, h3, ha⟩ := h c
  have d : dx (V1 m ρ c main_v0_0) (V1 m ρ c main_arg3) (V1 m ρ c main_arg5) (V1 m ρ c main_arg4) = dxOf m c := by rw [e0, e3, e4, e5]; rfl
  refine ⟨h0.trans ((final6 _ c).trans d), h1.trans ((final7 _ c).trans ?_), h2.trans ((final8 _ c).trans ?_), h3.trans ((final9 _ c).trans ?_), ha⟩
  · rw [d, e1, e2]
  · rw [e0, e5]
  · rw [d, e1]

end Claim

/-- The middle norms' four gradients are those of the reference, with no condition. -/
theorem algebraic : Cert.algebraic_NormMidIdeal_NormMidRefIdeal := fun m ρ m' ρ' _ hag =>
  ⟨fun c => _, fun c => _, fun c => _, fun c => _, run_closed m ρ,
    (θ_run _ _ _).mono (fun _ h c => ⟨(h c).1.trans (by
        rw [val_main_v52_eq, (hag c).1, (hag c).2.1, (hag c).2.2.1, (hag c).2.2.2.1, (hag c).2.2.2.2.1, (hag c).2.2.2.2.2]; exact (same6 _ _ _ _ _ _).symm),
      (h c).2.1.trans (by
        rw [val_main_v73_eq, (hag c).1, (hag c).2.1, (hag c).2.2.1, (hag c).2.2.2.1, (hag c).2.2.2.2.1, (hag c).2.2.2.2.2]
        exact (same7 _ _ _ _ _ _ _ (same6 _ _ _ _ _ _)).symm),
      (h c).2.2.1.trans (by rw [val_main_v35_eq, (hag c).1, (hag c).2.1, (hag c).2.2.1, (hag c).2.2.2.2.2]; exact (same8 _ _ _ _).symm),
      (h c).2.2.2.1.trans (by
        rw [val_main_v56_eq, (hag c).1, (hag c).2.1, (hag c).2.2.1, (hag c).2.2.2.1, (hag c).2.2.2.2.1, (hag c).2.2.2.2.2]
        exact (same9 _ _ _ _ _ _ _ (same6 _ _ _ _ _ _)).symm), (h c).2.2.2.2⟩)
      (Cert.NormMidRefIdeal.Value.run m' ρ')⟩

end Cert.NormMidIdeal.Value

end
-- ==== Proof.NormMidFwd.lean ====
/- The residual sum and the norm after it: one block of rows holds both for its rows. -/
module

public import proofs.«01_k».proof.Defs
public import proofs.«01_k».proof.Proof.Gen.NormMidFwdIdeal.Value
public import proofs.«01_k».proof.Proof.Gen.NormMidFwdRefIdeal.Run
public import proofs.«01_k».proof.Proof.Gen.NormMidFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormMidFwdIdeal.Value

open Cert.NormMidFwdIdeal Cert.NormMidFwdIdeal.Gen
open Cert.NormMidFwdRefIdeal.Read

variable (m : (ℓ : Loc nD τ sig) → Buf (Elt Ideal) ℓ)

/-- Which block of its array each window holds at a point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

/-- What one block of rows holds of the residual sum. -/
theorem point4 (c : Dev nD) (t : Fin cfg0.N) (y) : k0_pay1 (F := Ideal) (iblk m c 0 t) (iblk m c 1 t) (iblk m c 2 t) y
    = val_main_v13 (F := Ideal) (m ((c : Thread nD τ).loc main_arg0)) (m ((c : Thread nD τ).loc main_arg1)) (m ((c : Thread nD τ).loc main_arg2)) (((cfg0.win 4).blk t).view.emb y) := by
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The norm of a block of rows, from the residual sum of its rows. -/
theorem point5 (c : Dev nD) (t : Fin cfg0.N) (y) : k0_pay2 (F := Ideal) (iblk m c 0 t) (iblk m c 1 t) (iblk m c 2 t) (iblk m c 3 t) y
    = val_main_v26 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, val_main_v26, val_main_v25, val_main_v24, val_main_v23, val_main_v22, val_main_v21, val_main_v20, val_main_v19, val_main_v18, val_main_v17, val_main_v16, val_main_v15, val_main_v14, val_main_cst_2, val_main_cst_3, val_main_cst_4, point4 m c t]
  blk_point [iblk, V, idx t]

/-- The residual sum. -/
theorem final4 (c : Dev nD) : (dats m 0 c).arrAt 4 cfg0.N = val_main_v13 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point4 m c t y

/-- Its norm. -/
theorem final5 (c : Dev nD) : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact point5 m c t y

/-- Over the reals both results are the reference's. -/
theorem algebraic : Cert.algebraic_NormMidFwdIdeal_NormMidFwdRefIdeal := fun m ρ m' ρ' _ hag =>
  ⟨fun c => val_main_v13 (F := Ideal) (m ((c : Thread nD τ).loc main_arg0)) (m ((c : Thread nD τ).loc main_arg1)) (m ((c : Thread nD τ).loc main_arg2)), fun c => val_main_v26 (F := Ideal) (m ((c : Thread nD τ).loc main_arg0)) (m ((c : Thread nD τ).loc main_arg1)) (m ((c : Thread nD τ).loc main_arg2)) (m ((c : Thread nD τ).loc main_arg3)),
    (θ_run _ _ _).mono (fun _ h c => ⟨(h c).1.trans (final4 m c), (h c).2.1.trans (final5 m c), (h c).2.2⟩) (run_blocks m ρ),
    (θ_run _ _ _).mono (fun _ h c => ⟨(h c).1.trans (by rw [val_main_v13_eq, (hag c).1, (hag c).2.1, (hag c).2.2.1]),
      (h c).2.1.trans (by rw [val_main_v26_eq, (hag c).1, (hag c).2.1, (hag c).2.2.1, (hag c).2.2.2]), (h c).2.2⟩) (Cert.NormMidFwdRefIdeal.Value.run m' ρ')⟩
-- ==== Proof.NormTop.lean ====
module

public import proofs.«01_k».proof.Defs
public import proofs.«01_k».proof.Proof.RmsNorm
public import proofs.«01_k».proof.Proof.Gen.NormTopIdeal.Value
public import proofs.«01_k».proof.Proof.Gen.NormTopRefIdeal.Run
public import proofs.«01_k».proof.Proof.Gen.NormTopRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormTopIdeal.Value

open Cert.NormTopIdeal Cert.NormTopIdeal.Gen
open Cert.NormTopRefIdeal.Read

variable (m : (ℓ : Loc nD τ sig) → Buf (Elt Ideal) ℓ)

/-- The mean square of row `r` of `z`, plus `ε`. -/
def ms (z : FVec Ideal S8192x2048 .bf16) (r : Fin 8192) : EReal :=
  Ideal.div (∑ k : Fin 2048, z (ix2 r k) * z (ix2 r k)) (Ideal.ofBits .f32 0x45000000#32) + Ideal.ofBits .f32 0x358637BD#32

/-- The gradient to `z`, as the kernel writes it. -/
def dz (z : FVec Ideal S8192x2048 .bf16) (g : FVec Ideal S1x2048 .f32) (d : FVec Ideal S8192x2048 .f32) : FVec Ideal S8192x2048 .bf16 := fun i =>
  Ideal.rsqrt (ms z (i 0)) * (d i * g (ix2 0 (i 1)))
    - z i * (Ideal.rsqrt (ms z (i 0)) * Ideal.rsqrt (ms z (i 0)) * Ideal.rsqrt (ms z (i 0)))
      * Ideal.div (∑ k : Fin 2048, d (ix2 (i 0) k) * g (ix2 0 k) * z (ix2 (i 0) k)) (Ideal.ofBits .f32 0x45000000#32)

/-- The gradient to the gain, as the kernel writes it. -/
def dg (z : FVec Ideal S8192x2048 .bf16) (d : FVec Ideal S8192x2048 .f32) : FVec Ideal S1x2048 .f32 := fun i =>
  ∑ r : Fin 8192, d (ix2 r (i 1)) * z (ix2 r (i 1)) * Ideal.rsqrt (ms z r)

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

theorem point (c : Dev nD) (t : Fin cfg0.N) (y) : k0_pay4 (F := Ideal) (iblk m c 0 t) (iblk m c 1 t) (iblk m c 2 t) y
    = dz (m ((c : Thread nD τ).loc main_arg0)) (m ((c : Thread nD τ).loc main_arg1)) (m ((c : Thread nD τ).loc main_arg2))
      (((cfg0.win 3).blk t).view.emb y) := by
  pointwise [k0_pay4, k0_pay3, k0_pay2, dz, ms]
  blk_point [iblk, V, idx t]

theorem final3 (c : Dev nD) : (dats m 0 c).arrAt 3 cfg0.N
    = dz (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val % 32 = 0
  · rw [outsAt0_A m c t h]; frame_out; exact point m c t y
  · rw [outsAt0_B m c t h]; frame_out; exact point m c t y

theorem zero_at (j : S1x2048.Idx) : k0_pay5 (F := Ideal) j = 0 := by pointwise [k0_pay5]

theorem step_at (x : FVec Ideal S256x2048 .f32) (z : FVec Ideal S256x2048 .bf16) (acc : FVec Ideal S1x2048 .f32) (j : S1x2048.Idx) :
    k0_pay1 (k0_pay6 acc) (k0_pay7 x z) j = acc j + ∑ r : Fin 256, x (ix2 r (j 1)) * z (ix2 r (j 1))
      * Ideal.rsqrt (Ideal.div (∑ k : Fin 2048, z (ix2 r k) * z (ix2 r k)) (Ideal.ofBits .f32 0x45000000#32) + Ideal.ofBits .f32 0x358637BD#32) := by
  pointwise! [k0_pay1, k0_pay6, k0_pay7, k0_pay3, k0_pay2]

theorem final4 (c : Dev nD) : (dats m 0 c).arrAt 4 cfg0.N
    = dg (m ((c : Thread nD τ).loc main_arg0)) (m ((c : Thread nD τ).loc main_arg2)) := by
  refine (dats m 0 c).arrAt_eq_of_covers 4 _ (by decide +kernel) fun t hf y => ?_
  blk_simp
  rw [after0_4, Pipeline.eq_sum_fin_of_reset_step_apply_of_flush (fun n h => (outsAt0 m c n h).2) 32 (fun _ => 0) _
      (fun t h j => by rw [outsAt0_A m c t h]; frame_out; rw [step_at, zero_at])
      (fun t h j => by rw [outsAt0_B m c t h]; frame_out; rw [step_at]) t ((flush0_4 t).mp hf) _, zero_add]
  simp only [dg, ms]
  refine Fin.sum_mul_add_congr fun s k hl => ?_
  blk_point [iblk, V, idx t, idx ⟨_, Pipeline.run_point_lt_of_flush t ((flush0_4 t).mp hf) s⟩]

theorem same3 (z : FVec Ideal S8192x2048 .bf16) (g : FVec Ideal S1x2048 .f32) (d : FVec Ideal S8192x2048 .f32) :
    dz z g d = val_main_v35 (F := Ideal) z g d := by
  funext i
  rw [show dz z g d i = _ from Rms.grad (Rms.mean_pos fun k : Fin 2048 => z (ix2 (i 0) k)) (d i * g (ix2 0 (i 1))) (z i)
    (∑ k : Fin 2048, d (ix2 (i 0) k) * g (ix2 0 k) * z (ix2 (i 0) k))]
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6]
  simp only [Fin.sum_univ_one, mul_comm (z (ix2 (i 0) _)) (d _ * g _)]

theorem same4 (z : FVec Ideal S8192x2048 .bf16) (d : FVec Ideal S8192x2048 .f32) : dg z d = val_main_v18 (F := Ideal) z d := by
  funext i
  pointwise [dg, ms, val_main_v18, val_main_v17, val_main_v16, val_main_v13, val_main_v12, val_main_v8, val_main_v7, val_main_v6, val_main_v5,
    val_main_v4, val_main_v3, val_main_v2, val_main_v1, val_main_v0, val_main_cst, val_main_cst_0, val_main_cst_1, val_main_cst_3]
  refine Finset.sum_congr rfl fun r _ => ?_
  rw [mul_comm (d _), mul_right_comm]

theorem algebraic : Cert.algebraic_NormTopIdeal_NormTopRefIdeal := fun m ρ m' ρ' _ hag =>
  ⟨fun c => dz (m ((c : Thread nD τ).loc main_arg0)) (m ((c : Thread nD τ).loc main_arg1)) (m ((c : Thread nD τ).loc main_arg2)),
    fun c => dg (m ((c : Thread nD τ).loc main_arg0)) (m ((c : Thread nD τ).loc main_arg2)),
    (θ_run _ _ _).mono (fun _ h c => ⟨(h c).1.trans (final3 m c), (h c).2.1.trans (final4 m c), (h c).2.2⟩) (run_blocks m ρ),
    (θ_run _ _ _).mono (fun _ h c => ⟨(h c).1.trans (by
        rw [val_main_v35_eq, (hag c).1, (hag c).2.1, (hag c).2.2]; exact (same3 _ _ _).symm),
      (h c).2.1.trans (by rw [val_main_v18_eq, (hag c).1, (hag c).2.2]; exact (same4 _ _).symm), (h c).2.2⟩)
      (Cert.NormTopRefIdeal.Value.run m' ρ')⟩

end Cert.NormTopIdeal.Value

end
-- ==== Proof.ProductIn.lean ====
/- The input projection: one tile holds whole sums over the contracted dimension, and a column's shard is its number over 3072. -/
module

public import proofs.«01_k».proof.Defs
public import proofs.«01_k».proof.Proof.Gen.ProductInIdeal.Value
public import proofs.«01_k».proof.Proof.Gen.ProductInRefIdeal.Run
public import proofs.«01_k».proof.Proof.Gen.ProductInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProductInIdeal.Value

open Cert.ProductInIdeal Cert.ProductInIdeal.Gen
open Cert.ProductInRefIdeal.Read

variable (m : (ℓ : Loc nD τ sig) → Buf (Elt Ideal) ℓ)

/-- Which block of its array each window holds at a point. -/
theorem idx : ∀ t : Fin cfg0.N, win0_0.index t = ![t.val / 12, 0] ∧ win0_1.index t = ![t.val % 12 / 3, 0, t.val % 3] ∧ win0_2.index t = ![t.val / 12, t.val % 12] :=
  (by decide +kernel : ∀ t : Fin grid0.N, _)

/-- The product with the four shards of the weights, which lie column block after column block. -/
def prod (h : FVec Ideal S8192x2048 .bf16) (w : FVec Ideal S4x2048x3072 .bf16) : FVec Ideal S8192x12288 .bf16 := fun i =>
  ∑ k : Fin 2048, h (ix2 (i 0) k) * w (ix3 ⟨(i 1).val / 3072, (Nat.div_lt_iff_lt_mul (by norm_num)).2 (i 1).isLt⟩ k ⟨(i 1).val % 3072, Nat.mod_lt _ (by norm_num)⟩)

/-- What one tile holds. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The kernel's result. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The reference's result is the kernel's. -/
theorem same (h : FVec Ideal S8192x2048 .bf16) (w : FVec Ideal S4x2048x3072 .bf16) : prod h w = val_main_v5 (F := Ideal) h w := by
  funext i
  pointwise [prod, val_main_v5, val_main_v4, val_main_v3, val_main_v2, val_main_v1, val_main_v0]

/-- Over the reals the kernel's product is the reference's. -/
theorem algebraic : Cert.algebraic_ProductInIdeal_ProductInRefIdeal := fun m ρ m' ρ' _ hag =>
  ⟨fun c => prod (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans (by rw [val_main_v5_eq, (hag c).1, (hag c).2]; exact (same _ _).symm), (h c).2⟩) (Cert.ProductInRefIdeal.Value.run m' ρ')⟩

end Cert.ProductInIdeal.Value

end
-- ==== Proof.ProductInDw.lean ====
/- The gradient to the input projection's weights, shard by shard: one tile holds whole sums over the rows. -/
module

public import proofs.«01_k».proof.Defs
public import proofs.«01_k».proof.Proof.Gen.ProductInDwIdeal.Value
public import proofs.«01_k».proof.Proof.Gen.ProductInDwRefIdeal.Run
public import proofs.«01_k».proof.Proof.Gen.ProductInDwRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProductInDwIdeal.Value

open Cert.ProductInDwIdeal Cert.ProductInDwIdeal.Gen
open Cert.ProductInDwRefIdeal.Read

variable (m : (ℓ : Loc nD τ sig) → Buf (Elt Ideal) ℓ)

/-- Which block of its array each window holds at a point. -/
theorem idx : ∀ t : Fin cfg0.N, win0_0.index t = ![0, t.val / 24] ∧ win0_1.index t = ![0, t.val % 24] ∧ win0_2.index t = ![t.val % 24 / 6, t.val / 24, t.val % 6] :=
  (by decide +kernel : ∀ t : Fin grid0.N, _)

/-- The gradient of one shard's entry: the inputs of its row against the cotangents of its column, summed over the rows. -/
def dw (h : FVec Ideal S8192x2048 .bf16) (d : FVec Ideal S8192x12288 .bf16) : FVec Ideal S4x2048x3072 .bf16 := fun i =>
  ∑ r : Fin 8192, h (ix2 r (i 1)) * d (ix2 r ⟨(i 0).val * 3072 + (i 2).val, by have a := (i 0).isLt; have b := (i 2).isLt; change _ < 4 at a; change _ < 3072 at b; omega⟩)

/-- What one tile writes. -/
theorem point (c : Dev nD) (t : Fin cfg0.N) (y) : k0_pay1 (F := Ideal) (iblk m c 0 t) (iblk m c 1 t) y
    = dw (m ((c : Thread nD τ).loc main_arg0)) (m ((c : Thread nD τ).loc main_arg2)) (((cfg0.win 2).blk t).view.emb y) := by
  pointwise [k0_pay1, dw]
  blk_point [iblk, V, idx t]

/-- The kernel's result. -/
theorem final (c : Dev nD) : (dats m 0 c).arrAt 2 cfg0.N = dw (m ((c : Thread nD τ).loc main_arg0)) (m ((c : Thread nD τ).loc main_arg2)) := by
  refine (dats m 0 c).arrAt_eq_of_covers 2 _ (by decide +kernel) fun t _ y => ?_
  blk_simp
  rw [after0_2]
  frame_out
  exact point m c t y

/-- The reference's gradient is the kernel's. -/
theorem same (h : FVec Ideal S8192x2048 .bf16) (d : FVec Ideal S8192x12288 .bf16) : dw h d = val_main_v10 (F := Ideal) h d := by
  funext i
  pointwise [dw, val_main_v10, val_main_v9, val_main_v8, val_main_v7, val_main_v6, val_main_v5, val_main_v1]
  exact Finset.sum_congr rfl fun r _ => mul_comm _ _

/-- Over the reals the kernel's gradient is the reference's. -/
theorem algebraic : Cert.algebraic_ProductInDwIdeal_ProductInDwRefIdeal := fun m ρ m' ρ' _ hag =>
  ⟨fun c => dw (m ((c : Thread nD τ).loc main_arg0)) (m ((c : Thread nD τ).loc main_arg2)),
    (θ_run _ _ _).mono (fun _ h c => ⟨(h c).1.trans (final m c), (h c).2⟩) (run_blocks m ρ),
    (θ_run _ _ _).mono (fun _ h c => ⟨(h c).1.trans (by rw [val_main_v10_eq, (hag c).1, (hag c).2.2]; exact (same _ _).symm), (h c).2⟩) (Cert.ProductInDwRefIdeal.Value.run m' ρ')⟩

end Cert.ProductInDwIdeal.Value

end
-- ==== Proof.ProductInDx.lean ====
/- The gradient of the input projection to its inputs: a tile is summed over the four shards, one point after another. -/
module

public import proofs.«01_k».proof.Defs
public import proofs.«01_k».proof.Proof.Gen.ProductInDxIdeal.Value
public import proofs.«01_k».proof.Proof.Gen.ProductInDxRefIdeal.Run
public import proofs.«01_k».proof.Proof.Gen.ProductInDxRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProductInDxIdeal.Value

open Cert.ProductInDxIdeal Cert.ProductInDxIdeal.Gen
open Cert.ProductInDxRefIdeal.Read

variable (m : (ℓ : Loc nD τ sig) → Buf (Elt Ideal) ℓ)

/-- Which block of its array each window holds at a point. -/
theorem idx : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

/-- One shard's part of the entry at row `R` and column `Q`. -/
def part (d : FVec Ideal S8192x12288 .bf16) (w : FVec Ideal S4x2048x3072 .bf16) (R : Fin 8192) (Q : Fin 2048) (s : Fin 4) : EReal :=
  ∑ k : Fin 3072, d (ix2 R ⟨s.val * 3072 + k.val, by omega⟩) * w (ix3 s Q k)

/-- The gradient: the parts of the four shards. -/
def dh (w : FVec Ideal S4x2048x3072 .bf16) (d : FVec Ideal S8192x12288 .bf16) : FVec Ideal S8192x2048 .bf16 := fun i =>
  part d w (i 0) (i 1) 0 + part d w (i 0) (i 1) 1 + part d w (i 0) (i 1) 2 + part d w (i 0) (i 1) 3

/-- The product of one point is one shard's part. -/
theorem point (c : Dev nD) (t : Fin cfg0.N) (y : S1024x1024.Idx) (R : Fin 8192) (Q : Fin 2048) (s : Fin 4)
    (hR : R.val = t.val / 8 * 1024 + (y 0).val) (hQ : Q.val = t.val / 4 % 2 * 1024 + (y 1).val) (hs : s.val = t.val % 4) :
    k0_pay1 (F := Ideal) (iblk m c 0 t) (iblk m c 1 t) y = part (m ((c : Thread nD τ).loc main_arg2)) (m ((c : Thread nD τ).loc main_arg1)) R Q s := by
  obtain ⟨R, bR⟩ := R
  obtain ⟨Q, bQ⟩ := Q
  obtain ⟨s, bs⟩ := s
  subst hR hQ hs
  pointwise [k0_pay1, part]
  blk_point [iblk, V, idx t]

/-- The first of a tile's points leaves its part in the scratch. -/
theorem start (c : Dev nD) (t : Fin cfg0.N) (y : S1024x1024.Idx) (R : Fin 8192) (Q : Fin 2048) (s : Fin 4)
    (hR : R.val = t.val / 8 * 1024 + (y 0).val) (hQ : Q.val = t.val / 4 % 2 * 1024 + (y 1).val) (hs : s.val = t.val % 4) (h : t.val % 4 = 0) :
    (outsAt0 m c t.val t.isLt).2 y = part (m ((c : Thread nD τ).loc main_arg2)) (m ((c : Thread nD τ).loc main_arg1)) R Q s := by
  rw [outsAt0_A m c t h (by omega) (by omega), ← point m c t y R Q s hR hQ hs]
  frame_out
  pointwise [k0_pay2]

/-- A later one adds its part. -/
theorem next (c : Dev nD) (t : Fin cfg0.N) (y : S1024x1024.Idx) (R : Fin 8192) (Q : Fin 2048) (s : Fin 4)
    (hR : R.val = t.val / 8 * 1024 + (y 0).val) (hQ : Q.val = t.val / 4 % 2 * 1024 + (y 1).val) (hs : s.val = t.val % 4) (h : ¬ t.val % 4 = 0) (h3 : ¬ t.val % 4 = 3) :
    (outsAt0 m c t.val t.isLt).2 y = (outsAt0 m c (t.val - 1) (Nat.lt_of_le_of_lt (Nat.sub_le _ _) t.isLt)).2 y + part (m ((c : Thread nD τ).loc main_arg2)) (m ((c : Thread nD τ).loc main_arg1)) R Q s := by
  rw [outsAt0_B m c t h (by omega) h3, ← point m c t y R Q s hR hQ hs]
  frame_out
  pointwise [k0_pay3]
  exact congrArg (· + _) (congrFun (Memref.IsWhole.read_unread _ _) y)

/-- The last one writes the sum. -/
theorem last (c : Dev nD) (t : Fin cfg0.N) (y : S1024x1024.Idx) (R : Fin 8192) (Q : Fin 2048) (s : Fin 4)
    (hR : R.val = t.val / 8 * 1024 + (y 0).val) (hQ : Q.val = t.val / 4 % 2 * 1024 + (y 1).val) (hs : s.val = t.val % 4) (h : t.val % 4 = 3) :
    (outsAt0 m c t.val t.isLt).1 y = (outsAt0 m c (t.val - 1) (Nat.lt_of_le_of_lt (Nat.sub_le _ _) t.isLt)).2 y + part (m ((c : Thread nD τ).loc main_arg2)) (m ((c : Thread nD τ).loc main_arg1)) R Q s := by
  rw [outsAt0_C m c t (by omega) (by omega) h, ← point m c t y R Q s hR hQ hs]
  frame_out
  pointwise [k0_pay4, k0_pay3]
  exact congrArg (· + _) (congrFun (Memref.IsWhole.read_unread _ _) y)

/-- What a tile's last point writes back. -/
theorem tile (c : Dev nD) (t : Fin cfg0.N) (h : t.val % 4 = 3) (y : S1024x1024.Idx) (R : Fin 8192) (Q : Fin 2048)
    (hR : R.val = t.val / 8 * 1024 + (y 0).val) (hQ : Q.val = t.val / 4 % 2 * 1024 + (y 1).val) :
    (outsAt0 m c t.val t.isLt).1 y = part (m ((c : Thread nD τ).loc main_arg2)) (m ((c : Thread nD τ).loc main_arg1)) R Q 0 + part (m ((c : Thread nD τ).loc main_arg2)) (m ((c : Thread nD τ).loc main_arg1)) R Q 1 + part (m ((c : Thread nD τ).loc main_arg2)) (m ((c : Thread nD τ).loc main_arg1)) R Q 2 + part (m ((c : Thread nD τ).loc main_arg2)) (m ((c : Thread nD τ).loc main_arg1)) R Q 3 := by
  have b := t.isLt
  rw [last m c t y R Q 3 hR hQ (by rw [h]; rfl) h,
    next m c ⟨t.val - 1, by omega⟩ y R Q 2 (by dsimp only; omega) (by dsimp only; omega) (by dsimp only; omega) (by dsimp only; omega) (by dsimp only; omega),
    next m c ⟨t.val - 1 - 1, by omega⟩ y R Q 1 (by dsimp only; omega) (by dsimp only; omega) (by dsimp only; omega) (by dsimp only; omega) (by dsimp only; omega),
    start m c ⟨t.val - 1 - 1 - 1, by omega⟩ y R Q 0 (by dsimp only; omega) (by dsimp only; omega) (by dsimp only; omega) (by dsimp only; omega)]

/-- The kernel's result. -/
theorem final (c : Dev nD) : (dats m 0 c).arrAt 2 cfg0.N = dh (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  blk_simp
  rw [after0_2]
  unfold dh
  refine tile m c t h3 y _ _ ?_ ?_
  · simp [idx t]
  · simp [idx t]

/-- The reference's gradient is the kernel's: its sum over 12288 columns, shard by shard. -/
theorem same (w : FVec Ideal S4x2048x3072 .bf16) (d : FVec Ideal S8192x12288 .bf16) : dh w d = val_main_v7 (F := Ideal) w d := by
  funext i
  pointwise [dh, val_main_v7, val_main_v6, val_main_v5, val_main_v2, val_main_v1, val_main_v0]
  refine (Fin.sum_univ_four (fun s => part d w (i 0) (i 1) s)).symm.trans ?_
  unfold part
  exact Fin.sum_mul_add_congr (S := 4) fun s k hl => by
    have e : (⟨s.val * 3072 + k.val, hl⟩ : Fin 12288).val / 3072 = s.val := by change (s.val * 3072 + k.val) / 3072 = _; omega
    have e' : (⟨s.val * 3072 + k.val, hl⟩ : Fin 12288).val % 3072 = k.val := by change (s.val * 3072 + k.val) % 3072 = _; omega
    simp only [e, e', Fin.eta]

/-- Over the reals the kernel's gradient is the reference's. -/
theorem algebraic : Cert.algebraic_ProductInDxIdeal_ProductInDxRefIdeal := fun m ρ m' ρ' _ hag =>
  ⟨fun c => dh (m ((c : Thread nD τ).loc main_arg1)) (m ((c : Thread nD τ).loc main_arg2)),
    (θ_run _ _ _).mono (fun _ h c => ⟨(h c).1.trans (final m c), (h c).2⟩) (run_blocks m ρ),
    (θ_run _ _ _).mono (fun _ h c => ⟨(h c).1.trans (by rw [val_main_v7_eq, (hag c).2.1, (hag c).2.2]; exact (same _ _).symm), (h c).2⟩) (Cert.ProductInDxRefIdeal.Value.run m' ρ')⟩

end Cert.ProductInDxIdeal.Value

end
-- ==== Proof.SumSmall.lean ====
/- The sum over the leading blocks: the array is one block, added in the order of the blocks. -/
module

public import proofs.«01_k».proof.Defs
public import proofs.«01_k».proof.Proof.Gen.SumSmallIdeal.Value
public import proofs.«01_k».proof.Proof.Gen.SumSmallRefIdeal.Run
public import proofs.«01_k».proof.Proof.Gen.SumSmallRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SumSmallIdeal.Value

open Cert.SumSmallIdeal Cert.SumSmallIdeal.Gen
open Cert.SumSmallRefIdeal.Read

variable (m : (ℓ : Loc nD τ sig) → Buf (Elt Ideal) ℓ)

/-- Every window holds its whole array. -/
theorem idx : ∀ t : Fin cfg0.N, win0_0.index t = ![0, 0, 0, 0] ∧ win0_1.index t = ![0, 0, 0] :=
  (by decide +kernel : ∀ t : Fin grid0.N, _)

/-- The sum of the eight blocks. -/
def tot (q : FVec Ideal S1x8x208x1024 .f32) : FVec Ideal S1x208x1024 .f32 := fun i =>
  ∑ k : Fin 8, q (ix4 (i 0) k (i 1) (i 2))

/-- An entry of the result. -/
theorem point (c : Dev nD) (t : Fin cfg0.N) (y) : k0_pay1 (F := Ideal) (k0_pay2 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) y
    = tot (m ((c : Thread nD τ).loc main_arg0)) (((cfg0.win 1).blk t).view.emb y) := by
  pointwise [k0_pay1, k0_pay2, tot, Fin.sum_univ_eight]
  blk_point [iblk, V, idx t]

/-- The kernel's result. -/
theorem final (c : Dev nD) : (dats m 0 c).arrAt 1 cfg0.N = tot (m ((c : Thread nD τ).loc main_arg0)) := by
  refine (dats m 0 c).arrAt_eq_of_covers 1 _ (by decide +kernel) fun t _ y => ?_
  blk_simp
  rw [after0_1]
  frame_out
  exact point m c t y

/-- The reference's result is the kernel's. -/
theorem same (q : FVec Ideal S1x8x208x1024 .f32) : tot q = val_main_v0 (F := Ideal) q := by
  funext i
  obtain ⟨a, b, d, rfl⟩ : ∃ (a : Fin 1) (b : Fin 208) (d : Fin 1024), i = ix3 a b d := ⟨i 0, i 1, i 2, by pointwise⟩
  obtain rfl : a = 0 := Subsingleton.elim _ _
  pointwise [tot, val_main_v0, val_main_cst]

/-- Over the reals the kernel's sum is the reference's. -/
theorem algebraic : Cert.algebraic_SumSmallIdeal_SumSmallRefIdeal := fun m ρ m' ρ' _ hag =>
  ⟨fun c => tot (m ((c : Thread nD τ).loc main_arg0)),
    (θ_run _ _ _).mono (fun _ h c => ⟨(h c).1.trans (final m c), (h c).2⟩) (run_blocks m ρ),
    (θ_run _ _ _).mono (fun _ h c => ⟨(h c).1.trans (by rw [val_main_v0_eq, hag c]; exact (same _).symm), (h c).2⟩) (Cert.SumSmallRefIdeal.Value.run m' ρ')⟩

end Cert.SumSmallIdeal.Value

end
-- ==== Proof.lean ====
module

public import proofs.«01_k».proof.Defs
public import proofs.«01_k».proof.Proof.Gen.AdamwIdeal.Value
public import proofs.«01_k».proof.Proof.Gen.AdamwIdeal
public import proofs.«01_k».proof.Proof.Gen.Adamw
public import proofs.«01_k».proof.Proof.Gen.AdamwRefIdeal.Run
public import proofs.«01_k».proof.Proof.Gen.AdamwRefIdeal
public import proofs.«01_k».proof.Proof.Gen.AdamwRefIdeal.Read
public import proofs.«01_k».proof.Proof.Gen.AttnBwdIdeal
public import proofs.«01_k».proof.Proof.Gen.AttnBwd
public import proofs.«01_k».proof.Proof.Gen.AttnBwdIdeal.Value
public import proofs.«01_k».proof.Proof.Gen.AttnBwdRefIdeal.Run
public import proofs.«01_k».proof.Proof.Gen.AttnBwdRefIdeal
public import proofs.«01_k».proof.Proof.Gen.AttnBwdRefIdeal.Read
public import proofs.«01_k».proof.Proof.Gen.AttnFwd
public import proofs.«01_k».proof.Proof.Gen.AttnFwdIdeal.Value
public import proofs.«01_k».proof.Proof.Gen.AttnFwdIdeal
public import proofs.«01_k».proof.Proof.Gen.AttnFwdRefIdeal.Run
public import proofs.«01_k».proof.Proof.Gen.AttnFwdRefIdeal
public import proofs.«01_k».proof.Proof.Gen.AttnFwdRefIdeal.Read
public import proofs.«01_k».proof.Proof.Gen.BranchARefIdeal.Run
public import proofs.«01_k».proof.Proof.Gen.BranchARefIdeal
public import proofs.«01_k».proof.Proof.Gen.BranchA
public import proofs.«01_k».proof.Proof.Gen.BranchARefIdeal.Read
public import proofs.«01_k».proof.Proof.Gen.BranchAFwdIdeal.Value
public import proofs.«01_k».proof.Proof.Gen.BranchAFwdIdeal
public import proofs.«01_k».proof.Proof.Gen.BranchAFwd
public import proofs.«01_k».proof.Proof.Gen.BranchAFwdRefIdeal.Run
public import proofs.«01_k».proof.Proof.Gen.BranchAFwdRefIdeal
public import proofs.«01_k».proof.Proof.Gen.BranchAFwdRefIdeal.Read
public import proofs.«01_k».proof.Proof.Gen.BranchB
public import proofs.«01_k».proof.Proof.Gen.BranchBRefIdeal
public import proofs.«01_k».proof.Proof.Gen.BranchBRefIdeal.Run
public import proofs.«01_k».proof.Proof.Gen.BranchBRefIdeal.Read
public import proofs.«01_k».proof.Proof.Gen.BranchBFwd
public import proofs.«01_k».proof.Proof.Gen.BranchBFwdIdeal
public import proofs.«01_k».proof.Proof.Gen.BranchBFwdIdeal.Value
public import proofs.«01_k».proof.Proof.Gen.BranchBFwdRefIdeal.Run
public import proofs.«01_k».proof.Proof.Gen.BranchBFwdRefIdeal
public import proofs.«01_k».proof.Proof.Gen.BranchBFwdRefIdeal.Read
public import proofs.«01_k».proof.Proof.Gen.MergeBwdIdeal.Value
public import proofs.«01_k».proof.Proof.Gen.MergeBwdIdeal
public import proofs.«01_k».proof.Proof.Gen.MergeBwd
public import proofs.«01_k».proof.Proof.Gen.MergeBwdRefIdeal.Run
public import proofs.«01_k».proof.Proof.Gen.MergeBwdRefIdeal
public import proofs.«01_k».proof.Proof.Gen.MergeBwdRefIdeal.Read
public import proofs.«01_k».proof.Proof.Gen.MergeFwd
public import proofs.«01_k».proof.Proof.Gen.MergeFwdIdeal
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.MlpDown
public import proofs.«01_k».proof.Proof.Gen.MlpDownIdeal.Value
public import proofs.«01_k».proof.Proof.Gen.MlpDownIdeal
public import proofs.«01_k».proof.Proof.Gen.MlpDownRefIdeal
public import proofs.«01_k».proof.Proof.Gen.MlpDownRefIdeal.Run
public import proofs.«01_k».proof.Proof.Gen.MlpDownRefIdeal.Read
public import proofs.«01_k».proof.Proof.Gen.MlpDwIdeal
public import proofs.«01_k».proof.Proof.Gen.MlpDwIdeal.Value
public import proofs.«01_k».proof.Proof.Gen.MlpDw
public import proofs.«01_k».proof.Proof.Gen.MlpDwRefIdeal
public import proofs.«01_k».proof.Proof.Gen.MlpDwRefIdeal.Run
public import proofs.«01_k».proof.Proof.Gen.MlpDwRefIdeal.Read
public import proofs.«01_k».proof.Proof.Gen.MlpDxIdeal
public import proofs.«01_k».proof.Proof.Gen.MlpDxIdeal.Value
public import proofs.«01_k».proof.Proof.Gen.MlpDx
public import proofs.«01_k».proof.Proof.Gen.MlpDxRefIdeal
public import proofs.«01_k».proof.Proof.Gen.MlpDxRefIdeal.Run
public import proofs.«01_k».proof.Proof.Gen.MlpDxRefIdeal.Read
public import proofs.«01_k».proof.Proof.Gen.NormFirstIdeal.Value
public import proofs.«01_k».proof.Proof.Gen.NormFirst
public import proofs.«01_k».proof.Proof.Gen.NormFirstIdeal
public import proofs.«01_k».proof.Proof.Gen.NormFirstRefIdeal
public import proofs.«01_k».proof.Proof.Gen.NormFirstRefIdeal.Run
public import proofs.«01_k».proof.Proof.Gen.NormFirstRefIdeal.Read
public import proofs.«01_k».proof.Proof.Gen.NormLastIdeal
public import proofs.«01_k».proof.Proof.Gen.NormLast
public import proofs.«01_k».proof.Proof.Gen.NormLastIdeal.Value
public import proofs.«01_k».proof.Proof.Gen.NormLastRefIdeal.Run
public import proofs.«01_k».proof.Proof.Gen.NormLastRefIdeal
public import proofs.«01_k».proof.Proof.Gen.NormLastRefIdeal.Read
public import proofs.«01_k».proof.Proof.Gen.NormLossIdeal
public import proofs.«01_k».proof.Proof.Gen.NormLoss
public import proofs.«01_k».proof.Proof.Gen.NormLossIdeal.Value
public import proofs.«01_k».proof.Proof.Gen.NormLossRefIdeal
public import proofs.«01_k».proof.Proof.Gen.NormLossRefIdeal.Run
public import proofs.«01_k».proof.Proof.Gen.NormLossRefIdeal.Read
public import proofs.«01_k».proof.Proof.Gen.NormMemIdeal.Value
public import proofs.«01_k».proof.Proof.Gen.NormMemIdeal
public import proofs.«01_k».proof.Proof.Gen.NormMem
public import proofs.«01_k».proof.Proof.Gen.NormMemRefIdeal
public import proofs.«01_k».proof.Proof.Gen.NormMemRefIdeal.Run
public import proofs.«01_k».proof.Proof.Gen.NormMemRefIdeal.Read
public import proofs.«01_k».proof.Proof.Gen.NormMemFwdIdeal.Value
public import proofs.«01_k».proof.Proof.Gen.NormMemFwd
public import proofs.«01_k».proof.Proof.Gen.NormMemFwdIdeal
public import proofs.«01_k».proof.Proof.Gen.NormMemFwdRefIdeal.Run
public import proofs.«01_k».proof.Proof.Gen.NormMemFwdRefIdeal
public import proofs.«01_k».proof.Proof.Gen.NormMemFwdRefIdeal.Read
public import proofs.«01_k».proof.Proof.Gen.NormMid
public import proofs.«01_k».proof.Proof.Gen.NormMidRefIdeal.Run
public import proofs.«01_k».proof.Proof.Gen.NormMidRefIdeal
public import proofs.«01_k».proof.Proof.Gen.NormMidRefIdeal.Read
public import proofs.«01_k».proof.Proof.Gen.NormMidFwd
public import proofs.«01_k».proof.Proof.Gen.NormMidFwdIdeal
public import proofs.«01_k».proof.Proof.Gen.NormMidFwdIdeal.Value
public import proofs.«01_k».proof.Proof.Gen.NormMidFwdRefIdeal.Run
public import proofs.«01_k».proof.Proof.Gen.NormMidFwdRefIdeal
public import proofs.«01_k».proof.Proof.Gen.NormMidFwdRefIdeal.Read
public import proofs.«01_k».proof.Proof.Gen.NormTopIdeal
public import proofs.«01_k».proof.Proof.Gen.NormTop
public import proofs.«01_k».proof.Proof.Gen.NormTopIdeal.Value
public import proofs.«01_k».proof.Proof.Gen.NormTopRefIdeal.Run
public import proofs.«01_k».proof.Proof.Gen.NormTopRefIdeal
public import proofs.«01_k».proof.Proof.Gen.NormTopRefIdeal.Read
public import proofs.«01_k».proof.Proof.Gen.ProductInIdeal.Value
public import proofs.«01_k».proof.Proof.Gen.ProductIn
public import proofs.«01_k».proof.Proof.Gen.ProductInIdeal
public import proofs.«01_k».proof.Proof.Gen.ProductInRefIdeal.Run
public import proofs.«01_k».proof.Proof.Gen.ProductInRefIdeal
public import proofs.«01_k».proof.Proof.Gen.ProductInRefIdeal.Read
public import proofs.«01_k».proof.Proof.Gen.ProductInDwIdeal
public import proofs.«01_k».proof.Proof.Gen.ProductInDwIdeal.Value
public import proofs.«01_k».proof.Proof.Gen.ProductInDw
public import proofs.«01_k».proof.Proof.Gen.ProductInDwRefIdeal.Run
public import proofs.«01_k».proof.Proof.Gen.ProductInDwRefIdeal
public import proofs.«01_k».proof.Proof.Gen.ProductInDwRefIdeal.Read
public import proofs.«01_k».proof.Proof.Gen.ProductInDx
public import proofs.«01_k».proof.Proof.Gen.ProductInDxIdeal
public import proofs.«01_k».proof.Proof.Gen.ProductInDxIdeal.Value
public import proofs.«01_k».proof.Proof.Gen.ProductInDxRefIdeal.Run
public import proofs.«01_k».proof.Proof.Gen.ProductInDxRefIdeal
public import proofs.«01_k».proof.Proof.Gen.ProductInDxRefIdeal.Read
public import proofs.«01_k».proof.Proof.Gen.SumSmall
public import proofs.«01_k».proof.Proof.Gen.SumSmallIdeal
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.Gen.NormMem.Skeleton
public import proofs.«01_k».proof.Proof.Gen.NormMem.Launch
public import proofs.«01_k».proof.Proof.Gen.NormMem.Points
public import proofs.«01_k».proof.Proof.Gen.NormMem.Frame
public import proofs.«01_k».proof.Proof.Gen.NormMemIdeal.Skeleton
public import proofs.«01_k».proof.Proof.Gen.NormMemIdeal.Launch
public import proofs.«01_k».proof.Proof.Gen.NormMemIdeal.Points
public import proofs.«01_k».proof.Proof.Gen.NormMemIdeal.Frame
public import proofs.«01_k».proof.Proof.Gen.NormTop.Skeleton
public import proofs.«01_k».proof.Proof.Gen.NormTop.Launch
public import proofs.«01_k».proof.Proof.Gen.NormTop.Points
public import proofs.«01_k».proof.Proof.Gen.NormTop.Frame
public import proofs.«01_k».proof.Proof.Gen.NormTopIdeal.Skeleton
public import proofs.«01_k».proof.Proof.Gen.NormTopIdeal.Launch
public import proofs.«01_k».proof.Proof.Gen.NormTopIdeal.Points
public import proofs.«01_k».proof.Proof.Gen.NormTopIdeal.Frame
public import proofs.«01_k».proof.Proof.Gen.NormLast.Skeleton
public import proofs.«01_k».proof.Proof.Gen.NormLast.Launch
public import proofs.«01_k».proof.Proof.Gen.NormLast.Points
public import proofs.«01_k».proof.Proof.Gen.NormLast.Frame
public import proofs.«01_k».proof.Proof.Gen.NormLastIdeal.Skeleton
public import proofs.«01_k».proof.Proof.Gen.NormLastIdeal.Launch
public import proofs.«01_k».proof.Proof.Gen.NormLastIdeal.Points
public import proofs.«01_k».proof.Proof.Gen.NormLastIdeal.Frame
public import proofs.«01_k».proof.Proof.Gen.NormMid.Skeleton
public import proofs.«01_k».proof.Proof.Gen.NormMid.Launch
public import proofs.«01_k».proof.Proof.Gen.NormMid.Points
public import proofs.«01_k».proof.Proof.Gen.NormMid.Frame
public import proofs.«01_k».proof.Proof.Gen.NormMidIdeal
public import proofs.«01_k».proof.Proof.Gen.NormMidIdeal.Skeleton
public import proofs.«01_k».proof.Proof.Gen.NormMidIdeal.Launch
public import proofs.«01_k».proof.Proof.Gen.NormMidIdeal.Points
public import proofs.«01_k».proof.Proof.Gen.NormMidIdeal.Frame
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MlpDx.Skeleton
public import proofs.«01_k».proof.Proof.Gen.MlpDx.Launch
public import proofs.«01_k».proof.Proof.Gen.MlpDx.Points
public import proofs.«01_k».proof.Proof.Gen.MlpDx.Frame
public import proofs.«01_k».proof.Proof.Gen.MlpDxIdeal.Skeleton
public import proofs.«01_k».proof.Proof.Gen.MlpDxIdeal.Launch
public import proofs.«01_k».proof.Proof.Gen.MlpDxIdeal.Points
public import proofs.«01_k».proof.Proof.Gen.MlpDxIdeal.Frame
public import proofs.«01_k».proof.Proof.Gen.MlpDw.Skeleton
public import proofs.«01_k».proof.Proof.Gen.MlpDw.Launch
public import proofs.«01_k».proof.Proof.Gen.MlpDw.Points
public import proofs.«01_k».proof.Proof.Gen.MlpDw.Frame
public import proofs.«01_k».proof.Proof.Gen.MlpDwIdeal.Skeleton
public import proofs.«01_k».proof.Proof.Gen.MlpDwIdeal.Launch
public import proofs.«01_k».proof.Proof.Gen.MlpDwIdeal.Points
public import proofs.«01_k».proof.Proof.Gen.MlpDwIdeal.Frame
public import proofs.«01_k».proof.Proof.Gen.NormLoss.Skeleton
public import proofs.«01_k».proof.Proof.Gen.NormLoss.Launch
public import proofs.«01_k».proof.Proof.Gen.NormLoss.Points
public import proofs.«01_k».proof.Proof.Gen.NormLoss.Frame
public import proofs.«01_k».proof.Proof.Gen.NormLossIdeal.Skeleton
public import proofs.«01_k».proof.Proof.Gen.NormLossIdeal.Launch
public import proofs.«01_k».proof.Proof.Gen.NormLossIdeal.Points
public import proofs.«01_k».proof.Proof.Gen.NormLossIdeal.Frame
public import proofs.«01_k».proof.Proof.Gen.BranchB.Skeleton
public import proofs.«01_k».proof.Proof.Gen.BranchB.Launch
public import proofs.«01_k».proof.Proof.Gen.BranchB.Points
public import proofs.«01_k».proof.Proof.Gen.BranchB.Frame
public import proofs.«01_k».proof.Proof.Gen.BranchBIdeal
public import proofs.«01_k».proof.Proof.Gen.BranchBIdeal.Skeleton
public import proofs.«01_k».proof.Proof.Gen.BranchBIdeal.Launch
public import proofs.«01_k».proof.Proof.Gen.BranchBIdeal.Points
public import proofs.«01_k».proof.Proof.Gen.BranchBIdeal.Frame
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.NormFirst.Skeleton
public import proofs.«01_k».proof.Proof.Gen.NormFirst.Launch
public import proofs.«01_k».proof.Proof.Gen.NormFirst.Points
public import proofs.«01_k».proof.Proof.Gen.NormFirst.Frame
public import proofs.«01_k».proof.Proof.Gen.NormFirstIdeal.Skeleton
public import proofs.«01_k».proof.Proof.Gen.NormFirstIdeal.Launch
public import proofs.«01_k».proof.Proof.Gen.NormFirstIdeal.Points
public import proofs.«01_k».proof.Proof.Gen.NormFirstIdeal.Frame
public import proofs.«01_k».proof.Proof.Gen.NormMemFwd.Skeleton
public import proofs.«01_k».proof.Proof.Gen.NormMemFwd.Launch
public import proofs.«01_k».proof.Proof.Gen.NormMemFwd.Points
public import proofs.«01_k».proof.Proof.Gen.NormMemFwd.Frame
public import proofs.«01_k».proof.Proof.Gen.NormMemFwdIdeal.Skeleton
public import proofs.«01_k».proof.Proof.Gen.NormMemFwdIdeal.Launch
public import proofs.«01_k».proof.Proof.Gen.NormMemFwdIdeal.Points
public import proofs.«01_k».proof.Proof.Gen.NormMemFwdIdeal.Frame
public import proofs.«01_k».proof.Proof.Gen.NormMidFwd.Skeleton
public import proofs.«01_k».proof.Proof.Gen.NormMidFwd.Launch
public import proofs.«01_k».proof.Proof.Gen.NormMidFwd.Points
public import proofs.«01_k».proof.Proof.Gen.NormMidFwd.Frame
public import proofs.«01_k».proof.Proof.Gen.NormMidFwdIdeal.Skeleton
public import proofs.«01_k».proof.Proof.Gen.NormMidFwdIdeal.Launch
public import proofs.«01_k».proof.Proof.Gen.NormMidFwdIdeal.Points
public import proofs.«01_k».proof.Proof.Gen.NormMidFwdIdeal.Frame
public import proofs.«01_k».proof.Proof.Gen.BranchBFwd.Skeleton
public import proofs.«01_k».proof.Proof.Gen.BranchBFwd.Launch
public import proofs.«01_k».proof.Proof.Gen.BranchBFwd.Points
public import proofs.«01_k».proof.Proof.Gen.BranchBFwd.Frame
public import proofs.«01_k».proof.Proof.Gen.BranchBFwdIdeal.Skeleton
public import proofs.«01_k».proof.Proof.Gen.BranchBFwdIdeal.Launch
public import proofs.«01_k».proof.Proof.Gen.BranchBFwdIdeal.Points
public import proofs.«01_k».proof.Proof.Gen.BranchBFwdIdeal.Frame
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.BranchAFwd.Skeleton
public import proofs.«01_k».proof.Proof.Gen.BranchAFwd.Launch
public import proofs.«01_k».proof.Proof.Gen.BranchAFwd.Points
public import proofs.«01_k».proof.Proof.Gen.BranchAFwd.Frame
public import proofs.«01_k».proof.Proof.Gen.BranchAFwdIdeal.Skeleton
public import proofs.«01_k».proof.Proof.Gen.BranchAFwdIdeal.Launch
public import proofs.«01_k».proof.Proof.Gen.BranchAFwdIdeal.Points
public import proofs.«01_k».proof.Proof.Gen.BranchAFwdIdeal.Frame
public import proofs.«01_k».proof.Proof.Gen.BranchA.Skeleton
public import proofs.«01_k».proof.Proof.Gen.BranchA.Launch
public import proofs.«01_k».proof.Proof.Gen.BranchA.Points
public import proofs.«01_k».proof.Proof.Gen.BranchA.Frame
public import proofs.«01_k».proof.Proof.Gen.BranchAIdeal
public import proofs.«01_k».proof.Proof.Gen.BranchAIdeal.Skeleton
public import proofs.«01_k».proof.Proof.Gen.BranchAIdeal.Launch
public import proofs.«01_k».proof.Proof.Gen.BranchAIdeal.Points
public import proofs.«01_k».proof.Proof.Gen.BranchAIdeal.Frame
public import proofs.«01_k».proof.Proof.Gen.ProductIn.Skeleton
public import proofs.«01_k».proof.Proof.Gen.ProductIn.Launch
public import proofs.«01_k».proof.Proof.Gen.ProductIn.Points
public import proofs.«01_k».proof.Proof.Gen.ProductIn.Frame
public import proofs.«01_k».proof.Proof.Gen.ProductInIdeal.Skeleton
public import proofs.«01_k».proof.Proof.Gen.ProductInIdeal.Launch
public import proofs.«01_k».proof.Proof.Gen.ProductInIdeal.Points
public import proofs.«01_k».proof.Proof.Gen.ProductInIdeal.Frame
public import proofs.«01_k».proof.Proof.Gen.ProductInDx.Skeleton
public import proofs.«01_k».proof.Proof.Gen.ProductInDx.Launch
public import proofs.«01_k».proof.Proof.Gen.ProductInDx.Points
public import proofs.«01_k».proof.Proof.Gen.ProductInDx.Frame
public import proofs.«01_k».proof.Proof.Gen.ProductInDxIdeal.Skeleton
public import proofs.«01_k».proof.Proof.Gen.ProductInDxIdeal.Launch
public import proofs.«01_k».proof.Proof.Gen.ProductInDxIdeal.Points
public import proofs.«01_k».proof.Proof.Gen.ProductInDxIdeal.Frame
public import proofs.«01_k».proof.Proof.Gen.ProductInDw.Skeleton
public import proofs.«01_k».proof.Proof.Gen.ProductInDw.Launch
public import proofs.«01_k».proof.Proof.Gen.ProductInDw.Points
public import proofs.«01_k».proof.Proof.Gen.ProductInDw.Frame
public import proofs.«01_k».proof.Proof.Gen.ProductInDwIdeal.Skeleton
public import proofs.«01_k».proof.Proof.Gen.ProductInDwIdeal.Launch
public import proofs.«01_k».proof.Proof.Gen.ProductInDwIdeal.Points
public import proofs.«01_k».proof.Proof.Gen.ProductInDwIdeal.Frame
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.Pre_finite_scores
public import proofs.«01_k».proof.Proof.Gen.On_mask
public import proofs.«01_k».proof.Proof.Adamw
public import proofs.«01_k».proof.Proof.AttnBwd
public import proofs.«01_k».proof.Proof.AttnFwd
public import proofs.«01_k».proof.Proof.BranchAFwd
public import proofs.«01_k».proof.Proof.BranchB
public import proofs.«01_k».proof.Proof.BranchBFwd
public import proofs.«01_k».proof.Proof.MergeBwd
public import proofs.«01_k».proof.Proof.MergeFwd
public import proofs.«01_k».proof.Proof.MlpDown
public import proofs.«01_k».proof.Proof.MlpDw
public import proofs.«01_k».proof.Proof.MlpDx
public import proofs.«01_k».proof.Proof.NormFirst
public import proofs.«01_k».proof.Proof.NormLast
public import proofs.«01_k».proof.Proof.NormLoss
public import proofs.«01_k».proof.Proof.NormMem
public import proofs.«01_k».proof.Proof.NormMemFwd
public import proofs.«01_k».proof.Proof.NormMid
public import proofs.«01_k».proof.Proof.NormMidFwd
public import proofs.«01_k».proof.Proof.NormTop
public import proofs.«01_k».proof.Proof.ProductIn
public import proofs.«01_k».proof.Proof.ProductInDw
public import proofs.«01_k».proof.Proof.ProductInDx
public import proofs.«01_k».proof.Proof.SumSmall
public import proofs.«01_k».proof.Proof.BranchBFrame
public import Idealize.ShloMosaic.Adequacy
public import Idealize.ShloMosaic.Init

@[expose] public section

noncomputable section

namespace Cert.Proof

open Idealize.ShloMosaic Idealize.SL.Sem

/-- The reference `NormMemRefIdeal` is host code alone: its run leaves its arguments, and it has no semaphore. -/
theorem frame_NormMemRefIdeal : Cert.quiescent_NormMemRefIdeal := fun m ρ _ => (θ_run Cert.NormMemRefIdeal.defs _ _).mono (fun r h => ⟨fun c => (h c).2,
  Idealize.ShloMosaic.sem_eq_zero_of_no_sems (by decide) r.2⟩) (Cert.NormMemRefIdeal.Value.run (F := Ideal) m ρ)

/-- The reference `NormTopRefIdeal` is host code alone: its run leaves its arguments, and it has no semaphore. -/
theorem frame_NormTopRefIdeal : Cert.quiescent_NormTopRefIdeal := fun m ρ _ => (θ_run Cert.NormTopRefIdeal.defs _ _).mono (fun r h => ⟨fun c => (h c).2.2,
  Idealize.ShloMosaic.sem_eq_zero_of_no_sems (by decide) r.2⟩) (Cert.NormTopRefIdeal.Value.run (F := Ideal) m ρ)

/-- The reference `NormLastRefIdeal` is host code alone: its run leaves its arguments, and it has no semaphore. -/
theorem frame_NormLastRefIdeal : Cert.quiescent_NormLastRefIdeal := fun m ρ _ => (θ_run Cert.NormLastRefIdeal.defs _ _).mono (fun r h => ⟨fun c => (h c).2.2,
  Idealize.ShloMosaic.sem_eq_zero_of_no_sems (by decide) r.2⟩) (Cert.NormLastRefIdeal.Value.run (F := Ideal) m ρ)

/-- The reference `NormMidRefIdeal` is host code alone: its run leaves its arguments, and it has no semaphore. -/
theorem frame_NormMidRefIdeal : Cert.quiescent_NormMidRefIdeal := fun m ρ _ => (θ_run Cert.NormMidRefIdeal.defs _ _).mono (fun r h => ⟨fun c => (h c).2.2.2.2,
  Idealize.ShloMosaic.sem_eq_zero_of_no_sems (by decide) r.2⟩) (Cert.NormMidRefIdeal.Value.run (F := Ideal) m ρ)

/-- The reference `AttnBwdRefIdeal` is host code alone: its run leaves its arguments, and it has no semaphore. -/
theorem frame_AttnBwdRefIdeal : Cert.quiescent_AttnBwdRefIdeal := fun m ρ _ => (θ_run Cert.AttnBwdRefIdeal.defs _ _).mono (fun r h => ⟨fun c => (h c).2.2,
  Idealize.ShloMosaic.sem_eq_zero_of_no_sems (by decide) r.2⟩) (Cert.AttnBwdRefIdeal.Value.run (F := Ideal) m ρ)

/-- The reference `AttnBwdRefIdeal` is host code alone: its run leaves its arguments, and it has no semaphore. -/
theorem frame_AttnBwdRefIdeal_pre_finite_scores : Cert.quiescent_AttnBwdRefIdeal_pre_finite_scores := fun m ρ _ => (θ_run Cert.AttnBwdRefIdeal.defs _ _).mono (fun r h => ⟨fun c => (h c).2.2,
  Idealize.ShloMosaic.sem_eq_zero_of_no_sems (by decide) r.2⟩) (Cert.AttnBwdRefIdeal.Value.run (F := Ideal) m ρ)

/-- The reference `MergeBwdRefIdeal` is host code alone: its run leaves its arguments, and it has no semaphore. -/
theorem frame_MergeBwdRefIdeal : Cert.quiescent_MergeBwdRefIdeal := fun m ρ _ => (θ_run Cert.MergeBwdRefIdeal.defs _ _).mono (fun r h => ⟨fun c => (h c).2.2.2.2,
  Idealize.ShloMosaic.sem_eq_zero_of_no_sems (by decide) r.2⟩) (Cert.MergeBwdRefIdeal.Value.run (F := Ideal) m ρ)

/-- The reference `MlpDxRefIdeal` is host code alone: its run leaves its arguments, and it has no semaphore. -/
theorem frame_MlpDxRefIdeal : Cert.quiescent_MlpDxRefIdeal := fun m ρ _ => (θ_run Cert.MlpDxRefIdeal.defs _ _).mono (fun r h => ⟨fun c => (h c).2,
  Idealize.ShloMosaic.sem_eq_zero_of_no_sems (by decide) r.2⟩) (Cert.MlpDxRefIdeal.Value.run (F := Ideal) m ρ)

/-- The reference `MlpDwRefIdeal` is host code alone: its run leaves its arguments, and it has no semaphore. -/
theorem frame_MlpDwRefIdeal : Cert.quiescent_MlpDwRefIdeal := fun m ρ _ => (θ_run Cert.MlpDwRefIdeal.defs _ _).mono (fun r h => ⟨fun c => (h c).2,
  Idealize.ShloMosaic.sem_eq_zero_of_no_sems (by decide) r.2⟩) (Cert.MlpDwRefIdeal.Value.run (F := Ideal) m ρ)

/-- The reference `NormLossRefIdeal` is host code alone: its run leaves its arguments, and it has no semaphore. -/
theorem frame_NormLossRefIdeal : Cert.quiescent_NormLossRefIdeal := fun m ρ _ => (θ_run Cert.NormLossRefIdeal.defs _ _).mono (fun r h => ⟨fun c => (h c).2.2,
  Idealize.ShloMosaic.sem_eq_zero_of_no_sems (by decide) r.2⟩) (Cert.NormLossRefIdeal.Value.run (F := Ideal) m ρ)

/-- The reference `BranchBRefIdeal` is host code alone: its run leaves its arguments, and it has no semaphore. -/
theorem frame_BranchBRefIdeal : Cert.quiescent_BranchBRefIdeal := fun m ρ _ => (θ_run Cert.BranchBRefIdeal.defs _ _).mono (fun r h => ⟨fun c => (h c).2.2,
  Idealize.ShloMosaic.sem_eq_zero_of_no_sems (by decide) r.2⟩) (Cert.BranchBRefIdeal.Value.run (F := Ideal) m ρ)

/-- The reference `AttnFwdRefIdeal` is host code alone: its run leaves its arguments, and it has no semaphore. -/
theorem frame_AttnFwdRefIdeal : Cert.quiescent_AttnFwdRefIdeal := fun m ρ _ => (θ_run Cert.AttnFwdRefIdeal.defs _ _).mono (fun r h => ⟨fun c => (h c).2,
  Idealize.ShloMosaic.sem_eq_zero_of_no_sems (by decide) r.2⟩) (Cert.AttnFwdRefIdeal.Value.run (F := Ideal) m ρ)

/-- The reference `NormFirstRefIdeal` is host code alone: its run leaves its arguments, and it has no semaphore. -/
theorem frame_NormFirstRefIdeal : Cert.quiescent_NormFirstRefIdeal := fun m ρ _ => (θ_run Cert.NormFirstRefIdeal.defs _ _).mono (fun r h => ⟨fun c => (h c).2,
  Idealize.ShloMosaic.sem_eq_zero_of_no_sems (by decide) r.2⟩) (Cert.NormFirstRefIdeal.Value.run (F := Ideal) m ρ)

/-- The reference `NormMemFwdRefIdeal` is host code alone: its run leaves its arguments, and it has no semaphore. -/
theorem frame_NormMemFwdRefIdeal : Cert.quiescent_NormMemFwdRefIdeal := fun m ρ _ => (θ_run Cert.NormMemFwdRefIdeal.defs _ _).mono (fun r h => ⟨fun c => (h c).2,
  Idealize.ShloMosaic.sem_eq_zero_of_no_sems (by decide) r.2⟩) (Cert.NormMemFwdRefIdeal.Value.run (F := Ideal) m ρ)

/-- The reference `NormMidFwdRefIdeal` is host code alone: its run leaves its arguments, and it has no semaphore. -/
theorem frame_NormMidFwdRefIdeal : Cert.quiescent_NormMidFwdRefIdeal := fun m ρ _ => (θ_run Cert.NormMidFwdRefIdeal.defs _ _).mono (fun r h => ⟨fun c => (h c).2.2,
  Idealize.ShloMosaic.sem_eq_zero_of_no_sems (by decide) r.2⟩) (Cert.NormMidFwdRefIdeal.Value.run (F := Ideal) m ρ)

/-- The reference `BranchBFwdRefIdeal` is host code alone: its run leaves its arguments, and it has no semaphore. -/
theorem frame_BranchBFwdRefIdeal : Cert.quiescent_BranchBFwdRefIdeal := fun m ρ _ => (θ_run Cert.BranchBFwdRefIdeal.defs _ _).mono (fun r h => ⟨fun c => (h c).2,
  Idealize.ShloMosaic.sem_eq_zero_of_no_sems (by decide) r.2⟩) (Cert.BranchBFwdRefIdeal.Value.run (F := Ideal) m ρ)

/-- The reference `MergeFwdRefIdeal` is host code alone: its run leaves its arguments, and it has no semaphore. -/
theorem frame_MergeFwdRefIdeal : Cert.quiescent_MergeFwdRefIdeal := fun m ρ _ => (θ_run Cert.MergeFwdRefIdeal.defs _ _).mono (fun r h => ⟨fun c => (h c).2,
  Idealize.ShloMosaic.sem_eq_zero_of_no_sems (by decide) r.2⟩) (Cert.MergeFwdRefIdeal.Value.run (F := Ideal) m ρ)

/-- The reference `MlpDownRefIdeal` is host code alone: its run leaves its arguments, and it has no semaphore. -/
theorem frame_MlpDownRefIdeal : Cert.quiescent_MlpDownRefIdeal := fun m ρ _ => (θ_run Cert.MlpDownRefIdeal.defs _ _).mono (fun r h => ⟨fun c => (h c).2,
  Idealize.ShloMosaic.sem_eq_zero_of_no_sems (by decide) r.2⟩) (Cert.MlpDownRefIdeal.Value.run (F := Ideal) m ρ)

/-- The reference `BranchAFwdRefIdeal` is host code alone: its run leaves its arguments, and it has no semaphore. -/
theorem frame_BranchAFwdRefIdeal : Cert.quiescent_BranchAFwdRefIdeal := fun m ρ _ => (θ_run Cert.BranchAFwdRefIdeal.defs _ _).mono (fun r h => ⟨fun c => (h c).2.2,
  Idealize.ShloMosaic.sem_eq_zero_of_no_sems (by decide) r.2⟩) (Cert.BranchAFwdRefIdeal.Value.run (F := Ideal) m ρ)

/-- The reference `BranchARefIdeal` is host code alone: its run leaves its arguments, and it has no semaphore. -/
theorem frame_BranchARefIdeal : Cert.quiescent_BranchARefIdeal := fun m ρ _ => (θ_run Cert.BranchARefIdeal.defs _ _).mono (fun r h => ⟨fun c => (h c).2.2.2.2.2,
  Idealize.ShloMosaic.sem_eq_zero_of_no_sems (by decide) r.2⟩) (Cert.BranchARefIdeal.Value.run (F := Ideal) m ρ)

/-- The reference `ProductInRefIdeal` is host code alone: its run leaves its arguments, and it has no semaphore. -/
theorem frame_ProductInRefIdeal : Cert.quiescent_ProductInRefIdeal := fun m ρ _ => (θ_run Cert.ProductInRefIdeal.defs _ _).mono (fun r h => ⟨fun c => (h c).2,
  Idealize.ShloMosaic.sem_eq_zero_of_no_sems (by decide) r.2⟩) (Cert.ProductInRefIdeal.Value.run (F := Ideal) m ρ)

/-- The reference `ProductInDxRefIdeal` is host code alone: its run leaves its arguments, and it has no semaphore. -/
theorem frame_ProductInDxRefIdeal : Cert.quiescent_ProductInDxRefIdeal := fun m ρ _ => (θ_run Cert.ProductInDxRefIdeal.defs _ _).mono (fun r h => ⟨fun c => (h c).2,
  Idealize.ShloMosaic.sem_eq_zero_of_no_sems (by decide) r.2⟩) (Cert.ProductInDxRefIdeal.Value.run (F := Ideal) m ρ)

/-- The reference `ProductInDwRefIdeal` is host code alone: its run leaves its arguments, and it has no semaphore. -/
theorem frame_ProductInDwRefIdeal : Cert.quiescent_ProductInDwRefIdeal := fun m ρ _ => (θ_run Cert.ProductInDwRefIdeal.defs _ _).mono (fun r h => ⟨fun c => (h c).2,
  Idealize.ShloMosaic.sem_eq_zero_of_no_sems (by decide) r.2⟩) (Cert.ProductInDwRefIdeal.Value.run (F := Ideal) m ρ)

/-- The reference `AdamwRefIdeal` is host code alone: its run leaves its arguments, and it has no semaphore. -/
theorem frame_AdamwRefIdeal : Cert.quiescent_AdamwRefIdeal := fun m ρ _ => (θ_run Cert.AdamwRefIdeal.defs _ _).mono (fun r h => ⟨fun c => (h c).2.2.2,
  Idealize.ShloMosaic.sem_eq_zero_of_no_sems (by decide) r.2⟩) (Cert.AdamwRefIdeal.Value.run (F := Ideal) m ρ)

/-- The reference `SumSmallRefIdeal` is host code alone: its run leaves its arguments, and it has no semaphore. -/
theorem frame_SumSmallRefIdeal : Cert.quiescent_SumSmallRefIdeal := fun m ρ _ => (θ_run Cert.SumSmallRefIdeal.defs _ _).mono (fun r h => ⟨fun c => (h c).2,
  Idealize.ShloMosaic.sem_eq_zero_of_no_sems (by decide) r.2⟩) (Cert.SumSmallRefIdeal.Value.run (F := Ideal) m ρ)

/-- Every claim of the certificate, pair by pair: the frames first, then what each kernel computes. -/
theorem claim : Cert.Claim := ⟨Cert.NormMem.Gen.facts, Cert.NormMemIdeal.Gen.facts, Cert.NormMemRefIdeal.Gen.facts, Cert.NormTop.Gen.facts, Cert.NormTopIdeal.Gen.facts, Cert.NormTopRefIdeal.Gen.facts, Cert.NormLast.Gen.facts, Cert.NormLastIdeal.Gen.facts, Cert.NormLastRefIdeal.Gen.facts, Cert.NormMid.Gen.facts, Cert.NormMidIdeal.Gen.facts, Cert.NormMidRefIdeal.Gen.facts, Cert.AttnBwd.Gen.facts, Cert.AttnBwdIdeal.Gen.facts, Cert.AttnBwdRefIdeal.Gen.facts, Cert.MergeBwd.Gen.facts, Cert.MergeBwdIdeal.Gen.facts, Cert.MergeBwdRefIdeal.Gen.facts, Cert.MlpDx.Gen.facts, Cert.MlpDxIdeal.Gen.facts, Cert.MlpDxRefIdeal.Gen.facts, Cert.MlpDw.Gen.facts, Cert.MlpDwIdeal.Gen.facts, Cert.MlpDwRefIdeal.Gen.facts, Cert.NormLoss.Gen.facts, Cert.NormLossIdeal.Gen.facts, Cert.NormLossRefIdeal.Gen.facts, Cert.BranchB.Gen.facts, Cert.BranchBIdeal.Gen.facts, Cert.BranchBRefIdeal.Gen.facts, Cert.AttnFwd.Gen.facts, Cert.AttnFwdIdeal.Gen.facts, Cert.AttnFwdRefIdeal.Gen.facts, Cert.NormFirst.Gen.facts, Cert.NormFirstIdeal.Gen.facts, Cert.NormFirstRefIdeal.Gen.facts, Cert.NormMemFwd.Gen.facts, Cert.NormMemFwdIdeal.Gen.facts, Cert.NormMemFwdRefIdeal.Gen.facts, Cert.NormMidFwd.Gen.facts, Cert.NormMidFwdIdeal.Gen.facts, Cert.NormMidFwdRefIdeal.Gen.facts, Cert.BranchBFwd.Gen.facts, Cert.BranchBFwdIdeal.Gen.facts, Cert.BranchBFwdRefIdeal.Gen.facts, Cert.MergeFwd.Gen.facts, Cert.MergeFwdIdeal.Gen.facts, Cert.MergeFwdRefIdeal.Gen.facts, Cert.MlpDown.Gen.facts, Cert.MlpDownIdeal.Gen.facts, Cert.MlpDownRefIdeal.Gen.facts, Cert.BranchAFwd.Gen.facts, Cert.BranchAFwdIdeal.Gen.facts, Cert.BranchAFwdRefIdeal.Gen.facts, Cert.BranchA.Gen.facts, Cert.BranchAIdeal.Gen.facts, Cert.BranchARefIdeal.Gen.facts, Cert.ProductIn.Gen.facts, Cert.ProductInIdeal.Gen.facts, Cert.ProductInRefIdeal.Gen.facts, Cert.ProductInDx.Gen.facts, Cert.ProductInDxIdeal.Gen.facts, Cert.ProductInDxRefIdeal.Gen.facts, Cert.ProductInDw.Gen.facts, Cert.ProductInDwIdeal.Gen.facts, Cert.ProductInDwRefIdeal.Gen.facts, Cert.Adamw.Gen.facts, Cert.AdamwIdeal.Gen.facts, Cert.AdamwRefIdeal.Gen.facts, Cert.SumSmall.Gen.facts, Cert.SumSmallIdeal.Gen.facts, Cert.SumSmallRefIdeal.Gen.facts, Cert.Pre_finite_scores.Gen.facts, Cert.On_mask.Gen.facts,
  fun m ρ _ => Cert.NormMem.Gen.frame m ρ,
  fun m ρ _ => Cert.NormMemIdeal.Gen.frame m ρ,
  frame_NormMemRefIdeal,
  fun m ρ _ => Cert.NormTop.Gen.frame m ρ,
  fun m ρ _ => Cert.NormTopIdeal.Gen.frame m ρ,
  frame_NormTopRefIdeal,
  fun m ρ _ => Cert.NormLast.Gen.frame m ρ,
  fun m ρ _ => Cert.NormLastIdeal.Gen.frame m ρ,
  frame_NormLastRefIdeal,
  fun m ρ _ => Cert.NormMid.Gen.frame m ρ,
  fun m ρ _ => Cert.NormMidIdeal.Gen.frame m ρ,
  frame_NormMidRefIdeal,
  fun m ρ _ => Cert.AttnBwd.Gen.frame m ρ,
  fun m ρ _ => Cert.AttnBwdIdeal.Gen.frame m ρ,
  fun m ρ _ => Cert.AttnBwdIdeal.Gen.frame m ρ,
  frame_AttnBwdRefIdeal,
  frame_AttnBwdRefIdeal_pre_finite_scores,
  fun m ρ _ => Cert.MergeBwd.Gen.frame m ρ,
  fun m ρ _ => Cert.MergeBwdIdeal.Gen.frame m ρ,
  frame_MergeBwdRefIdeal,
  fun m ρ _ => Cert.MlpDx.Gen.frame m ρ,
  fun m ρ _ => Cert.MlpDxIdeal.Gen.frame m ρ,
  frame_MlpDxRefIdeal,
  fun m ρ _ => Cert.MlpDw.Gen.frame m ρ,
  fun m ρ _ => Cert.MlpDwIdeal.Gen.frame m ρ,
  frame_MlpDwRefIdeal,
  fun m ρ _ => Cert.NormLoss.Gen.frame m ρ,
  fun m ρ _ => Cert.NormLossIdeal.Gen.frame m ρ,
  frame_NormLossRefIdeal,
  Cert.BranchB.Hand.frame,
  Cert.BranchBIdeal.Hand.frame,
  frame_BranchBRefIdeal,
  fun m ρ _ => Cert.AttnFwd.Gen.frame m ρ,
  fun m ρ _ => Cert.AttnFwdIdeal.Gen.frame m ρ,
  frame_AttnFwdRefIdeal,
  fun m ρ _ => Cert.NormFirst.Gen.frame m ρ,
  fun m ρ _ => Cert.NormFirstIdeal.Gen.frame m ρ,
  frame_NormFirstRefIdeal,
  fun m ρ _ => Cert.NormMemFwd.Gen.frame m ρ,
  fun m ρ _ => Cert.NormMemFwdIdeal.Gen.frame m ρ,
  frame_NormMemFwdRefIdeal,
  fun m ρ _ => Cert.NormMidFwd.Gen.frame m ρ,
  fun m ρ _ => Cert.NormMidFwdIdeal.Gen.frame m ρ,
  frame_NormMidFwdRefIdeal,
  fun m ρ _ => Cert.BranchBFwd.Gen.frame m ρ,
  fun m ρ _ => Cert.BranchBFwdIdeal.Gen.frame m ρ,
  frame_BranchBFwdRefIdeal,
  fun m ρ _ => Cert.MergeFwd.Gen.frame m ρ,
  fun m ρ _ => Cert.MergeFwdIdeal.Gen.frame m ρ,
  frame_MergeFwdRefIdeal,
  fun m ρ _ => Cert.MlpDown.Gen.frame m ρ,
  fun m ρ _ => Cert.MlpDownIdeal.Gen.frame m ρ,
  frame_MlpDownRefIdeal,
  fun m ρ _ => Cert.BranchAFwd.Gen.frame m ρ,
  fun m ρ _ => Cert.BranchAFwdIdeal.Gen.frame m ρ,
  frame_BranchAFwdRefIdeal,
  fun m ρ _ => Cert.BranchA.Gen.frame m ρ,
  fun m ρ _ => Cert.BranchAIdeal.Gen.frame m ρ,
  frame_BranchARefIdeal,
  fun m ρ _ => Cert.ProductIn.Gen.frame m ρ,
  fun m ρ _ => Cert.ProductInIdeal.Gen.frame m ρ,
  frame_ProductInRefIdeal,
  fun m ρ _ => Cert.ProductInDx.Gen.frame m ρ,
  fun m ρ _ => Cert.ProductInDxIdeal.Gen.frame m ρ,
  frame_ProductInDxRefIdeal,
  fun m ρ _ => Cert.ProductInDw.Gen.frame m ρ,
  fun m ρ _ => Cert.ProductInDwIdeal.Gen.frame m ρ,
  frame_ProductInDwRefIdeal,
  fun m ρ _ => Cert.Adamw.Gen.frame m ρ,
  fun m ρ _ => Cert.AdamwIdeal.Gen.frame m ρ,
  frame_AdamwRefIdeal,
  fun m ρ _ => Cert.SumSmall.Gen.frame m ρ,
  fun m ρ _ => Cert.SumSmallIdeal.Gen.frame m ρ,
  frame_SumSmallRefIdeal,
  trivial,
  Cert.NormMemIdeal.Value.algebraic,
  trivial,
  Cert.NormTopIdeal.Value.algebraic,
  trivial,
  Cert.NormLastIdeal.Value.algebraic,
  trivial,
  Cert.NormMidIdeal.Value.algebraic,
  trivial,
  Cert.AttnBwdIdeal.Value.algebraic,
  trivial,
  Cert.MergeBwdIdeal.Value.algebraic,
  trivial,
  Cert.MlpDxIdeal.Value.algebraic,
  trivial,
  Cert.MlpDwIdeal.Value.algebraic,
  trivial,
  Cert.NormLossIdeal.Value.algebraic,
  trivial,
  Cert.BranchBIdeal.Value.algebraic,
  trivial,
  Cert.AttnFwdIdeal.Value.algebraic,
  trivial,
  Cert.NormFirstIdeal.Value.algebraic,
  trivial,
  Cert.NormMemFwdIdeal.Value.algebraic,
  trivial,
  Cert.NormMidFwdIdeal.Value.algebraic,
  trivial,
  Cert.BranchBFwdIdeal.Value.algebraic,
  trivial,
  Cert.MergeFwdIdeal.Value.algebraic,
  trivial,
  Cert.MlpDownIdeal.Value.algebraic,
  trivial,
  Cert.BranchAFwdIdeal.Value.algebraic,
  trivial,
  trivial,
  Cert.ProductInIdeal.Value.algebraic,
  trivial,
  Cert.ProductInDxIdeal.Value.algebraic,
  trivial,
  Cert.ProductInDwIdeal.Value.algebraic,
  trivial,
  Cert.AdamwIdeal.Value.algebraic,
  trivial,
  Cert.SumSmallIdeal.Value.algebraic⟩

end Cert.Proof

end
